-- ==== Defs.lean ====
def Pre_KvBwd (m : (ℓ : Loc Cert.KvBwd.nD Cert.KvBwd.τ Cert.KvBwd.sig) → Buf (Elt Bits) ℓ) : Prop :=
  True

def Pre_KvBwdIdeal (m : (ℓ : Loc Cert.KvBwdIdeal.nD Cert.KvBwdIdeal.τ Cert.KvBwdIdeal.sig) → Buf (Elt Ideal) ℓ) : Prop :=
  True

def Pre_KvBwdRefIdeal (m : (ℓ : Loc Cert.KvBwdRefIdeal.nD Cert.KvBwdRefIdeal.τ Cert.KvBwdRefIdeal.sig) → Buf (Elt Ideal) ℓ) : Prop :=
  True

def Pre_QBwd (m : (ℓ : Loc Cert.QBwd.nD Cert.QBwd.τ Cert.QBwd.sig) → Buf (Elt Bits) ℓ) : Prop :=
  True

def Pre_QBwdIdeal (m : (ℓ : Loc Cert.QBwdIdeal.nD Cert.QBwdIdeal.τ Cert.QBwdIdeal.sig) → Buf (Elt Ideal) ℓ) : Prop :=
  True

def Pre_QBwdIdeal_finite_q [hPre_finite_q : Cert.Pre_finite_q.Facts] (m : (ℓ : Loc Cert.QBwdIdeal.nD Cert.QBwdIdeal.τ Cert.QBwdIdeal.sig) → Buf (Elt Ideal) ℓ) : Prop :=
  ∀ c : Dev Cert.QBwdIdeal.nD,
    (Cert.Pre_finite_q.fn (F := Ideal) (m ((c.tc : Thread Cert.QBwdIdeal.nD Cert.QBwdIdeal.τ).loc Cert.QBwdIdeal.main_arg0)) (m ((c.tc : Thread Cert.QBwdIdeal.nD Cert.QBwdIdeal.τ).loc Cert.QBwdIdeal.main_arg1)) (m ((c.tc : Thread Cert.QBwdIdeal.nD Cert.QBwdIdeal.τ).loc Cert.QBwdIdeal.main_arg2)) (m ((c.tc : Thread Cert.QBwdIdeal.nD Cert.QBwdIdeal.τ).loc Cert.QBwdIdeal.main_arg3)) (m ((c.tc : Thread Cert.QBwdIdeal.nD Cert.QBwdIdeal.τ).loc Cert.QBwdIdeal.main_arg4)) (m ((c.tc : Thread Cert.QBwdIdeal.nD Cert.QBwdIdeal.τ).loc Cert.QBwdIdeal.main_arg5))).1 = (fun _ => 1#1)
    ∧ (Cert.Pre_finite_q.fn (F := Ideal) (m ((c.tc : Thread Cert.QBwdIdeal.nD Cert.QBwdIdeal.τ).loc Cert.QBwdIdeal.main_arg0)) (m ((c.tc : Thread Cert.QBwdIdeal.nD Cert.QBwdIdeal.τ).loc Cert.QBwdIdeal.main_arg1)) (m ((c.tc : Thread Cert.QBwdIdeal.nD Cert.QBwdIdeal.τ).loc Cert.QBwdIdeal.main_arg2)) (m ((c.tc : Thread Cert.QBwdIdeal.nD Cert.QBwdIdeal.τ).loc Cert.QBwdIdeal.main_arg3)) (m ((c.tc : Thread Cert.QBwdIdeal.nD Cert.QBwdIdeal.τ).loc Cert.QBwdIdeal.main_arg4)) (m ((c.tc : Thread Cert.QBwdIdeal.nD Cert.QBwdIdeal.τ).loc Cert.QBwdIdeal.main_arg5))).2.1 = (fun _ => 1#1)
    ∧ (Cert.Pre_finite_q.fn (F := Ideal) (m ((c.tc : Thread Cert.QBwdIdeal.nD Cert.QBwdIdeal.τ).loc Cert.QBwdIdeal.main_arg0)) (m ((c.tc : Thread Cert.QBwdIdeal.nD Cert.QBwdIdeal.τ).loc Cert.QBwdIdeal.main_arg1)) (m ((c.tc : Thread Cert.QBwdIdeal.nD Cert.QBwdIdeal.τ).loc Cert.QBwdIdeal.main_arg2)) (m ((c.tc : Thread Cert.QBwdIdeal.nD Cert.QBwdIdeal.τ).loc Cert.QBwdIdeal.main_arg3)) (m ((c.tc : Thread Cert.QBwdIdeal.nD Cert.QBwdIdeal.τ).loc Cert.QBwdIdeal.main_arg4)) (m ((c.tc : Thread Cert.QBwdIdeal.nD Cert.QBwdIdeal.τ).loc Cert.QBwdIdeal.main_arg5))).2.2.1 = (fun _ => 1#1)
    ∧ (Cert.Pre_finite_q.fn (F := Ideal) (m ((c.tc : Thread Cert.QBwdIdeal.nD Cert.QBwdIdeal.τ).loc Cert.QBwdIdeal.main_arg0)) (m ((c.tc : Thread Cert.QBwdIdeal.nD Cert.QBwdIdeal.τ).loc Cert.QBwdIdeal.main_arg1)) (m ((c.tc : Thread Cert.QBwdIdeal.nD Cert.QBwdIdeal.τ).loc Cert.QBwdIdeal.main_arg2)) (m ((c.tc : Thread Cert.QBwdIdeal.nD Cert.QBwdIdeal.τ).loc Cert.QBwdIdeal.main_arg3)) (m ((c.tc : Thread Cert.QBwdIdeal.nD Cert.QBwdIdeal.τ).loc Cert.QBwdIdeal.main_arg4)) (m ((c.tc : Thread Cert.QBwdIdeal.nD Cert.QBwdIdeal.τ).loc Cert.QBwdIdeal.main_arg5))).2.2.2 = (fun _ => 1#1)

def Pre_QBwdRefIdeal (m : (ℓ : Loc Cert.QBwdRefIdeal.nD Cert.QBwdRefIdeal.τ Cert.QBwdRefIdeal.sig) → Buf (Elt Ideal) ℓ) : Prop :=
  True

def Pre_QBwdRefIdeal_finite_q [hPre_finite_q : Cert.Pre_finite_q.Facts] (m : (ℓ : Loc Cert.QBwdRefIdeal.nD Cert.QBwdRefIdeal.τ Cert.QBwdRefIdeal.sig) → Buf (Elt Ideal) ℓ) : Prop :=
  ∀ c : Dev Cert.QBwdRefIdeal.nD,
    (Cert.Pre_finite_q.fn (F := Ideal) (m ((c.tc : Thread Cert.QBwdRefIdeal.nD Cert.QBwdRefIdeal.τ).loc Cert.QBwdRefIdeal.main_arg0)) (m ((c.tc : Thread Cert.QBwdRefIdeal.nD Cert.QBwdRefIdeal.τ).loc Cert.QBwdRefIdeal.main_arg1)) (m ((c.tc : Thread Cert.QBwdRefIdeal.nD Cert.QBwdRefIdeal.τ).loc Cert.QBwdRefIdeal.main_arg2)) (m ((c.tc : Thread Cert.QBwdRefIdeal.nD Cert.QBwdRefIdeal.τ).loc Cert.QBwdRefIdeal.main_arg3)) (m ((c.tc : Thread Cert.QBwdRefIdeal.nD Cert.QBwdRefIdeal.τ).loc Cert.QBwdRefIdeal.main_arg4)) (m ((c.tc : Thread Cert.QBwdRefIdeal.nD Cert.QBwdRefIdeal.τ).loc Cert.QBwdRefIdeal.main_arg5))).1 = (fun _ => 1#1)
    ∧ (Cert.Pre_finite_q.fn (F := Ideal) (m ((c.tc : Thread Cert.QBwdRefIdeal.nD Cert.QBwdRefIdeal.τ).loc Cert.QBwdRefIdeal.main_arg0)) (m ((c.tc : Thread Cert.QBwdRefIdeal.nD Cert.QBwdRefIdeal.τ).loc Cert.QBwdRefIdeal.main_arg1)) (m ((c.tc : Thread Cert.QBwdRefIdeal.nD Cert.QBwdRefIdeal.τ).loc Cert.QBwdRefIdeal.main_arg2)) (m ((c.tc : Thread Cert.QBwdRefIdeal.nD Cert.QBwdRefIdeal.τ).loc Cert.QBwdRefIdeal.main_arg3)) (m ((c.tc : Thread Cert.QBwdRefIdeal.nD Cert.QBwdRefIdeal.τ).loc Cert.QBwdRefIdeal.main_arg4)) (m ((c.tc : Thread Cert.QBwdRefIdeal.nD Cert.QBwdRefIdeal.τ).loc Cert.QBwdRefIdeal.main_arg5))).2.1 = (fun _ => 1#1)
    ∧ (Cert.Pre_finite_q.fn (F := Ideal) (m ((c.tc : Thread Cert.QBwdRefIdeal.nD Cert.QBwdRefIdeal.τ).loc Cert.QBwdRefIdeal.main_arg0)) (m ((c.tc : Thread Cert.QBwdRefIdeal.nD Cert.QBwdRefIdeal.τ).loc Cert.QBwdRefIdeal.main_arg1)) (m ((c.tc : Thread Cert.QBwdRefIdeal.nD Cert.QBwdRefIdeal.τ).loc Cert.QBwdRefIdeal.main_arg2)) (m ((c.tc : Thread Cert.QBwdRefIdeal.nD Cert.QBwdRefIdeal.τ).loc Cert.QBwdRefIdeal.main_arg3)) (m ((c.tc : Thread Cert.QBwdRefIdeal.nD Cert.QBwdRefIdeal.τ).loc Cert.QBwdRefIdeal.main_arg4)) (m ((c.tc : Thread Cert.QBwdRefIdeal.nD Cert.QBwdRefIdeal.τ).loc Cert.QBwdRefIdeal.main_arg5))).2.2.1 = (fun _ => 1#1)
    ∧ (Cert.Pre_finite_q.fn (F := Ideal) (m ((c.tc : Thread Cert.QBwdRefIdeal.nD Cert.QBwdRefIdeal.τ).loc Cert.QBwdRefIdeal.main_arg0)) (m ((c.tc : Thread Cert.QBwdRefIdeal.nD Cert.QBwdRefIdeal.τ).loc Cert.QBwdRefIdeal.main_arg1)) (m ((c.tc : Thread Cert.QBwdRefIdeal.nD Cert.QBwdRefIdeal.τ).loc Cert.QBwdRefIdeal.main_arg2)) (m ((c.tc : Thread Cert.QBwdRefIdeal.nD Cert.QBwdRefIdeal.τ).loc Cert.QBwdRefIdeal.main_arg3)) (m ((c.tc : Thread Cert.QBwdRefIdeal.nD Cert.QBwdRefIdeal.τ).loc Cert.QBwdRefIdeal.main_arg4)) (m ((c.tc : Thread Cert.QBwdRefIdeal.nD Cert.QBwdRefIdeal.τ).loc Cert.QBwdRefIdeal.main_arg5))).2.2.2 = (fun _ => 1#1)

def Pre_UpBwd (m : (ℓ : Loc Cert.UpBwd.nD Cert.UpBwd.τ Cert.UpBwd.sig) → Buf (Elt Bits) ℓ) : Prop :=
  True

def Pre_UpBwdIdeal (m : (ℓ : Loc Cert.UpBwdIdeal.nD Cert.UpBwdIdeal.τ Cert.UpBwdIdeal.sig) → Buf (Elt Ideal) ℓ) : Prop :=
  True

def Pre_UpBwdIdeal_finite_up [hPre_finite_up : Cert.Pre_finite_up.Facts] (m : (ℓ : Loc Cert.UpBwdIdeal.nD Cert.UpBwdIdeal.τ Cert.UpBwdIdeal.sig) → Buf (Elt Ideal) ℓ) : Prop :=
  ∀ c : Dev Cert.UpBwdIdeal.nD,
    (Cert.Pre_finite_up.fn (F := Ideal) (m ((c.tc : Thread Cert.UpBwdIdeal.nD Cert.UpBwdIdeal.τ).loc Cert.UpBwdIdeal.main_arg0)) (m ((c.tc : Thread Cert.UpBwdIdeal.nD Cert.UpBwdIdeal.τ).loc Cert.UpBwdIdeal.main_arg1)) (m ((c.tc : Thread Cert.UpBwdIdeal.nD Cert.UpBwdIdeal.τ).loc Cert.UpBwdIdeal.main_arg2)) (m ((c.tc : Thread Cert.UpBwdIdeal.nD Cert.UpBwdIdeal.τ).loc Cert.UpBwdIdeal.main_arg3)) (m ((c.tc : Thread Cert.UpBwdIdeal.nD Cert.UpBwdIdeal.τ).loc Cert.UpBwdIdeal.main_arg4)) (m ((c.tc : Thread Cert.UpBwdIdeal.nD Cert.UpBwdIdeal.τ).loc Cert.UpBwdIdeal.main_arg5)) (m ((c.tc : Thread Cert.UpBwdIdeal.nD Cert.UpBwdIdeal.τ).loc Cert.UpBwdIdeal.main_arg6))).1 = (fun _ => 1#1)
    ∧ (Cert.Pre_finite_up.fn (F := Ideal) (m ((c.tc : Thread Cert.UpBwdIdeal.nD Cert.UpBwdIdeal.τ).loc Cert.UpBwdIdeal.main_arg0)) (m ((c.tc : Thread Cert.UpBwdIdeal.nD Cert.UpBwdIdeal.τ).loc Cert.UpBwdIdeal.main_arg1)) (m ((c.tc : Thread Cert.UpBwdIdeal.nD Cert.UpBwdIdeal.τ).loc Cert.UpBwdIdeal.main_arg2)) (m ((c.tc : Thread Cert.UpBwdIdeal.nD Cert.UpBwdIdeal.τ).loc Cert.UpBwdIdeal.main_arg3)) (m ((c.tc : Thread Cert.UpBwdIdeal.nD Cert.UpBwdIdeal.τ).loc Cert.UpBwdIdeal.main_arg4)) (m ((c.tc : Thread Cert.UpBwdIdeal.nD Cert.UpBwdIdeal.τ).loc Cert.UpBwdIdeal.main_arg5)) (m ((c.tc : Thread Cert.UpBwdIdeal.nD Cert.UpBwdIdeal.τ).loc Cert.UpBwdIdeal.main_arg6))).2.1 = (fun _ => 1#1)
    ∧ (Cert.Pre_finite_up.fn (F := Ideal) (m ((c.tc : Thread Cert.UpBwdIdeal.nD Cert.UpBwdIdeal.τ).loc Cert.UpBwdIdeal.main_arg0)) (m ((c.tc : Thread Cert.UpBwdIdeal.nD Cert.UpBwdIdeal.τ).loc Cert.UpBwdIdeal.main_arg1)) (m ((c.tc : Thread Cert.UpBwdIdeal.nD Cert.UpBwdIdeal.τ).loc Cert.UpBwdIdeal.main_arg2)) (m ((c.tc : Thread Cert.UpBwdIdeal.nD Cert.UpBwdIdeal.τ).loc Cert.UpBwdIdeal.main_arg3)) (m ((c.tc : Thread Cert.UpBwdIdeal.nD Cert.UpBwdIdeal.τ).loc Cert.UpBwdIdeal.main_arg4)) (m ((c.tc : Thread Cert.UpBwdIdeal.nD Cert.UpBwdIdeal.τ).loc Cert.UpBwdIdeal.main_arg5)) (m ((c.tc : Thread Cert.UpBwdIdeal.nD Cert.UpBwdIdeal.τ).loc Cert.UpBwdIdeal.main_arg6))).2.2.1 = (fun _ => 1#1)
    ∧ (Cert.Pre_finite_up.fn (F := Ideal) (m ((c.tc : Thread Cert.UpBwdIdeal.nD Cert.UpBwdIdeal.τ).loc Cert.UpBwdIdeal.main_arg0)) (m ((c.tc : Thread Cert.UpBwdIdeal.nD Cert.UpBwdIdeal.τ).loc Cert.UpBwdIdeal.main_arg1)) (m ((c.tc : Thread Cert.UpBwdIdeal.nD Cert.UpBwdIdeal.τ).loc Cert.UpBwdIdeal.main_arg2)) (m ((c.tc : Thread Cert.UpBwdIdeal.nD Cert.UpBwdIdeal.τ).loc Cert.UpBwdIdeal.main_arg3)) (m ((c.tc : Thread Cert.UpBwdIdeal.nD Cert.UpBwdIdeal.τ).loc Cert.UpBwdIdeal.main_arg4)) (m ((c.tc : Thread Cert.UpBwdIdeal.nD Cert.UpBwdIdeal.τ).loc Cert.UpBwdIdeal.main_arg5)) (m ((c.tc : Thread Cert.UpBwdIdeal.nD Cert.UpBwdIdeal.τ).loc Cert.UpBwdIdeal.main_arg6))).2.2.2 = (fun _ => 1#1)

def Pre_UpBwdRefIdeal (m : (ℓ : Loc Cert.UpBwdRefIdeal.nD Cert.UpBwdRefIdeal.τ Cert.UpBwdRefIdeal.sig) → Buf (Elt Ideal) ℓ) : Prop :=
  True

def Pre_UpBwdRefIdeal_finite_up [hPre_finite_up : Cert.Pre_finite_up.Facts] (m : (ℓ : Loc Cert.UpBwdRefIdeal.nD Cert.UpBwdRefIdeal.τ Cert.UpBwdRefIdeal.sig) → Buf (Elt Ideal) ℓ) : Prop :=
  ∀ c : Dev Cert.UpBwdRefIdeal.nD,
    (Cert.Pre_finite_up.fn (F := Ideal) (m ((c.tc : Thread Cert.UpBwdRefIdeal.nD Cert.UpBwdRefIdeal.τ).loc Cert.UpBwdRefIdeal.main_arg0)) (m ((c.tc : Thread Cert.UpBwdRefIdeal.nD Cert.UpBwdRefIdeal.τ).loc Cert.UpBwdRefIdeal.main_arg1)) (m ((c.tc : Thread Cert.UpBwdRefIdeal.nD Cert.UpBwdRefIdeal.τ).loc Cert.UpBwdRefIdeal.main_arg2)) (m ((c.tc : Thread Cert.UpBwdRefIdeal.nD Cert.UpBwdRefIdeal.τ).loc Cert.UpBwdRefIdeal.main_arg3)) (m ((c.tc : Thread Cert.UpBwdRefIdeal.nD Cert.UpBwdRefIdeal.τ).loc Cert.UpBwdRefIdeal.main_arg4)) (m ((c.tc : Thread Cert.UpBwdRefIdeal.nD Cert.UpBwdRefIdeal.τ).loc Cert.UpBwdRefIdeal.main_arg5)) (m ((c.tc : Thread Cert.UpBwdRefIdeal.nD Cert.UpBwdRefIdeal.τ).loc Cert.UpBwdRefIdeal.main_arg6))).1 = (fun _ => 1#1)
    ∧ (Cert.Pre_finite_up.fn (F := Ideal) (m ((c.tc : Thread Cert.UpBwdRefIdeal.nD Cert.UpBwdRefIdeal.τ).loc Cert.UpBwdRefIdeal.main_arg0)) (m ((c.tc : Thread Cert.UpBwdRefIdeal.nD Cert.UpBwdRefIdeal.τ).loc Cert.UpBwdRefIdeal.main_arg1)) (m ((c.tc : Thread Cert.UpBwdRefIdeal.nD Cert.UpBwdRefIdeal.τ).loc Cert.UpBwdRefIdeal.main_arg2)) (m ((c.tc : Thread Cert.UpBwdRefIdeal.nD Cert.UpBwdRefIdeal.τ).loc Cert.UpBwdRefIdeal.main_arg3)) (m ((c.tc : Thread Cert.UpBwdRefIdeal.nD Cert.UpBwdRefIdeal.τ).loc Cert.UpBwdRefIdeal.main_arg4)) (m ((c.tc : Thread Cert.UpBwdRefIdeal.nD Cert.UpBwdRefIdeal.τ).loc Cert.UpBwdRefIdeal.main_arg5)) (m ((c.tc : Thread Cert.UpBwdRefIdeal.nD Cert.UpBwdRefIdeal.τ).loc Cert.UpBwdRefIdeal.main_arg6))).2.1 = (fun _ => 1#1)
    ∧ (Cert.Pre_finite_up.fn (F := Ideal) (m ((c.tc : Thread Cert.UpBwdRefIdeal.nD Cert.UpBwdRefIdeal.τ).loc Cert.UpBwdRefIdeal.main_arg0)) (m ((c.tc : Thread Cert.UpBwdRefIdeal.nD Cert.UpBwdRefIdeal.τ).loc Cert.UpBwdRefIdeal.main_arg1)) (m ((c.tc : Thread Cert.UpBwdRefIdeal.nD Cert.UpBwdRefIdeal.τ).loc Cert.UpBwdRefIdeal.main_arg2)) (m ((c.tc : Thread Cert.UpBwdRefIdeal.nD Cert.UpBwdRefIdeal.τ).loc Cert.UpBwdRefIdeal.main_arg3)) (m ((c.tc : Thread Cert.UpBwdRefIdeal.nD Cert.UpBwdRefIdeal.τ).loc Cert.UpBwdRefIdeal.main_arg4)) (m ((c.tc : Thread Cert.UpBwdRefIdeal.nD Cert.UpBwdRefIdeal.τ).loc Cert.UpBwdRefIdeal.main_arg5)) (m ((c.tc : Thread Cert.UpBwdRefIdeal.nD Cert.UpBwdRefIdeal.τ).loc Cert.UpBwdRefIdeal.main_arg6))).2.2.1 = (fun _ => 1#1)
    ∧ (Cert.Pre_finite_up.fn (F := Ideal) (m ((c.tc : Thread Cert.UpBwdRefIdeal.nD Cert.UpBwdRefIdeal.τ).loc Cert.UpBwdRefIdeal.main_arg0)) (m ((c.tc : Thread Cert.UpBwdRefIdeal.nD Cert.UpBwdRefIdeal.τ).loc Cert.UpBwdRefIdeal.main_arg1)) (m ((c.tc : Thread Cert.UpBwdRefIdeal.nD Cert.UpBwdRefIdeal.τ).loc Cert.UpBwdRefIdeal.main_arg2)) (m ((c.tc : Thread Cert.UpBwdRefIdeal.nD Cert.UpBwdRefIdeal.τ).loc Cert.UpBwdRefIdeal.main_arg3)) (m ((c.tc : Thread Cert.UpBwdRefIdeal.nD Cert.UpBwdRefIdeal.τ).loc Cert.UpBwdRefIdeal.main_arg4)) (m ((c.tc : Thread Cert.UpBwdRefIdeal.nD Cert.UpBwdRefIdeal.τ).loc Cert.UpBwdRefIdeal.main_arg5)) (m ((c.tc : Thread Cert.UpBwdRefIdeal.nD Cert.UpBwdRefIdeal.τ).loc Cert.UpBwdRefIdeal.main_arg6))).2.2.2 = (fun _ => 1#1)

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_finite_in [hPre_finite_in : Cert.Pre_finite_in.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_finite_in.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5))).1 = (fun _ => 1#1)
    ∧ (Cert.Pre_finite_in.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5))).2.1 = (fun _ => 1#1)
    ∧ (Cert.Pre_finite_in.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5))).2.2.1 = (fun _ => 1#1)
    ∧ (Cert.Pre_finite_in.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5))).2.2.2 = (fun _ => 1#1)

def Pre_InBwdRefIdeal (m : (ℓ : Loc Cert.InBwdRefIdeal.nD Cert.InBwdRefIdeal.τ Cert.InBwdRefIdeal.sig) → Buf (Elt Ideal) ℓ) : Prop :=
  True

def Pre_InBwdRefIdeal_finite_in [hPre_finite_in : Cert.Pre_finite_in.Facts] (m : (ℓ : Loc Cert.InBwdRefIdeal.nD Cert.InBwdRefIdeal.τ Cert.InBwdRefIdeal.sig) → Buf (Elt Ideal) ℓ) : Prop :=
  ∀ c : Dev Cert.InBwdRefIdeal.nD,
    (Cert.Pre_finite_in.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5))).1 = (fun _ => 1#1)
    ∧ (Cert.Pre_finite_in.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5))).2.1 = (fun _ => 1#1)
    ∧ (Cert.Pre_finite_in.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5))).2.2.1 = (fun _ => 1#1)
    ∧ (Cert.Pre_finite_in.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5))).2.2.2 = (fun _ => 1#1)

def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossBwdIdeal_finite_loss [hPre_finite_loss : Cert.Pre_finite_loss.Facts] (m : (ℓ : Loc Cert.LossBwdIdeal.nD Cert.LossBwdIdeal.τ Cert.LossBwdIdeal.sig) → Buf (Elt Ideal) ℓ) : Prop :=
  ∀ c : Dev Cert.LossBwdIdeal.nD,
    (Cert.Pre_finite_loss.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4))).1 = (fun _ => 1#1)
    ∧ (Cert.Pre_finite_loss.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4))).2.1 = (fun _ => 1#1)
    ∧ (Cert.Pre_finite_loss.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4))).2.2.1 = (fun _ => 1#1)
    ∧ (Cert.Pre_finite_loss.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4))).2.2.2.1 = (fun _ => 1#1)
    ∧ (Cert.Pre_finite_loss.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4))).2.2.2.2 = (fun _ => 1#1)

def Pre_LossBwdRefIdeal (m : (ℓ : Loc Cert.LossBwdRefIdeal.nD Cert.LossBwdRefIdeal.τ Cert.LossBwdRefIdeal.sig) → Buf (Elt Ideal) ℓ) : Prop :=
  True

def Pre_LossBwdRefIdeal_finite_loss [hPre_finite_loss : Cert.Pre_finite_loss.Facts] (m : (ℓ : Loc Cert.LossBwdRefIdeal.nD Cert.LossBwdRefIdeal.τ Cert.LossBwdRefIdeal.sig) → Buf (Elt Ideal) ℓ) : Prop :=
  ∀ c : Dev Cert.LossBwdRefIdeal.nD,
    (Cert.Pre_finite_loss.fn (F := Ideal) (m ((c.tc : Thread Cert.LossBwdRefIdeal.nD Cert.LossBwdRefIdeal.τ).loc Cert.LossBwdRefIdeal.main_arg0)) (m ((c.tc : Thread Cert.LossBwdRefIdeal.nD Cert.LossBwdRefIdeal.τ).loc Cert.LossBwdRefIdeal.main_arg1)) (m ((c.tc : Thread Cert.LossBwdRefIdeal.nD Cert.LossBwdRefIdeal.τ).loc Cert.LossBwdRefIdeal.main_arg2)) (m ((c.tc : Thread Cert.LossBwdRefIdeal.nD Cert.LossBwdRefIdeal.τ).loc Cert.LossBwdRefIdeal.main_arg3)) (m ((c.tc : Thread Cert.LossBwdRefIdeal.nD Cert.LossBwdRefIdeal.τ).loc Cert.LossBwdRefIdeal.main_arg4))).1 = (fun _ => 1#1)
    ∧ (Cert.Pre_finite_loss.fn (F := Ideal) (m ((c.tc : Thread Cert.LossBwdRefIdeal.nD Cert.LossBwdRefIdeal.τ).loc Cert.LossBwdRefIdeal.main_arg0)) (m ((c.tc : Thread Cert.LossBwdRefIdeal.nD Cert.LossBwdRefIdeal.τ).loc Cert.LossBwdRefIdeal.main_arg1)) (m ((c.tc : Thread Cert.LossBwdRefIdeal.nD Cert.LossBwdRefIdeal.τ).loc Cert.LossBwdRefIdeal.main_arg2)) (m ((c.tc : Thread Cert.LossBwdRefIdeal.nD Cert.LossBwdRefIdeal.τ).loc Cert.LossBwdRefIdeal.main_arg3)) (m ((c.tc : Thread Cert.LossBwdRefIdeal.nD Cert.LossBwdRefIdeal.τ).loc Cert.LossBwdRefIdeal.main_arg4))).2.1 = (fun _ => 1#1)
    ∧ (Cert.Pre_finite_loss.fn (F := Ideal) (m ((c.tc : Thread Cert.LossBwdRefIdeal.nD Cert.LossBwdRefIdeal.τ).loc Cert.LossBwdRefIdeal.main_arg0)) (m ((c.tc : Thread Cert.LossBwdRefIdeal.nD Cert.LossBwdRefIdeal.τ).loc Cert.LossBwdRefIdeal.main_arg1)) (m ((c.tc : Thread Cert.LossBwdRefIdeal.nD Cert.LossBwdRefIdeal.τ).loc Cert.LossBwdRefIdeal.main_arg2)) (m ((c.tc : Thread Cert.LossBwdRefIdeal.nD Cert.LossBwdRefIdeal.τ).loc Cert.LossBwdRefIdeal.main_arg3)) (m ((c.tc : Thread Cert.LossBwdRefIdeal.nD Cert.LossBwdRefIdeal.τ).loc Cert.LossBwdRefIdeal.main_arg4))).2.2.1 = (fun _ => 1#1)
    ∧ (Cert.Pre_finite_loss.fn (F := Ideal) (m ((c.tc : Thread Cert.LossBwdRefIdeal.nD Cert.LossBwdRefIdeal.τ).loc Cert.LossBwdRefIdeal.main_arg0)) (m ((c.tc : Thread Cert.LossBwdRefIdeal.nD Cert.LossBwdRefIdeal.τ).loc Cert.LossBwdRefIdeal.main_arg1)) (m ((c.tc : Thread Cert.LossBwdRefIdeal.nD Cert.LossBwdRefIdeal.τ).loc Cert.LossBwdRefIdeal.main_arg2)) (m ((c.tc : Thread Cert.LossBwdRefIdeal.nD Cert.LossBwdRefIdeal.τ).loc Cert.LossBwdRefIdeal.main_arg3)) (m ((c.tc : Thread Cert.LossBwdRefIdeal.nD Cert.LossBwdRefIdeal.τ).loc Cert.LossBwdRefIdeal.main_arg4))).2.2.2.1 = (fun _ => 1#1)
    ∧ (Cert.Pre_finite_loss.fn (F := Ideal) (m ((c.tc : Thread Cert.LossBwdRefIdeal.nD Cert.LossBwdRefIdeal.τ).loc Cert.LossBwdRefIdeal.main_arg0)) (m ((c.tc : Thread Cert.LossBwdRefIdeal.nD Cert.LossBwdRefIdeal.τ).loc Cert.LossBwdRefIdeal.main_arg1)) (m ((c.tc : Thread Cert.LossBwdRefIdeal.nD Cert.LossBwdRefIdeal.τ).loc Cert.LossBwdRefIdeal.main_arg2)) (m ((c.tc : Thread Cert.LossBwdRefIdeal.nD Cert.LossBwdRefIdeal.τ).loc Cert.LossBwdRefIdeal.main_arg3)) (m ((c.tc : Thread Cert.LossBwdRefIdeal.nD Cert.LossBwdRefIdeal.τ).loc Cert.LossBwdRefIdeal.main_arg4))).2.2.2.2 = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_attn [hPre_finite_attn : Cert.Pre_finite_attn.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).2.1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).2.2 = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_finite_attn [hPre_finite_attn : Cert.Pre_finite_attn.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2))).1 = (fun _ => 1#1)
    ∧ (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2))).2.1 = (fun _ => 1#1)
    ∧ (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2))).2.2 = (fun _ => 1#1)

def Pre_ReluBwd (m : (ℓ : Loc Cert.ReluBwd.nD Cert.ReluBwd.τ Cert.ReluBwd.sig) → Buf (Elt Bits) ℓ) : Prop :=
  True

def Pre_ReluBwdIdeal (m : (ℓ : Loc Cert.ReluBwdIdeal.nD Cert.ReluBwdIdeal.τ Cert.ReluBwdIdeal.sig) → Buf (Elt Ideal) ℓ) : Prop :=
  True

def Pre_ReluBwdRefIdeal (m : (ℓ : Loc Cert.ReluBwdRefIdeal.nD Cert.ReluBwdRefIdeal.τ Cert.ReluBwdRefIdeal.sig) → Buf (Elt Ideal) ℓ) : Prop :=
  True

def Pre_ReluFwd (m : (ℓ : Loc Cert.ReluFwd.nD Cert.ReluFwd.τ Cert.ReluFwd.sig) → Buf (Elt Bits) ℓ) : Prop :=
  True

def Pre_ReluFwdIdeal (m : (ℓ : Loc Cert.ReluFwdIdeal.nD Cert.ReluFwdIdeal.τ Cert.ReluFwdIdeal.sig) → Buf (Elt Ideal) ℓ) : Prop :=
  True

def Pre_ReluFwdRefIdeal (m : (ℓ : Loc Cert.ReluFwdRefIdeal.nD Cert.ReluFwdRefIdeal.τ Cert.ReluFwdRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_fwd [hPre_finite_fwd : Cert.Pre_finite_fwd.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1))).1 = (fun _ => 1#1)
    ∧ (Cert.Pre_finite_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1))).2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_fwd [hPre_finite_fwd : Cert.Pre_finite_fwd.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_fwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1))).1 = (fun _ => 1#1)
    ∧ (Cert.Pre_finite_fwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1))).2 = (fun _ => 1#1)

def Pre_PreFwd (m : (ℓ : Loc Cert.PreFwd.nD Cert.PreFwd.τ Cert.PreFwd.sig) → Buf (Elt Bits) ℓ) : Prop :=
  True

def Pre_PreFwdIdeal (m : (ℓ : Loc Cert.PreFwdIdeal.nD Cert.PreFwdIdeal.τ Cert.PreFwdIdeal.sig) → Buf (Elt Ideal) ℓ) : Prop :=
  True

def Pre_PreFwdRefIdeal (m : (ℓ : Loc Cert.PreFwdRefIdeal.nD Cert.PreFwdRefIdeal.τ Cert.PreFwdRefIdeal.sig) → Buf (Elt Ideal) ℓ) : Prop :=
  True

def Pre_KvFwd (m : (ℓ : Loc Cert.KvFwd.nD Cert.KvFwd.τ Cert.KvFwd.sig) → Buf (Elt Bits) ℓ) : Prop :=
  True

def Pre_KvFwdIdeal (m : (ℓ : Loc Cert.KvFwdIdeal.nD Cert.KvFwdIdeal.τ Cert.KvFwdIdeal.sig) → Buf (Elt Ideal) ℓ) : Prop :=
  True

def Pre_KvFwdRefIdeal (m : (ℓ : Loc Cert.KvFwdRefIdeal.nD Cert.KvFwdRefIdeal.τ Cert.KvFwdRefIdeal.sig) → Buf (Elt Ideal) ℓ) : Prop :=
  True

def Pre_OutQFwd (m : (ℓ : Loc Cert.OutQFwd.nD Cert.OutQFwd.τ Cert.OutQFwd.sig) → Buf (Elt Bits) ℓ) : Prop :=
  True

def Pre_OutQFwdIdeal (m : (ℓ : Loc Cert.OutQFwdIdeal.nD Cert.OutQFwdIdeal.τ Cert.OutQFwdIdeal.sig) → Buf (Elt Ideal) ℓ) : Prop :=
  True

def Pre_OutQFwdRefIdeal (m : (ℓ : Loc Cert.OutQFwdRefIdeal.nD Cert.OutQFwdRefIdeal.τ Cert.OutQFwdRefIdeal.sig) → Buf (Elt Ideal) ℓ) : Prop :=
  True

def Pre_AttnOutFwd (m : (ℓ : Loc Cert.AttnOutFwd.nD Cert.AttnOutFwd.τ Cert.AttnOutFwd.sig) → Buf (Elt Bits) ℓ) : Prop :=
  True

def Pre_AttnOutFwdIdeal (m : (ℓ : Loc Cert.AttnOutFwdIdeal.nD Cert.AttnOutFwdIdeal.τ Cert.AttnOutFwdIdeal.sig) → Buf (Elt Ideal) ℓ) : Prop :=
  True

def Pre_AttnOutFwdRefIdeal (m : (ℓ : Loc Cert.AttnOutFwdRefIdeal.nD Cert.AttnOutFwdRefIdeal.τ Cert.AttnOutFwdRefIdeal.sig) → Buf (Elt Ideal) ℓ) : Prop :=
  True

def Pre_MixPool (m : (ℓ : Loc Cert.MixPool.nD Cert.MixPool.τ Cert.MixPool.sig) → Buf (Elt Bits) ℓ) : Prop :=
  True

def Pre_MixPoolIdeal (m : (ℓ : Loc Cert.MixPoolIdeal.nD Cert.MixPoolIdeal.τ Cert.MixPoolIdeal.sig) → Buf (Elt Ideal) ℓ) : Prop :=
  True

def Pre_MixPoolRefIdeal (m : (ℓ : Loc Cert.MixPoolRefIdeal.nD Cert.MixPoolRefIdeal.τ Cert.MixPoolRefIdeal.sig) → Buf (Elt Ideal) ℓ) : Prop :=
  True

def quiescent_KvBwd [hKvBwd : Cert.KvBwd.Facts] : Prop :=
  ∀ (m : (ℓ : Loc Cert.KvBwd.nD Cert.KvBwd.τ Cert.KvBwd.sig) → Buf (Elt Bits) ℓ) (g : Dev Cert.KvBwd.nD → PrngReg), Pre_KvBwd m →
    θ_run (Cert.KvBwd.defs (F := Bits)) (onTc (τ := Cert.KvBwd.τ) (Cert.KvBwd.main (F := Bits))) ⟨m, fun _ => 0, g⟩ (fun r => (∀ c : Dev Cert.KvBwd.nD,
      r.2.mem ((c.tc : Thread Cert.KvBwd.nD Cert.KvBwd.τ).loc Cert.KvBwd.main_arg0) = m ((c.tc : Thread Cert.KvBwd.nD Cert.KvBwd.τ).loc Cert.KvBwd.main_arg0)
      ∧ r.2.mem ((c.tc : Thread Cert.KvBwd.nD Cert.KvBwd.τ).loc Cert.KvBwd.main_arg1) = m ((c.tc : Thread Cert.KvBwd.nD Cert.KvBwd.τ).loc Cert.KvBwd.main_arg1)
      ∧ r.2.mem ((c.tc : Thread Cert.KvBwd.nD Cert.KvBwd.τ).loc Cert.KvBwd.main_arg2) = m ((c.tc : Thread Cert.KvBwd.nD Cert.KvBwd.τ).loc Cert.KvBwd.main_arg2)
      ∧ r.2.mem ((c.tc : Thread Cert.KvBwd.nD Cert.KvBwd.τ).loc Cert.KvBwd.main_arg3) = m ((c.tc : Thread Cert.KvBwd.nD Cert.KvBwd.τ).loc Cert.KvBwd.main_arg3))
      ∧ r.2.sem = fun _ => 0)

def quiescent_KvBwdIdeal [hKvBwdIdeal : Cert.KvBwdIdeal.Facts] : Prop :=
  ∀ (m : (ℓ : Loc Cert.KvBwdIdeal.nD Cert.KvBwdIdeal.τ Cert.KvBwdIdeal.sig) → Buf (Elt Ideal) ℓ) (g : Dev Cert.KvBwdIdeal.nD → PrngReg), Pre_KvBwdIdeal m →
    θ_run (Cert.KvBwdIdeal.defs (F := Ideal)) (onTc (τ := Cert.KvBwdIdeal.τ) (Cert.KvBwdIdeal.main (F := Ideal))) ⟨m, fun _ => 0, g⟩ (fun r => (∀ c : Dev Cert.KvBwdIdeal.nD,
      r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
      ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1)
      ∧ r.2.mem ((c.tc : Thread Cert.KvBwdIdeal.nD Cert.KvBwdIdeal.τ).loc Cert.KvBwdIdeal.main_arg2) = m ((c.tc : Thread Cert.KvBwdIdeal.nD Cert.KvBwdIdeal.τ).loc Cert.KvBwdIdeal.main_arg2)
      ∧ r.2.mem ((c.tc : Thread Cert.KvBwdIdeal.nD Cert.KvBwdIdeal.τ).loc Cert.KvBwdIdeal.main_arg3) = m ((c.tc : Thread Cert.KvBwdIdeal.nD Cert.KvBwdIdeal.τ).loc Cert.KvBwdIdeal.main_arg3))
      ∧ r.2.sem = fun _ => 0)

def quiescent_KvBwdRefIdeal [hKvBwdRefIdeal : Cert.KvBwdRefIdeal.Facts] : Prop :=
  ∀ (m : (ℓ : Loc Cert.KvBwdRefIdeal.nD Cert.KvBwdRefIdeal.τ Cert.KvBwdRefIdeal.sig) → Buf (Elt Ideal) ℓ) (g : Dev Cert.KvBwdRefIdeal.nD → PrngReg), Pre_KvBwdRefIdeal m →
    θ_run (Cert.KvBwdRefIdeal.defs (F := Ideal)) (onTc (τ := Cert.KvBwdRefIdeal.τ) (Cert.KvBwdRefIdeal.main (F := Ideal))) ⟨m, fun _ => 0, g⟩ (fun r => (∀ c : Dev Cert.KvBwdRefIdeal.nD,
      r.2.mem ((c.tc : Thread Cert.KvBwdRefIdeal.nD Cert.KvBwdRefIdeal.τ).loc Cert.KvBwdRefIdeal.main_arg0) = m ((c.tc : Thread Cert.KvBwdRefIdeal.nD Cert.KvBwdRefIdeal.τ).loc Cert.KvBwdRefIdeal.main_arg0)
      ∧ r.2.mem ((c.tc : Thread Cert.KvBwdRefIdeal.nD Cert.KvBwdRefIdeal.τ).loc Cert.KvBwdRefIdeal.main_arg1) = m ((c.tc : Thread Cert.KvBwdRefIdeal.nD Cert.KvBwdRefIdeal.τ).loc Cert.KvBwdRefIdeal.main_arg1)
      ∧ r.2.mem ((c.tc : Thread Cert.KvBwdRefIdeal.nD Cert.KvBwdRefIdeal.τ).loc Cert.KvBwdRefIdeal.main_arg2) = m ((c.tc : Thread Cert.KvBwdRefIdeal.nD Cert.KvBwdRefIdeal.τ).loc Cert.KvBwdRefIdeal.main_arg2)
      ∧ r.2.mem ((c.tc : Thread Cert.KvBwdRefIdeal.nD Cert.KvBwdRefIdeal.τ).loc Cert.KvBwdRefIdeal.main_arg3) = m ((c.tc : Thread Cert.KvBwdRefIdeal.nD Cert.KvBwdRefIdeal.τ).loc Cert.KvBwdRefIdeal.main_arg3))
      ∧ r.2.sem = fun _ => 0)

def quiescent_QBwd [hQBwd : Cert.QBwd.Facts] : Prop :=
  ∀ (m : (ℓ : Loc Cert.QBwd.nD Cert.QBwd.τ Cert.QBwd.sig) → Buf (Elt Bits) ℓ) (g : Dev Cert.QBwd.nD → PrngReg), Pre_QBwd m →
    θ_run (Cert.QBwd.defs (F := Bits)) (onTc (τ := Cert.QBwd.τ) (Cert.QBwd.main (F := Bits))) ⟨m, fun _ => 0, g⟩ (fun r => (∀ c : Dev Cert.QBwd.nD,
      r.2.mem ((c.tc : Thread Cert.QBwd.nD Cert.QBwd.τ).loc Cert.QBwd.main_arg0) = m ((c.tc : Thread Cert.QBwd.nD Cert.QBwd.τ).loc Cert.QBwd.main_arg0)
      ∧ r.2.mem ((c.tc : Thread Cert.QBwd.nD Cert.QBwd.τ).loc Cert.QBwd.main_arg1) = m ((c.tc : Thread Cert.QBwd.nD Cert.QBwd.τ).loc Cert.QBwd.main_arg1)
      ∧ r.2.mem ((c.tc : Thread Cert.QBwd.nD Cert.QBwd.τ).loc Cert.QBwd.main_arg2) = m ((c.tc : Thread Cert.QBwd.nD Cert.QBwd.τ).loc Cert.QBwd.main_arg2)
      ∧ r.2.mem ((c.tc : Thread Cert.QBwd.nD Cert.QBwd.τ).loc Cert.QBwd.main_arg3) = m ((c.tc : Thread Cert.QBwd.nD Cert.QBwd.τ).loc Cert.QBwd.main_arg3)
      ∧ r.2.mem ((c.tc : Thread Cert.QBwd.nD Cert.QBwd.τ).loc Cert.QBwd.main_arg4) = m ((c.tc : Thread Cert.QBwd.nD Cert.QBwd.τ).loc Cert.QBwd.main_arg4)
      ∧ r.2.mem ((c.tc : Thread Cert.QBwd.nD Cert.QBwd.τ).loc Cert.QBwd.main_arg5) = m ((c.tc : Thread Cert.QBwd.nD Cert.QBwd.τ).loc Cert.QBwd.main_arg5))
      ∧ r.2.sem = fun _ => 0)

def quiescent_QBwdIdeal [hQBwdIdeal : Cert.QBwdIdeal.Facts] : Prop :=
  ∀ (m : (ℓ : Loc Cert.QBwdIdeal.nD Cert.QBwdIdeal.τ Cert.QBwdIdeal.sig) → Buf (Elt Ideal) ℓ) (g : Dev Cert.QBwdIdeal.nD → PrngReg), Pre_QBwdIdeal m →
    θ_run (Cert.QBwdIdeal.defs (F := Ideal)) (onTc (τ := Cert.QBwdIdeal.τ) (Cert.QBwdIdeal.main (F := Ideal))) ⟨m, fun _ => 0, g⟩ (fun r => (∀ c : Dev Cert.QBwdIdeal.nD,
      r.2.mem ((c.tc : Thread Cert.QBwdIdeal.nD Cert.QBwdIdeal.τ).loc Cert.QBwdIdeal.main_arg0) = m ((c.tc : Thread Cert.QBwdIdeal.nD Cert.QBwdIdeal.τ).loc Cert.QBwdIdeal.main_arg0)
      ∧ r.2.mem ((c.tc : Thread Cert.QBwdIdeal.nD Cert.QBwdIdeal.τ).loc Cert.QBwdIdeal.main_arg1) = m ((c.tc : Thread Cert.QBwdIdeal.nD Cert.QBwdIdeal.τ).loc Cert.QBwdIdeal.main_arg1)
      ∧ r.2.mem ((c.tc : Thread Cert.QBwdIdeal.nD Cert.QBwdIdeal.τ).loc Cert.QBwdIdeal.main_arg2) = m ((c.tc : Thread Cert.QBwdIdeal.nD Cert.QBwdIdeal.τ).loc Cert.QBwdIdeal.main_arg2)
      ∧ r.2.mem ((c.tc : Thread Cert.QBwdIdeal.nD Cert.QBwdIdeal.τ).loc Cert.QBwdIdeal.main_arg3) = m ((c.tc : Thread Cert.QBwdIdeal.nD Cert.QBwdIdeal.τ).loc Cert.QBwdIdeal.main_arg3)
      ∧ r.2.mem ((c.tc : Thread Cert.QBwdIdeal.nD Cert.QBwdIdeal.τ).loc Cert.QBwdIdeal.main_arg4) = m ((c.tc : Thread Cert.QBwdIdeal.nD Cert.QBwdIdeal.τ).loc Cert.QBwdIdeal.main_arg4)
      ∧ r.2.mem ((c.tc : Thread Cert.QBwdIdeal.nD Cert.QBwdIdeal.τ).loc Cert.QBwdIdeal.main_arg5) = m ((c.tc : Thread Cert.QBwdIdeal.nD Cert.QBwdIdeal.τ).loc Cert.QBwdIdeal.main_arg5))
      ∧ r.2.sem = fun _ => 0)

def quiescent_QBwdIdeal_pre_finite_q [hQBwdIdeal : Cert.QBwdIdeal.Facts] [hPre_finite_q : Cert.Pre_finite_q.Facts] : Prop :=
  ∀ (m : (ℓ : Loc Cert.QBwdIdeal.nD Cert.QBwdIdeal.τ Cert.QBwdIdeal.sig) → Buf (Elt Ideal) ℓ) (g : Dev Cert.QBwdIdeal.nD → PrngReg), Pre_QBwdIdeal_finite_q m →
    θ_run (Cert.QBwdIdeal.defs (F := Ideal)) (onTc (τ := Cert.QBwdIdeal.τ) (Cert.QBwdIdeal.main (F := Ideal))) ⟨m, fun _ => 0, g⟩ (fun r => (∀ c : Dev Cert.QBwdIdeal.nD,
      r.2.mem ((c.tc : Thread Cert.QBwdIdeal.nD Cert.QBwdIdeal.τ).loc Cert.QBwdIdeal.main_arg0) = m ((c.tc : Thread Cert.QBwdIdeal.nD Cert.QBwdIdeal.τ).loc Cert.QBwdIdeal.main_arg0)
      ∧ r.2.mem ((c.tc : Thread Cert.QBwdIdeal.nD Cert.QBwdIdeal.τ).loc Cert.QBwdIdeal.main_arg1) = m ((c.tc : Thread Cert.QBwdIdeal.nD Cert.QBwdIdeal.τ).loc Cert.QBwdIdeal.main_arg1)
      ∧ r.2.mem ((c.tc : Thread Cert.QBwdIdeal.nD Cert.QBwdIdeal.τ).loc Cert.QBwdIdeal.main_arg2) = m ((c.tc : Thread Cert.QBwdIdeal.nD Cert.QBwdIdeal.τ).loc Cert.QBwdIdeal.main_arg2)
      ∧ r.2.mem ((c.tc : Thread Cert.QBwdIdeal.nD Cert.QBwdIdeal.τ).loc Cert.QBwdIdeal.main_arg3) = m ((c.tc : Thread Cert.QBwdIdeal.nD Cert.QBwdIdeal.τ).loc Cert.QBwdIdeal.main_arg3)
      ∧ r.2.mem ((c.tc : Thread Cert.QBwdIdeal.nD Cert.QBwdIdeal.τ).loc Cert.QBwdIdeal.main_arg4) = m ((c.tc : Thread Cert.QBwdIdeal.nD Cert.QBwdIdeal.τ).loc Cert.QBwdIdeal.main_arg4)
      ∧ r.2.mem ((c.tc : Thread Cert.QBwdIdeal.nD Cert.QBwdIdeal.τ).loc Cert.QBwdIdeal.main_arg5) = m ((c.tc : Thread Cert.QBwdIdeal.nD Cert.QBwdIdeal.τ).loc Cert.QBwdIdeal.main_arg5))
      ∧ r.2.sem = fun _ => 0)

def quiescent_QBwdRefIdeal [hQBwdRefIdeal : Cert.QBwdRefIdeal.Facts] : Prop :=
  ∀ (m : (ℓ : Loc Cert.QBwdRefIdeal.nD Cert.QBwdRefIdeal.τ Cert.QBwdRefIdeal.sig) → Buf (Elt Ideal) ℓ) (g : Dev Cert.QBwdRefIdeal.nD → PrngReg), Pre_QBwdRefIdeal m →
    θ_run (Cert.QBwdRefIdeal.defs (F := Ideal)) (onTc (τ := Cert.QBwdRefIdeal.τ) (Cert.QBwdRefIdeal.main (F := Ideal))) ⟨m, fun _ => 0, g⟩ (fun r => (∀ c : Dev Cert.QBwdRefIdeal.nD,
      r.2.mem ((c.tc : Thread Cert.QBwdRefIdeal.nD Cert.QBwdRefIdeal.τ).loc Cert.QBwdRefIdeal.main_arg0) = m ((c.tc : Thread Cert.QBwdRefIdeal.nD Cert.QBwdRefIdeal.τ).loc Cert.QBwdRefIdeal.main_arg0)
      ∧ r.2.mem ((c.tc : Thread Cert.QBwdRefIdeal.nD Cert.QBwdRefIdeal.τ).loc Cert.QBwdRefIdeal.main_arg1) = m ((c.tc : Thread Cert.QBwdRefIdeal.nD Cert.QBwdRefIdeal.τ).loc Cert.QBwdRefIdeal.main_arg1)
      ∧ r.2.mem ((c.tc : Thread Cert.QBwdRefIdeal.nD Cert.QBwdRefIdeal.τ).loc Cert.QBwdRefIdeal.main_arg2) = m ((c.tc : Thread Cert.QBwdRefIdeal.nD Cert.QBwdRefIdeal.τ).loc Cert.QBwdRefIdeal.main_arg2)
      ∧ r.2.mem ((c.tc : Thread Cert.QBwdRefIdeal.nD Cert.QBwdRefIdeal.τ).loc Cert.QBwdRefIdeal.main_arg3) = m ((c.tc : Thread Cert.QBwdRefIdeal.nD Cert.QBwdRefIdeal.τ).loc Cert.QBwdRefIdeal.main_arg3)
      ∧ r.2.mem ((c.tc : Thread Cert.QBwdRefIdeal.nD Cert.QBwdRefIdeal.τ).loc Cert.QBwdRefIdeal.main_arg4) = m ((c.tc : Thread Cert.QBwdRefIdeal.nD Cert.QBwdRefIdeal.τ).loc Cert.QBwdRefIdeal.main_arg4)
      ∧ r.2.mem ((c.tc : Thread Cert.QBwdRefIdeal.nD Cert.QBwdRefIdeal.τ).loc Cert.QBwdRefIdeal.main_arg5) = m ((c.tc : Thread Cert.QBwdRefIdeal.nD Cert.QBwdRefIdeal.τ).loc Cert.QBwdRefIdeal.main_arg5))
      ∧ r.2.sem = fun _ => 0)

def quiescent_QBwdRefIdeal_pre_finite_q [hQBwdRefIdeal : Cert.QBwdRefIdeal.Facts] [hPre_finite_q : Cert.Pre_finite_q.Facts] : Prop :=
  ∀ (m : (ℓ : Loc Cert.QBwdRefIdeal.nD Cert.QBwdRefIdeal.τ Cert.QBwdRefIdeal.sig) → Buf (Elt Ideal) ℓ) (g : Dev Cert.QBwdRefIdeal.nD → PrngReg), Pre_QBwdRefIdeal_finite_q m →
    θ_run (Cert.QBwdRefIdeal.defs (F := Ideal)) (onTc (τ := Cert.QBwdRefIdeal.τ) (Cert.QBwdRefIdeal.main (F := Ideal))) ⟨m, fun _ => 0, g⟩ (fun r => (∀ c : Dev Cert.QBwdRefIdeal.nD,
      r.2.mem ((c.tc : Thread Cert.QBwdRefIdeal.nD Cert.QBwdRefIdeal.τ).loc Cert.QBwdRefIdeal.main_arg0) = m ((c.tc : Thread Cert.QBwdRefIdeal.nD Cert.QBwdRefIdeal.τ).loc Cert.QBwdRefIdeal.main_arg0)
      ∧ r.2.mem ((c.tc : Thread Cert.QBwdRefIdeal.nD Cert.QBwdRefIdeal.τ).loc Cert.QBwdRefIdeal.main_arg1) = m ((c.tc : Thread Cert.QBwdRefIdeal.nD Cert.QBwdRefIdeal.τ).loc Cert.QBwdRefIdeal.main_arg1)
      ∧ r.2.mem ((c.tc : Thread Cert.QBwdRefIdeal.nD Cert.QBwdRefIdeal.τ).loc Cert.QBwdRefIdeal.main_arg2) = m ((c.tc : Thread Cert.QBwdRefIdeal.nD Cert.QBwdRefIdeal.τ).loc Cert.QBwdRefIdeal.main_arg2)
      ∧ r.2.mem ((c.tc : Thread Cert.QBwdRefIdeal.nD Cert.QBwdRefIdeal.τ).loc Cert.QBwdRefIdeal.main_arg3) = m ((c.tc : Thread Cert.QBwdRefIdeal.nD Cert.QBwdRefIdeal.τ).loc Cert.QBwdRefIdeal.main_arg3)
      ∧ r.2.mem ((c.tc : Thread Cert.QBwdRefIdeal.nD Cert.QBwdRefIdeal.τ).loc Cert.QBwdRefIdeal.main_arg4) = m ((c.tc : Thread Cert.QBwdRefIdeal.nD Cert.QBwdRefIdeal.τ).loc Cert.QBwdRefIdeal.main_arg4)
      ∧ r.2.mem ((c.tc : Thread Cert.QBwdRefIdeal.nD Cert.QBwdRefIdeal.τ).loc Cert.QBwdRefIdeal.main_arg5) = m ((c.tc : Thread Cert.QBwdRefIdeal.nD Cert.QBwdRefIdeal.τ).loc Cert.QBwdRefIdeal.main_arg5))
      ∧ r.2.sem = fun _ => 0)

def quiescent_UpBwd [hUpBwd : Cert.UpBwd.Facts] : Prop :=
  ∀ (m : (ℓ : Loc Cert.UpBwd.nD Cert.UpBwd.τ Cert.UpBwd.sig) → Buf (Elt Bits) ℓ) (g : Dev Cert.UpBwd.nD → PrngReg), Pre_UpBwd m →
    θ_run (Cert.UpBwd.defs (F := Bits)) (onTc (τ := Cert.UpBwd.τ) (Cert.UpBwd.main (F := Bits))) ⟨m, fun _ => 0, g⟩ (fun r => (∀ c : Dev Cert.UpBwd.nD,
      r.2.mem ((c.tc : Thread Cert.UpBwd.nD Cert.UpBwd.τ).loc Cert.UpBwd.main_arg0) = m ((c.tc : Thread Cert.UpBwd.nD Cert.UpBwd.τ).loc Cert.UpBwd.main_arg0)
      ∧ r.2.mem ((c.tc : Thread Cert.UpBwd.nD Cert.UpBwd.τ).loc Cert.UpBwd.main_arg1) = m ((c.tc : Thread Cert.UpBwd.nD Cert.UpBwd.τ).loc Cert.UpBwd.main_arg1)
      ∧ r.2.mem ((c.tc : Thread Cert.UpBwd.nD Cert.UpBwd.τ).loc Cert.UpBwd.main_arg2) = m ((c.tc : Thread Cert.UpBwd.nD Cert.UpBwd.τ).loc Cert.UpBwd.main_arg2)
      ∧ r.2.mem ((c.tc : Thread Cert.UpBwd.nD Cert.UpBwd.τ).loc Cert.UpBwd.main_arg3) = m ((c.tc : Thread Cert.UpBwd.nD Cert.UpBwd.τ).loc Cert.UpBwd.main_arg3)
      ∧ r.2.mem ((c.tc : Thread Cert.UpBwd.nD Cert.UpBwd.τ).loc Cert.UpBwd.main_arg4) = m ((c.tc : Thread Cert.UpBwd.nD Cert.UpBwd.τ).loc Cert.UpBwd.main_arg4)
      ∧ r.2.mem ((c.tc : Thread Cert.UpBwd.nD Cert.UpBwd.τ).loc Cert.UpBwd.main_arg5) = m ((c.tc : Thread Cert.UpBwd.nD Cert.UpBwd.τ).loc Cert.UpBwd.main_arg5)
      ∧ r.2.mem ((c.tc : Thread Cert.UpBwd.nD Cert.UpBwd.τ).loc Cert.UpBwd.main_arg6) = m ((c.tc : Thread Cert.UpBwd.nD Cert.UpBwd.τ).loc Cert.UpBwd.main_arg6))
      ∧ r.2.sem = fun _ => 0)

def quiescent_UpBwdIdeal [hUpBwdIdeal : Cert.UpBwdIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
      ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
      ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
      ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4)
      ∧ r.2.mem ((c.tc : Thread Cert.UpBwdIdeal.nD Cert.UpBwdIdeal.τ).loc Cert.UpBwdIdeal.main_arg5) = m ((c.tc : Thread Cert.UpBwdIdeal.nD Cert.UpBwdIdeal.τ).loc Cert.UpBwdIdeal.main_arg5)
      ∧ r.2.mem ((c.tc : Thread Cert.UpBwdIdeal.nD Cert.UpBwdIdeal.τ).loc Cert.UpBwdIdeal.main_arg6) = m ((c.tc : Thread Cert.UpBwdIdeal.nD Cert.UpBwdIdeal.τ).loc Cert.UpBwdIdeal.main_arg6))
      ∧ r.2.sem = fun _ => 0)

def quiescent_UpBwdIdeal_pre_finite_up [hUpBwdIdeal : Cert.UpBwdIdeal.Facts] [hPre_finite_up : Cert.Pre_finite_up.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal_finite_up m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
      ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
      ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
      ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4)
      ∧ r.2.mem ((c.tc : Thread Cert.UpBwdIdeal.nD Cert.UpBwdIdeal.τ).loc Cert.UpBwdIdeal.main_arg5) = m ((c.tc : Thread Cert.UpBwdIdeal.nD Cert.UpBwdIdeal.τ).loc Cert.UpBwdIdeal.main_arg5)
      ∧ r.2.mem ((c.tc : Thread Cert.UpBwdIdeal.nD Cert.UpBwdIdeal.τ).loc Cert.UpBwdIdeal.main_arg6) = m ((c.tc : Thread Cert.UpBwdIdeal.nD Cert.UpBwdIdeal.τ).loc Cert.UpBwdIdeal.main_arg6))
      ∧ r.2.sem = fun _ => 0)

def quiescent_UpBwdRefIdeal [hUpBwdRefIdeal : Cert.UpBwdRefIdeal.Facts] : Prop :=
  ∀ (m : (ℓ : Loc Cert.UpBwdRefIdeal.nD Cert.UpBwdRefIdeal.τ Cert.UpBwdRefIdeal.sig) → Buf (Elt Ideal) ℓ) (g : Dev Cert.UpBwdRefIdeal.nD → PrngReg), Pre_UpBwdRefIdeal m →
    θ_run (Cert.UpBwdRefIdeal.defs (F := Ideal)) (onTc (τ := Cert.UpBwdRefIdeal.τ) (Cert.UpBwdRefIdeal.main (F := Ideal))) ⟨m, fun _ => 0, g⟩ (fun r => (∀ c : Dev Cert.UpBwdRefIdeal.nD,
      r.2.mem ((c.tc : Thread Cert.UpBwdRefIdeal.nD Cert.UpBwdRefIdeal.τ).loc Cert.UpBwdRefIdeal.main_arg0) = m ((c.tc : Thread Cert.UpBwdRefIdeal.nD Cert.UpBwdRefIdeal.τ).loc Cert.UpBwdRefIdeal.main_arg0)
      ∧ r.2.mem ((c.tc : Thread Cert.UpBwdRefIdeal.nD Cert.UpBwdRefIdeal.τ).loc Cert.UpBwdRefIdeal.main_arg1) = m ((c.tc : Thread Cert.UpBwdRefIdeal.nD Cert.UpBwdRefIdeal.τ).loc Cert.UpBwdRefIdeal.main_arg1)
      ∧ r.2.mem ((c.tc : Thread Cert.UpBwdRefIdeal.nD Cert.UpBwdRefIdeal.τ).loc Cert.UpBwdRefIdeal.main_arg2) = m ((c.tc : Thread Cert.UpBwdRefIdeal.nD Cert.UpBwdRefIdeal.τ).loc Cert.UpBwdRefIdeal.main_arg2)
      ∧ r.2.mem ((c.tc : Thread Cert.UpBwdRefIdeal.nD Cert.UpBwdRefIdeal.τ).loc Cert.UpBwdRefIdeal.main_arg3) = m ((c.tc : Thread Cert.UpBwdRefIdeal.nD Cert.UpBwdRefIdeal.τ).loc Cert.UpBwdRefIdeal.main_arg3)
      ∧ r.2.mem ((c.tc : Thread Cert.UpBwdRefIdeal.nD Cert.UpBwdRefIdeal.τ).loc Cert.UpBwdRefIdeal.main_arg4) = m ((c.tc : Thread Cert.UpBwdRefIdeal.nD Cert.UpBwdRefIdeal.τ).loc Cert.UpBwdRefIdeal.main_arg4)
      ∧ r.2.mem ((c.tc : Thread Cert.UpBwdRefIdeal.nD Cert.UpBwdRefIdeal.τ).loc Cert.UpBwdRefIdeal.main_arg5) = m ((c.tc : Thread Cert.UpBwdRefIdeal.nD Cert.UpBwdRefIdeal.τ).loc Cert.UpBwdRefIdeal.main_arg5)
      ∧ r.2.mem ((c.tc : Thread Cert.UpBwdRefIdeal.nD Cert.UpBwdRefIdeal.τ).loc Cert.UpBwdRefIdeal.main_arg6) = m ((c.tc : Thread Cert.UpBwdRefIdeal.nD Cert.UpBwdRefIdeal.τ).loc Cert.UpBwdRefIdeal.main_arg6))
      ∧ r.2.sem = fun _ => 0)

def quiescent_UpBwdRefIdeal_pre_finite_up [hUpBwdRefIdeal : Cert.UpBwdRefIdeal.Facts] [hPre_finite_up : Cert.Pre_finite_up.Facts] : Prop :=
  ∀ (m : (ℓ : Loc Cert.UpBwdRefIdeal.nD Cert.UpBwdRefIdeal.τ Cert.UpBwdRefIdeal.sig) → Buf (Elt Ideal) ℓ) (g : Dev Cert.UpBwdRefIdeal.nD → PrngReg), Pre_UpBwdRefIdeal_finite_up m →
    θ_run (Cert.UpBwdRefIdeal.defs (F := Ideal)) (onTc (τ := Cert.UpBwdRefIdeal.τ) (Cert.UpBwdRefIdeal.main (F := Ideal))) ⟨m, fun _ => 0, g⟩ (fun r => (∀ c : Dev Cert.UpBwdRefIdeal.nD,
      r.2.mem ((c.tc : Thread Cert.UpBwdRefIdeal.nD Cert.UpBwdRefIdeal.τ).loc Cert.UpBwdRefIdeal.main_arg0) = m ((c.tc : Thread Cert.UpBwdRefIdeal.nD Cert.UpBwdRefIdeal.τ).loc Cert.UpBwdRefIdeal.main_arg0)
      ∧ r.2.mem ((c.tc : Thread Cert.UpBwdRefIdeal.nD Cert.UpBwdRefIdeal.τ).loc Cert.UpBwdRefIdeal.main_arg1) = m ((c.tc : Thread Cert.UpBwdRefIdeal.nD Cert.UpBwdRefIdeal.τ).loc Cert.UpBwdRefIdeal.main_arg1)
      ∧ r.2.mem ((c.tc : Thread Cert.UpBwdRefIdeal.nD Cert.UpBwdRefIdeal.τ).loc Cert.UpBwdRefIdeal.main_arg2) = m ((c.tc : Thread Cert.UpBwdRefIdeal.nD Cert.UpBwdRefIdeal.τ).loc Cert.UpBwdRefIdeal.main_arg2)
      ∧ r.2.mem ((c.tc : Thread Cert.UpBwdRefIdeal.nD Cert.UpBwdRefIdeal.τ).loc Cert.UpBwdRefIdeal.main_arg3) = m ((c.tc : Thread Cert.UpBwdRefIdeal.nD Cert.UpBwdRefIdeal.τ).loc Cert.UpBwdRefIdeal.main_arg3)
      ∧ r.2.mem ((c.tc : Thread Cert.UpBwdRefIdeal.nD Cert.UpBwdRefIdeal.τ).loc Cert.UpBwdRefIdeal.main_arg4) = m ((c.tc : Thread Cert.UpBwdRefIdeal.nD Cert.UpBwdRefIdeal.τ).loc Cert.UpBwdRefIdeal.main_arg4)
      ∧ r.2.mem ((c.tc : Thread Cert.UpBwdRefIdeal.nD Cert.UpBwdRefIdeal.τ).loc Cert.UpBwdRefIdeal.main_arg5) = m ((c.tc : Thread Cert.UpBwdRefIdeal.nD Cert.UpBwdRefIdeal.τ).loc Cert.UpBwdRefIdeal.main_arg5)
      ∧ r.2.mem ((c.tc : Thread Cert.UpBwdRefIdeal.nD Cert.UpBwdRefIdeal.τ).loc Cert.UpBwdRefIdeal.main_arg6) = m ((c.tc : Thread Cert.UpBwdRefIdeal.nD Cert.UpBwdRefIdeal.τ).loc Cert.UpBwdRefIdeal.main_arg6))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5))
      ∧ r.2.sem = fun _ => 0)

def quiescent_InBwdIdeal_pre_finite_in [hInBwdIdeal : Cert.InBwdIdeal.Facts] [hPre_finite_in : Cert.Pre_finite_in.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_finite_in m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5))
      ∧ r.2.sem = fun _ => 0)

def quiescent_InBwdRefIdeal_pre_finite_in [hInBwdRefIdeal : Cert.InBwdRefIdeal.Facts] [hPre_finite_in : Cert.Pre_finite_in.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal_finite_in m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5))
      ∧ r.2.sem = fun _ => 0)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1)
      ∧ r.2.mem ((c.tc : Thread Cert.LossBwd.nD Cert.LossBwd.τ).loc Cert.LossBwd.main_arg2) = m ((c.tc : Thread Cert.LossBwd.nD Cert.LossBwd.τ).loc Cert.LossBwd.main_arg2)
      ∧ r.2.mem ((c.tc : Thread Cert.LossBwd.nD Cert.LossBwd.τ).loc Cert.LossBwd.main_arg3) = m ((c.tc : Thread Cert.LossBwd.nD Cert.LossBwd.τ).loc Cert.LossBwd.main_arg3)
      ∧ r.2.mem ((c.tc : Thread Cert.LossBwd.nD Cert.LossBwd.τ).loc Cert.LossBwd.main_arg4) = m ((c.tc : Thread Cert.LossBwd.nD Cert.LossBwd.τ).loc Cert.LossBwd.main_arg4))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
      ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4))
      ∧ r.2.sem = fun _ => 0)

def quiescent_LossBwdIdeal_pre_finite_loss [hLossBwdIdeal : Cert.LossBwdIdeal.Facts] [hPre_finite_loss : Cert.Pre_finite_loss.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal_finite_loss m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
      ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4))
      ∧ r.2.sem = fun _ => 0)

def quiescent_LossBwdRefIdeal [hLossBwdRefIdeal : Cert.LossBwdRefIdeal.Facts] : Prop :=
  ∀ (m : (ℓ : Loc Cert.LossBwdRefIdeal.nD Cert.LossBwdRefIdeal.τ Cert.LossBwdRefIdeal.sig) → Buf (Elt Ideal) ℓ) (g : Dev Cert.LossBwdRefIdeal.nD → PrngReg), Pre_LossBwdRefIdeal m →
    θ_run (Cert.LossBwdRefIdeal.defs (F := Ideal)) (onTc (τ := Cert.LossBwdRefIdeal.τ) (Cert.LossBwdRefIdeal.main (F := Ideal))) ⟨m, fun _ => 0, g⟩ (fun r => (∀ c : Dev Cert.LossBwdRefIdeal.nD,
      r.2.mem ((c.tc : Thread Cert.LossBwdRefIdeal.nD Cert.LossBwdRefIdeal.τ).loc Cert.LossBwdRefIdeal.main_arg0) = m ((c.tc : Thread Cert.LossBwdRefIdeal.nD Cert.LossBwdRefIdeal.τ).loc Cert.LossBwdRefIdeal.main_arg0)
      ∧ r.2.mem ((c.tc : Thread Cert.LossBwdRefIdeal.nD Cert.LossBwdRefIdeal.τ).loc Cert.LossBwdRefIdeal.main_arg1) = m ((c.tc : Thread Cert.LossBwdRefIdeal.nD Cert.LossBwdRefIdeal.τ).loc Cert.LossBwdRefIdeal.main_arg1)
      ∧ r.2.mem ((c.tc : Thread Cert.LossBwdRefIdeal.nD Cert.LossBwdRefIdeal.τ).loc Cert.LossBwdRefIdeal.main_arg2) = m ((c.tc : Thread Cert.LossBwdRefIdeal.nD Cert.LossBwdRefIdeal.τ).loc Cert.LossBwdRefIdeal.main_arg2)
      ∧ r.2.mem ((c.tc : Thread Cert.LossBwdRefIdeal.nD Cert.LossBwdRefIdeal.τ).loc Cert.LossBwdRefIdeal.main_arg3) = m ((c.tc : Thread Cert.LossBwdRefIdeal.nD Cert.LossBwdRefIdeal.τ).loc Cert.LossBwdRefIdeal.main_arg3)
      ∧ r.2.mem ((c.tc : Thread Cert.LossBwdRefIdeal.nD Cert.LossBwdRefIdeal.τ).loc Cert.LossBwdRefIdeal.main_arg4) = m ((c.tc : Thread Cert.LossBwdRefIdeal.nD Cert.LossBwdRefIdeal.τ).loc Cert.LossBwdRefIdeal.main_arg4))
      ∧ r.2.sem = fun _ => 0)

def quiescent_LossBwdRefIdeal_pre_finite_loss [hLossBwdRefIdeal : Cert.LossBwdRefIdeal.Facts] [hPre_finite_loss : Cert.Pre_finite_loss.Facts] : Prop :=
  ∀ (m : (ℓ : Loc Cert.LossBwdRefIdeal.nD Cert.LossBwdRefIdeal.τ Cert.LossBwdRefIdeal.sig) → Buf (Elt Ideal) ℓ) (g : Dev Cert.LossBwdRefIdeal.nD → PrngReg), Pre_LossBwdRefIdeal_finite_loss m →
    θ_run (Cert.LossBwdRefIdeal.defs (F := Ideal)) (onTc (τ := Cert.LossBwdRefIdeal.τ) (Cert.LossBwdRefIdeal.main (F := Ideal))) ⟨m, fun _ => 0, g⟩ (fun r => (∀ c : Dev Cert.LossBwdRefIdeal.nD,
      r.2.mem ((c.tc : Thread Cert.LossBwdRefIdeal.nD Cert.LossBwdRefIdeal.τ).loc Cert.LossBwdRefIdeal.main_arg0) = m ((c.tc : Thread Cert.LossBwdRefIdeal.nD Cert.LossBwdRefIdeal.τ).loc Cert.LossBwdRefIdeal.main_arg0)
      ∧ r.2.mem ((c.tc : Thread Cert.LossBwdRefIdeal.nD Cert.LossBwdRefIdeal.τ).loc Cert.LossBwdRefIdeal.main_arg1) = m ((c.tc : Thread Cert.LossBwdRefIdeal.nD Cert.LossBwdRefIdeal.τ).loc Cert.LossBwdRefIdeal.main_arg1)
      ∧ r.2.mem ((c.tc : Thread Cert.LossBwdRefIdeal.nD Cert.LossBwdRefIdeal.τ).loc Cert.LossBwdRefIdeal.main_arg2) = m ((c.tc : Thread Cert.LossBwdRefIdeal.nD Cert.LossBwdRefIdeal.τ).loc Cert.LossBwdRefIdeal.main_arg2)
      ∧ r.2.mem ((c.tc : Thread Cert.LossBwdRefIdeal.nD Cert.LossBwdRefIdeal.τ).loc Cert.LossBwdRefIdeal.main_arg3) = m ((c.tc : Thread Cert.LossBwdRefIdeal.nD Cert.LossBwdRefIdeal.τ).loc Cert.LossBwdRefIdeal.main_arg3)
      ∧ r.2.mem ((c.tc : Thread Cert.LossBwdRefIdeal.nD Cert.LossBwdRefIdeal.τ).loc Cert.LossBwdRefIdeal.main_arg4) = m ((c.tc : Thread Cert.LossBwdRefIdeal.nD Cert.LossBwdRefIdeal.τ).loc Cert.LossBwdRefIdeal.main_arg4))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnBwdIdeal_pre_finite_attn [hAttnBwdIdeal : Cert.AttnBwdIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_attn m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2))
      ∧ r.2.sem = fun _ => 0)

def quiescent_AttnBwdRefIdeal_pre_finite_attn [hAttnBwdRefIdeal : Cert.AttnBwdRefIdeal.Facts] [hPre_finite_attn : Cert.Pre_finite_attn.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_finite_attn m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2))
      ∧ r.2.sem = fun _ => 0)

def quiescent_ReluBwd [hReluBwd : Cert.ReluBwd.Facts] : Prop :=
  ∀ (m : (ℓ : Loc Cert.ReluBwd.nD Cert.ReluBwd.τ Cert.ReluBwd.sig) → Buf (Elt Bits) ℓ) (g : Dev Cert.ReluBwd.nD → PrngReg), Pre_ReluBwd m →
    θ_run (Cert.ReluBwd.defs (F := Bits)) (onTc (τ := Cert.ReluBwd.τ) (Cert.ReluBwd.main (F := Bits))) ⟨m, fun _ => 0, g⟩ (fun r => (∀ c : Dev Cert.ReluBwd.nD,
      r.2.mem ((c.tc : Thread Cert.ReluBwd.nD Cert.ReluBwd.τ).loc Cert.ReluBwd.main_arg0) = m ((c.tc : Thread Cert.ReluBwd.nD Cert.ReluBwd.τ).loc Cert.ReluBwd.main_arg0)
      ∧ r.2.mem ((c.tc : Thread Cert.ReluBwd.nD Cert.ReluBwd.τ).loc Cert.ReluBwd.main_arg1) = m ((c.tc : Thread Cert.ReluBwd.nD Cert.ReluBwd.τ).loc Cert.ReluBwd.main_arg1)
      ∧ r.2.mem ((c.tc : Thread Cert.ReluBwd.nD Cert.ReluBwd.τ).loc Cert.ReluBwd.main_arg2) = m ((c.tc : Thread Cert.ReluBwd.nD Cert.ReluBwd.τ).loc Cert.ReluBwd.main_arg2)
      ∧ r.2.mem ((c.tc : Thread Cert.ReluBwd.nD Cert.ReluBwd.τ).loc Cert.ReluBwd.main_arg3) = m ((c.tc : Thread Cert.ReluBwd.nD Cert.ReluBwd.τ).loc Cert.ReluBwd.main_arg3))
      ∧ r.2.sem = fun _ => 0)

def quiescent_ReluBwdIdeal [hReluBwdIdeal : Cert.ReluBwdIdeal.Facts] : Prop :=
  ∀ (m : (ℓ : Loc Cert.ReluBwdIdeal.nD Cert.ReluBwdIdeal.τ Cert.ReluBwdIdeal.sig) → Buf (Elt Ideal) ℓ) (g : Dev Cert.ReluBwdIdeal.nD → PrngReg), Pre_ReluBwdIdeal m →
    θ_run (Cert.ReluBwdIdeal.defs (F := Ideal)) (onTc (τ := Cert.ReluBwdIdeal.τ) (Cert.ReluBwdIdeal.main (F := Ideal))) ⟨m, fun _ => 0, g⟩ (fun r => (∀ c : Dev Cert.ReluBwdIdeal.nD,
      r.2.mem ((c.tc : Thread Cert.ReluBwdIdeal.nD Cert.ReluBwdIdeal.τ).loc Cert.ReluBwdIdeal.main_arg0) = m ((c.tc : Thread Cert.ReluBwdIdeal.nD Cert.ReluBwdIdeal.τ).loc Cert.ReluBwdIdeal.main_arg0)
      ∧ r.2.mem ((c.tc : Thread Cert.ReluBwdIdeal.nD Cert.ReluBwdIdeal.τ).loc Cert.ReluBwdIdeal.main_arg1) = m ((c.tc : Thread Cert.ReluBwdIdeal.nD Cert.ReluBwdIdeal.τ).loc Cert.ReluBwdIdeal.main_arg1)
      ∧ r.2.mem ((c.tc : Thread Cert.ReluBwdIdeal.nD Cert.ReluBwdIdeal.τ).loc Cert.ReluBwdIdeal.main_arg2) = m ((c.tc : Thread Cert.ReluBwdIdeal.nD Cert.ReluBwdIdeal.τ).loc Cert.ReluBwdIdeal.main_arg2)
      ∧ r.2.mem ((c.tc : Thread Cert.ReluBwdIdeal.nD Cert.ReluBwdIdeal.τ).loc Cert.ReluBwdIdeal.main_arg3) = m ((c.tc : Thread Cert.ReluBwdIdeal.nD Cert.ReluBwdIdeal.τ).loc Cert.ReluBwdIdeal.main_arg3))
      ∧ r.2.sem = fun _ => 0)

def quiescent_ReluBwdRefIdeal [hReluBwdRefIdeal : Cert.ReluBwdRefIdeal.Facts] : Prop :=
  ∀ (m : (ℓ : Loc Cert.ReluBwdRefIdeal.nD Cert.ReluBwdRefIdeal.τ Cert.ReluBwdRefIdeal.sig) → Buf (Elt Ideal) ℓ) (g : Dev Cert.ReluBwdRefIdeal.nD → PrngReg), Pre_ReluBwdRefIdeal m →
    θ_run (Cert.ReluBwdRefIdeal.defs (F := Ideal)) (onTc (τ := Cert.ReluBwdRefIdeal.τ) (Cert.ReluBwdRefIdeal.main (F := Ideal))) ⟨m, fun _ => 0, g⟩ (fun r => (∀ c : Dev Cert.ReluBwdRefIdeal.nD,
      r.2.mem ((c.tc : Thread Cert.ReluBwdRefIdeal.nD Cert.ReluBwdRefIdeal.τ).loc Cert.ReluBwdRefIdeal.main_arg0) = m ((c.tc : Thread Cert.ReluBwdRefIdeal.nD Cert.ReluBwdRefIdeal.τ).loc Cert.ReluBwdRefIdeal.main_arg0)
      ∧ r.2.mem ((c.tc : Thread Cert.ReluBwdRefIdeal.nD Cert.ReluBwdRefIdeal.τ).loc Cert.ReluBwdRefIdeal.main_arg1) = m ((c.tc : Thread Cert.ReluBwdRefIdeal.nD Cert.ReluBwdRefIdeal.τ).loc Cert.ReluBwdRefIdeal.main_arg1)
      ∧ r.2.mem ((c.tc : Thread Cert.ReluBwdRefIdeal.nD Cert.ReluBwdRefIdeal.τ).loc Cert.ReluBwdRefIdeal.main_arg2) = m ((c.tc : Thread Cert.ReluBwdRefIdeal.nD Cert.ReluBwdRefIdeal.τ).loc Cert.ReluBwdRefIdeal.main_arg2)
      ∧ r.2.mem ((c.tc : Thread Cert.ReluBwdRefIdeal.nD Cert.ReluBwdRefIdeal.τ).loc Cert.ReluBwdRefIdeal.main_arg3) = m ((c.tc : Thread Cert.ReluBwdRefIdeal.nD Cert.ReluBwdRefIdeal.τ).loc Cert.ReluBwdRefIdeal.main_arg3))
      ∧ r.2.sem = fun _ => 0)

def quiescent_ReluFwd [hReluFwd : Cert.ReluFwd.Facts] : Prop :=
  ∀ (m : (ℓ : Loc Cert.ReluFwd.nD Cert.ReluFwd.τ Cert.ReluFwd.sig) → Buf (Elt Bits) ℓ) (g : Dev Cert.ReluFwd.nD → PrngReg), Pre_ReluFwd m →
    θ_run (Cert.ReluFwd.defs (F := Bits)) (onTc (τ := Cert.ReluFwd.τ) (Cert.ReluFwd.main (F := Bits))) ⟨m, fun _ => 0, g⟩ (fun r => (∀ c : Dev Cert.ReluFwd.nD,
      r.2.mem ((c.tc : Thread Cert.ReluFwd.nD Cert.ReluFwd.τ).loc Cert.ReluFwd.main_arg0) = m ((c.tc : Thread Cert.ReluFwd.nD Cert.ReluFwd.τ).loc Cert.ReluFwd.main_arg0)
      ∧ r.2.mem ((c.tc : Thread Cert.ReluFwd.nD Cert.ReluFwd.τ).loc Cert.ReluFwd.main_arg1) = m ((c.tc : Thread Cert.ReluFwd.nD Cert.ReluFwd.τ).loc Cert.ReluFwd.main_arg1))
      ∧ r.2.sem = fun _ => 0)

def quiescent_ReluFwdIdeal [hReluFwdIdeal : Cert.ReluFwdIdeal.Facts] : Prop :=
  ∀ (m : (ℓ : Loc Cert.ReluFwdIdeal.nD Cert.ReluFwdIdeal.τ Cert.ReluFwdIdeal.sig) → Buf (Elt Ideal) ℓ) (g : Dev Cert.ReluFwdIdeal.nD → PrngReg), Pre_ReluFwdIdeal m →
    θ_run (Cert.ReluFwdIdeal.defs (F := Ideal)) (onTc (τ := Cert.ReluFwdIdeal.τ) (Cert.ReluFwdIdeal.main (F := Ideal))) ⟨m, fun _ => 0, g⟩ (fun r => (∀ c : Dev Cert.ReluFwdIdeal.nD,
      r.2.mem ((c.tc : Thread Cert.ReluFwdIdeal.nD Cert.ReluFwdIdeal.τ).loc Cert.ReluFwdIdeal.main_arg0) = m ((c.tc : Thread Cert.ReluFwdIdeal.nD Cert.ReluFwdIdeal.τ).loc Cert.ReluFwdIdeal.main_arg0)
      ∧ r.2.mem ((c.tc : Thread Cert.ReluFwdIdeal.nD Cert.ReluFwdIdeal.τ).loc Cert.ReluFwdIdeal.main_arg1) = m ((c.tc : Thread Cert.ReluFwdIdeal.nD Cert.ReluFwdIdeal.τ).loc Cert.ReluFwdIdeal.main_arg1))
      ∧ r.2.sem = fun _ => 0)

def quiescent_ReluFwdRefIdeal [hReluFwdRefIdeal : Cert.ReluFwdRefIdeal.Facts] : Prop :=
  ∀ (m : (ℓ : Loc Cert.ReluFwdRefIdeal.nD Cert.ReluFwdRefIdeal.τ Cert.ReluFwdRefIdeal.sig) → Buf (Elt Ideal) ℓ) (g : Dev Cert.ReluFwdRefIdeal.nD → PrngReg), Pre_ReluFwdRefIdeal m →
    θ_run (Cert.ReluFwdRefIdeal.defs (F := Ideal)) (onTc (τ := Cert.ReluFwdRefIdeal.τ) (Cert.ReluFwdRefIdeal.main (F := Ideal))) ⟨m, fun _ => 0, g⟩ (fun r => (∀ c : Dev Cert.ReluFwdRefIdeal.nD,
      r.2.mem ((c.tc : Thread Cert.ReluFwdRefIdeal.nD Cert.ReluFwdRefIdeal.τ).loc Cert.ReluFwdRefIdeal.main_arg0) = m ((c.tc : Thread Cert.ReluFwdRefIdeal.nD Cert.ReluFwdRefIdeal.τ).loc Cert.ReluFwdRefIdeal.main_arg0)
      ∧ r.2.mem ((c.tc : Thread Cert.ReluFwdRefIdeal.nD Cert.ReluFwdRefIdeal.τ).loc Cert.ReluFwdRefIdeal.main_arg1) = m ((c.tc : Thread Cert.ReluFwdRefIdeal.nD Cert.ReluFwdRefIdeal.τ).loc Cert.ReluFwdRefIdeal.main_arg1))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdIdeal_pre_finite_fwd [hAttnFwdIdeal : Cert.AttnFwdIdeal.Facts] [hPre_finite_fwd : Cert.Pre_finite_fwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_fwd m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_AttnFwdRefIdeal_pre_finite_fwd [hAttnFwdRefIdeal : Cert.AttnFwdRefIdeal.Facts] [hPre_finite_fwd : Cert.Pre_finite_fwd.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_fwd m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_PreFwd [hPreFwd : Cert.PreFwd.Facts] : Prop :=
  ∀ (m : (ℓ : Loc Cert.PreFwd.nD Cert.PreFwd.τ Cert.PreFwd.sig) → Buf (Elt Bits) ℓ) (g : Dev Cert.PreFwd.nD → PrngReg), Pre_PreFwd m →
    θ_run (Cert.PreFwd.defs (F := Bits)) (onTc (τ := Cert.PreFwd.τ) (Cert.PreFwd.main (F := Bits))) ⟨m, fun _ => 0, g⟩ (fun r => (∀ c : Dev Cert.PreFwd.nD,
      r.2.mem ((c.tc : Thread Cert.PreFwd.nD Cert.PreFwd.τ).loc Cert.PreFwd.main_arg0) = m ((c.tc : Thread Cert.PreFwd.nD Cert.PreFwd.τ).loc Cert.PreFwd.main_arg0)
      ∧ r.2.mem ((c.tc : Thread Cert.PreFwd.nD Cert.PreFwd.τ).loc Cert.PreFwd.main_arg1) = m ((c.tc : Thread Cert.PreFwd.nD Cert.PreFwd.τ).loc Cert.PreFwd.main_arg1)
      ∧ r.2.mem ((c.tc : Thread Cert.PreFwd.nD Cert.PreFwd.τ).loc Cert.PreFwd.main_arg2) = m ((c.tc : Thread Cert.PreFwd.nD Cert.PreFwd.τ).loc Cert.PreFwd.main_arg2))
      ∧ r.2.sem = fun _ => 0)

def quiescent_PreFwdIdeal [hPreFwdIdeal : Cert.PreFwdIdeal.Facts] : Prop :=
  ∀ (m : (ℓ : Loc Cert.PreFwdIdeal.nD Cert.PreFwdIdeal.τ Cert.PreFwdIdeal.sig) → Buf (Elt Ideal) ℓ) (g : Dev Cert.PreFwdIdeal.nD → PrngReg), Pre_PreFwdIdeal m →
    θ_run (Cert.PreFwdIdeal.defs (F := Ideal)) (onTc (τ := Cert.PreFwdIdeal.τ) (Cert.PreFwdIdeal.main (F := Ideal))) ⟨m, fun _ => 0, g⟩ (fun r => (∀ c : Dev Cert.PreFwdIdeal.nD,
      r.2.mem ((c.tc : Thread Cert.PreFwdIdeal.nD Cert.PreFwdIdeal.τ).loc Cert.PreFwdIdeal.main_arg0) = m ((c.tc : Thread Cert.PreFwdIdeal.nD Cert.PreFwdIdeal.τ).loc Cert.PreFwdIdeal.main_arg0)
      ∧ r.2.mem ((c.tc : Thread Cert.PreFwdIdeal.nD Cert.PreFwdIdeal.τ).loc Cert.PreFwdIdeal.main_arg1) = m ((c.tc : Thread Cert.PreFwdIdeal.nD Cert.PreFwdIdeal.τ).loc Cert.PreFwdIdeal.main_arg1)
      ∧ r.2.mem ((c.tc : Thread Cert.PreFwdIdeal.nD Cert.PreFwdIdeal.τ).loc Cert.PreFwdIdeal.main_arg2) = m ((c.tc : Thread Cert.PreFwdIdeal.nD Cert.PreFwdIdeal.τ).loc Cert.PreFwdIdeal.main_arg2))
      ∧ r.2.sem = fun _ => 0)

def quiescent_PreFwdRefIdeal [hPreFwdRefIdeal : Cert.PreFwdRefIdeal.Facts] : Prop :=
  ∀ (m : (ℓ : Loc Cert.PreFwdRefIdeal.nD Cert.PreFwdRefIdeal.τ Cert.PreFwdRefIdeal.sig) → Buf (Elt Ideal) ℓ) (g : Dev Cert.PreFwdRefIdeal.nD → PrngReg), Pre_PreFwdRefIdeal m →
    θ_run (Cert.PreFwdRefIdeal.defs (F := Ideal)) (onTc (τ := Cert.PreFwdRefIdeal.τ) (Cert.PreFwdRefIdeal.main (F := Ideal))) ⟨m, fun _ => 0, g⟩ (fun r => (∀ c : Dev Cert.PreFwdRefIdeal.nD,
      r.2.mem ((c.tc : Thread Cert.PreFwdRefIdeal.nD Cert.PreFwdRefIdeal.τ).loc Cert.PreFwdRefIdeal.main_arg0) = m ((c.tc : Thread Cert.PreFwdRefIdeal.nD Cert.PreFwdRefIdeal.τ).loc Cert.PreFwdRefIdeal.main_arg0)
      ∧ r.2.mem ((c.tc : Thread Cert.PreFwdRefIdeal.nD Cert.PreFwdRefIdeal.τ).loc Cert.PreFwdRefIdeal.main_arg1) = m ((c.tc : Thread Cert.PreFwdRefIdeal.nD Cert.PreFwdRefIdeal.τ).loc Cert.PreFwdRefIdeal.main_arg1)
      ∧ r.2.mem ((c.tc : Thread Cert.PreFwdRefIdeal.nD Cert.PreFwdRefIdeal.τ).loc Cert.PreFwdRefIdeal.main_arg2) = m ((c.tc : Thread Cert.PreFwdRefIdeal.nD Cert.PreFwdRefIdeal.τ).loc Cert.PreFwdRefIdeal.main_arg2))
      ∧ r.2.sem = fun _ => 0)

def quiescent_KvFwd [hKvFwd : Cert.KvFwd.Facts] : Prop :=
  ∀ (m : (ℓ : Loc Cert.KvFwd.nD Cert.KvFwd.τ Cert.KvFwd.sig) → Buf (Elt Bits) ℓ) (g : Dev Cert.KvFwd.nD → PrngReg), Pre_KvFwd m →
    θ_run (Cert.KvFwd.defs (F := Bits)) (onTc (τ := Cert.KvFwd.τ) (Cert.KvFwd.main (F := Bits))) ⟨m, fun _ => 0, g⟩ (fun r => (∀ c : Dev Cert.KvFwd.nD,
      r.2.mem ((c.tc : Thread Cert.KvFwd.nD Cert.KvFwd.τ).loc Cert.KvFwd.main_arg0) = m ((c.tc : Thread Cert.KvFwd.nD Cert.KvFwd.τ).loc Cert.KvFwd.main_arg0)
      ∧ r.2.mem ((c.tc : Thread Cert.KvFwd.nD Cert.KvFwd.τ).loc Cert.KvFwd.main_arg1) = m ((c.tc : Thread Cert.KvFwd.nD Cert.KvFwd.τ).loc Cert.KvFwd.main_arg1)
      ∧ r.2.mem ((c.tc : Thread Cert.KvFwd.nD Cert.KvFwd.τ).loc Cert.KvFwd.main_arg2) = m ((c.tc : Thread Cert.KvFwd.nD Cert.KvFwd.τ).loc Cert.KvFwd.main_arg2))
      ∧ r.2.sem = fun _ => 0)

def quiescent_KvFwdIdeal [hKvFwdIdeal : Cert.KvFwdIdeal.Facts] : Prop :=
  ∀ (m : (ℓ : Loc Cert.KvFwdIdeal.nD Cert.KvFwdIdeal.τ Cert.KvFwdIdeal.sig) → Buf (Elt Ideal) ℓ) (g : Dev Cert.KvFwdIdeal.nD → PrngReg), Pre_KvFwdIdeal m →
    θ_run (Cert.KvFwdIdeal.defs (F := Ideal)) (onTc (τ := Cert.KvFwdIdeal.τ) (Cert.KvFwdIdeal.main (F := Ideal))) ⟨m, fun _ => 0, g⟩ (fun r => (∀ c : Dev Cert.KvFwdIdeal.nD,
      r.2.mem ((c.tc : Thread Cert.KvFwdIdeal.nD Cert.KvFwdIdeal.τ).loc Cert.KvFwdIdeal.main_arg0) = m ((c.tc : Thread Cert.KvFwdIdeal.nD Cert.KvFwdIdeal.τ).loc Cert.KvFwdIdeal.main_arg0)
      ∧ r.2.mem ((c.tc : Thread Cert.KvFwdIdeal.nD Cert.KvFwdIdeal.τ).loc Cert.KvFwdIdeal.main_arg1) = m ((c.tc : Thread Cert.KvFwdIdeal.nD Cert.KvFwdIdeal.τ).loc Cert.KvFwdIdeal.main_arg1)
      ∧ r.2.mem ((c.tc : Thread Cert.KvFwdIdeal.nD Cert.KvFwdIdeal.τ).loc Cert.KvFwdIdeal.main_arg2) = m ((c.tc : Thread Cert.KvFwdIdeal.nD Cert.KvFwdIdeal.τ).loc Cert.KvFwdIdeal.main_arg2))
      ∧ r.2.sem = fun _ => 0)

def quiescent_KvFwdRefIdeal [hKvFwdRefIdeal : Cert.KvFwdRefIdeal.Facts] : Prop :=
  ∀ (m : (ℓ : Loc Cert.KvFwdRefIdeal.nD Cert.KvFwdRefIdeal.τ Cert.KvFwdRefIdeal.sig) → Buf (Elt Ideal) ℓ) (g : Dev Cert.KvFwdRefIdeal.nD → PrngReg), Pre_KvFwdRefIdeal m →
    θ_run (Cert.KvFwdRefIdeal.defs (F := Ideal)) (onTc (τ := Cert.KvFwdRefIdeal.τ) (Cert.KvFwdRefIdeal.main (F := Ideal))) ⟨m, fun _ => 0, g⟩ (fun r => (∀ c : Dev Cert.KvFwdRefIdeal.nD,
      r.2.mem ((c.tc : Thread Cert.KvFwdRefIdeal.nD Cert.KvFwdRefIdeal.τ).loc Cert.KvFwdRefIdeal.main_arg0) = m ((c.tc : Thread Cert.KvFwdRefIdeal.nD Cert.KvFwdRefIdeal.τ).loc Cert.KvFwdRefIdeal.main_arg0)
      ∧ r.2.mem ((c.tc : Thread Cert.KvFwdRefIdeal.nD Cert.KvFwdRefIdeal.τ).loc Cert.KvFwdRefIdeal.main_arg1) = m ((c.tc : Thread Cert.KvFwdRefIdeal.nD Cert.KvFwdRefIdeal.τ).loc Cert.KvFwdRefIdeal.main_arg1)
      ∧ r.2.mem ((c.tc : Thread Cert.KvFwdRefIdeal.nD Cert.KvFwdRefIdeal.τ).loc Cert.KvFwdRefIdeal.main_arg2) = m ((c.tc : Thread Cert.KvFwdRefIdeal.nD Cert.KvFwdRefIdeal.τ).loc Cert.KvFwdRefIdeal.main_arg2))
      ∧ r.2.sem = fun _ => 0)

def quiescent_OutQFwd [hOutQFwd : Cert.OutQFwd.Facts] : Prop :=
  ∀ (m : (ℓ : Loc Cert.OutQFwd.nD Cert.OutQFwd.τ Cert.OutQFwd.sig) → Buf (Elt Bits) ℓ) (g : Dev Cert.OutQFwd.nD → PrngReg), Pre_OutQFwd m →
    θ_run (Cert.OutQFwd.defs (F := Bits)) (onTc (τ := Cert.OutQFwd.τ) (Cert.OutQFwd.main (F := Bits))) ⟨m, fun _ => 0, g⟩ (fun r => (∀ c : Dev Cert.OutQFwd.nD,
      r.2.mem ((c.tc : Thread Cert.OutQFwd.nD Cert.OutQFwd.τ).loc Cert.OutQFwd.main_arg0) = m ((c.tc : Thread Cert.OutQFwd.nD Cert.OutQFwd.τ).loc Cert.OutQFwd.main_arg0)
      ∧ r.2.mem ((c.tc : Thread Cert.OutQFwd.nD Cert.OutQFwd.τ).loc Cert.OutQFwd.main_arg1) = m ((c.tc : Thread Cert.OutQFwd.nD Cert.OutQFwd.τ).loc Cert.OutQFwd.main_arg1)
      ∧ r.2.mem ((c.tc : Thread Cert.OutQFwd.nD Cert.OutQFwd.τ).loc Cert.OutQFwd.main_arg2) = m ((c.tc : Thread Cert.OutQFwd.nD Cert.OutQFwd.τ).loc Cert.OutQFwd.main_arg2)
      ∧ r.2.mem ((c.tc : Thread Cert.OutQFwd.nD Cert.OutQFwd.τ).loc Cert.OutQFwd.main_arg3) = m ((c.tc : Thread Cert.OutQFwd.nD Cert.OutQFwd.τ).loc Cert.OutQFwd.main_arg3)
      ∧ r.2.mem ((c.tc : Thread Cert.OutQFwd.nD Cert.OutQFwd.τ).loc Cert.OutQFwd.main_arg4) = m ((c.tc : Thread Cert.OutQFwd.nD Cert.OutQFwd.τ).loc Cert.OutQFwd.main_arg4))
      ∧ r.2.sem = fun _ => 0)

def quiescent_OutQFwdIdeal [hOutQFwdIdeal : Cert.OutQFwdIdeal.Facts] : Prop :=
  ∀ (m : (ℓ : Loc Cert.OutQFwdIdeal.nD Cert.OutQFwdIdeal.τ Cert.OutQFwdIdeal.sig) → Buf (Elt Ideal) ℓ) (g : Dev Cert.OutQFwdIdeal.nD → PrngReg), Pre_OutQFwdIdeal m →
    θ_run (Cert.OutQFwdIdeal.defs (F := Ideal)) (onTc (τ := Cert.OutQFwdIdeal.τ) (Cert.OutQFwdIdeal.main (F := Ideal))) ⟨m, fun _ => 0, g⟩ (fun r => (∀ c : Dev Cert.OutQFwdIdeal.nD,
      r.2.mem ((c.tc : Thread Cert.OutQFwdIdeal.nD Cert.OutQFwdIdeal.τ).loc Cert.OutQFwdIdeal.main_arg0) = m ((c.tc : Thread Cert.OutQFwdIdeal.nD Cert.OutQFwdIdeal.τ).loc Cert.OutQFwdIdeal.main_arg0)
      ∧ r.2.mem ((c.tc : Thread Cert.OutQFwdIdeal.nD Cert.OutQFwdIdeal.τ).loc Cert.OutQFwdIdeal.main_arg1) = m ((c.tc : Thread Cert.OutQFwdIdeal.nD Cert.OutQFwdIdeal.τ).loc Cert.OutQFwdIdeal.main_arg1)
      ∧ r.2.mem ((c.tc : Thread Cert.OutQFwdIdeal.nD Cert.OutQFwdIdeal.τ).loc Cert.OutQFwdIdeal.main_arg2) = m ((c.tc : Thread Cert.OutQFwdIdeal.nD Cert.OutQFwdIdeal.τ).loc Cert.OutQFwdIdeal.main_arg2)
      ∧ r.2.mem ((c.tc : Thread Cert.OutQFwdIdeal.nD Cert.OutQFwdIdeal.τ).loc Cert.OutQFwdIdeal.main_arg3) = m ((c.tc : Thread Cert.OutQFwdIdeal.nD Cert.OutQFwdIdeal.τ).loc Cert.OutQFwdIdeal.main_arg3)
      ∧ r.2.mem ((c.tc : Thread Cert.OutQFwdIdeal.nD Cert.OutQFwdIdeal.τ).loc Cert.OutQFwdIdeal.main_arg4) = m ((c.tc : Thread Cert.OutQFwdIdeal.nD Cert.OutQFwdIdeal.τ).loc Cert.OutQFwdIdeal.main_arg4))
      ∧ r.2.sem = fun _ => 0)

def quiescent_OutQFwdRefIdeal [hOutQFwdRefIdeal : Cert.OutQFwdRefIdeal.Facts] : Prop :=
  ∀ (m : (ℓ : Loc Cert.OutQFwdRefIdeal.nD Cert.OutQFwdRefIdeal.τ Cert.OutQFwdRefIdeal.sig) → Buf (Elt Ideal) ℓ) (g : Dev Cert.OutQFwdRefIdeal.nD → PrngReg), Pre_OutQFwdRefIdeal m →
    θ_run (Cert.OutQFwdRefIdeal.defs (F := Ideal)) (onTc (τ := Cert.OutQFwdRefIdeal.τ) (Cert.OutQFwdRefIdeal.main (F := Ideal))) ⟨m, fun _ => 0, g⟩ (fun r => (∀ c : Dev Cert.OutQFwdRefIdeal.nD,
      r.2.mem ((c.tc : Thread Cert.OutQFwdRefIdeal.nD Cert.OutQFwdRefIdeal.τ).loc Cert.OutQFwdRefIdeal.main_arg0) = m ((c.tc : Thread Cert.OutQFwdRefIdeal.nD Cert.OutQFwdRefIdeal.τ).loc Cert.OutQFwdRefIdeal.main_arg0)
      ∧ r.2.mem ((c.tc : Thread Cert.OutQFwdRefIdeal.nD Cert.OutQFwdRefIdeal.τ).loc Cert.OutQFwdRefIdeal.main_arg1) = m ((c.tc : Thread Cert.OutQFwdRefIdeal.nD Cert.OutQFwdRefIdeal.τ).loc Cert.OutQFwdRefIdeal.main_arg1)
      ∧ r.2.mem ((c.tc : Thread Cert.OutQFwdRefIdeal.nD Cert.OutQFwdRefIdeal.τ).loc Cert.OutQFwdRefIdeal.main_arg2) = m ((c.tc : Thread Cert.OutQFwdRefIdeal.nD Cert.OutQFwdRefIdeal.τ).loc Cert.OutQFwdRefIdeal.main_arg2)
      ∧ r.2.mem ((c.tc : Thread Cert.OutQFwdRefIdeal.nD Cert.OutQFwdRefIdeal.τ).loc Cert.OutQFwdRefIdeal.main_arg3) = m ((c.tc : Thread Cert.OutQFwdRefIdeal.nD Cert.OutQFwdRefIdeal.τ).loc Cert.OutQFwdRefIdeal.main_arg3)
      ∧ r.2.mem ((c.tc : Thread Cert.OutQFwdRefIdeal.nD Cert.OutQFwdRefIdeal.τ).loc Cert.OutQFwdRefIdeal.main_arg4) = m ((c.tc : Thread Cert.OutQFwdRefIdeal.nD Cert.OutQFwdRefIdeal.τ).loc Cert.OutQFwdRefIdeal.main_arg4))
      ∧ r.2.sem = fun _ => 0)

def quiescent_AttnOutFwd [hAttnOutFwd : Cert.AttnOutFwd.Facts] : Prop :=
  ∀ (m : (ℓ : Loc Cert.AttnOutFwd.nD Cert.AttnOutFwd.τ Cert.AttnOutFwd.sig) → Buf (Elt Bits) ℓ) (g : Dev Cert.AttnOutFwd.nD → PrngReg), Pre_AttnOutFwd m →
    θ_run (Cert.AttnOutFwd.defs (F := Bits)) (onTc (τ := Cert.AttnOutFwd.τ) (Cert.AttnOutFwd.main (F := Bits))) ⟨m, fun _ => 0, g⟩ (fun r => (∀ c : Dev Cert.AttnOutFwd.nD,
      r.2.mem ((c.tc : Thread Cert.AttnOutFwd.nD Cert.AttnOutFwd.τ).loc Cert.AttnOutFwd.main_arg0) = m ((c.tc : Thread Cert.AttnOutFwd.nD Cert.AttnOutFwd.τ).loc Cert.AttnOutFwd.main_arg0)
      ∧ r.2.mem ((c.tc : Thread Cert.AttnOutFwd.nD Cert.AttnOutFwd.τ).loc Cert.AttnOutFwd.main_arg1) = m ((c.tc : Thread Cert.AttnOutFwd.nD Cert.AttnOutFwd.τ).loc Cert.AttnOutFwd.main_arg1)
      ∧ r.2.mem ((c.tc : Thread Cert.AttnOutFwd.nD Cert.AttnOutFwd.τ).loc Cert.AttnOutFwd.main_arg2) = m ((c.tc : Thread Cert.AttnOutFwd.nD Cert.AttnOutFwd.τ).loc Cert.AttnOutFwd.main_arg2)
      ∧ r.2.mem ((c.tc : Thread Cert.AttnOutFwd.nD Cert.AttnOutFwd.τ).loc Cert.AttnOutFwd.main_arg3) = m ((c.tc : Thread Cert.AttnOutFwd.nD Cert.AttnOutFwd.τ).loc Cert.AttnOutFwd.main_arg3))
      ∧ r.2.sem = fun _ => 0)

def quiescent_AttnOutFwdIdeal [hAttnOutFwdIdeal : Cert.AttnOutFwdIdeal.Facts] : Prop :=
  ∀ (m : (ℓ : Loc Cert.AttnOutFwdIdeal.nD Cert.AttnOutFwdIdeal.τ Cert.AttnOutFwdIdeal.sig) → Buf (Elt Ideal) ℓ) (g : Dev Cert.AttnOutFwdIdeal.nD → PrngReg), Pre_AttnOutFwdIdeal m →
    θ_run (Cert.AttnOutFwdIdeal.defs (F := Ideal)) (onTc (τ := Cert.AttnOutFwdIdeal.τ) (Cert.AttnOutFwdIdeal.main (F := Ideal))) ⟨m, fun _ => 0, g⟩ (fun r => (∀ c : Dev Cert.AttnOutFwdIdeal.nD,
      r.2.mem ((c.tc : Thread Cert.AttnOutFwdIdeal.nD Cert.AttnOutFwdIdeal.τ).loc Cert.AttnOutFwdIdeal.main_arg0) = m ((c.tc : Thread Cert.AttnOutFwdIdeal.nD Cert.AttnOutFwdIdeal.τ).loc Cert.AttnOutFwdIdeal.main_arg0)
      ∧ r.2.mem ((c.tc : Thread Cert.AttnOutFwdIdeal.nD Cert.AttnOutFwdIdeal.τ).loc Cert.AttnOutFwdIdeal.main_arg1) = m ((c.tc : Thread Cert.AttnOutFwdIdeal.nD Cert.AttnOutFwdIdeal.τ).loc Cert.AttnOutFwdIdeal.main_arg1)
      ∧ r.2.mem ((c.tc : Thread Cert.AttnOutFwdIdeal.nD Cert.AttnOutFwdIdeal.τ).loc Cert.AttnOutFwdIdeal.main_arg2) = m ((c.tc : Thread Cert.AttnOutFwdIdeal.nD Cert.AttnOutFwdIdeal.τ).loc Cert.AttnOutFwdIdeal.main_arg2)
      ∧ r.2.mem ((c.tc : Thread Cert.AttnOutFwdIdeal.nD Cert.AttnOutFwdIdeal.τ).loc Cert.AttnOutFwdIdeal.main_arg3) = m ((c.tc : Thread Cert.AttnOutFwdIdeal.nD Cert.AttnOutFwdIdeal.τ).loc Cert.AttnOutFwdIdeal.main_arg3))
      ∧ r.2.sem = fun _ => 0)

def quiescent_AttnOutFwdRefIdeal [hAttnOutFwdRefIdeal : Cert.AttnOutFwdRefIdeal.Facts] : Prop :=
  ∀ (m : (ℓ : Loc Cert.AttnOutFwdRefIdeal.nD Cert.AttnOutFwdRefIdeal.τ Cert.AttnOutFwdRefIdeal.sig) → Buf (Elt Ideal) ℓ) (g : Dev Cert.AttnOutFwdRefIdeal.nD → PrngReg), Pre_AttnOutFwdRefIdeal m →
    θ_run (Cert.AttnOutFwdRefIdeal.defs (F := Ideal)) (onTc (τ := Cert.AttnOutFwdRefIdeal.τ) (Cert.AttnOutFwdRefIdeal.main (F := Ideal))) ⟨m, fun _ => 0, g⟩ (fun r => (∀ c : Dev Cert.AttnOutFwdRefIdeal.nD,
      r.2.mem ((c.tc : Thread Cert.AttnOutFwdRefIdeal.nD Cert.AttnOutFwdRefIdeal.τ).loc Cert.AttnOutFwdRefIdeal.main_arg0) = m ((c.tc : Thread Cert.AttnOutFwdRefIdeal.nD Cert.AttnOutFwdRefIdeal.τ).loc Cert.AttnOutFwdRefIdeal.main_arg0)
      ∧ r.2.mem ((c.tc : Thread Cert.AttnOutFwdRefIdeal.nD Cert.AttnOutFwdRefIdeal.τ).loc Cert.AttnOutFwdRefIdeal.main_arg1) = m ((c.tc : Thread Cert.AttnOutFwdRefIdeal.nD Cert.AttnOutFwdRefIdeal.τ).loc Cert.AttnOutFwdRefIdeal.main_arg1)
      ∧ r.2.mem ((c.tc : Thread Cert.AttnOutFwdRefIdeal.nD Cert.AttnOutFwdRefIdeal.τ).loc Cert.AttnOutFwdRefIdeal.main_arg2) = m ((c.tc : Thread Cert.AttnOutFwdRefIdeal.nD Cert.AttnOutFwdRefIdeal.τ).loc Cert.AttnOutFwdRefIdeal.main_arg2)
      ∧ r.2.mem ((c.tc : Thread Cert.AttnOutFwdRefIdeal.nD Cert.AttnOutFwdRefIdeal.τ).loc Cert.AttnOutFwdRefIdeal.main_arg3) = m ((c.tc : Thread Cert.AttnOutFwdRefIdeal.nD Cert.AttnOutFwdRefIdeal.τ).loc Cert.AttnOutFwdRefIdeal.main_arg3))
      ∧ r.2.sem = fun _ => 0)

def quiescent_MixPool [hMixPool : Cert.MixPool.Facts] : Prop :=
  ∀ (m : (ℓ : Loc Cert.MixPool.nD Cert.MixPool.τ Cert.MixPool.sig) → Buf (Elt Bits) ℓ) (g : Dev Cert.MixPool.nD → PrngReg), Pre_MixPool m →
    θ_run (Cert.MixPool.defs (F := Bits)) (onTc (τ := Cert.MixPool.τ) (Cert.MixPool.main (F := Bits))) ⟨m, fun _ => 0, g⟩ (fun r => (∀ c : Dev Cert.MixPool.nD,
      r.2.mem ((c.tc : Thread Cert.MixPool.nD Cert.MixPool.τ).loc Cert.MixPool.main_arg0) = m ((c.tc : Thread Cert.MixPool.nD Cert.MixPool.τ).loc Cert.MixPool.main_arg0)
      ∧ r.2.mem ((c.tc : Thread Cert.MixPool.nD Cert.MixPool.τ).loc Cert.MixPool.main_arg1) = m ((c.tc : Thread Cert.MixPool.nD Cert.MixPool.τ).loc Cert.MixPool.main_arg1)
      ∧ r.2.mem ((c.tc : Thread Cert.MixPool.nD Cert.MixPool.τ).loc Cert.MixPool.main_arg2) = m ((c.tc : Thread Cert.MixPool.nD Cert.MixPool.τ).loc Cert.MixPool.main_arg2)
      ∧ r.2.mem ((c.tc : Thread Cert.MixPool.nD Cert.MixPool.τ).loc Cert.MixPool.main_arg3) = m ((c.tc : Thread Cert.MixPool.nD Cert.MixPool.τ).loc Cert.MixPool.main_arg3)
      ∧ r.2.mem ((c.tc : Thread Cert.MixPool.nD Cert.MixPool.τ).loc Cert.MixPool.main_arg4) = m ((c.tc : Thread Cert.MixPool.nD Cert.MixPool.τ).loc Cert.MixPool.main_arg4)
      ∧ r.2.mem ((c.tc : Thread Cert.MixPool.nD Cert.MixPool.τ).loc Cert.MixPool.main_arg5) = m ((c.tc : Thread Cert.MixPool.nD Cert.MixPool.τ).loc Cert.MixPool.main_arg5)
      ∧ r.2.mem ((c.tc : Thread Cert.MixPool.nD Cert.MixPool.τ).loc Cert.MixPool.main_arg6) = m ((c.tc : Thread Cert.MixPool.nD Cert.MixPool.τ).loc Cert.MixPool.main_arg6))
      ∧ r.2.sem = fun _ => 0)

def quiescent_MixPoolIdeal [hMixPoolIdeal : Cert.MixPoolIdeal.Facts] : Prop :=
  ∀ (m : (ℓ : Loc Cert.MixPoolIdeal.nD Cert.MixPoolIdeal.τ Cert.MixPoolIdeal.sig) → Buf (Elt Ideal) ℓ) (g : Dev Cert.MixPoolIdeal.nD → PrngReg), Pre_MixPoolIdeal m →
    θ_run (Cert.MixPoolIdeal.defs (F := Ideal)) (onTc (τ := Cert.MixPoolIdeal.τ) (Cert.MixPoolIdeal.main (F := Ideal))) ⟨m, fun _ => 0, g⟩ (fun r => (∀ c : Dev Cert.MixPoolIdeal.nD,
      r.2.mem ((c.tc : Thread Cert.MixPoolIdeal.nD Cert.MixPoolIdeal.τ).loc Cert.MixPoolIdeal.main_arg0) = m ((c.tc : Thread Cert.MixPoolIdeal.nD Cert.MixPoolIdeal.τ).loc Cert.MixPoolIdeal.main_arg0)
      ∧ r.2.mem ((c.tc : Thread Cert.MixPoolIdeal.nD Cert.MixPoolIdeal.τ).loc Cert.MixPoolIdeal.main_arg1) = m ((c.tc : Thread Cert.MixPoolIdeal.nD Cert.MixPoolIdeal.τ).loc Cert.MixPoolIdeal.main_arg1)
      ∧ r.2.mem ((c.tc : Thread Cert.MixPoolIdeal.nD Cert.MixPoolIdeal.τ).loc Cert.MixPoolIdeal.main_arg2) = m ((c.tc : Thread Cert.MixPoolIdeal.nD Cert.MixPoolIdeal.τ).loc Cert.MixPoolIdeal.main_arg2)
      ∧ r.2.mem ((c.tc : Thread Cert.MixPoolIdeal.nD Cert.MixPoolIdeal.τ).loc Cert.MixPoolIdeal.main_arg3) = m ((c.tc : Thread Cert.MixPoolIdeal.nD Cert.MixPoolIdeal.τ).loc Cert.MixPoolIdeal.main_arg3)
      ∧ r.2.mem ((c.tc : Thread Cert.MixPoolIdeal.nD Cert.MixPoolIdeal.τ).loc Cert.MixPoolIdeal.main_arg4) = m ((c.tc : Thread Cert.MixPoolIdeal.nD Cert.MixPoolIdeal.τ).loc Cert.MixPoolIdeal.main_arg4)
      ∧ r.2.mem ((c.tc : Thread Cert.MixPoolIdeal.nD Cert.MixPoolIdeal.τ).loc Cert.MixPoolIdeal.main_arg5) = m ((c.tc : Thread Cert.MixPoolIdeal.nD Cert.MixPoolIdeal.τ).loc Cert.MixPoolIdeal.main_arg5)
      ∧ r.2.mem ((c.tc : Thread Cert.MixPoolIdeal.nD Cert.MixPoolIdeal.τ).loc Cert.MixPoolIdeal.main_arg6) = m ((c.tc : Thread Cert.MixPoolIdeal.nD Cert.MixPoolIdeal.τ).loc Cert.MixPoolIdeal.main_arg6))
      ∧ r.2.sem = fun _ => 0)

def quiescent_MixPoolRefIdeal [hMixPoolRefIdeal : Cert.MixPoolRefIdeal.Facts] : Prop :=
  ∀ (m : (ℓ : Loc Cert.MixPoolRefIdeal.nD Cert.MixPoolRefIdeal.τ Cert.MixPoolRefIdeal.sig) → Buf (Elt Ideal) ℓ) (g : Dev Cert.MixPoolRefIdeal.nD → PrngReg), Pre_MixPoolRefIdeal m →
    θ_run (Cert.MixPoolRefIdeal.defs (F := Ideal)) (onTc (τ := Cert.MixPoolRefIdeal.τ) (Cert.MixPoolRefIdeal.main (F := Ideal))) ⟨m, fun _ => 0, g⟩ (fun r => (∀ c : Dev Cert.MixPoolRefIdeal.nD,
      r.2.mem ((c.tc : Thread Cert.MixPoolRefIdeal.nD Cert.MixPoolRefIdeal.τ).loc Cert.MixPoolRefIdeal.main_arg0) = m ((c.tc : Thread Cert.MixPoolRefIdeal.nD Cert.MixPoolRefIdeal.τ).loc Cert.MixPoolRefIdeal.main_arg0)
      ∧ r.2.mem ((c.tc : Thread Cert.MixPoolRefIdeal.nD Cert.MixPoolRefIdeal.τ).loc Cert.MixPoolRefIdeal.main_arg1) = m ((c.tc : Thread Cert.MixPoolRefIdeal.nD Cert.MixPoolRefIdeal.τ).loc Cert.MixPoolRefIdeal.main_arg1)
      ∧ r.2.mem ((c.tc : Thread Cert.MixPoolRefIdeal.nD Cert.MixPoolRefIdeal.τ).loc Cert.MixPoolRefIdeal.main_arg2) = m ((c.tc : Thread Cert.MixPoolRefIdeal.nD Cert.MixPoolRefIdeal.τ).loc Cert.MixPoolRefIdeal.main_arg2)
      ∧ r.2.mem ((c.tc : Thread Cert.MixPoolRefIdeal.nD Cert.MixPoolRefIdeal.τ).loc Cert.MixPoolRefIdeal.main_arg3) = m ((c.tc : Thread Cert.MixPoolRefIdeal.nD Cert.MixPoolRefIdeal.τ).loc Cert.MixPoolRefIdeal.main_arg3)
      ∧ r.2.mem ((c.tc : Thread Cert.MixPoolRefIdeal.nD Cert.MixPoolRefIdeal.τ).loc Cert.MixPoolRefIdeal.main_arg4) = m ((c.tc : Thread Cert.MixPoolRefIdeal.nD Cert.MixPoolRefIdeal.τ).loc Cert.MixPoolRefIdeal.main_arg4)
      ∧ r.2.mem ((c.tc : Thread Cert.MixPoolRefIdeal.nD Cert.MixPoolRefIdeal.τ).loc Cert.MixPoolRefIdeal.main_arg5) = m ((c.tc : Thread Cert.MixPoolRefIdeal.nD Cert.MixPoolRefIdeal.τ).loc Cert.MixPoolRefIdeal.main_arg5)
      ∧ r.2.mem ((c.tc : Thread Cert.MixPoolRefIdeal.nD Cert.MixPoolRefIdeal.τ).loc Cert.MixPoolRefIdeal.main_arg6) = m ((c.tc : Thread Cert.MixPoolRefIdeal.nD Cert.MixPoolRefIdeal.τ).loc Cert.MixPoolRefIdeal.main_arg6))
      ∧ r.2.sem = fun _ => 0)

def preserves_KvBwd_KvBwdIdeal : Prop :=
  True

def algebraic_KvBwdIdeal_KvBwdRefIdeal [hKvBwdIdeal : Cert.KvBwdIdeal.Facts] [hKvBwdRefIdeal : Cert.KvBwdRefIdeal.Facts] : Prop :=
  ∀ (m : (ℓ : Loc Cert.KvBwdIdeal.nD Cert.KvBwdIdeal.τ Cert.KvBwdIdeal.sig) → Buf (Elt Ideal) ℓ) (g : Dev Cert.KvBwdIdeal.nD → PrngReg)
    (m' : (ℓ : Loc Cert.KvBwdRefIdeal.nD Cert.KvBwdRefIdeal.τ Cert.KvBwdRefIdeal.sig) → Buf (Elt Ideal) ℓ) (g' : Dev Cert.KvBwdRefIdeal.nD → PrngReg), Pre_KvBwdIdeal m →
    (∀ c : Dev Cert.KvBwdIdeal.nD,
      m' ((c.tc : Thread Cert.KvBwdRefIdeal.nD Cert.KvBwdRefIdeal.τ).loc Cert.KvBwdRefIdeal.main_arg0) = m ((c.tc : Thread Cert.KvBwdIdeal.nD Cert.KvBwdIdeal.τ).loc Cert.KvBwdIdeal.main_arg0)
      ∧ m' ((c.tc : Thread Cert.KvBwdRefIdeal.nD Cert.KvBwdRefIdeal.τ).loc Cert.KvBwdRefIdeal.main_arg1) = m ((c.tc : Thread Cert.KvBwdIdeal.nD Cert.KvBwdIdeal.τ).loc Cert.KvBwdIdeal.main_arg1)
      ∧ m' ((c.tc : Thread Cert.KvBwdRefIdeal.nD Cert.KvBwdRefIdeal.τ).loc Cert.KvBwdRefIdeal.main_arg2) = m ((c.tc : Thread Cert.KvBwdIdeal.nD Cert.KvBwdIdeal.τ).loc Cert.KvBwdIdeal.main_arg2)
      ∧ m' ((c.tc : Thread Cert.KvBwdRefIdeal.nD Cert.KvBwdRefIdeal.τ).loc Cert.KvBwdRefIdeal.main_arg3) = m ((c.tc : Thread Cert.KvBwdIdeal.nD Cert.KvBwdIdeal.τ).loc Cert.KvBwdIdeal.main_arg3)) →
    ∃ (v0 : (c : Dev Cert.KvBwdIdeal.nD) → Buf (Elt Ideal) ((c.tc : Thread Cert.KvBwdIdeal.nD Cert.KvBwdIdeal.τ).loc Cert.KvBwdIdeal.main_v7)),
      θ_run (Cert.KvBwdIdeal.defs (F := Ideal)) (onTc (τ := Cert.KvBwdIdeal.τ) (Cert.KvBwdIdeal.main (F := Ideal))) ⟨m, fun _ => 0, g⟩ (fun r => ∀ c : Dev Cert.KvBwdIdeal.nD,
          r.2.mem ((c.tc : Thread Cert.KvBwdIdeal.nD Cert.KvBwdIdeal.τ).loc Cert.KvBwdIdeal.main_v7) = v0 c
          ∧ r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
          ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1)
          ∧ r.2.mem ((c.tc : Thread Cert.KvBwdIdeal.nD Cert.KvBwdIdeal.τ).loc Cert.KvBwdIdeal.main_arg2) = m ((c.tc : Thread Cert.KvBwdIdeal.nD Cert.KvBwdIdeal.τ).loc Cert.KvBwdIdeal.main_arg2)
          ∧ r.2.mem ((c.tc : Thread Cert.KvBwdIdeal.nD Cert.KvBwdIdeal.τ).loc Cert.KvBwdIdeal.main_arg3) = m ((c.tc : Thread Cert.KvBwdIdeal.nD Cert.KvBwdIdeal.τ).loc Cert.KvBwdIdeal.main_arg3))
      ∧ θ_run (Cert.KvBwdRefIdeal.defs (F := Ideal)) (onTc (τ := Cert.KvBwdRefIdeal.τ) (Cert.KvBwdRefIdeal.main (F := Ideal))) ⟨m', fun _ => 0, g'⟩ (fun r => ∀ c : Dev Cert.KvBwdRefIdeal.nD,
          r.2.mem ((c.tc : Thread Cert.KvBwdRefIdeal.nD Cert.KvBwdRefIdeal.τ).loc Cert.KvBwdRefIdeal.main_v21) = v0 c
          ∧ r.2.mem ((c.tc : Thread Cert.KvBwdRefIdeal.nD Cert.KvBwdRefIdeal.τ).loc Cert.KvBwdRefIdeal.main_arg0) = m' ((c.tc : Thread Cert.KvBwdRefIdeal.nD Cert.KvBwdRefIdeal.τ).loc Cert.KvBwdRefIdeal.main_arg0)
          ∧ r.2.mem ((c.tc : Thread Cert.KvBwdRefIdeal.nD Cert.KvBwdRefIdeal.τ).loc Cert.KvBwdRefIdeal.main_arg1) = m' ((c.tc : Thread Cert.KvBwdRefIdeal.nD Cert.KvBwdRefIdeal.τ).loc Cert.KvBwdRefIdeal.main_arg1)
          ∧ r.2.mem ((c.tc : Thread Cert.KvBwdRefIdeal.nD Cert.KvBwdRefIdeal.τ).loc Cert.KvBwdRefIdeal.main_arg2) = m' ((c.tc : Thread Cert.KvBwdRefIdeal.nD Cert.KvBwdRefIdeal.τ).loc Cert.KvBwdRefIdeal.main_arg2)
          ∧ r.2.mem ((c.tc : Thread Cert.KvBwdRefIdeal.nD Cert.KvBwdRefIdeal.τ).loc Cert.KvBwdRefIdeal.main_arg3) = m' ((c.tc : Thread Cert.KvBwdRefIdeal.nD Cert.KvBwdRefIdeal.τ).loc Cert.KvBwdRefIdeal.main_arg3))

def preserves_QBwd_QBwdIdeal : Prop :=
  True

def algebraic_QBwdIdeal_QBwdRefIdeal_pre_finite_q [hQBwdIdeal : Cert.QBwdIdeal.Facts] [hQBwdRefIdeal : Cert.QBwdRefIdeal.Facts] [hPre_finite_q : Cert.Pre_finite_q.Facts] : Prop :=
  ∀ (m : (ℓ : Loc Cert.QBwdIdeal.nD Cert.QBwdIdeal.τ Cert.QBwdIdeal.sig) → Buf (Elt Ideal) ℓ) (g : Dev Cert.QBwdIdeal.nD → PrngReg)
    (m' : (ℓ : Loc Cert.QBwdRefIdeal.nD Cert.QBwdRefIdeal.τ Cert.QBwdRefIdeal.sig) → Buf (Elt Ideal) ℓ) (g' : Dev Cert.QBwdRefIdeal.nD → PrngReg), Pre_QBwdIdeal_finite_q m →
    (∀ c : Dev Cert.QBwdIdeal.nD,
      m' ((c.tc : Thread Cert.QBwdRefIdeal.nD Cert.QBwdRefIdeal.τ).loc Cert.QBwdRefIdeal.main_arg0) = m ((c.tc : Thread Cert.QBwdIdeal.nD Cert.QBwdIdeal.τ).loc Cert.QBwdIdeal.main_arg0)
      ∧ m' ((c.tc : Thread Cert.QBwdRefIdeal.nD Cert.QBwdRefIdeal.τ).loc Cert.QBwdRefIdeal.main_arg1) = m ((c.tc : Thread Cert.QBwdIdeal.nD Cert.QBwdIdeal.τ).loc Cert.QBwdIdeal.main_arg1)
      ∧ m' ((c.tc : Thread Cert.QBwdRefIdeal.nD Cert.QBwdRefIdeal.τ).loc Cert.QBwdRefIdeal.main_arg2) = m ((c.tc : Thread Cert.QBwdIdeal.nD Cert.QBwdIdeal.τ).loc Cert.QBwdIdeal.main_arg2)
      ∧ m' ((c.tc : Thread Cert.QBwdRefIdeal.nD Cert.QBwdRefIdeal.τ).loc Cert.QBwdRefIdeal.main_arg3) = m ((c.tc : Thread Cert.QBwdIdeal.nD Cert.QBwdIdeal.τ).loc Cert.QBwdIdeal.main_arg3)
      ∧ m' ((c.tc : Thread Cert.QBwdRefIdeal.nD Cert.QBwdRefIdeal.τ).loc Cert.QBwdRefIdeal.main_arg4) = m ((c.tc : Thread Cert.QBwdIdeal.nD Cert.QBwdIdeal.τ).loc Cert.QBwdIdeal.main_arg4)
      ∧ m' ((c.tc : Thread Cert.QBwdRefIdeal.nD Cert.QBwdRefIdeal.τ).loc Cert.QBwdRefIdeal.main_arg5) = m ((c.tc : Thread Cert.QBwdIdeal.nD Cert.QBwdIdeal.τ).loc Cert.QBwdIdeal.main_arg5)) →
    ∃ (v0 : (c : Dev Cert.QBwdIdeal.nD) → Buf (Elt Ideal) ((c.tc : Thread Cert.QBwdIdeal.nD Cert.QBwdIdeal.τ).loc Cert.QBwdIdeal.main_v4_0)) (v1 : (c : Dev Cert.QBwdIdeal.nD) → Buf (Elt Ideal) ((c.tc : Thread Cert.QBwdIdeal.nD Cert.QBwdIdeal.τ).loc Cert.QBwdIdeal.main_v4_1)) (v2 : (c : Dev Cert.QBwdIdeal.nD) → Buf (Elt Ideal) ((c.tc : Thread Cert.QBwdIdeal.nD Cert.QBwdIdeal.τ).loc Cert.QBwdIdeal.main_v4_2)) (v3 : (c : Dev Cert.QBwdIdeal.nD) → Buf (Elt Ideal) ((c.tc : Thread Cert.QBwdIdeal.nD Cert.QBwdIdeal.τ).loc Cert.QBwdIdeal.main_v4_3)),
      θ_run (Cert.QBwdIdeal.defs (F := Ideal)) (onTc (τ := Cert.QBwdIdeal.τ) (Cert.QBwdIdeal.main (F := Ideal))) ⟨m, fun _ => 0, g⟩ (fun r => ∀ c : Dev Cert.QBwdIdeal.nD,
          r.2.mem ((c.tc : Thread Cert.QBwdIdeal.nD Cert.QBwdIdeal.τ).loc Cert.QBwdIdeal.main_v4_0) = v0 c
          ∧ r.2.mem ((c.tc : Thread Cert.QBwdIdeal.nD Cert.QBwdIdeal.τ).loc Cert.QBwdIdeal.main_v4_1) = v1 c
          ∧ r.2.mem ((c.tc : Thread Cert.QBwdIdeal.nD Cert.QBwdIdeal.τ).loc Cert.QBwdIdeal.main_v4_2) = v2 c
          ∧ r.2.mem ((c.tc : Thread Cert.QBwdIdeal.nD Cert.QBwdIdeal.τ).loc Cert.QBwdIdeal.main_v4_3) = v3 c
          ∧ r.2.mem ((c.tc : Thread Cert.QBwdIdeal.nD Cert.QBwdIdeal.τ).loc Cert.QBwdIdeal.main_arg0) = m ((c.tc : Thread Cert.QBwdIdeal.nD Cert.QBwdIdeal.τ).loc Cert.QBwdIdeal.main_arg0)
          ∧ r.2.mem ((c.tc : Thread Cert.QBwdIdeal.nD Cert.QBwdIdeal.τ).loc Cert.QBwdIdeal.main_arg1) = m ((c.tc : Thread Cert.QBwdIdeal.nD Cert.QBwdIdeal.τ).loc Cert.QBwdIdeal.main_arg1)
          ∧ r.2.mem ((c.tc : Thread Cert.QBwdIdeal.nD Cert.QBwdIdeal.τ).loc Cert.QBwdIdeal.main_arg2) = m ((c.tc : Thread Cert.QBwdIdeal.nD Cert.QBwdIdeal.τ).loc Cert.QBwdIdeal.main_arg2)
          ∧ r.2.mem ((c.tc : Thread Cert.QBwdIdeal.nD Cert.QBwdIdeal.τ).loc Cert.QBwdIdeal.main_arg3) = m ((c.tc : Thread Cert.QBwdIdeal.nD Cert.QBwdIdeal.τ).loc Cert.QBwdIdeal.main_arg3)
          ∧ r.2.mem ((c.tc : Thread Cert.QBwdIdeal.nD Cert.QBwdIdeal.τ).loc Cert.QBwdIdeal.main_arg4) = m ((c.tc : Thread Cert.QBwdIdeal.nD Cert.QBwdIdeal.τ).loc Cert.QBwdIdeal.main_arg4)
          ∧ r.2.mem ((c.tc : Thread Cert.QBwdIdeal.nD Cert.QBwdIdeal.τ).loc Cert.QBwdIdeal.main_arg5) = m ((c.tc : Thread Cert.QBwdIdeal.nD Cert.QBwdIdeal.τ).loc Cert.QBwdIdeal.main_arg5))
      ∧ θ_run (Cert.QBwdRefIdeal.defs (F := Ideal)) (onTc (τ := Cert.QBwdRefIdeal.τ) (Cert.QBwdRefIdeal.main (F := Ideal))) ⟨m', fun _ => 0, g'⟩ (fun r => ∀ c : Dev Cert.QBwdRefIdeal.nD,
          r.2.mem ((c.tc : Thread Cert.QBwdRefIdeal.nD Cert.QBwdRefIdeal.τ).loc Cert.QBwdRefIdeal.main_v41) = v0 c
          ∧ r.2.mem ((c.tc : Thread Cert.QBwdRefIdeal.nD Cert.QBwdRefIdeal.τ).loc Cert.QBwdRefIdeal.main_v47) = v1 c
          ∧ r.2.mem ((c.tc : Thread Cert.QBwdRefIdeal.nD Cert.QBwdRefIdeal.τ).loc Cert.QBwdRefIdeal.main_v50) = v2 c
          ∧ r.2.mem ((c.tc : Thread Cert.QBwdRefIdeal.nD Cert.QBwdRefIdeal.τ).loc Cert.QBwdRefIdeal.main_v42) = v3 c
          ∧ r.2.mem ((c.tc : Thread Cert.QBwdRefIdeal.nD Cert.QBwdRefIdeal.τ).loc Cert.QBwdRefIdeal.main_arg0) = m' ((c.tc : Thread Cert.QBwdRefIdeal.nD Cert.QBwdRefIdeal.τ).loc Cert.QBwdRefIdeal.main_arg0)
          ∧ r.2.mem ((c.tc : Thread Cert.QBwdRefIdeal.nD Cert.QBwdRefIdeal.τ).loc Cert.QBwdRefIdeal.main_arg1) = m' ((c.tc : Thread Cert.QBwdRefIdeal.nD Cert.QBwdRefIdeal.τ).loc Cert.QBwdRefIdeal.main_arg1)
          ∧ r.2.mem ((c.tc : Thread Cert.QBwdRefIdeal.nD Cert.QBwdRefIdeal.τ).loc Cert.QBwdRefIdeal.main_arg2) = m' ((c.tc : Thread Cert.QBwdRefIdeal.nD Cert.QBwdRefIdeal.τ).loc Cert.QBwdRefIdeal.main_arg2)
          ∧ r.2.mem ((c.tc : Thread Cert.QBwdRefIdeal.nD Cert.QBwdRefIdeal.τ).loc Cert.QBwdRefIdeal.main_arg3) = m' ((c.tc : Thread Cert.QBwdRefIdeal.nD Cert.QBwdRefIdeal.τ).loc Cert.QBwdRefIdeal.main_arg3)
          ∧ r.2.mem ((c.tc : Thread Cert.QBwdRefIdeal.nD Cert.QBwdRefIdeal.τ).loc Cert.QBwdRefIdeal.main_arg4) = m' ((c.tc : Thread Cert.QBwdRefIdeal.nD Cert.QBwdRefIdeal.τ).loc Cert.QBwdRefIdeal.main_arg4)
          ∧ r.2.mem ((c.tc : Thread Cert.QBwdRefIdeal.nD Cert.QBwdRefIdeal.τ).loc Cert.QBwdRefIdeal.main_arg5) = m' ((c.tc : Thread Cert.QBwdRefIdeal.nD Cert.QBwdRefIdeal.τ).loc Cert.QBwdRefIdeal.main_arg5))

def preserves_UpBwd_UpBwdIdeal : Prop :=
  True

def algebraic_UpBwdIdeal_UpBwdRefIdeal_pre_finite_up [hUpBwdIdeal : Cert.UpBwdIdeal.Facts] [hUpBwdRefIdeal : Cert.UpBwdRefIdeal.Facts] [hPre_finite_up : Cert.Pre_finite_up.Facts] : Prop :=
  ∀ (m : (ℓ : Loc Cert.UpBwdIdeal.nD Cert.UpBwdIdeal.τ Cert.UpBwdIdeal.sig) → Buf (Elt Ideal) ℓ) (g : Dev Cert.UpBwdIdeal.nD → PrngReg)
    (m' : (ℓ : Loc Cert.UpBwdRefIdeal.nD Cert.UpBwdRefIdeal.τ Cert.UpBwdRefIdeal.sig) → Buf (Elt Ideal) ℓ) (g' : Dev Cert.UpBwdRefIdeal.nD → PrngReg), Pre_UpBwdIdeal_finite_up m →
    (∀ c : Dev Cert.UpBwdIdeal.nD,
      m' ((c.tc : Thread Cert.UpBwdRefIdeal.nD Cert.UpBwdRefIdeal.τ).loc Cert.UpBwdRefIdeal.main_arg0) = m ((c.tc : Thread Cert.UpBwdIdeal.nD Cert.UpBwdIdeal.τ).loc Cert.UpBwdIdeal.main_arg0)
      ∧ m' ((c.tc : Thread Cert.UpBwdRefIdeal.nD Cert.UpBwdRefIdeal.τ).loc Cert.UpBwdRefIdeal.main_arg1) = m ((c.tc : Thread Cert.UpBwdIdeal.nD Cert.UpBwdIdeal.τ).loc Cert.UpBwdIdeal.main_arg1)
      ∧ m' ((c.tc : Thread Cert.UpBwdRefIdeal.nD Cert.UpBwdRefIdeal.τ).loc Cert.UpBwdRefIdeal.main_arg2) = m ((c.tc : Thread Cert.UpBwdIdeal.nD Cert.UpBwdIdeal.τ).loc Cert.UpBwdIdeal.main_arg2)
      ∧ m' ((c.tc : Thread Cert.UpBwdRefIdeal.nD Cert.UpBwdRefIdeal.τ).loc Cert.UpBwdRefIdeal.main_arg3) = m ((c.tc : Thread Cert.UpBwdIdeal.nD Cert.UpBwdIdeal.τ).loc Cert.UpBwdIdeal.main_arg3)
      ∧ m' ((c.tc : Thread Cert.UpBwdRefIdeal.nD Cert.UpBwdRefIdeal.τ).loc Cert.UpBwdRefIdeal.main_arg4) = m ((c.tc : Thread Cert.UpBwdIdeal.nD Cert.UpBwdIdeal.τ).loc Cert.UpBwdIdeal.main_arg4)
      ∧ m' ((c.tc : Thread Cert.UpBwdRefIdeal.nD Cert.UpBwdRefIdeal.τ).loc Cert.UpBwdRefIdeal.main_arg5) = m ((c.tc : Thread Cert.UpBwdIdeal.nD Cert.UpBwdIdeal.τ).loc Cert.UpBwdIdeal.main_arg5)
      ∧ m' ((c.tc : Thread Cert.UpBwdRefIdeal.nD Cert.UpBwdRefIdeal.τ).loc Cert.UpBwdRefIdeal.main_arg6) = m ((c.tc : Thread Cert.UpBwdIdeal.nD Cert.UpBwdIdeal.τ).loc Cert.UpBwdIdeal.main_arg6)) →
    ∃ (v0 : (c : Dev Cert.UpBwdIdeal.nD) → Buf (Elt Ideal) ((c.tc : Thread Cert.UpBwdIdeal.nD Cert.UpBwdIdeal.τ).loc Cert.UpBwdIdeal.main_v6_0)) (v1 : (c : Dev Cert.UpBwdIdeal.nD) → Buf (Elt Ideal) ((c.tc : Thread Cert.UpBwdIdeal.nD Cert.UpBwdIdeal.τ).loc Cert.UpBwdIdeal.main_v6_1)) (v2 : (c : Dev Cert.UpBwdIdeal.nD) → Buf (Elt Ideal) ((c.tc : Thread Cert.UpBwdIdeal.nD Cert.UpBwdIdeal.τ).loc Cert.UpBwdIdeal.main_v6_2)) (v3 : (c : Dev Cert.UpBwdIdeal.nD) → Buf (Elt Ideal) ((c.tc : Thread Cert.UpBwdIdeal.nD Cert.UpBwdIdeal.τ).loc Cert.UpBwdIdeal.main_v6_3)),
      θ_run (Cert.UpBwdIdeal.defs (F := Ideal)) (onTc (τ := Cert.UpBwdIdeal.τ) (Cert.UpBwdIdeal.main (F := Ideal))) ⟨m, fun _ => 0, g⟩ (fun r => ∀ c : Dev Cert.UpBwdIdeal.nD,
          r.2.mem ((c.tc : Thread Cert.UpBwdIdeal.nD Cert.UpBwdIdeal.τ).loc Cert.UpBwdIdeal.main_v6_0) = v0 c
          ∧ r.2.mem ((c.tc : Thread Cert.UpBwdIdeal.nD Cert.UpBwdIdeal.τ).loc Cert.UpBwdIdeal.main_v6_1) = v1 c
          ∧ r.2.mem ((c.tc : Thread Cert.UpBwdIdeal.nD Cert.UpBwdIdeal.τ).loc Cert.UpBwdIdeal.main_v6_2) = v2 c
          ∧ r.2.mem ((c.tc : Thread Cert.UpBwdIdeal.nD Cert.UpBwdIdeal.τ).loc Cert.UpBwdIdeal.main_v6_3) = v3 c
          ∧ r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
          ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
          ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
          ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
          ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4)
          ∧ r.2.mem ((c.tc : Thread Cert.UpBwdIdeal.nD Cert.UpBwdIdeal.τ).loc Cert.UpBwdIdeal.main_arg5) = m ((c.tc : Thread Cert.UpBwdIdeal.nD Cert.UpBwdIdeal.τ).loc Cert.UpBwdIdeal.main_arg5)
          ∧ r.2.mem ((c.tc : Thread Cert.UpBwdIdeal.nD Cert.UpBwdIdeal.τ).loc Cert.UpBwdIdeal.main_arg6) = m ((c.tc : Thread Cert.UpBwdIdeal.nD Cert.UpBwdIdeal.τ).loc Cert.UpBwdIdeal.main_arg6))
      ∧ θ_run (Cert.UpBwdRefIdeal.defs (F := Ideal)) (onTc (τ := Cert.UpBwdRefIdeal.τ) (Cert.UpBwdRefIdeal.main (F := Ideal))) ⟨m', fun _ => 0, g'⟩ (fun r => ∀ c : Dev Cert.UpBwdRefIdeal.nD,
          r.2.mem ((c.tc : Thread Cert.UpBwdRefIdeal.nD Cert.UpBwdRefIdeal.τ).loc Cert.UpBwdRefIdeal.main_v41) = v0 c
          ∧ r.2.mem ((c.tc : Thread Cert.UpBwdRefIdeal.nD Cert.UpBwdRefIdeal.τ).loc Cert.UpBwdRefIdeal.main_v47) = v1 c
          ∧ r.2.mem ((c.tc : Thread Cert.UpBwdRefIdeal.nD Cert.UpBwdRefIdeal.τ).loc Cert.UpBwdRefIdeal.main_v48) = v2 c
          ∧ r.2.mem ((c.tc : Thread Cert.UpBwdRefIdeal.nD Cert.UpBwdRefIdeal.τ).loc Cert.UpBwdRefIdeal.main_v42) = v3 c
          ∧ r.2.mem ((c.tc : Thread Cert.UpBwdRefIdeal.nD Cert.UpBwdRefIdeal.τ).loc Cert.UpBwdRefIdeal.main_arg0) = m' ((c.tc : Thread Cert.UpBwdRefIdeal.nD Cert.UpBwdRefIdeal.τ).loc Cert.UpBwdRefIdeal.main_arg0)
          ∧ r.2.mem ((c.tc : Thread Cert.UpBwdRefIdeal.nD Cert.UpBwdRefIdeal.τ).loc Cert.UpBwdRefIdeal.main_arg1) = m' ((c.tc : Thread Cert.UpBwdRefIdeal.nD Cert.UpBwdRefIdeal.τ).loc Cert.UpBwdRefIdeal.main_arg1)
          ∧ r.2.mem ((c.tc : Thread Cert.UpBwdRefIdeal.nD Cert.UpBwdRefIdeal.τ).loc Cert.UpBwdRefIdeal.main_arg2) = m' ((c.tc : Thread Cert.UpBwdRefIdeal.nD Cert.UpBwdRefIdeal.τ).loc Cert.UpBwdRefIdeal.main_arg2)
          ∧ r.2.mem ((c.tc : Thread Cert.UpBwdRefIdeal.nD Cert.UpBwdRefIdeal.τ).loc Cert.UpBwdRefIdeal.main_arg3) = m' ((c.tc : Thread Cert.UpBwdRefIdeal.nD Cert.UpBwdRefIdeal.τ).loc Cert.UpBwdRefIdeal.main_arg3)
          ∧ r.2.mem ((c.tc : Thread Cert.UpBwdRefIdeal.nD Cert.UpBwdRefIdeal.τ).loc Cert.UpBwdRefIdeal.main_arg4) = m' ((c.tc : Thread Cert.UpBwdRefIdeal.nD Cert.UpBwdRefIdeal.τ).loc Cert.UpBwdRefIdeal.main_arg4)
          ∧ r.2.mem ((c.tc : Thread Cert.UpBwdRefIdeal.nD Cert.UpBwdRefIdeal.τ).loc Cert.UpBwdRefIdeal.main_arg5) = m' ((c.tc : Thread Cert.UpBwdRefIdeal.nD Cert.UpBwdRefIdeal.τ).loc Cert.UpBwdRefIdeal.main_arg5)
          ∧ r.2.mem ((c.tc : Thread Cert.UpBwdRefIdeal.nD Cert.UpBwdRefIdeal.τ).loc Cert.UpBwdRefIdeal.main_arg6) = m' ((c.tc : Thread Cert.UpBwdRefIdeal.nD Cert.UpBwdRefIdeal.τ).loc Cert.UpBwdRefIdeal.main_arg6))

def preserves_InBwd_InBwdIdeal : Prop :=
  True

def algebraic_InBwdIdeal_InBwdRefIdeal_pre_finite_in [hInBwdIdeal : Cert.InBwdIdeal.Facts] [hInBwdRefIdeal : Cert.InBwdRefIdeal.Facts] [hPre_finite_in : Cert.Pre_finite_in.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal_finite_in m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)
      ∧ m' ((c.tc : Thread Cert.InBwdRefIdeal.nD Cert.InBwdRefIdeal.τ).loc Cert.InBwdRefIdeal.main_arg5) = m ((c.tc : Thread Cert.InBwdIdeal.nD Cert.InBwdIdeal.τ).loc Cert.InBwdIdeal.main_arg5)) →
    ∃ (v0 : (c : Dev Cert.InBwdIdeal.nD) → Buf (Elt Ideal) ((c.tc : Thread Cert.InBwdIdeal.nD Cert.InBwdIdeal.τ).loc Cert.InBwdIdeal.main_v5_0)) (v1 : (c : Dev Cert.InBwdIdeal.nD) → Buf (Elt Ideal) ((c.tc : Thread Cert.InBwdIdeal.nD Cert.InBwdIdeal.τ).loc Cert.InBwdIdeal.main_v5_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v5_0) = v0 c
          ∧ r.2.mem ((c.tc : Thread Cert.InBwdIdeal.nD Cert.InBwdIdeal.τ).loc Cert.InBwdIdeal.main_v5_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v42) = v0 c
          ∧ r.2.mem ((c.tc : Thread Cert.InBwdRefIdeal.nD Cert.InBwdRefIdeal.τ).loc Cert.InBwdRefIdeal.main_v43) = v1 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4)
          ∧ r.2.mem ((c.tc : Thread Cert.InBwdRefIdeal.nD Cert.InBwdRefIdeal.τ).loc Cert.InBwdRefIdeal.main_arg5) = m' ((c.tc : Thread Cert.InBwdRefIdeal.nD Cert.InBwdRefIdeal.τ).loc Cert.InBwdRefIdeal.main_arg5))

def preserves_LossBwd_LossBwdIdeal : Prop :=
  True

def algebraic_LossBwdIdeal_LossBwdRefIdeal_pre_finite_loss [hLossBwdIdeal : Cert.LossBwdIdeal.Facts] [hLossBwdRefIdeal : Cert.LossBwdRefIdeal.Facts] [hPre_finite_loss : Cert.Pre_finite_loss.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossBwdRefIdeal.nD Cert.LossBwdRefIdeal.τ Cert.LossBwdRefIdeal.sig) → Buf (Elt Ideal) ℓ) (g' : Dev Cert.LossBwdRefIdeal.nD → PrngReg), Pre_LossBwdIdeal_finite_loss m →
    (∀ c : Dev Cert.LossBwdIdeal.nD,
      m' ((c.tc : Thread Cert.LossBwdRefIdeal.nD Cert.LossBwdRefIdeal.τ).loc Cert.LossBwdRefIdeal.main_arg0) = m ((c.tc : Thread Cert.LossBwdIdeal.nD Cert.LossBwdIdeal.τ).loc Cert.LossBwdIdeal.main_arg0)
      ∧ m' ((c.tc : Thread Cert.LossBwdRefIdeal.nD Cert.LossBwdRefIdeal.τ).loc Cert.LossBwdRefIdeal.main_arg1) = m ((c.tc : Thread Cert.LossBwdIdeal.nD Cert.LossBwdIdeal.τ).loc Cert.LossBwdIdeal.main_arg1)
      ∧ m' ((c.tc : Thread Cert.LossBwdRefIdeal.nD Cert.LossBwdRefIdeal.τ).loc Cert.LossBwdRefIdeal.main_arg2) = m ((c.tc : Thread Cert.LossBwdIdeal.nD Cert.LossBwdIdeal.τ).loc Cert.LossBwdIdeal.main_arg2)
      ∧ m' ((c.tc : Thread Cert.LossBwdRefIdeal.nD Cert.LossBwdRefIdeal.τ).loc Cert.LossBwdRefIdeal.main_arg3) = m ((c.tc : Thread Cert.LossBwdIdeal.nD Cert.LossBwdIdeal.τ).loc Cert.LossBwdIdeal.main_arg3)
      ∧ m' ((c.tc : Thread Cert.LossBwdRefIdeal.nD Cert.LossBwdRefIdeal.τ).loc Cert.LossBwdRefIdeal.main_arg4) = m ((c.tc : Thread Cert.LossBwdIdeal.nD Cert.LossBwdIdeal.τ).loc Cert.LossBwdIdeal.main_arg4)) →
    ∃ (v0 : (c : Dev Cert.LossBwdIdeal.nD) → Buf (Elt Ideal) ((c.tc : Thread Cert.LossBwdIdeal.nD Cert.LossBwdIdeal.τ).loc Cert.LossBwdIdeal.main_v4_0)) (v1 : (c : Dev Cert.LossBwdIdeal.nD) → Buf (Elt Ideal) ((c.tc : Thread Cert.LossBwdIdeal.nD Cert.LossBwdIdeal.τ).loc Cert.LossBwdIdeal.main_v4_1)) (v2 : (c : Dev Cert.LossBwdIdeal.nD) → Buf (Elt Ideal) ((c.tc : Thread Cert.LossBwdIdeal.nD Cert.LossBwdIdeal.τ).loc Cert.LossBwdIdeal.main_v4_2)) (v3 : (c : Dev Cert.LossBwdIdeal.nD) → Buf (Elt Ideal) ((c.tc : Thread Cert.LossBwdIdeal.nD Cert.LossBwdIdeal.τ).loc Cert.LossBwdIdeal.main_v4_3)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v4_0) = v0 c
          ∧ r.2.mem ((c.tc : Thread Cert.LossBwdIdeal.nD Cert.LossBwdIdeal.τ).loc Cert.LossBwdIdeal.main_v4_1) = v1 c
          ∧ r.2.mem ((c.tc : Thread Cert.LossBwdIdeal.nD Cert.LossBwdIdeal.τ).loc Cert.LossBwdIdeal.main_v4_2) = v2 c
          ∧ r.2.mem ((c.tc : Thread Cert.LossBwdIdeal.nD Cert.LossBwdIdeal.τ).loc Cert.LossBwdIdeal.main_v4_3) = v3 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
          ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
          ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
          ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4))
      ∧ θ_run (Cert.LossBwdRefIdeal.defs (F := Ideal)) (onTc (τ := Cert.LossBwdRefIdeal.τ) (Cert.LossBwdRefIdeal.main (F := Ideal))) ⟨m', fun _ => 0, g'⟩ (fun r => ∀ c : Dev Cert.LossBwdRefIdeal.nD,
          r.2.mem ((c.tc : Thread Cert.LossBwdRefIdeal.nD Cert.LossBwdRefIdeal.τ).loc Cert.LossBwdRefIdeal.main_v55) = v0 c
          ∧ r.2.mem ((c.tc : Thread Cert.LossBwdRefIdeal.nD Cert.LossBwdRefIdeal.τ).loc Cert.LossBwdRefIdeal.main_v56) = v1 c
          ∧ r.2.mem ((c.tc : Thread Cert.LossBwdRefIdeal.nD Cert.LossBwdRefIdeal.τ).loc Cert.LossBwdRefIdeal.main_v73) = v2 c
          ∧ r.2.mem ((c.tc : Thread Cert.LossBwdRefIdeal.nD Cert.LossBwdRefIdeal.τ).loc Cert.LossBwdRefIdeal.main_v74) = v3 c
          ∧ r.2.mem ((c.tc : Thread Cert.LossBwdRefIdeal.nD Cert.LossBwdRefIdeal.τ).loc Cert.LossBwdRefIdeal.main_arg0) = m' ((c.tc : Thread Cert.LossBwdRefIdeal.nD Cert.LossBwdRefIdeal.τ).loc Cert.LossBwdRefIdeal.main_arg0)
          ∧ r.2.mem ((c.tc : Thread Cert.LossBwdRefIdeal.nD Cert.LossBwdRefIdeal.τ).loc Cert.LossBwdRefIdeal.main_arg1) = m' ((c.tc : Thread Cert.LossBwdRefIdeal.nD Cert.LossBwdRefIdeal.τ).loc Cert.LossBwdRefIdeal.main_arg1)
          ∧ r.2.mem ((c.tc : Thread Cert.LossBwdRefIdeal.nD Cert.LossBwdRefIdeal.τ).loc Cert.LossBwdRefIdeal.main_arg2) = m' ((c.tc : Thread Cert.LossBwdRefIdeal.nD Cert.LossBwdRefIdeal.τ).loc Cert.LossBwdRefIdeal.main_arg2)
          ∧ r.2.mem ((c.tc : Thread Cert.LossBwdRefIdeal.nD Cert.LossBwdRefIdeal.τ).loc Cert.LossBwdRefIdeal.main_arg3) = m' ((c.tc : Thread Cert.LossBwdRefIdeal.nD Cert.LossBwdRefIdeal.τ).loc Cert.LossBwdRefIdeal.main_arg3)
          ∧ r.2.mem ((c.tc : Thread Cert.LossBwdRefIdeal.nD Cert.LossBwdRefIdeal.τ).loc Cert.LossBwdRefIdeal.main_arg4) = m' ((c.tc : Thread Cert.LossBwdRefIdeal.nD Cert.LossBwdRefIdeal.τ).loc Cert.LossBwdRefIdeal.main_arg4))

def preserves_AttnBwd_AttnBwdIdeal : Prop :=
  True

def algebraic_AttnBwdIdeal_AttnBwdRefIdeal_pre_finite_attn [hAttnBwdIdeal : Cert.AttnBwdIdeal.Facts] [hAttnBwdRefIdeal : Cert.AttnBwdRefIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_finite_attn m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)) →
    ∃ (v0 : (c : Dev Cert.AttnBwdIdeal.nD) → Buf (Elt Ideal) ((c.tc : Thread Cert.AttnBwdIdeal.nD Cert.AttnBwdIdeal.τ).loc Cert.AttnBwdIdeal.main_v2_0)) (v1 : (c : Dev Cert.AttnBwdIdeal.nD) → Buf (Elt Ideal) ((c.tc : Thread Cert.AttnBwdIdeal.nD Cert.AttnBwdIdeal.τ).loc Cert.AttnBwdIdeal.main_v2_1)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v2_0) = v0 c
          ∧ r.2.mem ((c.tc : Thread Cert.AttnBwdIdeal.nD Cert.AttnBwdIdeal.τ).loc Cert.AttnBwdIdeal.main_v2_1) = v1 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v69) = v0 c
          ∧ r.2.mem ((c.tc : Thread Cert.AttnBwdRefIdeal.nD Cert.AttnBwdRefIdeal.τ).loc Cert.AttnBwdRefIdeal.main_v71) = v1 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2))

def preserves_ReluBwd_ReluBwdIdeal : Prop :=
  True

def algebraic_ReluBwdIdeal_ReluBwdRefIdeal [hReluBwdIdeal : Cert.ReluBwdIdeal.Facts] [hReluBwdRefIdeal : Cert.ReluBwdRefIdeal.Facts] : Prop :=
  ∀ (m : (ℓ : Loc Cert.ReluBwdIdeal.nD Cert.ReluBwdIdeal.τ Cert.ReluBwdIdeal.sig) → Buf (Elt Ideal) ℓ) (g : Dev Cert.ReluBwdIdeal.nD → PrngReg)
    (m' : (ℓ : Loc Cert.ReluBwdRefIdeal.nD Cert.ReluBwdRefIdeal.τ Cert.ReluBwdRefIdeal.sig) → Buf (Elt Ideal) ℓ) (g' : Dev Cert.ReluBwdRefIdeal.nD → PrngReg), Pre_ReluBwdIdeal m →
    (∀ c : Dev Cert.ReluBwdIdeal.nD,
      m' ((c.tc : Thread Cert.ReluBwdRefIdeal.nD Cert.ReluBwdRefIdeal.τ).loc Cert.ReluBwdRefIdeal.main_arg0) = m ((c.tc : Thread Cert.ReluBwdIdeal.nD Cert.ReluBwdIdeal.τ).loc Cert.ReluBwdIdeal.main_arg0)
      ∧ m' ((c.tc : Thread Cert.ReluBwdRefIdeal.nD Cert.ReluBwdRefIdeal.τ).loc Cert.ReluBwdRefIdeal.main_arg1) = m ((c.tc : Thread Cert.ReluBwdIdeal.nD Cert.ReluBwdIdeal.τ).loc Cert.ReluBwdIdeal.main_arg1)
      ∧ m' ((c.tc : Thread Cert.ReluBwdRefIdeal.nD Cert.ReluBwdRefIdeal.τ).loc Cert.ReluBwdRefIdeal.main_arg2) = m ((c.tc : Thread Cert.ReluBwdIdeal.nD Cert.ReluBwdIdeal.τ).loc Cert.ReluBwdIdeal.main_arg2)
      ∧ m' ((c.tc : Thread Cert.ReluBwdRefIdeal.nD Cert.ReluBwdRefIdeal.τ).loc Cert.ReluBwdRefIdeal.main_arg3) = m ((c.tc : Thread Cert.ReluBwdIdeal.nD Cert.ReluBwdIdeal.τ).loc Cert.ReluBwdIdeal.main_arg3)) →
    ∃ (v0 : (c : Dev Cert.ReluBwdIdeal.nD) → Buf (Elt Ideal) ((c.tc : Thread Cert.ReluBwdIdeal.nD Cert.ReluBwdIdeal.τ).loc Cert.ReluBwdIdeal.main_v9)),
      θ_run (Cert.ReluBwdIdeal.defs (F := Ideal)) (onTc (τ := Cert.ReluBwdIdeal.τ) (Cert.ReluBwdIdeal.main (F := Ideal))) ⟨m, fun _ => 0, g⟩ (fun r => ∀ c : Dev Cert.ReluBwdIdeal.nD,
          r.2.mem ((c.tc : Thread Cert.ReluBwdIdeal.nD Cert.ReluBwdIdeal.τ).loc Cert.ReluBwdIdeal.main_v9) = v0 c
          ∧ r.2.mem ((c.tc : Thread Cert.ReluBwdIdeal.nD Cert.ReluBwdIdeal.τ).loc Cert.ReluBwdIdeal.main_arg0) = m ((c.tc : Thread Cert.ReluBwdIdeal.nD Cert.ReluBwdIdeal.τ).loc Cert.ReluBwdIdeal.main_arg0)
          ∧ r.2.mem ((c.tc : Thread Cert.ReluBwdIdeal.nD Cert.ReluBwdIdeal.τ).loc Cert.ReluBwdIdeal.main_arg1) = m ((c.tc : Thread Cert.ReluBwdIdeal.nD Cert.ReluBwdIdeal.τ).loc Cert.ReluBwdIdeal.main_arg1)
          ∧ r.2.mem ((c.tc : Thread Cert.ReluBwdIdeal.nD Cert.ReluBwdIdeal.τ).loc Cert.ReluBwdIdeal.main_arg2) = m ((c.tc : Thread Cert.ReluBwdIdeal.nD Cert.ReluBwdIdeal.τ).loc Cert.ReluBwdIdeal.main_arg2)
          ∧ r.2.mem ((c.tc : Thread Cert.ReluBwdIdeal.nD Cert.ReluBwdIdeal.τ).loc Cert.ReluBwdIdeal.main_arg3) = m ((c.tc : Thread Cert.ReluBwdIdeal.nD Cert.ReluBwdIdeal.τ).loc Cert.ReluBwdIdeal.main_arg3))
      ∧ θ_run (Cert.ReluBwdRefIdeal.defs (F := Ideal)) (onTc (τ := Cert.ReluBwdRefIdeal.τ) (Cert.ReluBwdRefIdeal.main (F := Ideal))) ⟨m', fun _ => 0, g'⟩ (fun r => ∀ c : Dev Cert.ReluBwdRefIdeal.nD,
          r.2.mem ((c.tc : Thread Cert.ReluBwdRefIdeal.nD Cert.ReluBwdRefIdeal.τ).loc Cert.ReluBwdRefIdeal.main_v17) = v0 c
          ∧ r.2.mem ((c.tc : Thread Cert.ReluBwdRefIdeal.nD Cert.ReluBwdRefIdeal.τ).loc Cert.ReluBwdRefIdeal.main_arg0) = m' ((c.tc : Thread Cert.ReluBwdRefIdeal.nD Cert.ReluBwdRefIdeal.τ).loc Cert.ReluBwdRefIdeal.main_arg0)
          ∧ r.2.mem ((c.tc : Thread Cert.ReluBwdRefIdeal.nD Cert.ReluBwdRefIdeal.τ).loc Cert.ReluBwdRefIdeal.main_arg1) = m' ((c.tc : Thread Cert.ReluBwdRefIdeal.nD Cert.ReluBwdRefIdeal.τ).loc Cert.ReluBwdRefIdeal.main_arg1)
          ∧ r.2.mem ((c.tc : Thread Cert.ReluBwdRefIdeal.nD Cert.ReluBwdRefIdeal.τ).loc Cert.ReluBwdRefIdeal.main_arg2) = m' ((c.tc : Thread Cert.ReluBwdRefIdeal.nD Cert.ReluBwdRefIdeal.τ).loc Cert.ReluBwdRefIdeal.main_arg2)
          ∧ r.2.mem ((c.tc : Thread Cert.ReluBwdRefIdeal.nD Cert.ReluBwdRefIdeal.τ).loc Cert.ReluBwdRefIdeal.main_arg3) = m' ((c.tc : Thread Cert.ReluBwdRefIdeal.nD Cert.ReluBwdRefIdeal.τ).loc Cert.ReluBwdRefIdeal.main_arg3))

def preserves_ReluFwd_ReluFwdIdeal : Prop :=
  True

def algebraic_ReluFwdIdeal_ReluFwdRefIdeal [hReluFwdIdeal : Cert.ReluFwdIdeal.Facts] [hReluFwdRefIdeal : Cert.ReluFwdRefIdeal.Facts] : Prop :=
  ∀ (m : (ℓ : Loc Cert.ReluFwdIdeal.nD Cert.ReluFwdIdeal.τ Cert.ReluFwdIdeal.sig) → Buf (Elt Ideal) ℓ) (g : Dev Cert.ReluFwdIdeal.nD → PrngReg)
    (m' : (ℓ : Loc Cert.ReluFwdRefIdeal.nD Cert.ReluFwdRefIdeal.τ Cert.ReluFwdRefIdeal.sig) → Buf (Elt Ideal) ℓ) (g' : Dev Cert.ReluFwdRefIdeal.nD → PrngReg), Pre_ReluFwdIdeal m →
    (∀ c : Dev Cert.ReluFwdIdeal.nD,
      m' ((c.tc : Thread Cert.ReluFwdRefIdeal.nD Cert.ReluFwdRefIdeal.τ).loc Cert.ReluFwdRefIdeal.main_arg0) = m ((c.tc : Thread Cert.ReluFwdIdeal.nD Cert.ReluFwdIdeal.τ).loc Cert.ReluFwdIdeal.main_arg0)
      ∧ m' ((c.tc : Thread Cert.ReluFwdRefIdeal.nD Cert.ReluFwdRefIdeal.τ).loc Cert.ReluFwdRefIdeal.main_arg1) = m ((c.tc : Thread Cert.ReluFwdIdeal.nD Cert.ReluFwdIdeal.τ).loc Cert.ReluFwdIdeal.main_arg1)) →
    ∃ (v0 : (c : Dev Cert.ReluFwdIdeal.nD) → Buf (Elt Ideal) ((c.tc : Thread Cert.ReluFwdIdeal.nD Cert.ReluFwdIdeal.τ).loc Cert.ReluFwdIdeal.main_v4)),
      θ_run (Cert.ReluFwdIdeal.defs (F := Ideal)) (onTc (τ := Cert.ReluFwdIdeal.τ) (Cert.ReluFwdIdeal.main (F := Ideal))) ⟨m, fun _ => 0, g⟩ (fun r => ∀ c : Dev Cert.ReluFwdIdeal.nD,
          r.2.mem ((c.tc : Thread Cert.ReluFwdIdeal.nD Cert.ReluFwdIdeal.τ).loc Cert.ReluFwdIdeal.main_v4) = v0 c
          ∧ r.2.mem ((c.tc : Thread Cert.ReluFwdIdeal.nD Cert.ReluFwdIdeal.τ).loc Cert.ReluFwdIdeal.main_arg0) = m ((c.tc : Thread Cert.ReluFwdIdeal.nD Cert.ReluFwdIdeal.τ).loc Cert.ReluFwdIdeal.main_arg0)
          ∧ r.2.mem ((c.tc : Thread Cert.ReluFwdIdeal.nD Cert.ReluFwdIdeal.τ).loc Cert.ReluFwdIdeal.main_arg1) = m ((c.tc : Thread Cert.ReluFwdIdeal.nD Cert.ReluFwdIdeal.τ).loc Cert.ReluFwdIdeal.main_arg1))
      ∧ θ_run (Cert.ReluFwdRefIdeal.defs (F := Ideal)) (onTc (τ := Cert.ReluFwdRefIdeal.τ) (Cert.ReluFwdRefIdeal.main (F := Ideal))) ⟨m', fun _ => 0, g'⟩ (fun r => ∀ c : Dev Cert.ReluFwdRefIdeal.nD,
          r.2.mem ((c.tc : Thread Cert.ReluFwdRefIdeal.nD Cert.ReluFwdRefIdeal.τ).loc Cert.ReluFwdRefIdeal.main_v5) = v0 c
          ∧ r.2.mem ((c.tc : Thread Cert.ReluFwdRefIdeal.nD Cert.ReluFwdRefIdeal.τ).loc Cert.ReluFwdRefIdeal.main_arg0) = m' ((c.tc : Thread Cert.ReluFwdRefIdeal.nD Cert.ReluFwdRefIdeal.τ).loc Cert.ReluFwdRefIdeal.main_arg0)
          ∧ r.2.mem ((c.tc : Thread Cert.ReluFwdRefIdeal.nD Cert.ReluFwdRefIdeal.τ).loc Cert.ReluFwdRefIdeal.main_arg1) = m' ((c.tc : Thread Cert.ReluFwdRefIdeal.nD Cert.ReluFwdRefIdeal.τ).loc Cert.ReluFwdRefIdeal.main_arg1))

def preserves_AttnFwd_AttnFwdIdeal : Prop :=
  True

def algebraic_AttnFwdIdeal_AttnFwdRefIdeal_pre_finite_fwd [hAttnFwdIdeal : Cert.AttnFwdIdeal.Facts] [hAttnFwdRefIdeal : Cert.AttnFwdRefIdeal.Facts] [hPre_finite_fwd : Cert.Pre_finite_fwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_fwd m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v2)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v2) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v24) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1))

def preserves_PreFwd_PreFwdIdeal : Prop :=
  True

def algebraic_PreFwdIdeal_PreFwdRefIdeal [hPreFwdIdeal : Cert.PreFwdIdeal.Facts] [hPreFwdRefIdeal : Cert.PreFwdRefIdeal.Facts] : Prop :=
  ∀ (m : (ℓ : Loc Cert.PreFwdIdeal.nD Cert.PreFwdIdeal.τ Cert.PreFwdIdeal.sig) → Buf (Elt Ideal) ℓ) (g : Dev Cert.PreFwdIdeal.nD → PrngReg)
    (m' : (ℓ : Loc Cert.PreFwdRefIdeal.nD Cert.PreFwdRefIdeal.τ Cert.PreFwdRefIdeal.sig) → Buf (Elt Ideal) ℓ) (g' : Dev Cert.PreFwdRefIdeal.nD → PrngReg), Pre_PreFwdIdeal m →
    (∀ c : Dev Cert.PreFwdIdeal.nD,
      m' ((c.tc : Thread Cert.PreFwdRefIdeal.nD Cert.PreFwdRefIdeal.τ).loc Cert.PreFwdRefIdeal.main_arg0) = m ((c.tc : Thread Cert.PreFwdIdeal.nD Cert.PreFwdIdeal.τ).loc Cert.PreFwdIdeal.main_arg0)
      ∧ m' ((c.tc : Thread Cert.PreFwdRefIdeal.nD Cert.PreFwdRefIdeal.τ).loc Cert.PreFwdRefIdeal.main_arg1) = m ((c.tc : Thread Cert.PreFwdIdeal.nD Cert.PreFwdIdeal.τ).loc Cert.PreFwdIdeal.main_arg1)
      ∧ m' ((c.tc : Thread Cert.PreFwdRefIdeal.nD Cert.PreFwdRefIdeal.τ).loc Cert.PreFwdRefIdeal.main_arg2) = m ((c.tc : Thread Cert.PreFwdIdeal.nD Cert.PreFwdIdeal.τ).loc Cert.PreFwdIdeal.main_arg2)) →
    ∃ (v0 : (c : Dev Cert.PreFwdIdeal.nD) → Buf (Elt Ideal) ((c.tc : Thread Cert.PreFwdIdeal.nD Cert.PreFwdIdeal.τ).loc Cert.PreFwdIdeal.main_v1)),
      θ_run (Cert.PreFwdIdeal.defs (F := Ideal)) (onTc (τ := Cert.PreFwdIdeal.τ) (Cert.PreFwdIdeal.main (F := Ideal))) ⟨m, fun _ => 0, g⟩ (fun r => ∀ c : Dev Cert.PreFwdIdeal.nD,
          r.2.mem ((c.tc : Thread Cert.PreFwdIdeal.nD Cert.PreFwdIdeal.τ).loc Cert.PreFwdIdeal.main_v1) = v0 c
          ∧ r.2.mem ((c.tc : Thread Cert.PreFwdIdeal.nD Cert.PreFwdIdeal.τ).loc Cert.PreFwdIdeal.main_arg0) = m ((c.tc : Thread Cert.PreFwdIdeal.nD Cert.PreFwdIdeal.τ).loc Cert.PreFwdIdeal.main_arg0)
          ∧ r.2.mem ((c.tc : Thread Cert.PreFwdIdeal.nD Cert.PreFwdIdeal.τ).loc Cert.PreFwdIdeal.main_arg1) = m ((c.tc : Thread Cert.PreFwdIdeal.nD Cert.PreFwdIdeal.τ).loc Cert.PreFwdIdeal.main_arg1)
          ∧ r.2.mem ((c.tc : Thread Cert.PreFwdIdeal.nD Cert.PreFwdIdeal.τ).loc Cert.PreFwdIdeal.main_arg2) = m ((c.tc : Thread Cert.PreFwdIdeal.nD Cert.PreFwdIdeal.τ).loc Cert.PreFwdIdeal.main_arg2))
      ∧ θ_run (Cert.PreFwdRefIdeal.defs (F := Ideal)) (onTc (τ := Cert.PreFwdRefIdeal.τ) (Cert.PreFwdRefIdeal.main (F := Ideal))) ⟨m', fun _ => 0, g'⟩ (fun r => ∀ c : Dev Cert.PreFwdRefIdeal.nD,
          r.2.mem ((c.tc : Thread Cert.PreFwdRefIdeal.nD Cert.PreFwdRefIdeal.τ).loc Cert.PreFwdRefIdeal.main_v15) = v0 c
          ∧ r.2.mem ((c.tc : Thread Cert.PreFwdRefIdeal.nD Cert.PreFwdRefIdeal.τ).loc Cert.PreFwdRefIdeal.main_arg0) = m' ((c.tc : Thread Cert.PreFwdRefIdeal.nD Cert.PreFwdRefIdeal.τ).loc Cert.PreFwdRefIdeal.main_arg0)
          ∧ r.2.mem ((c.tc : Thread Cert.PreFwdRefIdeal.nD Cert.PreFwdRefIdeal.τ).loc Cert.PreFwdRefIdeal.main_arg1) = m' ((c.tc : Thread Cert.PreFwdRefIdeal.nD Cert.PreFwdRefIdeal.τ).loc Cert.PreFwdRefIdeal.main_arg1)
          ∧ r.2.mem ((c.tc : Thread Cert.PreFwdRefIdeal.nD Cert.PreFwdRefIdeal.τ).loc Cert.PreFwdRefIdeal.main_arg2) = m' ((c.tc : Thread Cert.PreFwdRefIdeal.nD Cert.PreFwdRefIdeal.τ).loc Cert.PreFwdRefIdeal.main_arg2))

def preserves_KvFwd_KvFwdIdeal : Prop :=
  True

def algebraic_KvFwdIdeal_KvFwdRefIdeal [hKvFwdIdeal : Cert.KvFwdIdeal.Facts] [hKvFwdRefIdeal : Cert.KvFwdRefIdeal.Facts] : Prop :=
  ∀ (m : (ℓ : Loc Cert.KvFwdIdeal.nD Cert.KvFwdIdeal.τ Cert.KvFwdIdeal.sig) → Buf (Elt Ideal) ℓ) (g : Dev Cert.KvFwdIdeal.nD → PrngReg)
    (m' : (ℓ : Loc Cert.KvFwdRefIdeal.nD Cert.KvFwdRefIdeal.τ Cert.KvFwdRefIdeal.sig) → Buf (Elt Ideal) ℓ) (g' : Dev Cert.KvFwdRefIdeal.nD → PrngReg), Pre_KvFwdIdeal m →
    (∀ c : Dev Cert.KvFwdIdeal.nD,
      m' ((c.tc : Thread Cert.KvFwdRefIdeal.nD Cert.KvFwdRefIdeal.τ).loc Cert.KvFwdRefIdeal.main_arg0) = m ((c.tc : Thread Cert.KvFwdIdeal.nD Cert.KvFwdIdeal.τ).loc Cert.KvFwdIdeal.main_arg0)
      ∧ m' ((c.tc : Thread Cert.KvFwdRefIdeal.nD Cert.KvFwdRefIdeal.τ).loc Cert.KvFwdRefIdeal.main_arg1) = m ((c.tc : Thread Cert.KvFwdIdeal.nD Cert.KvFwdIdeal.τ).loc Cert.KvFwdIdeal.main_arg1)
      ∧ m' ((c.tc : Thread Cert.KvFwdRefIdeal.nD Cert.KvFwdRefIdeal.τ).loc Cert.KvFwdRefIdeal.main_arg2) = m ((c.tc : Thread Cert.KvFwdIdeal.nD Cert.KvFwdIdeal.τ).loc Cert.KvFwdIdeal.main_arg2)) →
    ∃ (v0 : (c : Dev Cert.KvFwdIdeal.nD) → Buf (Elt Ideal) ((c.tc : Thread Cert.KvFwdIdeal.nD Cert.KvFwdIdeal.τ).loc Cert.KvFwdIdeal.main_v5_0)) (v1 : (c : Dev Cert.KvFwdIdeal.nD) → Buf (Elt Ideal) ((c.tc : Thread Cert.KvFwdIdeal.nD Cert.KvFwdIdeal.τ).loc Cert.KvFwdIdeal.main_v5_1)),
      θ_run (Cert.KvFwdIdeal.defs (F := Ideal)) (onTc (τ := Cert.KvFwdIdeal.τ) (Cert.KvFwdIdeal.main (F := Ideal))) ⟨m, fun _ => 0, g⟩ (fun r => ∀ c : Dev Cert.KvFwdIdeal.nD,
          r.2.mem ((c.tc : Thread Cert.KvFwdIdeal.nD Cert.KvFwdIdeal.τ).loc Cert.KvFwdIdeal.main_v5_0) = v0 c
          ∧ r.2.mem ((c.tc : Thread Cert.KvFwdIdeal.nD Cert.KvFwdIdeal.τ).loc Cert.KvFwdIdeal.main_v5_1) = v1 c
          ∧ r.2.mem ((c.tc : Thread Cert.KvFwdIdeal.nD Cert.KvFwdIdeal.τ).loc Cert.KvFwdIdeal.main_arg0) = m ((c.tc : Thread Cert.KvFwdIdeal.nD Cert.KvFwdIdeal.τ).loc Cert.KvFwdIdeal.main_arg0)
          ∧ r.2.mem ((c.tc : Thread Cert.KvFwdIdeal.nD Cert.KvFwdIdeal.τ).loc Cert.KvFwdIdeal.main_arg1) = m ((c.tc : Thread Cert.KvFwdIdeal.nD Cert.KvFwdIdeal.τ).loc Cert.KvFwdIdeal.main_arg1)
          ∧ r.2.mem ((c.tc : Thread Cert.KvFwdIdeal.nD Cert.KvFwdIdeal.τ).loc Cert.KvFwdIdeal.main_arg2) = m ((c.tc : Thread Cert.KvFwdIdeal.nD Cert.KvFwdIdeal.τ).loc Cert.KvFwdIdeal.main_arg2))
      ∧ θ_run (Cert.KvFwdRefIdeal.defs (F := Ideal)) (onTc (τ := Cert.KvFwdRefIdeal.τ) (Cert.KvFwdRefIdeal.main (F := Ideal))) ⟨m', fun _ => 0, g'⟩ (fun r => ∀ c : Dev Cert.KvFwdRefIdeal.nD,
          r.2.mem ((c.tc : Thread Cert.KvFwdRefIdeal.nD Cert.KvFwdRefIdeal.τ).loc Cert.KvFwdRefIdeal.main_v18) = v0 c
          ∧ r.2.mem ((c.tc : Thread Cert.KvFwdRefIdeal.nD Cert.KvFwdRefIdeal.τ).loc Cert.KvFwdRefIdeal.main_v20) = v1 c
          ∧ r.2.mem ((c.tc : Thread Cert.KvFwdRefIdeal.nD Cert.KvFwdRefIdeal.τ).loc Cert.KvFwdRefIdeal.main_arg0) = m' ((c.tc : Thread Cert.KvFwdRefIdeal.nD Cert.KvFwdRefIdeal.τ).loc Cert.KvFwdRefIdeal.main_arg0)
          ∧ r.2.mem ((c.tc : Thread Cert.KvFwdRefIdeal.nD Cert.KvFwdRefIdeal.τ).loc Cert.KvFwdRefIdeal.main_arg1) = m' ((c.tc : Thread Cert.KvFwdRefIdeal.nD Cert.KvFwdRefIdeal.τ).loc Cert.KvFwdRefIdeal.main_arg1)
          ∧ r.2.mem ((c.tc : Thread Cert.KvFwdRefIdeal.nD Cert.KvFwdRefIdeal.τ).loc Cert.KvFwdRefIdeal.main_arg2) = m' ((c.tc : Thread Cert.KvFwdRefIdeal.nD Cert.KvFwdRefIdeal.τ).loc Cert.KvFwdRefIdeal.main_arg2))

def preserves_OutQFwd_OutQFwdIdeal : Prop :=
  True

def algebraic_OutQFwdIdeal_OutQFwdRefIdeal [hOutQFwdIdeal : Cert.OutQFwdIdeal.Facts] [hOutQFwdRefIdeal : Cert.OutQFwdRefIdeal.Facts] : Prop :=
  ∀ (m : (ℓ : Loc Cert.OutQFwdIdeal.nD Cert.OutQFwdIdeal.τ Cert.OutQFwdIdeal.sig) → Buf (Elt Ideal) ℓ) (g : Dev Cert.OutQFwdIdeal.nD → PrngReg)
    (m' : (ℓ : Loc Cert.OutQFwdRefIdeal.nD Cert.OutQFwdRefIdeal.τ Cert.OutQFwdRefIdeal.sig) → Buf (Elt Ideal) ℓ) (g' : Dev Cert.OutQFwdRefIdeal.nD → PrngReg), Pre_OutQFwdIdeal m →
    (∀ c : Dev Cert.OutQFwdIdeal.nD,
      m' ((c.tc : Thread Cert.OutQFwdRefIdeal.nD Cert.OutQFwdRefIdeal.τ).loc Cert.OutQFwdRefIdeal.main_arg0) = m ((c.tc : Thread Cert.OutQFwdIdeal.nD Cert.OutQFwdIdeal.τ).loc Cert.OutQFwdIdeal.main_arg0)
      ∧ m' ((c.tc : Thread Cert.OutQFwdRefIdeal.nD Cert.OutQFwdRefIdeal.τ).loc Cert.OutQFwdRefIdeal.main_arg1) = m ((c.tc : Thread Cert.OutQFwdIdeal.nD Cert.OutQFwdIdeal.τ).loc Cert.OutQFwdIdeal.main_arg1)
      ∧ m' ((c.tc : Thread Cert.OutQFwdRefIdeal.nD Cert.OutQFwdRefIdeal.τ).loc Cert.OutQFwdRefIdeal.main_arg2) = m ((c.tc : Thread Cert.OutQFwdIdeal.nD Cert.OutQFwdIdeal.τ).loc Cert.OutQFwdIdeal.main_arg2)
      ∧ m' ((c.tc : Thread Cert.OutQFwdRefIdeal.nD Cert.OutQFwdRefIdeal.τ).loc Cert.OutQFwdRefIdeal.main_arg3) = m ((c.tc : Thread Cert.OutQFwdIdeal.nD Cert.OutQFwdIdeal.τ).loc Cert.OutQFwdIdeal.main_arg3)
      ∧ m' ((c.tc : Thread Cert.OutQFwdRefIdeal.nD Cert.OutQFwdRefIdeal.τ).loc Cert.OutQFwdRefIdeal.main_arg4) = m ((c.tc : Thread Cert.OutQFwdIdeal.nD Cert.OutQFwdIdeal.τ).loc Cert.OutQFwdIdeal.main_arg4)) →
    ∃ (v0 : (c : Dev Cert.OutQFwdIdeal.nD) → Buf (Elt Ideal) ((c.tc : Thread Cert.OutQFwdIdeal.nD Cert.OutQFwdIdeal.τ).loc Cert.OutQFwdIdeal.main_v7_0)) (v1 : (c : Dev Cert.OutQFwdIdeal.nD) → Buf (Elt Ideal) ((c.tc : Thread Cert.OutQFwdIdeal.nD Cert.OutQFwdIdeal.τ).loc Cert.OutQFwdIdeal.main_v7_1)) (v2 : (c : Dev Cert.OutQFwdIdeal.nD) → Buf (Elt Ideal) ((c.tc : Thread Cert.OutQFwdIdeal.nD Cert.OutQFwdIdeal.τ).loc Cert.OutQFwdIdeal.main_v7_2)),
      θ_run (Cert.OutQFwdIdeal.defs (F := Ideal)) (onTc (τ := Cert.OutQFwdIdeal.τ) (Cert.OutQFwdIdeal.main (F := Ideal))) ⟨m, fun _ => 0, g⟩ (fun r => ∀ c : Dev Cert.OutQFwdIdeal.nD,
          r.2.mem ((c.tc : Thread Cert.OutQFwdIdeal.nD Cert.OutQFwdIdeal.τ).loc Cert.OutQFwdIdeal.main_v7_0) = v0 c
          ∧ r.2.mem ((c.tc : Thread Cert.OutQFwdIdeal.nD Cert.OutQFwdIdeal.τ).loc Cert.OutQFwdIdeal.main_v7_1) = v1 c
          ∧ r.2.mem ((c.tc : Thread Cert.OutQFwdIdeal.nD Cert.OutQFwdIdeal.τ).loc Cert.OutQFwdIdeal.main_v7_2) = v2 c
          ∧ r.2.mem ((c.tc : Thread Cert.OutQFwdIdeal.nD Cert.OutQFwdIdeal.τ).loc Cert.OutQFwdIdeal.main_arg0) = m ((c.tc : Thread Cert.OutQFwdIdeal.nD Cert.OutQFwdIdeal.τ).loc Cert.OutQFwdIdeal.main_arg0)
          ∧ r.2.mem ((c.tc : Thread Cert.OutQFwdIdeal.nD Cert.OutQFwdIdeal.τ).loc Cert.OutQFwdIdeal.main_arg1) = m ((c.tc : Thread Cert.OutQFwdIdeal.nD Cert.OutQFwdIdeal.τ).loc Cert.OutQFwdIdeal.main_arg1)
          ∧ r.2.mem ((c.tc : Thread Cert.OutQFwdIdeal.nD Cert.OutQFwdIdeal.τ).loc Cert.OutQFwdIdeal.main_arg2) = m ((c.tc : Thread Cert.OutQFwdIdeal.nD Cert.OutQFwdIdeal.τ).loc Cert.OutQFwdIdeal.main_arg2)
          ∧ r.2.mem ((c.tc : Thread Cert.OutQFwdIdeal.nD Cert.OutQFwdIdeal.τ).loc Cert.OutQFwdIdeal.main_arg3) = m ((c.tc : Thread Cert.OutQFwdIdeal.nD Cert.OutQFwdIdeal.τ).loc Cert.OutQFwdIdeal.main_arg3)
          ∧ r.2.mem ((c.tc : Thread Cert.OutQFwdIdeal.nD Cert.OutQFwdIdeal.τ).loc Cert.OutQFwdIdeal.main_arg4) = m ((c.tc : Thread Cert.OutQFwdIdeal.nD Cert.OutQFwdIdeal.τ).loc Cert.OutQFwdIdeal.main_arg4))
      ∧ θ_run (Cert.OutQFwdRefIdeal.defs (F := Ideal)) (onTc (τ := Cert.OutQFwdRefIdeal.τ) (Cert.OutQFwdRefIdeal.main (F := Ideal))) ⟨m', fun _ => 0, g'⟩ (fun r => ∀ c : Dev Cert.OutQFwdRefIdeal.nD,
          r.2.mem ((c.tc : Thread Cert.OutQFwdRefIdeal.nD Cert.OutQFwdRefIdeal.τ).loc Cert.OutQFwdRefIdeal.main_v4) = v0 c
          ∧ r.2.mem ((c.tc : Thread Cert.OutQFwdRefIdeal.nD Cert.OutQFwdRefIdeal.τ).loc Cert.OutQFwdRefIdeal.main_v19) = v1 c
          ∧ r.2.mem ((c.tc : Thread Cert.OutQFwdRefIdeal.nD Cert.OutQFwdRefIdeal.τ).loc Cert.OutQFwdRefIdeal.main_v22) = v2 c
          ∧ r.2.mem ((c.tc : Thread Cert.OutQFwdRefIdeal.nD Cert.OutQFwdRefIdeal.τ).loc Cert.OutQFwdRefIdeal.main_arg0) = m' ((c.tc : Thread Cert.OutQFwdRefIdeal.nD Cert.OutQFwdRefIdeal.τ).loc Cert.OutQFwdRefIdeal.main_arg0)
          ∧ r.2.mem ((c.tc : Thread Cert.OutQFwdRefIdeal.nD Cert.OutQFwdRefIdeal.τ).loc Cert.OutQFwdRefIdeal.main_arg1) = m' ((c.tc : Thread Cert.OutQFwdRefIdeal.nD Cert.OutQFwdRefIdeal.τ).loc Cert.OutQFwdRefIdeal.main_arg1)
          ∧ r.2.mem ((c.tc : Thread Cert.OutQFwdRefIdeal.nD Cert.OutQFwdRefIdeal.τ).loc Cert.OutQFwdRefIdeal.main_arg2) = m' ((c.tc : Thread Cert.OutQFwdRefIdeal.nD Cert.OutQFwdRefIdeal.τ).loc Cert.OutQFwdRefIdeal.main_arg2)
          ∧ r.2.mem ((c.tc : Thread Cert.OutQFwdRefIdeal.nD Cert.OutQFwdRefIdeal.τ).loc Cert.OutQFwdRefIdeal.main_arg3) = m' ((c.tc : Thread Cert.OutQFwdRefIdeal.nD Cert.OutQFwdRefIdeal.τ).loc Cert.OutQFwdRefIdeal.main_arg3)
          ∧ r.2.mem ((c.tc : Thread Cert.OutQFwdRefIdeal.nD Cert.OutQFwdRefIdeal.τ).loc Cert.OutQFwdRefIdeal.main_arg4) = m' ((c.tc : Thread Cert.OutQFwdRefIdeal.nD Cert.OutQFwdRefIdeal.τ).loc Cert.OutQFwdRefIdeal.main_arg4))

def preserves_AttnOutFwd_AttnOutFwdIdeal : Prop :=
  True

def algebraic_AttnOutFwdIdeal_AttnOutFwdRefIdeal [hAttnOutFwdIdeal : Cert.AttnOutFwdIdeal.Facts] [hAttnOutFwdRefIdeal : Cert.AttnOutFwdRefIdeal.Facts] : Prop :=
  ∀ (m : (ℓ : Loc Cert.AttnOutFwdIdeal.nD Cert.AttnOutFwdIdeal.τ Cert.AttnOutFwdIdeal.sig) → Buf (Elt Ideal) ℓ) (g : Dev Cert.AttnOutFwdIdeal.nD → PrngReg)
    (m' : (ℓ : Loc Cert.AttnOutFwdRefIdeal.nD Cert.AttnOutFwdRefIdeal.τ Cert.AttnOutFwdRefIdeal.sig) → Buf (Elt Ideal) ℓ) (g' : Dev Cert.AttnOutFwdRefIdeal.nD → PrngReg), Pre_AttnOutFwdIdeal m →
    (∀ c : Dev Cert.AttnOutFwdIdeal.nD,
      m' ((c.tc : Thread Cert.AttnOutFwdRefIdeal.nD Cert.AttnOutFwdRefIdeal.τ).loc Cert.AttnOutFwdRefIdeal.main_arg0) = m ((c.tc : Thread Cert.AttnOutFwdIdeal.nD Cert.AttnOutFwdIdeal.τ).loc Cert.AttnOutFwdIdeal.main_arg0)
      ∧ m' ((c.tc : Thread Cert.AttnOutFwdRefIdeal.nD Cert.AttnOutFwdRefIdeal.τ).loc Cert.AttnOutFwdRefIdeal.main_arg1) = m ((c.tc : Thread Cert.AttnOutFwdIdeal.nD Cert.AttnOutFwdIdeal.τ).loc Cert.AttnOutFwdIdeal.main_arg1)
      ∧ m' ((c.tc : Thread Cert.AttnOutFwdRefIdeal.nD Cert.AttnOutFwdRefIdeal.τ).loc Cert.AttnOutFwdRefIdeal.main_arg2) = m ((c.tc : Thread Cert.AttnOutFwdIdeal.nD Cert.AttnOutFwdIdeal.τ).loc Cert.AttnOutFwdIdeal.main_arg2)
      ∧ m' ((c.tc : Thread Cert.AttnOutFwdRefIdeal.nD Cert.AttnOutFwdRefIdeal.τ).loc Cert.AttnOutFwdRefIdeal.main_arg3) = m ((c.tc : Thread Cert.AttnOutFwdIdeal.nD Cert.AttnOutFwdIdeal.τ).loc Cert.AttnOutFwdIdeal.main_arg3)) →
    ∃ (v0 : (c : Dev Cert.AttnOutFwdIdeal.nD) → Buf (Elt Ideal) ((c.tc : Thread Cert.AttnOutFwdIdeal.nD Cert.AttnOutFwdIdeal.τ).loc Cert.AttnOutFwdIdeal.main_v2_0)) (v1 : (c : Dev Cert.AttnOutFwdIdeal.nD) → Buf (Elt Ideal) ((c.tc : Thread Cert.AttnOutFwdIdeal.nD Cert.AttnOutFwdIdeal.τ).loc Cert.AttnOutFwdIdeal.main_v2_1)),
      θ_run (Cert.AttnOutFwdIdeal.defs (F := Ideal)) (onTc (τ := Cert.AttnOutFwdIdeal.τ) (Cert.AttnOutFwdIdeal.main (F := Ideal))) ⟨m, fun _ => 0, g⟩ (fun r => ∀ c : Dev Cert.AttnOutFwdIdeal.nD,
          r.2.mem ((c.tc : Thread Cert.AttnOutFwdIdeal.nD Cert.AttnOutFwdIdeal.τ).loc Cert.AttnOutFwdIdeal.main_v2_0) = v0 c
          ∧ r.2.mem ((c.tc : Thread Cert.AttnOutFwdIdeal.nD Cert.AttnOutFwdIdeal.τ).loc Cert.AttnOutFwdIdeal.main_v2_1) = v1 c
          ∧ r.2.mem ((c.tc : Thread Cert.AttnOutFwdIdeal.nD Cert.AttnOutFwdIdeal.τ).loc Cert.AttnOutFwdIdeal.main_arg0) = m ((c.tc : Thread Cert.AttnOutFwdIdeal.nD Cert.AttnOutFwdIdeal.τ).loc Cert.AttnOutFwdIdeal.main_arg0)
          ∧ r.2.mem ((c.tc : Thread Cert.AttnOutFwdIdeal.nD Cert.AttnOutFwdIdeal.τ).loc Cert.AttnOutFwdIdeal.main_arg1) = m ((c.tc : Thread Cert.AttnOutFwdIdeal.nD Cert.AttnOutFwdIdeal.τ).loc Cert.AttnOutFwdIdeal.main_arg1)
          ∧ r.2.mem ((c.tc : Thread Cert.AttnOutFwdIdeal.nD Cert.AttnOutFwdIdeal.τ).loc Cert.AttnOutFwdIdeal.main_arg2) = m ((c.tc : Thread Cert.AttnOutFwdIdeal.nD Cert.AttnOutFwdIdeal.τ).loc Cert.AttnOutFwdIdeal.main_arg2)
          ∧ r.2.mem ((c.tc : Thread Cert.AttnOutFwdIdeal.nD Cert.AttnOutFwdIdeal.τ).loc Cert.AttnOutFwdIdeal.main_arg3) = m ((c.tc : Thread Cert.AttnOutFwdIdeal.nD Cert.AttnOutFwdIdeal.τ).loc Cert.AttnOutFwdIdeal.main_arg3))
      ∧ θ_run (Cert.AttnOutFwdRefIdeal.defs (F := Ideal)) (onTc (τ := Cert.AttnOutFwdRefIdeal.τ) (Cert.AttnOutFwdRefIdeal.main (F := Ideal))) ⟨m', fun _ => 0, g'⟩ (fun r => ∀ c : Dev Cert.AttnOutFwdRefIdeal.nD,
          r.2.mem ((c.tc : Thread Cert.AttnOutFwdRefIdeal.nD Cert.AttnOutFwdRefIdeal.τ).loc Cert.AttnOutFwdRefIdeal.main_v3) = v0 c
          ∧ r.2.mem ((c.tc : Thread Cert.AttnOutFwdRefIdeal.nD Cert.AttnOutFwdRefIdeal.τ).loc Cert.AttnOutFwdRefIdeal.main_v18) = v1 c
          ∧ r.2.mem ((c.tc : Thread Cert.AttnOutFwdRefIdeal.nD Cert.AttnOutFwdRefIdeal.τ).loc Cert.AttnOutFwdRefIdeal.main_arg0) = m' ((c.tc : Thread Cert.AttnOutFwdRefIdeal.nD Cert.AttnOutFwdRefIdeal.τ).loc Cert.AttnOutFwdRefIdeal.main_arg0)
          ∧ r.2.mem ((c.tc : Thread Cert.AttnOutFwdRefIdeal.nD Cert.AttnOutFwdRefIdeal.τ).loc Cert.AttnOutFwdRefIdeal.main_arg1) = m' ((c.tc : Thread Cert.AttnOutFwdRefIdeal.nD Cert.AttnOutFwdRefIdeal.τ).loc Cert.AttnOutFwdRefIdeal.main_arg1)
          ∧ r.2.mem ((c.tc : Thread Cert.AttnOutFwdRefIdeal.nD Cert.AttnOutFwdRefIdeal.τ).loc Cert.AttnOutFwdRefIdeal.main_arg2) = m' ((c.tc : Thread Cert.AttnOutFwdRefIdeal.nD Cert.AttnOutFwdRefIdeal.τ).loc Cert.AttnOutFwdRefIdeal.main_arg2)
          ∧ r.2.mem ((c.tc : Thread Cert.AttnOutFwdRefIdeal.nD Cert.AttnOutFwdRefIdeal.τ).loc Cert.AttnOutFwdRefIdeal.main_arg3) = m' ((c.tc : Thread Cert.AttnOutFwdRefIdeal.nD Cert.AttnOutFwdRefIdeal.τ).loc Cert.AttnOutFwdRefIdeal.main_arg3))

def preserves_MixPool_MixPoolIdeal : Prop :=
  True

def Claim : Prop :=
  ∃ (hKvBwd : Cert.KvBwd.Facts) (hKvBwdIdeal : Cert.KvBwdIdeal.Facts) (hKvBwdRefIdeal : Cert.KvBwdRefIdeal.Facts) (hQBwd : Cert.QBwd.Facts) (hQBwdIdeal : Cert.QBwdIdeal.Facts) (hQBwdRefIdeal : Cert.QBwdRefIdeal.Facts) (hUpBwd : Cert.UpBwd.Facts) (hUpBwdIdeal : Cert.UpBwdIdeal.Facts) (hUpBwdRefIdeal : Cert.UpBwdRefIdeal.Facts) (hInBwd : Cert.InBwd.Facts) (hInBwdIdeal : Cert.InBwdIdeal.Facts) (hInBwdRefIdeal : Cert.InBwdRefIdeal.Facts) (hLossBwd : Cert.LossBwd.Facts) (hLossBwdIdeal : Cert.LossBwdIdeal.Facts) (hLossBwdRefIdeal : Cert.LossBwdRefIdeal.Facts) (hAttnBwd : Cert.AttnBwd.Facts) (hAttnBwdIdeal : Cert.AttnBwdIdeal.Facts) (hAttnBwdRefIdeal : Cert.AttnBwdRefIdeal.Facts) (hReluBwd : Cert.ReluBwd.Facts) (hReluBwdIdeal : Cert.ReluBwdIdeal.Facts) (hReluBwdRefIdeal : Cert.ReluBwdRefIdeal.Facts) (hReluFwd : Cert.ReluFwd.Facts) (hReluFwdIdeal : Cert.ReluFwdIdeal.Facts) (hReluFwdRefIdeal : Cert.ReluFwdRefIdeal.Facts) (hAttnFwd : Cert.AttnFwd.Facts) (hAttnFwdIdeal : Cert.AttnFwdIdeal.Facts) (hAttnFwdRefIdeal : Cert.AttnFwdRefIdeal.Facts) (hPreFwd : Cert.PreFwd.Facts) (hPreFwdIdeal : Cert.PreFwdIdeal.Facts) (hPreFwdRefIdeal : Cert.PreFwdRefIdeal.Facts) (hKvFwd : Cert.KvFwd.Facts) (hKvFwdIdeal : Cert.KvFwdIdeal.Facts) (hKvFwdRefIdeal : Cert.KvFwdRefIdeal.Facts) (hOutQFwd : Cert.OutQFwd.Facts) (hOutQFwdIdeal : Cert.OutQFwdIdeal.Facts) (hOutQFwdRefIdeal : Cert.OutQFwdRefIdeal.Facts) (hAttnOutFwd : Cert.AttnOutFwd.Facts) (hAttnOutFwdIdeal : Cert.AttnOutFwdIdeal.Facts) (hAttnOutFwdRefIdeal : Cert.AttnOutFwdRefIdeal.Facts) (hMixPool : Cert.MixPool.Facts) (hMixPoolIdeal : Cert.MixPoolIdeal.Facts) (hMixPoolRefIdeal : Cert.MixPoolRefIdeal.Facts) (hPre_finite_q : Cert.Pre_finite_q.Facts) (hPre_finite_up : Cert.Pre_finite_up.Facts) (hPre_finite_in : Cert.Pre_finite_in.Facts) (hPre_finite_loss : Cert.Pre_finite_loss.Facts) (hPre_finite_attn : Cert.Pre_finite_attn.Facts) (hPre_finite_fwd : Cert.Pre_finite_fwd.Facts),
    quiescent_KvBwd (hKvBwd := hKvBwd)
    ∧ quiescent_KvBwdIdeal (hKvBwdIdeal := hKvBwdIdeal)
    ∧ quiescent_KvBwdRefIdeal (hKvBwdRefIdeal := hKvBwdRefIdeal)
    ∧ quiescent_QBwd (hQBwd := hQBwd)
    ∧ quiescent_QBwdIdeal (hQBwdIdeal := hQBwdIdeal)
    ∧ quiescent_QBwdIdeal_pre_finite_q (hQBwdIdeal := hQBwdIdeal) (hPre_finite_q := hPre_finite_q)
    ∧ quiescent_QBwdRefIdeal (hQBwdRefIdeal := hQBwdRefIdeal)
    ∧ quiescent_QBwdRefIdeal_pre_finite_q (hQBwdRefIdeal := hQBwdRefIdeal) (hPre_finite_q := hPre_finite_q)
    ∧ quiescent_UpBwd (hUpBwd := hUpBwd)
    ∧ quiescent_UpBwdIdeal (hUpBwdIdeal := hUpBwdIdeal)
    ∧ quiescent_UpBwdIdeal_pre_finite_up (hUpBwdIdeal := hUpBwdIdeal) (hPre_finite_up := hPre_finite_up)
    ∧ quiescent_UpBwdRefIdeal (hUpBwdRefIdeal := hUpBwdRefIdeal)
    ∧ quiescent_UpBwdRefIdeal_pre_finite_up (hUpBwdRefIdeal := hUpBwdRefIdeal) (hPre_finite_up := hPre_finite_up)
    ∧ quiescent_InBwd (hInBwd := hInBwd)
    ∧ quiescent_InBwdIdeal (hInBwdIdeal := hInBwdIdeal)
    ∧ quiescent_InBwdIdeal_pre_finite_in (hInBwdIdeal := hInBwdIdeal) (hPre_finite_in := hPre_finite_in)
    ∧ quiescent_InBwdRefIdeal (hInBwdRefIdeal := hInBwdRefIdeal)
    ∧ quiescent_InBwdRefIdeal_pre_finite_in (hInBwdRefIdeal := hInBwdRefIdeal) (hPre_finite_in := hPre_finite_in)
    ∧ quiescent_LossBwd (hLossBwd := hLossBwd)
    ∧ quiescent_LossBwdIdeal (hLossBwdIdeal := hLossBwdIdeal)
    ∧ quiescent_LossBwdIdeal_pre_finite_loss (hLossBwdIdeal := hLossBwdIdeal) (hPre_finite_loss := hPre_finite_loss)
    ∧ quiescent_LossBwdRefIdeal (hLossBwdRefIdeal := hLossBwdRefIdeal)
    ∧ quiescent_LossBwdRefIdeal_pre_finite_loss (hLossBwdRefIdeal := hLossBwdRefIdeal) (hPre_finite_loss := hPre_finite_loss)
    ∧ quiescent_AttnBwd (hAttnBwd := hAttnBwd)
    ∧ quiescent_AttnBwdIdeal (hAttnBwdIdeal := hAttnBwdIdeal)
    ∧ quiescent_AttnBwdIdeal_pre_finite_attn (hAttnBwdIdeal := hAttnBwdIdeal) (hPre_finite_attn := hPre_finite_attn)
    ∧ quiescent_AttnBwdRefIdeal (hAttnBwdRefIdeal := hAttnBwdRefIdeal)
    ∧ quiescent_AttnBwdRefIdeal_pre_finite_attn (hAttnBwdRefIdeal := hAttnBwdRefIdeal) (hPre_finite_attn := hPre_finite_attn)
    ∧ quiescent_ReluBwd (hReluBwd := hReluBwd)
    ∧ quiescent_ReluBwdIdeal (hReluBwdIdeal := hReluBwdIdeal)
    ∧ quiescent_ReluBwdRefIdeal (hReluBwdRefIdeal := hReluBwdRefIdeal)
    ∧ quiescent_ReluFwd (hReluFwd := hReluFwd)
    ∧ quiescent_ReluFwdIdeal (hReluFwdIdeal := hReluFwdIdeal)
    ∧ quiescent_ReluFwdRefIdeal (hReluFwdRefIdeal := hReluFwdRefIdeal)
    ∧ quiescent_AttnFwd (hAttnFwd := hAttnFwd)
    ∧ quiescent_AttnFwdIdeal (hAttnFwdIdeal := hAttnFwdIdeal)
    ∧ quiescent_AttnFwdIdeal_pre_finite_fwd (hAttnFwdIdeal := hAttnFwdIdeal) (hPre_finite_fwd := hPre_finite_fwd)
    ∧ quiescent_AttnFwdRefIdeal (hAttnFwdRefIdeal := hAttnFwdRefIdeal)
    ∧ quiescent_AttnFwdRefIdeal_pre_finite_fwd (hAttnFwdRefIdeal := hAttnFwdRefIdeal) (hPre_finite_fwd := hPre_finite_fwd)
    ∧ quiescent_PreFwd (hPreFwd := hPreFwd)
    ∧ quiescent_PreFwdIdeal (hPreFwdIdeal := hPreFwdIdeal)
    ∧ quiescent_PreFwdRefIdeal (hPreFwdRefIdeal := hPreFwdRefIdeal)
    ∧ quiescent_KvFwd (hKvFwd := hKvFwd)
    ∧ quiescent_KvFwdIdeal (hKvFwdIdeal := hKvFwdIdeal)
    ∧ quiescent_KvFwdRefIdeal (hKvFwdRefIdeal := hKvFwdRefIdeal)
    ∧ quiescent_OutQFwd (hOutQFwd := hOutQFwd)
    ∧ quiescent_OutQFwdIdeal (hOutQFwdIdeal := hOutQFwdIdeal)
    ∧ quiescent_OutQFwdRefIdeal (hOutQFwdRefIdeal := hOutQFwdRefIdeal)
    ∧ quiescent_AttnOutFwd (hAttnOutFwd := hAttnOutFwd)
    ∧ quiescent_AttnOutFwdIdeal (hAttnOutFwdIdeal := hAttnOutFwdIdeal)
    ∧ quiescent_AttnOutFwdRefIdeal (hAttnOutFwdRefIdeal := hAttnOutFwdRefIdeal)
    ∧ quiescent_MixPool (hMixPool := hMixPool)
    ∧ quiescent_MixPoolIdeal (hMixPoolIdeal := hMixPoolIdeal)
    ∧ quiescent_MixPoolRefIdeal (hMixPoolRefIdeal := hMixPoolRefIdeal)
    ∧ preserves_KvBwd_KvBwdIdeal
    ∧ algebraic_KvBwdIdeal_KvBwdRefIdeal (hKvBwdIdeal := hKvBwdIdeal) (hKvBwdRefIdeal := hKvBwdRefIdeal)
    ∧ preserves_QBwd_QBwdIdeal
    ∧ algebraic_QBwdIdeal_QBwdRefIdeal_pre_finite_q (hQBwdIdeal := hQBwdIdeal) (hQBwdRefIdeal := hQBwdRefIdeal) (hPre_finite_q := hPre_finite_q)
    ∧ preserves_UpBwd_UpBwdIdeal
    ∧ algebraic_UpBwdIdeal_UpBwdRefIdeal_pre_finite_up (hUpBwdIdeal := hUpBwdIdeal) (hUpBwdRefIdeal := hUpBwdRefIdeal) (hPre_finite_up := hPre_finite_up)
    ∧ preserves_InBwd_InBwdIdeal
    ∧ algebraic_InBwdIdeal_InBwdRefIdeal_pre_finite_in (hInBwdIdeal := hInBwdIdeal) (hInBwdRefIdeal := hInBwdRefIdeal) (hPre_finite_in := hPre_finite_in)
    ∧ preserves_LossBwd_LossBwdIdeal
    ∧ algebraic_LossBwdIdeal_LossBwdRefIdeal_pre_finite_loss (hLossBwdIdeal := hLossBwdIdeal) (hLossBwdRefIdeal := hLossBwdRefIdeal) (hPre_finite_loss := hPre_finite_loss)
    ∧ preserves_AttnBwd_AttnBwdIdeal
    ∧ algebraic_AttnBwdIdeal_AttnBwdRefIdeal_pre_finite_attn (hAttnBwdIdeal := hAttnBwdIdeal) (hAttnBwdRefIdeal := hAttnBwdRefIdeal) (hPre_finite_attn := hPre_finite_attn)
    ∧ preserves_ReluBwd_ReluBwdIdeal
    ∧ algebraic_ReluBwdIdeal_ReluBwdRefIdeal (hReluBwdIdeal := hReluBwdIdeal) (hReluBwdRefIdeal := hReluBwdRefIdeal)
    ∧ preserves_ReluFwd_ReluFwdIdeal
    ∧ algebraic_ReluFwdIdeal_ReluFwdRefIdeal (hReluFwdIdeal := hReluFwdIdeal) (hReluFwdRefIdeal := hReluFwdRefIdeal)
    ∧ preserves_AttnFwd_AttnFwdIdeal
    ∧ algebraic_AttnFwdIdeal_AttnFwdRefIdeal_pre_finite_fwd (hAttnFwdIdeal := hAttnFwdIdeal) (hAttnFwdRefIdeal := hAttnFwdRefIdeal) (hPre_finite_fwd := hPre_finite_fwd)
    ∧ preserves_PreFwd_PreFwdIdeal
    ∧ algebraic_PreFwdIdeal_PreFwdRefIdeal (hPreFwdIdeal := hPreFwdIdeal) (hPreFwdRefIdeal := hPreFwdRefIdeal)
    ∧ preserves_KvFwd_KvFwdIdeal
    ∧ algebraic_KvFwdIdeal_KvFwdRefIdeal (hKvFwdIdeal := hKvFwdIdeal) (hKvFwdRefIdeal := hKvFwdRefIdeal)
    ∧ preserves_OutQFwd_OutQFwdIdeal
    ∧ algebraic_OutQFwdIdeal_OutQFwdRefIdeal (hOutQFwdIdeal := hOutQFwdIdeal) (hOutQFwdRefIdeal := hOutQFwdRefIdeal)
    ∧ preserves_AttnOutFwd_AttnOutFwdIdeal
    ∧ algebraic_AttnOutFwdIdeal_AttnOutFwdRefIdeal (hAttnOutFwdIdeal := hAttnOutFwdIdeal) (hAttnOutFwdRefIdeal := hAttnOutFwdRefIdeal)
    ∧ preserves_MixPool_MixPoolIdeal
-- ==== Pre_finite_attn.lean ====
abbrev S8192x1024 : Shape := ⟨2, ![8192, 1024]⟩
abbrev S2x256x2048 : Shape := ⟨3, ![2, 256, 2048]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S2x256x2048 : S_.BroadcastsInDim S2x256x2048 (![] : Fin 0 → Fin S2x256x2048.rank)

variable [Facts]

def fn {F : FTy → Type} [FloatOps F] (main_arg0 : FVec F S8192x1024 .bf16) (main_arg1 : FVec F S2x256x2048 .bf16) (main_arg2 : FVec F S8192x1024 .bf16) : IVec S8192x1024 1 × IVec S2x256x2048 1 × IVec S8192x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S2x256x2048 .f32 := (extf .f32 · bitsLt_bf16_f32) main_arg1
  let main_v5 : FVec F S2x256x2048 .f32 := Host.absf main_v4
  let main_cst_0 : FVec F S_ .f32 := constant S_ .f32 0x7F800000#32
  let main_v6 : FVec F S2x256x2048 .f32 := broadcastInDim S2x256x2048 ![] bcast_S_S2x256x2048 main_cst_0
  let main_v7 : IVec S2x256x2048 1 := cmpf .olt main_v5 main_v6
  let main_v8 : FVec F S8192x1024 .f32 := (extf .f32 · bitsLt_bf16_f32) main_arg2
  let main_v9 : FVec F S8192x1024 .f32 := Host.absf main_v8
  let main_cst_1 : FVec F S_ .f32 := constant S_ .f32 0x7F800000#32
  let main_v10 : FVec F S8192x1024 .f32 := broadcastInDim S8192x1024 ![] bcast_S_S8192x1024 main_cst_1
  let main_v11 : IVec S8192x1024 1 := cmpf .olt main_v9 main_v10
  (main_v3, main_v7, main_v11)
-- ==== Pre_finite_fwd.lean ====
abbrev S8192x1024 : Shape := ⟨2, ![8192, 1024]⟩
abbrev S2x256x2048 : Shape := ⟨3, ![2, 256, 2048]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S2x256x2048 : S_.BroadcastsInDim S2x256x2048 (![] : Fin 0 → Fin S2x256x2048.rank)

variable [Facts]

def fn {F : FTy → Type} [FloatOps F] (main_arg0 : FVec F S8192x1024 .bf16) (main_arg1 : FVec F S2x256x2048 .bf16) : IVec S8192x1024 1 × IVec S2x256x2048 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S2x256x2048 .f32 := (extf .f32 · bitsLt_bf16_f32) main_arg1
  let main_v5 : FVec F S2x256x2048 .f32 := Host.absf main_v4
  let main_cst_0 : FVec F S_ .f32 := constant S_ .f32 0x7F800000#32
  let main_v6 : FVec F S2x256x2048 .f32 := broadcastInDim S2x256x2048 ![] bcast_S_S2x256x2048 main_cst_0
  let main_v7 : IVec S2x256x2048 1 := cmpf .olt main_v5 main_v6
  (main_v3, main_v7)
-- ==== Pre_finite_in.lean ====
abbrev S2x4096x1024 : Shape := ⟨3, ![2, 4096, 1024]⟩
abbrev S1x1024 : Shape := ⟨2, ![1, 1024]⟩
abbrev S1x1024x2560 : Shape := ⟨3, ![1, 1024, 2560]⟩
abbrev S8192x1024 : Shape := ⟨2, ![8192, 1024]⟩
abbrev S8192x2560 : Shape := ⟨2, ![8192, 2560]⟩
abbrev S8x128 : Shape := ⟨2, ![8, 128]⟩
abbrev S_ : Shape := ⟨0, ![]⟩

class Facts : Prop where
  bcast_S_S2x4096x1024 : S_.BroadcastsInDim S2x4096x1024 (![] : Fin 0 → Fin S2x4096x1024.rank)
  bcast_S_S1x1024 : S_.BroadcastsInDim S1x1024 (![] : Fin 0 → Fin S1x1024.rank)
  bcast_S_S1x1024x2560 : S_.BroadcastsInDim S1x1024x2560 (![] : Fin 0 → Fin S1x1024x2560.rank)
  bitsLt_bf16_f32 : FTy.bits .bf16 < FTy.bits .f32
  bcast_S_S8192x2560 : S_.BroadcastsInDim S8192x2560 (![] : Fin 0 → Fin S8192x2560.rank)

variable [Facts]

def fn {F : FTy → Type} [FloatOps F] (main_arg0 : FVec F S2x4096x1024 .f32) (main_arg1 : FVec F S1x1024 .f32) (main_arg2 : FVec F S1x1024x2560 .f32) (main_arg3 : FVec F S8192x1024 .f32) (main_arg4 : FVec F S8192x2560 .bf16) (main_arg5 : FVec F S8x128 .f32) : IVec S2x4096x1024 1 × IVec S1x1024 1 × IVec S1x1024x2560 1 × IVec S8192x2560 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x2560 .f32 := Host.absf main_arg2
  let main_cst_1 : FVec F S_ .f32 := constant S_ .f32 0x7F800000#32
  let main_v7 : FVec F S1x1024x2560 .f32 := broadcastInDim S1x1024x2560 ![] bcast_S_S1x1024x2560 main_cst_1
  let main_v8 : IVec S1x1024x2560 1 := cmpf .olt main_v6 main_v7
  let main_v9 : FVec F S8192x2560 .f32 := (extf .f32 · bitsLt_bf16_f32) main_arg4
  let main_v10 : FVec F S8192x2560 .f32 := Host.absf main_v9
  let main_cst_2 : FVec F S_ .f32 := constant S_ .f32 0x7F800000#32
  let main_v11 : FVec F S8192x2560 .f32 := broadcastInDim S8192x2560 ![] bcast_S_S8192x2560 main_cst_2
  let main_v12 : IVec S8192x2560 1 := cmpf .olt main_v10 main_v11
  (main_v2, main_v5, main_v8, main_v12)
-- ==== Pre_finite_loss.lean ====
abbrev S8192x4096 : Shape := ⟨2, ![8192, 4096]⟩
abbrev S1x4096x1024 : Shape := ⟨3, ![1, 4096, 1024]⟩
abbrev S8192x1024 : Shape := ⟨2, ![8192, 1024]⟩
abbrev S1024 : Shape := ⟨1, ![1024]⟩
abbrev S2x4096x1024 : Shape := ⟨3, ![2, 4096, 1024]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  bcast_S_S1x4096x1024 : S_.BroadcastsInDim S1x4096x1024 (![] : Fin 0 → Fin S1x4096x1024.rank)
  bcast_S_S8192x1024 : S_.BroadcastsInDim S8192x1024 (![] : Fin 0 → Fin S8192x1024.rank)
  bcast_S_S1024 : S_.BroadcastsInDim S1024 (![] : Fin 0 → Fin S1024.rank)
  bcast_S_S2x4096x1024 : S_.BroadcastsInDim S2x4096x1024 (![] : Fin 0 → Fin S2x4096x1024.rank)

variable [Facts]

def fn {F : FTy → Type} [FloatOps F] (main_arg0 : FVec F S8192x4096 .bf16) (main_arg1 : FVec F S1x4096x1024 .f32) (main_arg2 : FVec F S8192x1024 .f32) (main_arg3 : FVec F S1024 .f32) (main_arg4 : FVec F S2x4096x1024 .f32) : IVec S8192x4096 1 × IVec S1x4096x1024 1 × IVec S8192x1024 1 × IVec S1024 1 × IVec S2x4096x1024 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_v4 : FVec F S1x4096x1024 .f32 := Host.absf main_arg1
  let main_cst_0 : FVec F S_ .f32 := constant S_ .f32 0x7F800000#32
  let main_v5 : FVec F S1x4096x1024 .f32 := broadcastInDim S1x4096x1024 ![] bcast_S_S1x4096x1024 main_cst_0
  let main_v6 : IVec S1x4096x1024 1 := cmpf .olt main_v4 main_v5
  let main_v7 : FVec F S8192x1024 .f32 := Host.absf main_arg2
  let main_cst_1 : FVec F S_ .f32 := constant S_ .f32 0x7F800000#32
  let main_v8 : FVec F S8192x1024 .f32 := broadcastInDim S8192x1024 ![] bcast_S_S8192x1024 main_cst_1
  let main_v9 : IVec S8192x1024 1 := cmpf .olt main_v7 main_v8
  let main_v10 : FVec F S1024 .f32 := Host.absf main_arg3
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_v13 : FVec F S2x4096x1024 .f32 := Host.absf main_arg4
  let main_cst_3 : FVec F S_ .f32 := constant S_ .f32 0x7F800000#32
  let main_v14 : FVec F S2x4096x1024 .f32 := broadcastInDim S2x4096x1024 ![] bcast_S_S2x4096x1024 main_cst_3
  let main_v15 : IVec S2x4096x1024 1 := cmpf .olt main_v13 main_v14
  (main_v3, main_v6, main_v9, main_v12, main_v15)
-- ==== Pre_finite_q.lean ====
abbrev S8192x1024 : Shape := ⟨2, ![8192, 1024]⟩
abbrev S1x1024 : Shape := ⟨2, ![1, 1024]⟩
abbrev S1x1024x1024 : Shape := ⟨3, ![1, 1024, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1x1024x1024 : S_.BroadcastsInDim S1x1024x1024 (![] : Fin 0 → Fin S1x1024x1024.rank)
  bitsLt_bf16_f32 : FTy.bits .bf16 < FTy.bits .f32

variable [Facts]

def fn {F : FTy → Type} [FloatOps F] (main_arg0 : FVec F S8192x1024 .f32) (main_arg1 : FVec F S1x1024 .f32) (main_arg2 : FVec F S1x1024x1024 .f32) (main_arg3 : FVec F S1x1024x1024 .f32) (main_arg4 : FVec F S8192x1024 .f32) (main_arg5 : FVec F S8192x1024 .bf16) : IVec S8192x1024 1 × IVec S1x1024 1 × IVec S1x1024x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x1024 .f32 := Host.absf main_arg2
  let main_cst_1 : FVec F S_ .f32 := constant S_ .f32 0x7F800000#32
  let main_v7 : FVec F S1x1024x1024 .f32 := broadcastInDim S1x1024x1024 ![] bcast_S_S1x1024x1024 main_cst_1
  let main_v8 : IVec S1x1024x1024 1 := cmpf .olt main_v6 main_v7
  let main_v9 : FVec F S8192x1024 .f32 := (extf .f32 · bitsLt_bf16_f32) main_arg5
  let main_v10 : FVec F S8192x1024 .f32 := Host.absf main_v9
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  (main_v2, main_v5, main_v8, main_v12)
-- ==== Pre_finite_up.lean ====
abbrev S8192x1024 : Shape := ⟨2, ![8192, 1024]⟩
abbrev S1x1024 : Shape := ⟨2, ![1, 1024]⟩
abbrev S1x1024x4096 : Shape := ⟨3, ![1, 1024, 4096]⟩
abbrev S1x1024x1024 : Shape := ⟨3, ![1, 1024, 1024]⟩
abbrev S8192x4096 : Shape := ⟨2, ![8192, 4096]⟩
abbrev S8x128 : Shape := ⟨2, ![8, 128]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1x1024x4096 : S_.BroadcastsInDim S1x1024x4096 (![] : Fin 0 → Fin S1x1024x4096.rank)
  bitsLt_bf16_f32 : FTy.bits .bf16 < FTy.bits .f32
  bcast_S_S8192x4096 : S_.BroadcastsInDim S8192x4096 (![] : Fin 0 → Fin S8192x4096.rank)

variable [Facts]

def fn {F : FTy → Type} [FloatOps F] (main_arg0 : FVec F S8192x1024 .f32) (main_arg1 : FVec F S1x1024 .f32) (main_arg2 : FVec F S1x1024x4096 .f32) (main_arg3 : FVec F S1x1024x1024 .f32) (main_arg4 : FVec F S8192x1024 .f32) (main_arg5 : FVec F S8192x4096 .bf16) (main_arg6 : FVec F S8x128 .f32) : IVec S8192x1024 1 × IVec S1x1024 1 × IVec S1x1024x4096 1 × IVec S8192x4096 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x4096 .f32 := Host.absf main_arg2
  let main_cst_1 : FVec F S_ .f32 := constant S_ .f32 0x7F800000#32
  let main_v7 : FVec F S1x1024x4096 .f32 := broadcastInDim S1x1024x4096 ![] bcast_S_S1x1024x4096 main_cst_1
  let main_v8 : IVec S1x1024x4096 1 := cmpf .olt main_v6 main_v7
  let main_v9 : FVec F S8192x4096 .f32 := (extf .f32 · bitsLt_bf16_f32) main_arg5
  let main_v10 : FVec F S8192x4096 .f32 := Host.absf main_v9
  let main_cst_2 : FVec F S_ .f32 := constant S_ .f32 0x7F800000#32
  let main_v11 : FVec F S8192x4096 .f32 := broadcastInDim S8192x4096 ![] bcast_S_S8192x4096 main_cst_2
  let main_v12 : IVec S8192x4096 1 := cmpf .olt main_v10 main_v11
  (main_v2, main_v5, main_v8, main_v12)
-- ==== KvBwd.lean ====
abbrev S2x256x1024 : Shape := ⟨3, ![2, 256, 1024]⟩
abbrev S1x1024 : Shape := ⟨2, ![1, 1024]⟩
abbrev S1x1024x2048 : Shape := ⟨3, ![1, 1024, 2048]⟩
abbrev S2x256x2048 : Shape := ⟨3, ![2, 256, 2048]⟩
abbrev S1024x2048 : Shape := ⟨2, ![1024, 2048]⟩
abbrev S1024x8x256 : Shape := ⟨3, ![1024, 8, 256]⟩
abbrev S8x1024x256 : Shape := ⟨3, ![8, 1024, 256]⟩
abbrev S512x2x1024 : Shape := ⟨3, ![512, 2, 1024]⟩
abbrev S2x512x1024 : Shape := ⟨3, ![2, 512, 1024]⟩
abbrev S512x1024 : Shape := ⟨2, ![512, 1024]⟩
abbrev S1x512x256 : Shape := ⟨3, ![1, 512, 256]⟩
abbrev S512x256 : Shape := ⟨2, ![512, 256]⟩
abbrev S1x1024x256 : Shape := ⟨3, ![1, 1024, 256]⟩
abbrev S1024x256 : Shape := ⟨2, ![1024, 256]⟩
abbrev S512 : Shape := ⟨1, ![512]⟩
abbrev S512x1 : Shape := ⟨2, ![512, 1]⟩
abbrev S1024 : Shape := ⟨1, ![1024]⟩

abbrev nBuf : Space → Nat
  | .hbm => 12
  | .vmem => 5
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x2048, .f32⟩
  | .hbm, ⟨3, _⟩ => ⟨S2x256x2048, .f32⟩
  | .hbm, ⟨4, _⟩ => ⟨S1024x2048, .f32⟩
  | .hbm, ⟨5, _⟩ => ⟨S1024x2048, .bf16⟩
  | .hbm, ⟨6, _⟩ => ⟨S1024x8x256, .bf16⟩
  | .hbm, ⟨7, _⟩ => ⟨S8x1024x256, .bf16⟩
  | .hbm, ⟨8, _⟩ => ⟨S512x2x1024, .f32⟩
  | .hbm, ⟨9, _⟩ => ⟨S2x512x1024, .f32⟩
  | .hbm, ⟨10, _⟩ => ⟨S512x1024, .f32⟩
  | .hbm, ⟨11, _⟩ => ⟨S1x1024, .f32⟩
  | .local _ .vmem, ⟨0, _⟩ => ⟨S2x512x1024, .f32⟩
  | .local _ .vmem, ⟨1, _⟩ => ⟨S8x1024x256, .bf16⟩
  | .local _ .vmem, ⟨2, _⟩ => ⟨S512x1024, .f32⟩
  | .local _ .vmem, ⟨3, _⟩ => ⟨S1x1024, .f32⟩
  | .local _ .vmem, ⟨4, _⟩ => ⟨S1x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v70 : BitVec 1 := Scalar.cmpi .eq arg0 c0_i32
  let v71 : BitVec 32 := Scalar.extui v70
  let c0_i32_50 : BitVec 32 := 0#32
  let v72 : BitVec 1 := Scalar.cmpi .ne v71 c0_i32_50
  v72

def k0_cond2 (i : grid0.Coords) : BitVec 1 :=
  let arg0 : BitVec 32 := BitVec.ofNat 32 (i 0).val
  let c0_i32_51 : BitVec 32 := 0#32
  let v73 : BitVec 1 := Scalar.cmpi .sgt arg0 c0_i32_51
  let v74 : BitVec 32 := Scalar.extui v73
  let c0_i32_52 : BitVec 32 := 0#32
  let v75 : BitVec 1 := Scalar.cmpi .ne v74 c0_i32_52
  v75

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KvBwdRefIdeal.lean ====
abbrev S2x256x1024 : Shape := ⟨3, ![2, 256, 1024]⟩
abbrev S1x1024 : Shape := ⟨2, ![1, 1024]⟩
abbrev S1x1024x2048 : Shape := ⟨3, ![1, 1024, 2048]⟩
abbrev S2x256x2048 : Shape := ⟨3, ![2, 256, 2048]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S1024x2048 : Shape := ⟨2, ![1024, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x2048, .f32⟩
  | .hbm, ⟨3, _⟩ => ⟨S2x256x2048, .f32⟩
  | .hbm, ⟨4, _⟩ => ⟨S1024, .f32⟩
  | .hbm, ⟨5, _⟩ => ⟨S2x256x1024, .f32⟩
  | .hbm, ⟨6, _⟩ => ⟨S_, .f32⟩
  | .hbm, ⟨7, _⟩ => ⟨S2x256, .f32⟩
  | .hbm, ⟨8, _⟩ => ⟨S2x256x1, .f32⟩
  | .hbm, ⟨9, _⟩ => ⟨S_, .f32⟩
  | .hbm, ⟨10, _⟩ => ⟨S2x256x1, .f32⟩
  | .hbm, ⟨11, _⟩ => ⟨S2x256x1, .f32⟩
  | .hbm, ⟨12, _⟩ => ⟨S_, .f32⟩
  | .hbm, ⟨13, _⟩ => ⟨S2x256x1, .f32⟩
  | .hbm, ⟨14, _⟩ => ⟨S2x256x1, .f32⟩
  | .hbm, ⟨15, _⟩ => ⟨S2x256x1, .f32⟩
  | .hbm, ⟨16, _⟩ => ⟨S2x256x1024, .f32⟩
  | .hbm, ⟨17, _⟩ => ⟨S2x256x1024, .f32⟩
  | .hbm, ⟨18, _⟩ => ⟨S1x1x1024, .f32⟩
  | .hbm, ⟨19, _⟩ => ⟨S2x256x1024, .f32⟩
  | .hbm, ⟨20, _⟩ => ⟨S2x256x1024, .f32⟩
  | .hbm, ⟨21, _⟩ => ⟨S1024x2048, .f32⟩
  | .hbm, ⟨22, _⟩ => ⟨S2x256x2048, .f32⟩
  | .hbm, ⟨23, _⟩ => ⟨S2x256x1024, .f32⟩
  | .hbm, ⟨24, _⟩ => ⟨S2x256x1024, .f32⟩
  | .hbm, ⟨25, _⟩ => ⟨S_, .f32⟩
  | .hbm, ⟨26, _⟩ => ⟨S1024, .f32⟩
  | .hbm, ⟨27, _⟩ => ⟨S1x1x1024, .f32⟩
  | .hbm, ⟨28, _⟩ => ⟨S_, .f32⟩
  | .hbm, ⟨29, _⟩ => ⟨S1024, .f32⟩
  | .hbm, ⟨30, _⟩ => ⟨S1x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== QBwd.lean ====
abbrev S8192x1024 : Shape := ⟨2, ![8192, 1024]⟩
abbrev S1x1024 : Shape := ⟨2, ![1, 1024]⟩
abbrev S1x1024x1024 : Shape := ⟨3, ![1, 1024, 1024]⟩
abbrev S1024x1024 : Shape := ⟨2, ![1024, 1024]⟩
abbrev S2x8192x512 : Shape := ⟨3, ![2, 8192, 512]⟩
abbrev S2x1024x512 : Shape := ⟨3, ![2, 1024, 512]⟩
abbrev S1024 : Shape := ⟨1, ![1024]⟩
abbrev S1024x1 : Shape := ⟨2, ![1024, 1]⟩
abbrev S512x1024 : Shape := ⟨2, ![512, 1024]⟩
abbrev S1024x512 : Shape := ⟨2, ![1024, 512]⟩
abbrev S1x1024x512 : Shape := ⟨3, ![1, 1024, 512]⟩

abbrev nBuf : Space → Nat
  | .hbm => 14
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S8192x1024, .f32⟩
  | .hbm, ⟨5, _⟩ => ⟨S8192x1024, .bf16⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S8192x1024, .f32⟩
  | .hbm, ⟨11, _⟩ => ⟨S8192x1024, .bf16⟩
  | .hbm, ⟨12, _⟩ => ⟨S2x8192x512, .bf16⟩
  | .hbm, ⟨13, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S2x1024x512, .bf16⟩
  | .local _ .vmem, ⟨14, _⟩ => ⟨S2x1024x512, .bf16⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v18 : BitVec 1 := Scalar.cmpi .eq arg0 c0_i32
  let v19 : BitVec 32 := Scalar.extui v18
  let c0_i32_9 : BitVec 32 := 0#32
  let v20 : BitVec 1 := Scalar.cmpi .ne v19 c0_i32_9
  v20

def k0_cond2 (i : grid0.Coords) : BitVec 1 :=
  let arg0 : BitVec 32 := BitVec.ofNat 32 (i 0).val
  let c0_i32_10 : BitVec 32 := 0#32
  let v21 : BitVec 1 := Scalar.cmpi .sgt arg0 c0_i32_10
  let v22 : BitVec 32 := Scalar.extui v21
  let c0_i32_11 : BitVec 32 := 0#32
  let v23 : BitVec 1 := Scalar.cmpi .ne v22 c0_i32_11
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== QBwdRefIdeal.lean ====
abbrev S8192x1024 : Shape := ⟨2, ![8192, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x1024 : Shape := ⟨2, ![1024, 1024]⟩
abbrev S8192x2x512 : Shape := ⟨3, ![8192, 2, 512]⟩
abbrev S2x8192x512 : Shape := ⟨3, ![2, 8192, 512]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S8192x1024, .f32⟩
  | .hbm, ⟨5, _⟩ => ⟨S8192x1024, .bf16⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S1024x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S1x1024, .f32⟩
  | .hbm, ⟨58, _⟩ => ⟨S_, .f32⟩
  | .hbm, ⟨59, _⟩ => ⟨S8192x1024, .f32⟩
  | .hbm, ⟨60, _⟩ => ⟨S1024x1024, .f32⟩
  | .hbm, ⟨61, _⟩ => ⟨S8192x1024, .f32⟩
  | .hbm, ⟨62, _⟩ => ⟨S8192x1024, .f32⟩
  | .hbm, ⟨63, _⟩ => ⟨S8192x1024, .bf16⟩
  | .hbm, ⟨64, _⟩ => ⟨S8192x2x512, .f32⟩
  | .hbm, ⟨65, _⟩ => ⟨S2x8192x512, .f32⟩
  | .hbm, ⟨66, _⟩ => ⟨S2x8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== UpBwd.lean ====
abbrev S8192x1024 : Shape := ⟨2, ![8192, 1024]⟩
abbrev S1x1024 : Shape := ⟨2, ![1, 1024]⟩
abbrev S1x1024x4096 : Shape := ⟨3, ![1, 1024, 4096]⟩
abbrev S1x1024x1024 : Shape := ⟨3, ![1, 1024, 1024]⟩
abbrev S8192x4096 : Shape := ⟨2, ![8192, 4096]⟩
abbrev S8x128 : Shape := ⟨2, ![8, 128]⟩
abbrev S1024x4096 : Shape := ⟨2, ![1024, 4096]⟩
abbrev S1024x8x512 : Shape := ⟨3, ![1024, 8, 512]⟩
abbrev S8x1024x512 : Shape := ⟨3, ![8, 1024, 512]⟩
abbrev S1024x1024 : Shape := ⟨2, ![1024, 1024]⟩
abbrev S512x4096 : Shape := ⟨2, ![512, 4096]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 17
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x4096, .f32⟩
  | .hbm, ⟨3, _⟩ => ⟨S1x1024x1024, .f32⟩
  | .hbm, ⟨4, _⟩ => ⟨S8192x1024, .f32⟩
  | .hbm, ⟨5, _⟩ => ⟨S8192x4096, .bf16⟩
  | .hbm, ⟨6, _⟩ => ⟨S8x128, .f32⟩
  | .hbm, ⟨7, _⟩ => ⟨S1024x4096, .f32⟩
  | .hbm, ⟨8, _⟩ => ⟨S1024x4096, .bf16⟩
  | .hbm, ⟨9, _⟩ => ⟨S1024x8x512, .bf16⟩
  | .hbm, ⟨10, _⟩ => ⟨S8x1024x512, .bf16⟩
  | .hbm, ⟨11, _⟩ => ⟨S1024x1024, .f32⟩
  | .hbm, ⟨12, _⟩ => ⟨S1024x1024, .bf16⟩
  | .hbm, ⟨13, _⟩ => ⟨S8192x1024, .f32⟩
  | .hbm, ⟨14, _⟩ => ⟨S8192x1024, .bf16⟩
  | .hbm, ⟨15, _⟩ => ⟨S8192x1024, .bf16⟩
  | .hbm, ⟨16, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S8x1024x512, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S8x128, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v53 : BitVec 1 := Scalar.cmpi .eq arg0 c0_i32
  let v54 : BitVec 32 := Scalar.extui v53
  let c0_i32_38 : BitVec 32 := 0#32
  let v55 : BitVec 1 := Scalar.cmpi .ne v54 c0_i32_38
  v55

def k0_cond2 (i : grid0.Coords) : BitVec 1 :=
  let arg0 : BitVec 32 := BitVec.ofNat 32 (i 0).val
  let c0_i32_39 : BitVec 32 := 0#32
  let v56 : BitVec 1 := Scalar.cmpi .sgt arg0 c0_i32_39
  let v57 : BitVec 32 := Scalar.extui v56
  let c0_i32_40 : BitVec 32 := 0#32
  let v58 : BitVec 1 := Scalar.cmpi .ne v57 c0_i32_40
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== UpBwdRefIdeal.lean ====
abbrev S8192x1024 : Shape := ⟨2, ![8192, 1024]⟩
abbrev S1x1024 : Shape := ⟨2, ![1, 1024]⟩
abbrev S1x1024x4096 : Shape := ⟨3, ![1, 1024, 4096]⟩
abbrev S1x1024x1024 : Shape := ⟨3, ![1, 1024, 1024]⟩
abbrev S8192x4096 : Shape := ⟨2, ![8192, 4096]⟩
abbrev S8x128 : Shape := ⟨2, ![8, 128]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x4096 : Shape := ⟨2, ![1024, 4096]⟩
abbrev S1024x1024 : Shape := ⟨2, ![1024, 1024]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x4096, .f32⟩
  | .hbm, ⟨3, _⟩ => ⟨S1x1024x1024, .f32⟩
  | .hbm, ⟨4, _⟩ => ⟨S8192x1024, .f32⟩
  | .hbm, ⟨5, _⟩ => ⟨S8192x4096, .bf16⟩
  | .hbm, ⟨6, _⟩ => ⟨S8x128, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1024x4096, .f32⟩
  | .hbm, ⟨29, _⟩ => ⟨S8192x4096, .f32⟩
  | .hbm, ⟨30, _⟩ => ⟨S8192x4096, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S1x1024, .f32⟩
  | .hbm, ⟨59, _⟩ => ⟨S_, .f32⟩
  | .hbm, ⟨60, _⟩ => ⟨S8192x1024, .f32⟩
  | .hbm, ⟨61, _⟩ => ⟨S1024x1024, .f32⟩
  | .hbm, ⟨62, _⟩ => ⟨S8192x1024, .f32⟩
  | .hbm, ⟨63, _⟩ => ⟨S8192x1024, .f32⟩
  | .hbm, ⟨64, _⟩ => ⟨S8192x1024, .bf16⟩
  | .hbm, ⟨65, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== InBwd.lean ====
abbrev S2x4096x1024 : Shape := ⟨3, ![2, 4096, 1024]⟩
abbrev S1x1024 : Shape := ⟨2, ![1, 1024]⟩
abbrev S1x1024x2560 : Shape := ⟨3, ![1, 1024, 2560]⟩
abbrev S8192x1024 : Shape := ⟨2, ![8192, 1024]⟩
abbrev S8192x2560 : Shape := ⟨2, ![8192, 2560]⟩
abbrev S8x128 : Shape := ⟨2, ![8, 128]⟩
abbrev S8192x5x512 : Shape := ⟨3, ![8192, 5, 512]⟩
abbrev S5x8192x512 : Shape := ⟨3, ![5, 8192, 512]⟩
abbrev S1024x2560 : Shape := ⟨2, ![1024, 2560]⟩
abbrev S5x1024x512 : Shape := ⟨3, ![5, 1024, 512]⟩
abbrev S1024x1024 : Shape := ⟨2, ![1024, 1024]⟩
abbrev S1x1024x512 : Shape := ⟨3, ![1, 1024, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 13
  | .vmem => 12
  | .smem => 0
  | _ => 0

abbrev bufTy : (tb : Table) → Fin (tcTables nBuf tb) → BufTy
  | .hbm, ⟨0, _⟩ => ⟨S2x4096x1024, .f32⟩
  | .hbm, ⟨1, _⟩ => ⟨S1x1024, .f32⟩
  | .hbm, ⟨2, _⟩ => ⟨S1x1024x2560, .f32⟩
  | .hbm, ⟨3, _⟩ => ⟨S8192x1024, .f32⟩
  | .hbm, ⟨4, _⟩ => ⟨S8192x2560, .bf16⟩
  | .hbm, ⟨5, _⟩ => ⟨S8x128, .f32⟩
  | .hbm, ⟨6, _⟩ => ⟨S8192x5x512, .bf16⟩
  | .hbm, ⟨7, _⟩ => ⟨S5x8192x512, .bf16⟩
  | .hbm, ⟨8, _⟩ => ⟨S1024x2560, .f32⟩
  | .hbm, ⟨9, _⟩ => ⟨S1024x2560, .bf16⟩
  | .hbm, ⟨10, _⟩ => ⟨S8192x1024, .f32⟩
  | .hbm, ⟨11, _⟩ => ⟨S8192x1024, .f32⟩
  | .hbm, ⟨12, _⟩ => ⟨S1x1024, .f32⟩
  | .local _ .vmem, ⟨0, _⟩ => ⟨S5x1024x512, .bf16⟩
  | .local _ .vmem, ⟨1, _⟩ => ⟨S5x1024x512, .bf16⟩
  | .local _ .vmem, ⟨2, _⟩ => ⟨S1024x2560, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S8x128, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v29 : BitVec 1 := Scalar.cmpi .eq arg0 c0_i32
  let v30 : BitVec 32 := Scalar.extui v29
  let c0_i32_18 : BitVec 32 := 0#32
  let v31 : BitVec 1 := Scalar.cmpi .ne v30 c0_i32_18
  v31

def k0_cond2 (i : grid0.Coords) : BitVec 1 :=
  let arg0 : BitVec 32 := BitVec.ofNat 32 (i 0).val
  let c0_i32_19 : BitVec 32 := 0#32
  let v32 : BitVec 1 := Scalar.cmpi .sgt arg0 c0_i32_19
  let v33 : BitVec 32 := Scalar.extui v32
  let c0_i32_20 : BitVec 32 := 0#32
  let v34 : BitVec 1 := Scalar.cmpi .ne v33 c0_i32_20
  v34

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InBwdRefIdeal.lean ====
abbrev S2x4096x1024 : Shape := ⟨3, ![2, 4096, 1024]⟩
abbrev S1x1024 : Shape := ⟨2, ![1, 1024]⟩
abbrev S1x1024x2560 : Shape := ⟨3, ![1, 1024, 2560]⟩
abbrev S8192x1024 : Shape := ⟨2, ![8192, 1024]⟩
abbrev S8192x2560 : Shape := ⟨2, ![8192, 2560]⟩
abbrev S8x128 : Shape := ⟨2, ![8, 128]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2560 : Shape := ⟨2, ![1024, 2560]⟩

abbrev nBuf : Space → Nat
  | .hbm => 59
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1x1024, .f32⟩
  | .hbm, ⟨2, _⟩ => ⟨S1x1024x2560, .f32⟩
  | .hbm, ⟨3, _⟩ => ⟨S8192x1024, .f32⟩
  | .hbm, ⟨4, _⟩ => ⟨S8192x2560, .bf16⟩
  | .hbm, ⟨5, _⟩ => ⟨S8x128, .f32⟩
  | .hbm, ⟨6, _⟩ => ⟨S8192x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1024x2560, .f32⟩
  | .hbm, ⟨29, _⟩ => ⟨S8192x2560, .f32⟩
  | .hbm, ⟨30, _⟩ => ⟨S8192x2560, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S1x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== LossBwd.lean ====
abbrev S8192x4096 : Shape := ⟨2, ![8192, 4096]⟩
abbrev S1x4096x1024 : Shape := ⟨3, ![1, 4096, 1024]⟩
abbrev S8192x1024 : Shape := ⟨2, ![8192, 1024]⟩
abbrev S1024 : Shape := ⟨1, ![1024]⟩
abbrev S2x4096x1024 : Shape := ⟨3, ![2, 4096, 1024]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S256x4096 : Shape := ⟨2, ![256, 4096]⟩
abbrev S256x512 : Shape := ⟨2, ![256, 512]⟩
abbrev S4096x512 : Shape := ⟨2, ![4096, 512]⟩
abbrev S256x1024 : Shape := ⟨2, ![256, 1024]⟩
abbrev S256 : Shape := ⟨1, ![256]⟩
abbrev S256x1 : Shape := ⟨2, ![256, 1]⟩

abbrev nBuf : Space → Nat
  | .hbm => 13
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S1x4096x1024, .f32⟩
  | .hbm, ⟨2, _⟩ => ⟨S8192x1024, .f32⟩
  | .hbm, ⟨3, _⟩ => ⟨S1024, .f32⟩
  | .hbm, ⟨4, _⟩ => ⟨S2x4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .bf16⟩
  | .hbm, ⟨11, _⟩ => ⟨S1x1024, .f32⟩
  | .hbm, ⟨12, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v114 : BitVec 1 := Scalar.cmpi .eq arg0 c0_i32
  let v115 : BitVec 32 := Scalar.extui v114
  let c0_i32_64 : BitVec 32 := 0#32
  let v116 : BitVec 1 := Scalar.cmpi .ne v115 c0_i32_64
  v116

def k0_cond2 (i : grid0.Coords) : BitVec 1 :=
  let arg0 : BitVec 32 := BitVec.ofNat 32 (i 0).val
  let c0_i32_65 : BitVec 32 := 0#32
  let v117 : BitVec 1 := Scalar.cmpi .sgt arg0 c0_i32_65
  let v118 : BitVec 32 := Scalar.extui v117
  let c0_i32_66 : BitVec 32 := 0#32
  let v119 : BitVec 1 := Scalar.cmpi .ne v118 c0_i32_66
  v119

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossBwdRefIdeal.lean ====
abbrev S8192x4096 : Shape := ⟨2, ![8192, 4096]⟩
abbrev S1x4096x1024 : Shape := ⟨3, ![1, 4096, 1024]⟩
abbrev S8192x1024 : Shape := ⟨2, ![8192, 1024]⟩
abbrev S1024 : Shape := ⟨1, ![1024]⟩
abbrev S2x4096x1024 : Shape := ⟨3, ![2, 4096, 1024]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 101
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x1024, .f32⟩
  | .hbm, ⟨2, _⟩ => ⟨S8192x1024, .f32⟩
  | .hbm, ⟨3, _⟩ => ⟨S1024, .f32⟩
  | .hbm, ⟨4, _⟩ => ⟨S2x4096x1024, .f32⟩
  | .hbm, ⟨5, _⟩ => ⟨S8192x1024, .f32⟩
  | .hbm, ⟨6, _⟩ => ⟨S8192x4096, .f32⟩
  | .hbm, ⟨7, _⟩ => ⟨S4096x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .bf16⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S8192x1, .f32⟩
  | .hbm, ⟨90, _⟩ => ⟨S8192x1024, .f32⟩
  | .hbm, ⟨91, _⟩ => ⟨S8192x1024, .f32⟩
  | .hbm, ⟨92, _⟩ => ⟨S1x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S_, .f32⟩
  | .hbm, ⟨98, _⟩ => ⟨S1024, .f32⟩
  | .hbm, ⟨99, _⟩ => ⟨S1x1024, .f32⟩
  | .hbm, ⟨100, _⟩ => ⟨S1x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_cst_15 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_16 : Ref sig .tc := ⟨.hbm, 80, rfl⟩
abbrev main_v58 : Ref sig .tc := ⟨.hbm, 81, rfl⟩
abbrev main_v59 : Ref sig .tc := ⟨.hbm, 82, rfl⟩
abbrev main_cst_17 : Ref sig .tc := ⟨.hbm, 83, rfl⟩
abbrev main_v60 : Ref sig .tc := ⟨.hbm, 84, rfl⟩
abbrev main_v61 : Ref sig .tc := ⟨.hbm, 85, rfl⟩
abbrev main_cst_18 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_19 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]
-- ==== AttnBwd.lean ====
abbrev S8192x1024 : Shape := ⟨2, ![8192, 1024]⟩
abbrev S2x256x2048 : Shape := ⟨3, ![2, 256, 2048]⟩
abbrev S512x2x1024 : Shape := ⟨3, ![512, 2, 1024]⟩
abbrev S2x512x1024 : Shape := ⟨3, ![2, 512, 1024]⟩
abbrev S1024x1024 : Shape := ⟨2, ![1024, 1024]⟩
abbrev S2x256x1024 : Shape := ⟨3, ![2, 256, 1024]⟩
abbrev S1024x256 : Shape := ⟨2, ![1024, 256]⟩
abbrev S1x256x256 : Shape := ⟨3, ![1, 256, 256]⟩
abbrev S256x256 : Shape := ⟨2, ![256, 256]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S2x256x2048, .bf16⟩
  | .hbm, ⟨2, _⟩ => ⟨S8192x1024, .bf16⟩
  | .hbm, ⟨3, _⟩ => ⟨S512x2x1024, .bf16⟩
  | .hbm, ⟨4, _⟩ => ⟨S2x512x1024, .bf16⟩
  | .hbm, ⟨5, _⟩ => ⟨S8192x1024, .bf16⟩
  | .hbm, ⟨6, _⟩ => ⟨S2x512x1024, .f32⟩
  | .local _ .vmem, ⟨0, _⟩ => ⟨S1024x1024, .bf16⟩
  | .local _ .vmem, ⟨1, _⟩ => ⟨S1024x1024, .bf16⟩
  | .local _ .vmem, ⟨2, _⟩ => ⟨S2x256x1024, .bf16⟩
  | .local _ .vmem, ⟨3, _⟩ => ⟨S2x256x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S2x256x1024, .f32⟩
  | .local _ .vmem, ⟨9, _⟩ => ⟨S2x256x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== AttnBwdRefIdeal.lean ====
abbrev S8192x1024 : Shape := ⟨2, ![8192, 1024]⟩
abbrev S2x256x2048 : Shape := ⟨3, ![2, 256, 2048]⟩
abbrev S2x4096x4x256 : Shape := ⟨4, ![2, 4096, 4, 256]⟩
abbrev S2x256x1024 : Shape := ⟨3, ![2, 256, 1024]⟩
abbrev S2x256x4x256 : Shape := ⟨4, ![2, 256, 4, 256]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x256x4096 : Shape := ⟨4, ![2, 4, 256, 4096]⟩
abbrev S2x4x256x256 : Shape := ⟨4, ![2, 4, 256, 256]⟩
abbrev S512x2x1024 : Shape := ⟨3, ![512, 2, 1024]⟩
abbrev S2x512x1024 : Shape := ⟨3, ![2, 512, 1024]⟩

abbrev nBuf : Space → Nat
  | .hbm => 89
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x256x2048, .bf16⟩
  | .hbm, ⟨2, _⟩ => ⟨S8192x1024, .bf16⟩
  | .hbm, ⟨3, _⟩ => ⟨S8192x1024, .f32⟩
  | .hbm, ⟨4, _⟩ => ⟨S2x256x2048, .f32⟩
  | .hbm, ⟨5, _⟩ => ⟨S2x4096x4x256, .f32⟩
  | .hbm, ⟨6, _⟩ => ⟨S2x256x1024, .f32⟩
  | .hbm, ⟨7, _⟩ => ⟨S2x256x1024, .f32⟩
  | .hbm, ⟨8, _⟩ => ⟨S2x256x4x256, .f32⟩
  | .hbm, ⟨9, _⟩ => ⟨S2x256x4x256, .f32⟩
  | .hbm, ⟨10, _⟩ => ⟨S2x4x4096x256, .f32⟩
  | .hbm, ⟨11, _⟩ => ⟨S_, .f32⟩
  | .hbm, ⟨12, _⟩ => ⟨S2x4x4096x256, .f32⟩
  | .hbm, ⟨13, _⟩ => ⟨S2x4x4096x256, .f32⟩
  | .hbm, ⟨14, _⟩ => ⟨S_, .f32⟩
  | .hbm, ⟨15, _⟩ => ⟨S2x4x4096, .f32⟩
  | .hbm, ⟨16, _⟩ => ⟨S2x4x4096x1, .f32⟩
  | .hbm, ⟨17, _⟩ => ⟨S2x4x4096x256, .f32⟩
  | .hbm, ⟨18, _⟩ => ⟨S2x4x4096x256, .i1⟩
  | .hbm, ⟨19, _⟩ => ⟨S2x4x4096x256, .f32⟩
  | .hbm, ⟨20, _⟩ => ⟨S_, .f32⟩
  | .hbm, ⟨21, _⟩ => ⟨S2x4x4096, .f32⟩
  | .hbm, ⟨22, _⟩ => ⟨S_, .f32⟩
  | .hbm, ⟨23, _⟩ => ⟨S2x4x4096, .f32⟩
  | .hbm, ⟨24, _⟩ => ⟨S2x4x4096, .f32⟩
  | .hbm, ⟨25, _⟩ => ⟨S_, .f32⟩
  | .hbm, ⟨26, _⟩ => ⟨S2x4x4096, .f32⟩
  | .hbm, ⟨27, _⟩ => ⟨S2x4x4096, .i1⟩
  | .hbm, ⟨28, _⟩ => ⟨S_, .f32⟩
  | .hbm, ⟨29, _⟩ => ⟨S2x4x4096, .f32⟩
  | .hbm, ⟨30, _⟩ => ⟨S2x4x4096, .i1⟩
  | .hbm, ⟨31, _⟩ => ⟨S_, .f32⟩
  | .hbm, ⟨32, _⟩ => ⟨S2x4x4096, .f32⟩
  | .hbm, ⟨33, _⟩ => ⟨S_, .f32⟩
  | .hbm, ⟨34, _⟩ => ⟨S2x4x4096, .f32⟩
  | .hbm, ⟨35, _⟩ => ⟨S_, .f32⟩
  | .hbm, ⟨36, _⟩ => ⟨S2x4x4096, .f32⟩
  | .hbm, ⟨37, _⟩ => ⟨S2x4x4096, .f32⟩
  | .hbm, ⟨38, _⟩ => ⟨S2x4x4096, .f32⟩
  | .hbm, ⟨39, _⟩ => ⟨S2x4x4096x1, .f32⟩
  | .hbm, ⟨40, _⟩ => ⟨S2x4x4096x256, .f32⟩
  | .hbm, ⟨41, _⟩ => ⟨S2x4x4096x256, .f32⟩
  | .hbm, ⟨42, _⟩ => ⟨S2x4x4096x256, .f32⟩
  | .hbm, ⟨43, _⟩ => ⟨S_, .f32⟩
  | .hbm, ⟨44, _⟩ => ⟨S2x4x4096, .f32⟩
  | .hbm, ⟨45, _⟩ => ⟨S2x4x4096x1, .f32⟩
  | .hbm, ⟨46, _⟩ => ⟨S2x4x4096x256, .f32⟩
  | .hbm, ⟨47, _⟩ => ⟨S2x4x4096x256, .f32⟩
  | .hbm, ⟨48, _⟩ => ⟨S2x4x4096x1, .f32⟩
  | .hbm, ⟨49, _⟩ => ⟨S_, .f32⟩
  | .hbm, ⟨50, _⟩ => ⟨S2x4x4096x1, .f32⟩
  | .hbm, ⟨51, _⟩ => ⟨S2x4x4096x1, .f32⟩
  | .hbm, ⟨52, _⟩ => ⟨S2x4x256x4096, .f32⟩
  | .hbm, ⟨53, _⟩ => ⟨S2x4096x4x256, .f32⟩
  | .hbm, ⟨54, _⟩ => ⟨S8192x1024, .f32⟩
  | .hbm, ⟨55, _⟩ => ⟨S8192x1024, .f32⟩
  | .hbm, ⟨56, _⟩ => ⟨S2x4096x4x256, .f32⟩
  | .hbm, ⟨57, _⟩ => ⟨S2x4x256x4096, .f32⟩
  | .hbm, ⟨58, _⟩ => ⟨S2x4x4096x256, .f32⟩
  | .hbm, ⟨59, _⟩ => ⟨S2x4x256x256, .f32⟩
  | .hbm, ⟨60, _⟩ => ⟨S2x256x4x256, .f32⟩
  | .hbm, ⟨61, _⟩ => ⟨S2x4x4096x256, .f32⟩
  | .hbm, ⟨62, _⟩ => ⟨S2x4x4096x256, .f32⟩
  | .hbm, ⟨63, _⟩ => ⟨S2x4x4096x256, .f32⟩
  | .hbm, ⟨64, _⟩ => ⟨S_, .f32⟩
  | .hbm, ⟨65, _⟩ => ⟨S2x4x4096, .f32⟩
  | .hbm, ⟨66, _⟩ => ⟨S2x4x4096x1, .f32⟩
  | .hbm, ⟨67, _⟩ => ⟨S2x4x4096x1, .f32⟩
  | .hbm, ⟨68, _⟩ => ⟨S2x4x4096x256, .f32⟩
  | .hbm, ⟨69, _⟩ => ⟨S2x4x4096x256, .f32⟩
  | .hbm, ⟨70, _⟩ => ⟨S_, .f32⟩
  | .hbm, ⟨71, _⟩ => ⟨S2x4x4096, .f32⟩
  | .hbm, ⟨72, _⟩ => ⟨S2x4x4096x256, .f32⟩
  | .hbm, ⟨73, _⟩ => ⟨S2x4x4096x256, .f32⟩
  | .hbm, ⟨74, _⟩ => ⟨S2x4x4096x256, .f32⟩
  | .hbm, ⟨75, _⟩ => ⟨S_, .f32⟩
  | .hbm, ⟨76, _⟩ => ⟨S2x4x4096x256, .f32⟩
  | .hbm, ⟨77, _⟩ => ⟨S2x4x4096x256, .f32⟩
  | .hbm, ⟨78, _⟩ => ⟨S2x4x256x256, .f32⟩
  | .hbm, ⟨79, _⟩ => ⟨S2x256x4x256, .f32⟩
  | .hbm, ⟨80, _⟩ => ⟨S2x4x4096x256, .f32⟩
  | .hbm, ⟨81, _⟩ => ⟨S2x4096x4x256, .f32⟩
  | .hbm, ⟨82, _⟩ => ⟨S2x256x1024, .f32⟩
  | .hbm, ⟨83, _⟩ => ⟨S2x256x1024, .f32⟩
  | .hbm, ⟨84, _⟩ => ⟨S2x256x2048, .f32⟩
  | .hbm, ⟨85, _⟩ => ⟨S8192x1024, .f32⟩
  | .hbm, ⟨86, _⟩ => ⟨S8192x1024, .bf16⟩
  | .hbm, ⟨87, _⟩ => ⟨S512x2x1024, .f32⟩
  | .hbm, ⟨88, _⟩ => ⟨S2x512x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩

abbrev nD : Nat := 1
abbrev τ : Topo := Topo.v7x

variable {F : FTy → Type} [FloatOps F]
-- ==== ReluBwd.lean ====
abbrev S8192x1024 : Shape := ⟨2, ![8192, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S8192x4096 : Shape := ⟨2, ![8192, 4096]⟩
abbrev S_ : Shape := ⟨0, ![]⟩
abbrev S4096x1024 : Shape := ⟨2, ![4096, 1024]⟩
abbrev S512x1024 : Shape := ⟨2, ![512, 1024]⟩
abbrev S512x4096 : Shape := ⟨2, ![512, 4096]⟩
abbrev S512x512 : Shape := ⟨2, ![512, 512]⟩

abbrev nBuf : Space → Nat
  | .hbm => 15
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1x1024x4096, .f32⟩
  | .hbm, ⟨2, _⟩ => ⟨S1x4096x1024, .f32⟩
  | .hbm, ⟨3, _⟩ => ⟨S8192x1024, .bf16⟩
  | .hbm, ⟨4, _⟩ => ⟨S1024x4096, .f32⟩
  | .hbm, ⟨5, _⟩ => ⟨S1024x4096, .bf16⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .bf16⟩
  | .hbm, ⟨12, _⟩ => ⟨S4096x1024, .f32⟩
  | .hbm, ⟨13, _⟩ => ⟨S4096x1024, .bf16⟩
  | .hbm, ⟨14, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReluBwdRefIdeal.lean ====
abbrev S8192x1024 : Shape := ⟨2, ![8192, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S8192x4096 : Shape := ⟨2, ![8192, 4096]⟩
abbrev S_ : Shape := ⟨0, ![]⟩
abbrev S4096x1024 : Shape := ⟨2, ![4096, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x4096, .f32⟩
  | .hbm, ⟨2, _⟩ => ⟨S1x4096x1024, .f32⟩
  | .hbm, ⟨3, _⟩ => ⟨S8192x1024, .bf16⟩
  | .hbm, ⟨4, _⟩ => ⟨S8192x1024, .f32⟩
  | .hbm, ⟨5, _⟩ => ⟨S1024x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .i1⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S4096x1024, .f32⟩
  | .hbm, ⟨17, _⟩ => ⟨S8192x1024, .f32⟩
  | .hbm, ⟨18, _⟩ => ⟨S8192x1024, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== ReluFwd.lean ====
abbrev S8192x1024 : Shape := ⟨2, ![8192, 1024]⟩
abbrev S1x1024x4096 : Shape := ⟨3, ![1, 1024, 4096]⟩
abbrev S1024x4096 : Shape := ⟨2, ![1024, 4096]⟩
abbrev S1024x8x512 : Shape := ⟨3, ![1024, 8, 512]⟩
abbrev S8x1024x512 : Shape := ⟨3, ![8, 1024, 512]⟩
abbrev S8192x4096 : Shape := ⟨2, ![8192, 4096]⟩
abbrev S512x1024 : Shape := ⟨2, ![512, 1024]⟩
abbrev S512x4096 : Shape := ⟨2, ![512, 4096]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 7
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1x1024x4096, .f32⟩
  | .hbm, ⟨2, _⟩ => ⟨S1024x4096, .f32⟩
  | .hbm, ⟨3, _⟩ => ⟨S1024x4096, .bf16⟩
  | .hbm, ⟨4, _⟩ => ⟨S1024x8x512, .bf16⟩
  | .hbm, ⟨5, _⟩ => ⟨S8x1024x512, .bf16⟩
  | .hbm, ⟨6, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S8x1024x512, .bf16⟩
  | .local _ .vmem, ⟨3, _⟩ => ⟨S512x4096, .bf16⟩
  | .local _ .vmem, ⟨4, _⟩ => ⟨S512x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReluFwdRefIdeal.lean ====
abbrev S8192x1024 : Shape := ⟨2, ![8192, 1024]⟩
abbrev S1x1024x4096 : Shape := ⟨3, ![1, 1024, 4096]⟩
abbrev S1024x4096 : Shape := ⟨2, ![1024, 4096]⟩
abbrev S8192x4096 : Shape := ⟨2, ![8192, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x4096, .f32⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== AttnFwd.lean ====
abbrev S8192x1024 : Shape := ⟨2, ![8192, 1024]⟩
abbrev S2x256x2048 : Shape := ⟨3, ![2, 256, 2048]⟩
abbrev S512x2x1024 : Shape := ⟨3, ![512, 2, 1024]⟩
abbrev S2x512x1024 : Shape := ⟨3, ![2, 512, 1024]⟩
abbrev S1024x1024 : Shape := ⟨2, ![1024, 1024]⟩
abbrev S2x256x1024 : Shape := ⟨3, ![2, 256, 1024]⟩
abbrev S1024x256 : Shape := ⟨2, ![1024, 256]⟩
abbrev S1x256x256 : Shape := ⟨3, ![1, 256, 256]⟩
abbrev S256x256 : Shape := ⟨2, ![256, 256]⟩
abbrev S1024 : Shape := ⟨1, ![1024]⟩
abbrev S1024x1 : Shape := ⟨2, ![1024, 1]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x256x2048, .bf16⟩
  | .hbm, ⟨2, _⟩ => ⟨S512x2x1024, .bf16⟩
  | .hbm, ⟨3, _⟩ => ⟨S2x512x1024, .bf16⟩
  | .hbm, ⟨4, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S2x256x1024, .bf16⟩
  | .local _ .vmem, ⟨3, _⟩ => ⟨S2x256x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttnFwdRefIdeal.lean ====
abbrev S8192x1024 : Shape := ⟨2, ![8192, 1024]⟩
abbrev S2x256x2048 : Shape := ⟨3, ![2, 256, 2048]⟩
abbrev S2x4096x4x256 : Shape := ⟨4, ![2, 4096, 4, 256]⟩
abbrev S2x256x1024 : Shape := ⟨3, ![2, 256, 1024]⟩
abbrev S2x256x4x256 : Shape := ⟨4, ![2, 256, 4, 256]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x256x4096 : Shape := ⟨4, ![2, 4, 256, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x256x2048, .bf16⟩
  | .hbm, ⟨2, _⟩ => ⟨S8192x1024, .f32⟩
  | .hbm, ⟨3, _⟩ => ⟨S2x4096x4x256, .f32⟩
  | .hbm, ⟨4, _⟩ => ⟨S2x256x2048, .f32⟩
  | .hbm, ⟨5, _⟩ => ⟨S2x256x1024, .f32⟩
  | .hbm, ⟨6, _⟩ => ⟨S2x256x1024, .f32⟩
  | .hbm, ⟨7, _⟩ => ⟨S2x256x4x256, .f32⟩
  | .hbm, ⟨8, _⟩ => ⟨S2x256x4x256, .f32⟩
  | .hbm, ⟨9, _⟩ => ⟨S2x4x4096x256, .f32⟩
  | .hbm, ⟨10, _⟩ => ⟨S_, .f32⟩
  | .hbm, ⟨11, _⟩ => ⟨S2x4x4096x256, .f32⟩
  | .hbm, ⟨12, _⟩ => ⟨S2x4x4096x256, .f32⟩
  | .hbm, ⟨13, _⟩ => ⟨S_, .f32⟩
  | .hbm, ⟨14, _⟩ => ⟨S2x4x4096, .f32⟩
  | .hbm, ⟨15, _⟩ => ⟨S_, .f32⟩
  | .hbm, ⟨16, _⟩ => ⟨S2x4x4096, .f32⟩
  | .hbm, ⟨17, _⟩ => ⟨S2x4x4096, .f32⟩
  | .hbm, ⟨18, _⟩ => ⟨S2x4x4096x1, .f32⟩
  | .hbm, ⟨19, _⟩ => ⟨S2x4x4096x256, .f32⟩
  | .hbm, ⟨20, _⟩ => ⟨S2x4x4096x256, .f32⟩
  | .hbm, ⟨21, _⟩ => ⟨S2x4x4096x256, .f32⟩
  | .hbm, ⟨22, _⟩ => ⟨S_, .f32⟩
  | .hbm, ⟨23, _⟩ => ⟨S2x4x4096, .f32⟩
  | .hbm, ⟨24, _⟩ => ⟨S2x4x4096x1, .f32⟩
  | .hbm, ⟨25, _⟩ => ⟨S2x4x4096x256, .f32⟩
  | .hbm, ⟨26, _⟩ => ⟨S2x4x4096x256, .f32⟩
  | .hbm, ⟨27, _⟩ => ⟨S2x4x256x4096, .f32⟩
  | .hbm, ⟨28, _⟩ => ⟨S2x4096x4x256, .f32⟩
  | .hbm, ⟨29, _⟩ => ⟨S8192x1024, .f32⟩
  | .hbm, ⟨30, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== PreFwd.lean ====
abbrev S2x4096x1024 : Shape := ⟨3, ![2, 4096, 1024]⟩
abbrev S1x1024 : Shape := ⟨2, ![1, 1024]⟩
abbrev S8x128 : Shape := ⟨2, ![8, 128]⟩
abbrev S8192x1024 : Shape := ⟨2, ![8192, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 6
  | .smem => 0
  | _ => 0

abbrev bufTy : (tb : Table) → Fin (tcTables nBuf tb) → BufTy
  | .hbm, ⟨0, _⟩ => ⟨S2x4096x1024, .f32⟩
  | .hbm, ⟨1, _⟩ => ⟨S1x1024, .f32⟩
  | .hbm, ⟨2, _⟩ => ⟨S8x128, .f32⟩
  | .hbm, ⟨3, _⟩ => ⟨S8192x1024, .f32⟩
  | .hbm, ⟨4, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S8x128, .f32⟩
  | .local _ .vmem, ⟨4, _⟩ => ⟨S1024x1024, .bf16⟩
  | .local _ .vmem, ⟨5, _⟩ => ⟨S1024x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PreFwdRefIdeal.lean ====
abbrev S2x4096x1024 : Shape := ⟨3, ![2, 4096, 1024]⟩
abbrev S1x1024 : Shape := ⟨2, ![1, 1024]⟩
abbrev S8x128 : Shape := ⟨2, ![8, 128]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x1024 : Shape := ⟨2, ![8192, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1x1024, .f32⟩
  | .hbm, ⟨2, _⟩ => ⟨S8x128, .f32⟩
  | .hbm, ⟨3, _⟩ => ⟨S1024, .f32⟩
  | .hbm, ⟨4, _⟩ => ⟨S2x4096x1024, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x1024, .f32⟩
  | .hbm, ⟨16, _⟩ => ⟨S2x4096x1024, .f32⟩
  | .hbm, ⟨17, _⟩ => ⟨S1x1x1024, .f32⟩
  | .hbm, ⟨18, _⟩ => ⟨S2x4096x1024, .f32⟩
  | .hbm, ⟨19, _⟩ => ⟨S2x4096x1024, .f32⟩
  | .hbm, ⟨20, _⟩ => ⟨S8192x1024, .f32⟩
  | .hbm, ⟨21, _⟩ => ⟨S8192x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== KvFwd.lean ====
abbrev S2x256x1024 : Shape := ⟨3, ![2, 256, 1024]⟩
abbrev S1x1024 : Shape := ⟨2, ![1, 1024]⟩
abbrev S1x1024x2048 : Shape := ⟨3, ![1, 1024, 2048]⟩
abbrev S1024x2048 : Shape := ⟨2, ![1024, 2048]⟩
abbrev S1024x8x256 : Shape := ⟨3, ![1024, 8, 256]⟩
abbrev S8x1024x256 : Shape := ⟨3, ![8, 1024, 256]⟩
abbrev S512x1024 : Shape := ⟨2, ![512, 1024]⟩
abbrev S2x512x1024 : Shape := ⟨3, ![2, 512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x512x256 : Shape := ⟨3, ![1, 512, 256]⟩

abbrev nBuf : Space → Nat
  | .hbm => 10
  | .vmem => 5
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x2048, .f32⟩
  | .hbm, ⟨3, _⟩ => ⟨S1024x2048, .f32⟩
  | .hbm, ⟨4, _⟩ => ⟨S1024x2048, .bf16⟩
  | .hbm, ⟨5, _⟩ => ⟨S1024x8x256, .bf16⟩
  | .hbm, ⟨6, _⟩ => ⟨S8x1024x256, .bf16⟩
  | .hbm, ⟨7, _⟩ => ⟨S512x1024, .f32⟩
  | .hbm, ⟨8, _⟩ => ⟨S2x512x1024, .bf16⟩
  | .hbm, ⟨9, _⟩ => ⟨S512x1024, .bf16⟩
  | .local _ .vmem, ⟨0, _⟩ => ⟨S512x1024, .f32⟩
  | .local _ .vmem, ⟨1, _⟩ => ⟨S1x1024, .f32⟩
  | .local _ .vmem, ⟨2, _⟩ => ⟨S8x1024x256, .bf16⟩
  | .local _ .vmem, ⟨3, _⟩ => ⟨S2x512x1024, .bf16⟩
  | .local _ .vmem, ⟨4, _⟩ => ⟨S512x1024, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== KvFwdRefIdeal.lean ====
abbrev S2x256x1024 : Shape := ⟨3, ![2, 256, 1024]⟩
abbrev S1x1024 : Shape := ⟨2, ![1, 1024]⟩
abbrev S1x1024x2048 : Shape := ⟨3, ![1, 1024, 2048]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S1024x2048 : Shape := ⟨2, ![1024, 2048]⟩
abbrev S2x256x2048 : Shape := ⟨3, ![2, 256, 2048]⟩
abbrev S512x2x1024 : Shape := ⟨3, ![512, 2, 1024]⟩
abbrev S2x512x1024 : Shape := ⟨3, ![2, 512, 1024]⟩
abbrev S512x1024 : Shape := ⟨2, ![512, 1024]⟩

abbrev nBuf : Space → Nat
  | .hbm => 27
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x2048, .f32⟩
  | .hbm, ⟨3, _⟩ => ⟨S1024, .f32⟩
  | .hbm, ⟨4, _⟩ => ⟨S2x256x1024, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x1024, .f32⟩
  | .hbm, ⟨16, _⟩ => ⟨S2x256x1024, .f32⟩
  | .hbm, ⟨17, _⟩ => ⟨S1x1x1024, .f32⟩
  | .hbm, ⟨18, _⟩ => ⟨S2x256x1024, .f32⟩
  | .hbm, ⟨19, _⟩ => ⟨S2x256x1024, .f32⟩
  | .hbm, ⟨20, _⟩ => ⟨S1024x2048, .f32⟩
  | .hbm, ⟨21, _⟩ => ⟨S2x256x2048, .f32⟩
  | .hbm, ⟨22, _⟩ => ⟨S512x2x1024, .f32⟩
  | .hbm, ⟨23, _⟩ => ⟨S2x512x1024, .f32⟩
  | .hbm, ⟨24, _⟩ => ⟨S2x512x1024, .bf16⟩
  | .hbm, ⟨25, _⟩ => ⟨S512x1024, .f32⟩
  | .hbm, ⟨26, _⟩ => ⟨S512x1024, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== OutQFwd.lean ====
abbrev S8192x1024 : Shape := ⟨2, ![8192, 1024]⟩
abbrev S1x1024x1024 : Shape := ⟨3, ![1, 1024, 1024]⟩
abbrev S2x4096x1024 : Shape := ⟨3, ![2, 4096, 1024]⟩
abbrev S1x1024 : Shape := ⟨2, ![1, 1024]⟩
abbrev S8192x2x512 : Shape := ⟨3, ![8192, 2, 512]⟩
abbrev S2x8192x512 : Shape := ⟨3, ![2, 8192, 512]⟩
abbrev S1024x1024 : Shape := ⟨2, ![1024, 1024]⟩
abbrev S2x1024x512 : Shape := ⟨3, ![2, 1024, 512]⟩
abbrev S1x1024x512 : Shape := ⟨3, ![1, 1024, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 15
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .f32⟩
  | .hbm, ⟨2, _⟩ => ⟨S2x4096x1024, .f32⟩
  | .hbm, ⟨3, _⟩ => ⟨S1x1024, .f32⟩
  | .hbm, ⟨4, _⟩ => ⟨S1x1024x1024, .f32⟩
  | .hbm, ⟨5, _⟩ => ⟨S8192x2x512, .bf16⟩
  | .hbm, ⟨6, _⟩ => ⟨S2x8192x512, .bf16⟩
  | .hbm, ⟨7, _⟩ => ⟨S1024x1024, .f32⟩
  | .hbm, ⟨8, _⟩ => ⟨S1024x1024, .bf16⟩
  | .hbm, ⟨9, _⟩ => ⟨S8192x1024, .f32⟩
  | .hbm, ⟨10, _⟩ => ⟨S1024x1024, .f32⟩
  | .hbm, ⟨11, _⟩ => ⟨S1024x1024, .bf16⟩
  | .hbm, ⟨12, _⟩ => ⟨S8192x1024, .f32⟩
  | .hbm, ⟨13, _⟩ => ⟨S8192x1024, .bf16⟩
  | .hbm, ⟨14, _⟩ => ⟨S8192x1024, .bf16⟩
  | .local _ .vmem, ⟨0, _⟩ => ⟨S2x1024x512, .bf16⟩
  | .local _ .vmem, ⟨1, _⟩ => ⟨S2x1024x512, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutQFwdRefIdeal.lean ====
abbrev S8192x1024 : Shape := ⟨2, ![8192, 1024]⟩
abbrev S1x1024x1024 : Shape := ⟨3, ![1, 1024, 1024]⟩
abbrev S2x4096x1024 : Shape := ⟨3, ![2, 4096, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .f32⟩
  | .hbm, ⟨2, _⟩ => ⟨S2x4096x1024, .f32⟩
  | .hbm, ⟨3, _⟩ => ⟨S1x1024, .f32⟩
  | .hbm, ⟨4, _⟩ => ⟨S1x1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S1024x1024, .f32⟩
  | .hbm, ⟨29, _⟩ => ⟨S8192x1024, .f32⟩
  | .hbm, ⟨30, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== AttnOutFwd.lean ====
abbrev S8192x1024 : Shape := ⟨2, ![8192, 1024]⟩
abbrev S1x1024x1024 : Shape := ⟨3, ![1, 1024, 1024]⟩
abbrev S1x1024 : Shape := ⟨2, ![1, 1024]⟩
abbrev S1024x1024 : Shape := ⟨2, ![1024, 1024]⟩
abbrev S1024x512 : Shape := ⟨2, ![1024, 512]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .f32⟩
  | .hbm, ⟨2, _⟩ => ⟨S8192x1024, .f32⟩
  | .hbm, ⟨3, _⟩ => ⟨S1x1024, .f32⟩
  | .hbm, ⟨4, _⟩ => ⟨S1024x1024, .f32⟩
  | .hbm, ⟨5, _⟩ => ⟨S1024x1024, .bf16⟩
  | .hbm, ⟨6, _⟩ => ⟨S8192x1024, .f32⟩
  | .hbm, ⟨7, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AttnOutFwdRefIdeal.lean ====
abbrev S8192x1024 : Shape := ⟨2, ![8192, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== MixPool.lean ====
abbrev S2x4096x2560 : Shape := ⟨3, ![2, 4096, 2560]⟩
abbrev S1x4x128x128 : Shape := ⟨4, ![1, 4, 128, 128]⟩
abbrev S1x512 : Shape := ⟨2, ![1, 512]⟩
abbrev S2x512 : Shape := ⟨2, ![2, 512]⟩
abbrev S2x4096x1024 : Shape := ⟨3, ![2, 4096, 1024]⟩
abbrev S8x128 : Shape := ⟨2, ![8, 128]⟩
abbrev S8192x5x512 : Shape := ⟨3, ![8192, 5, 512]⟩
abbrev S5x8192x512 : Shape := ⟨3, ![5, 8192, 512]⟩
abbrev S4x128x128 : Shape := ⟨3, ![4, 128, 128]⟩
abbrev S4x1x128 : Shape := ⟨3, ![4, 1, 128]⟩
abbrev S2x4x128 : Shape := ⟨3, ![2, 4, 128]⟩
abbrev S4x2x128 : Shape := ⟨3, ![4, 2, 128]⟩
abbrev S256x256 : Shape := ⟨2, ![256, 256]⟩
abbrev S_ : Shape := ⟨0, ![]⟩
abbrev S1x256x256 : Shape := ⟨3, ![1, 256, 256]⟩
abbrev S2x256x256 : Shape := ⟨3, ![2, 256, 256]⟩
abbrev S2x4096x2048 : Shape := ⟨3, ![2, 4096, 2048]⟩
abbrev S2x4096x512 : Shape := ⟨3, ![2, 4096, 512]⟩
abbrev S512 : Shape := ⟨1, ![512]⟩
abbrev S1x1x512 : Shape := ⟨3, ![1, 1, 512]⟩
abbrev S2x64x64x4x128 : Shape := ⟨5, ![2, 64, 64, 4, 128]⟩
abbrev S2x64x4x64x128 : Shape := ⟨5, ![2, 64, 4, 64, 128]⟩
abbrev S2x64x4x1x128 : Shape := ⟨5, ![2, 64, 4, 1, 128]⟩
abbrev S2x64x4x64x64 : Shape := ⟨5, ![2, 64, 4, 64, 64]⟩
abbrev S64x64 : Shape := ⟨2, ![64, 64]⟩
abbrev S2x64x4x128x128 : Shape := ⟨5, ![2, 64, 4, 128, 128]⟩
abbrev S2x64x4x128 : Shape := ⟨4, ![2, 64, 4, 128]⟩
abbrev S2x64x4x128x1 : Shape := ⟨5, ![2, 64, 4, 128, 1]⟩
abbrev S2x1x4x128x128 : Shape := ⟨5, ![2, 1, 4, 128, 128]⟩
abbrev S2x16x4x128x128 : Shape := ⟨5, ![2, 16, 4, 128, 128]⟩
abbrev S8192x512 : Shape := ⟨2, ![8192, 512]⟩
abbrev S128x4x128x128 : Shape := ⟨4, ![128, 4, 128, 128]⟩
abbrev S8192x2x512 : Shape := ⟨3, ![8192, 2, 512]⟩
abbrev S2x8192x512 : Shape := ⟨3, ![2, 8192, 512]⟩
abbrev S5x256x512 : Shape := ⟨3, ![5, 256, 512]⟩
abbrev S1x16x512 : Shape := ⟨3, ![1, 16, 512]⟩
abbrev S2x256x512 : Shape := ⟨3, ![2, 256, 512]⟩
abbrev S256x512 : Shape := ⟨2, ![256, 512]⟩
abbrev S4x4x128x128 : Shape := ⟨4, ![4, 4, 128, 128]⟩
abbrev S4x16x128 : Shape := ⟨3, ![4, 16, 128]⟩
abbrev S4x4x288x128 : Shape := ⟨4, ![4, 4, 288, 128]⟩
abbrev S256x1 : Shape := ⟨2, ![256, 1]⟩
abbrev S1x256x128 : Shape := ⟨3, ![1, 256, 128]⟩
abbrev S256x128 : Shape := ⟨2, ![256, 128]⟩
abbrev S16x128 : Shape := ⟨2, ![16, 128]⟩
abbrev S1x4x288x128 : Shape := ⟨4, ![1, 4, 288, 128]⟩
abbrev S4x288x128 : Shape := ⟨3, ![4, 288, 128]⟩
abbrev S1x16x128 : Shape := ⟨3, ![1, 16, 128]⟩
abbrev S1x280x128 : Shape := ⟨3, ![1, 280, 128]⟩
abbrev S280x128 : Shape := ⟨2, ![280, 128]⟩
abbrev S1x272x128 : Shape := ⟨3, ![1, 272, 128]⟩
abbrev S272x128 : Shape := ⟨2, ![272, 128]⟩
abbrev S1x264x128 : Shape := ⟨3, ![1, 264, 128]⟩
abbrev S264x128 : Shape := ⟨2, ![264, 128]⟩
abbrev S1x1x128 : Shape := ⟨3, ![1, 1, 128]⟩
abbrev S1x128 : Shape := ⟨2, ![1, 128]⟩
abbrev S1x128x128 : Shape := ⟨3, ![1, 128, 128]⟩
abbrev S128x128 : Shape := ⟨2, ![128, 128]⟩
abbrev S128 : Shape := ⟨1, ![128]⟩
abbrev S1x256x512 : Shape := ⟨3, ![1, 256, 512]⟩
abbrev S1x2x128 : Shape := ⟨3, ![1, 2, 128]⟩
abbrev S2x128 : Shape := ⟨2, ![2, 128]⟩
abbrev S256 : Shape := ⟨1, ![256]⟩
abbrev S64x512 : Shape := ⟨2, ![64, 512]⟩
abbrev S128x512 : Shape := ⟨2, ![128, 512]⟩
abbrev S1x1x128x128 : Shape := ⟨4, ![1, 1, 128, 128]⟩
abbrev S512x128 : Shape := ⟨2, ![512, 128]⟩
abbrev S64x1 : Shape := ⟨2, ![64, 1]⟩

abbrev nBuf : Space → Nat
  | .hbm => 410
  | .vmem => 26
  | .smem => 0
  | _ => 0

abbrev hbmTy0_0 (i : Nat) : BufTy := match i % 128 with
  | 0 => ⟨S2x4096x2560, .f32⟩
  | 1 => ⟨S1x4x128x128, .f32⟩
  | 2 => ⟨S1x512, .f32⟩
  | 3 => ⟨S2x512, .f32⟩
  | 4 => ⟨S1x512, .f32⟩
  | 5 => ⟨S2x4096x1024, .f32⟩
  | 6 => ⟨S8x128, .f32⟩
  | 7 => ⟨S8192x5x512, .f32⟩
  | 8 => ⟨S5x8192x512, .f32⟩
  | 9 => ⟨S4x128x128, .f32⟩
  | 10 => ⟨S4x128x128, .bf16⟩
  | 11 => ⟨S4x1x128, .f32⟩
  | 12 => ⟨S4x1x128, .f32⟩
  | 13 => ⟨S2x4x128, .f32⟩
  | 14 => ⟨S4x2x128, .f32⟩
  | 15 => ⟨S256x256, .i32⟩
  | 16 => ⟨S256x256, .i32⟩
  | 17 => ⟨S_, .i32⟩
  | 18 => ⟨S256x256, .i32⟩
  | 19 => ⟨S256x256, .i32⟩
  | 20 => ⟨S_, .i32⟩
  | 21 => ⟨S256x256, .i32⟩
  | 22 => ⟨S256x256, .i32⟩
  | 23 => ⟨S256x256, .i1⟩
  | 24 => ⟨S256x256, .i1⟩
  | 25 => ⟨S256x256, .i1⟩
  | 26 => ⟨S256x256, .i1⟩
  | 27 => ⟨S256x256, .i1⟩
  | 28 => ⟨S1x256x256, .i1⟩
  | 29 => ⟨S1x256x256, .i1⟩
  | 30 => ⟨S2x256x256, .i1⟩
  | 31 => ⟨S2x256x256, .f32⟩
  | 32 => ⟨S2x256x256, .bf16⟩
  | 33 => ⟨S2x4096x2048, .f32⟩
  | 34 => ⟨S2x4096x512, .f32⟩
  | 35 => ⟨S2x4096x512, .f32⟩
  | 36 => ⟨S2x4096x512, .f32⟩
  | 37 => ⟨S2x4096x512, .f32⟩
  | 38 => ⟨S_, .f32⟩
  | 39 => ⟨S512, .f32⟩
  | 40 => ⟨S_, .f32⟩
  | 41 => ⟨S512, .f32⟩
  | 42 => ⟨S512, .f32⟩
  | 43 => ⟨S1x512, .f32⟩
  | 44 => ⟨S2x512, .f32⟩
  | 45 => ⟨S2x512, .f32⟩
  | 46 => ⟨S2x512, .f32⟩
  | 47 => ⟨S_, .f32⟩
  | 48 => ⟨S512, .f32⟩
  | 49 => ⟨S1x512, .f32⟩
  | 50 => ⟨S2x512, .f32⟩
  | 51 => ⟨S2x512, .f32⟩
  | 52 => ⟨S_, .f32⟩
  | 53 => ⟨S_, .f32⟩
  | 54 => ⟨S2x512, .f32⟩
  | 55 => ⟨S1x512, .f32⟩
  | 56 => ⟨S512, .f32⟩
  | 57 => ⟨S_, .f32⟩
  | 58 => ⟨S512, .f32⟩
  | 59 => ⟨S512, .f32⟩
  | 60 => ⟨S2x4096x512, .f32⟩
  | 61 => ⟨S2x4096x512, .f32⟩
  | 62 => ⟨S_, .f32⟩
  | 63 => ⟨S2x4096x512, .f32⟩
  | 64 => ⟨S2x4096x512, .f32⟩
  | 65 => ⟨S_, .f32⟩
  | 66 => ⟨S2x4096x512, .f32⟩
  | 67 => ⟨S2x4096x512, .f32⟩
  | 68 => ⟨S1x1x512, .f32⟩
  | 69 => ⟨S2x4096x512, .f32⟩
  | 70 => ⟨S2x4096x512, .f32⟩
  | 71 => ⟨S1x1x512, .f32⟩
  | 72 => ⟨S2x4096x512, .f32⟩
  | 73 => ⟨S2x4096x512, .f32⟩
  | 74 => ⟨S2x4096x512, .f32⟩
  | 75 => ⟨S2x4096x512, .f32⟩
  | 76 => ⟨S_, .f32⟩
  | 77 => ⟨S2x4096x512, .f32⟩
  | 78 => ⟨S2x4096x512, .f32⟩
  | 79 => ⟨S_, .f32⟩
  | 80 => ⟨S2x4096x512, .f32⟩
  | 81 => ⟨S2x4096x512, .f32⟩
  | 82 => ⟨S2x4096x512, .f32⟩
  | 83 => ⟨S2x4096x512, .f32⟩
  | 84 => ⟨S_, .f32⟩
  | 85 => ⟨S2x4096x512, .f32⟩
  | 86 => ⟨S2x4096x512, .f32⟩
  | 87 => ⟨S2x64x64x4x128, .f32⟩
  | 88 => ⟨S2x64x4x64x128, .f32⟩
  | 89 => ⟨S2x64x64x4x128, .f32⟩
  | 90 => ⟨S2x64x4x64x128, .f32⟩
  | 91 => ⟨S2x64x64x4x128, .f32⟩
  | 92 => ⟨S2x64x4x64x128, .f32⟩
  | 93 => ⟨S2x64x64x4x128, .f32⟩
  | 94 => ⟨S2x64x4x64x128, .f32⟩
  | 95 => ⟨S_, .f32⟩
  | 96 => ⟨S_, .f32⟩
  | 97 => ⟨S2x64x4x64x128, .f32⟩
  | 98 => ⟨S2x64x4x1x128, .f32⟩
  | 99 => ⟨S2x64x4x1x128, .f32⟩
  | 100 => ⟨S2x64x4x64x128, .f32⟩
  | 101 => ⟨S2x64x4x64x128, .f32⟩
  | 102 => ⟨S2x64x4x64x128, .f32⟩
  | 103 => ⟨S2x64x4x64x128, .f32⟩
  | 104 => ⟨S2x64x4x64x128, .f32⟩
  | 105 => ⟨S2x64x4x64x128, .f32⟩
  | 106 => ⟨S2x64x4x64x128, .f32⟩
  | 107 => ⟨S2x64x4x64x128, .f32⟩
  | 108 => ⟨S2x64x4x64x64, .f32⟩
  | 109 => ⟨S_, .i1⟩
  | 110 => ⟨S64x64, .i1⟩
  | 111 => ⟨S64x64, .i32⟩
  | 112 => ⟨S_, .i32⟩
  | 113 => ⟨S64x64, .i32⟩
  | 114 => ⟨S64x64, .i32⟩
  | 115 => ⟨S64x64, .i32⟩
  | 116 => ⟨S64x64, .i1⟩
  | 117 => ⟨S_, .i1⟩
  | 118 => ⟨S64x64, .i1⟩
  | 119 => ⟨S64x64, .i1⟩
  | 120 => ⟨S_, .f32⟩
  | 121 => ⟨S2x64x4x64x64, .f32⟩
  | 122 => ⟨S2x64x4x64x64, .i1⟩
  | 123 => ⟨S2x64x4x64x64, .f32⟩
  | 124 => ⟨S2x64x4x64x128, .f32⟩
  | 125 => ⟨S2x64x4x64x128, .f32⟩
  | 126 => ⟨S2x64x4x64x128, .f32⟩
  | 127 => ⟨S2x64x4x64x128, .f32⟩
  | _ => ⟨S2x4096x2560, .f32⟩

abbrev hbmTy0_1 (i : Nat) : BufTy := match i % 128 with
  | 0 => ⟨S2x64x4x64x128, .f32⟩
  | 1 => ⟨S2x64x4x128x128, .f32⟩
  | 2 => ⟨S2x64x4x128, .f32⟩
  | 3 => ⟨S2x64x4x128, .f32⟩
  | 4 => ⟨S2x64x4x128x1, .f32⟩
  | 5 => ⟨S2x64x4x128x128, .f32⟩
  | 6 => ⟨S_, .f32⟩
  | 7 => ⟨S2x1x4x128x128, .f32⟩
  | 8 => ⟨S2x1x4x128x128, .f32⟩
  | 9 => ⟨S2x1x4x128x128, .f32⟩
  | 10 => ⟨S2x1x4x128x128, .f32⟩
  | 11 => ⟨S2x1x4x128x128, .f32⟩
  | 12 => ⟨S2x1x4x128x128, .f32⟩
  | 13 => ⟨S2x1x4x128x128, .f32⟩
  | 14 => ⟨S2x1x4x128x128, .f32⟩
  | 15 => ⟨S2x1x4x128x128, .f32⟩
  | 16 => ⟨S2x1x4x128x128, .f32⟩
  | 17 => ⟨S2x1x4x128x128, .f32⟩
  | 18 => ⟨S2x1x4x128x128, .f32⟩
  | 19 => ⟨S2x1x4x128x128, .f32⟩
  | 20 => ⟨S2x1x4x128x128, .f32⟩
  | 21 => ⟨S2x1x4x128x128, .f32⟩
  | 22 => ⟨S2x1x4x128x128, .f32⟩
  | 23 => ⟨S2x1x4x128x128, .f32⟩
  | 24 => ⟨S2x1x4x128x128, .f32⟩
  | 25 => ⟨S2x1x4x128x128, .f32⟩
  | 26 => ⟨S2x1x4x128x128, .f32⟩
  | 27 => ⟨S2x1x4x128x128, .f32⟩
  | 28 => ⟨S2x1x4x128x128, .f32⟩
  | 29 => ⟨S2x1x4x128x128, .f32⟩
  | 30 => ⟨S2x1x4x128x128, .f32⟩
  | 31 => ⟨S2x1x4x128x128, .f32⟩
  | 32 => ⟨S2x1x4x128x128, .f32⟩
  | 33 => ⟨S2x1x4x128x128, .f32⟩
  | 34 => ⟨S2x1x4x128x128, .f32⟩
  | 35 => ⟨S2x1x4x128x128, .f32⟩
  | 36 => ⟨S2x1x4x128x128, .f32⟩
  | 37 => ⟨S2x1x4x128x128, .f32⟩
  | 38 => ⟨S2x1x4x128x128, .f32⟩
  | 39 => ⟨S2x1x4x128x128, .f32⟩
  | 40 => ⟨S2x1x4x128x128, .f32⟩
  | 41 => ⟨S2x1x4x128x128, .f32⟩
  | 42 => ⟨S2x1x4x128x128, .f32⟩
  | 43 => ⟨S2x1x4x128x128, .f32⟩
  | 44 => ⟨S2x1x4x128x128, .f32⟩
  | 45 => ⟨S2x1x4x128x128, .f32⟩
  | 46 => ⟨S2x1x4x128x128, .f32⟩
  | 47 => ⟨S2x1x4x128x128, .f32⟩
  | 48 => ⟨S2x1x4x128x128, .f32⟩
  | 49 => ⟨S2x1x4x128x128, .f32⟩
  | 50 => ⟨S2x1x4x128x128, .f32⟩
  | 51 => ⟨S2x1x4x128x128, .f32⟩
  | 52 => ⟨S2x1x4x128x128, .f32⟩
  | 53 => ⟨S2x1x4x128x128, .f32⟩
  | 54 => ⟨S2x1x4x128x128, .f32⟩
  | 55 => ⟨S2x1x4x128x128, .f32⟩
  | 56 => ⟨S2x1x4x128x128, .f32⟩
  | 57 => ⟨S2x1x4x128x128, .f32⟩
  | 58 => ⟨S2x1x4x128x128, .f32⟩
  | 59 => ⟨S2x1x4x128x128, .f32⟩
  | 60 => ⟨S2x1x4x128x128, .f32⟩
  | 61 => ⟨S2x1x4x128x128, .f32⟩
  | 62 => ⟨S2x1x4x128x128, .f32⟩
  | 63 => ⟨S2x1x4x128x128, .f32⟩
  | 64 => ⟨S2x1x4x128x128, .f32⟩
  | 65 => ⟨S2x1x4x128x128, .f32⟩
  | 66 => ⟨S2x1x4x128x128, .f32⟩
  | 67 => ⟨S2x1x4x128x128, .f32⟩
  | 68 => ⟨S2x1x4x128x128, .f32⟩
  | 69 => ⟨S2x1x4x128x128, .f32⟩
  | 70 => ⟨S2x1x4x128x128, .f32⟩
  | 71 => ⟨S2x1x4x128x128, .f32⟩
  | 72 => ⟨S2x1x4x128x128, .f32⟩
  | 73 => ⟨S2x1x4x128x128, .f32⟩
  | 74 => ⟨S2x1x4x128x128, .f32⟩
  | 75 => ⟨S2x1x4x128x128, .f32⟩
  | 76 => ⟨S2x1x4x128x128, .f32⟩
  | 77 => ⟨S2x1x4x128x128, .f32⟩
  | 78 => ⟨S2x1x4x128x128, .f32⟩
  | 79 => ⟨S2x1x4x128x128, .f32⟩
  | 80 => ⟨S2x1x4x128x128, .f32⟩
  | 81 => ⟨S2x1x4x128x128, .f32⟩
  | 82 => ⟨S2x1x4x128x128, .f32⟩
  | 83 => ⟨S2x1x4x128x128, .f32⟩
  | 84 => ⟨S2x1x4x128x128, .f32⟩
  | 85 => ⟨S2x1x4x128x128, .f32⟩
  | 86 => ⟨S2x1x4x128x128, .f32⟩
  | 87 => ⟨S2x1x4x128x128, .f32⟩
  | 88 => ⟨S2x1x4x128x128, .f32⟩
  | 89 => ⟨S2x1x4x128x128, .f32⟩
  | 90 => ⟨S2x1x4x128x128, .f32⟩
  | 91 => ⟨S2x1x4x128x128, .f32⟩
  | 92 => ⟨S2x1x4x128x128, .f32⟩
  | 93 => ⟨S2x1x4x128x128, .f32⟩
  | 94 => ⟨S2x1x4x128x128, .f32⟩
  | 95 => ⟨S2x1x4x128x128, .f32⟩
  | 96 => ⟨S2x1x4x128x128, .f32⟩
  | 97 => ⟨S2x1x4x128x128, .f32⟩
  | 98 => ⟨S2x1x4x128x128, .f32⟩
  | 99 => ⟨S2x1x4x128x128, .f32⟩
  | 100 => ⟨S2x1x4x128x128, .f32⟩
  | 101 => ⟨S2x1x4x128x128, .f32⟩
  | 102 => ⟨S2x1x4x128x128, .f32⟩
  | 103 => ⟨S2x1x4x128x128, .f32⟩
  | 104 => ⟨S2x1x4x128x128, .f32⟩
  | 105 => ⟨S2x1x4x128x128, .f32⟩
  | 106 => ⟨S2x1x4x128x128, .f32⟩
  | 107 => ⟨S2x1x4x128x128, .f32⟩
  | 108 => ⟨S2x1x4x128x128, .f32⟩
  | 109 => ⟨S2x1x4x128x128, .f32⟩
  | 110 => ⟨S2x1x4x128x128, .f32⟩
  | 111 => ⟨S2x1x4x128x128, .f32⟩
  | 112 => ⟨S2x1x4x128x128, .f32⟩
  | 113 => ⟨S2x1x4x128x128, .f32⟩
  | 114 => ⟨S2x1x4x128x128, .f32⟩
  | 115 => ⟨S2x1x4x128x128, .f32⟩
  | 116 => ⟨S2x1x4x128x128, .f32⟩
  | 117 => ⟨S2x1x4x128x128, .f32⟩
  | 118 => ⟨S2x1x4x128x128, .f32⟩
  | 119 => ⟨S2x1x4x128x128, .f32⟩
  | 120 => ⟨S2x1x4x128x128, .f32⟩
  | 121 => ⟨S2x1x4x128x128, .f32⟩
  | 122 => ⟨S2x1x4x128x128, .f32⟩
  | 123 => ⟨S2x1x4x128x128, .f32⟩
  | 124 => ⟨S2x1x4x128x128, .f32⟩
  | 125 => ⟨S2x1x4x128x128, .f32⟩
  | 126 => ⟨S2x1x4x128x128, .f32⟩
  | 127 => ⟨S2x1x4x128x128, .f32⟩
  | _ => ⟨S2x4096x2560, .f32⟩

abbrev hbmTy0_2 (i : Nat) : BufTy := match i % 128 with
  | 0 => ⟨S2x1x4x128x128, .f32⟩
  | 1 => ⟨S2x1x4x128x128, .f32⟩
  | 2 => ⟨S2x1x4x128x128, .f32⟩
  | 3 => ⟨S2x1x4x128x128, .f32⟩
  | 4 => ⟨S2x1x4x128x128, .f32⟩
  | 5 => ⟨S2x1x4x128x128, .f32⟩
  | 6 => ⟨S2x1x4x128x128, .f32⟩
  | 7 => ⟨S2x1x4x128x128, .f32⟩
  | 8 => ⟨S2x1x4x128x128, .f32⟩
  | 9 => ⟨S2x1x4x128x128, .f32⟩
  | 10 => ⟨S2x1x4x128x128, .f32⟩
  | 11 => ⟨S2x1x4x128x128, .f32⟩
  | 12 => ⟨S2x1x4x128x128, .f32⟩
  | 13 => ⟨S2x1x4x128x128, .f32⟩
  | 14 => ⟨S2x1x4x128x128, .f32⟩
  | 15 => ⟨S2x1x4x128x128, .f32⟩
  | 16 => ⟨S2x1x4x128x128, .f32⟩
  | 17 => ⟨S2x1x4x128x128, .f32⟩
  | 18 => ⟨S2x1x4x128x128, .f32⟩
  | 19 => ⟨S2x1x4x128x128, .f32⟩
  | 20 => ⟨S2x1x4x128x128, .f32⟩
  | 21 => ⟨S2x1x4x128x128, .f32⟩
  | 22 => ⟨S2x1x4x128x128, .f32⟩
  | 23 => ⟨S2x1x4x128x128, .f32⟩
  | 24 => ⟨S2x1x4x128x128, .f32⟩
  | 25 => ⟨S2x1x4x128x128, .f32⟩
  | 26 => ⟨S2x1x4x128x128, .f32⟩
  | 27 => ⟨S2x1x4x128x128, .f32⟩
  | 28 => ⟨S2x1x4x128x128, .f32⟩
  | 29 => ⟨S2x1x4x128x128, .f32⟩
  | 30 => ⟨S2x1x4x128x128, .f32⟩
  | 31 => ⟨S2x1x4x128x128, .f32⟩
  | 32 => ⟨S2x1x4x128x128, .f32⟩
  | 33 => ⟨S2x1x4x128x128, .f32⟩
  | 34 => ⟨S2x1x4x128x128, .f32⟩
  | 35 => ⟨S2x1x4x128x128, .f32⟩
  | 36 => ⟨S2x1x4x128x128, .f32⟩
  | 37 => ⟨S2x1x4x128x128, .f32⟩
  | 38 => ⟨S2x1x4x128x128, .f32⟩
  | 39 => ⟨S2x1x4x128x128, .f32⟩
  | 40 => ⟨S2x1x4x128x128, .f32⟩
  | 41 => ⟨S2x1x4x128x128, .f32⟩
  | 42 => ⟨S2x1x4x128x128, .f32⟩
  | 43 => ⟨S2x1x4x128x128, .f32⟩
  | 44 => ⟨S2x1x4x128x128, .f32⟩
  | 45 => ⟨S2x1x4x128x128, .f32⟩
  | 46 => ⟨S2x1x4x128x128, .f32⟩
  | 47 => ⟨S2x1x4x128x128, .f32⟩
  | 48 => ⟨S2x1x4x128x128, .f32⟩
  | 49 => ⟨S2x1x4x128x128, .f32⟩
  | 50 => ⟨S2x1x4x128x128, .f32⟩
  | 51 => ⟨S2x1x4x128x128, .f32⟩
  | 52 => ⟨S2x1x4x128x128, .f32⟩
  | 53 => ⟨S2x1x4x128x128, .f32⟩
  | 54 => ⟨S2x1x4x128x128, .f32⟩
  | 55 => ⟨S2x1x4x128x128, .f32⟩
  | 56 => ⟨S2x1x4x128x128, .f32⟩
  | 57 => ⟨S2x1x4x128x128, .f32⟩
  | 58 => ⟨S2x1x4x128x128, .f32⟩
  | 59 => ⟨S2x1x4x128x128, .f32⟩
  | 60 => ⟨S2x1x4x128x128, .f32⟩
  | 61 => ⟨S2x1x4x128x128, .f32⟩
  | 62 => ⟨S2x1x4x128x128, .f32⟩
  | 63 => ⟨S2x1x4x128x128, .f32⟩
  | 64 => ⟨S2x1x4x128x128, .f32⟩
  | 65 => ⟨S2x1x4x128x128, .f32⟩
  | 66 => ⟨S2x1x4x128x128, .f32⟩
  | 67 => ⟨S2x1x4x128x128, .f32⟩
  | 68 => ⟨S2x1x4x128x128, .f32⟩
  | 69 => ⟨S2x1x4x128x128, .f32⟩
  | 70 => ⟨S2x1x4x128x128, .f32⟩
  | 71 => ⟨S2x1x4x128x128, .f32⟩
  | 72 => ⟨S2x1x4x128x128, .f32⟩
  | 73 => ⟨S2x1x4x128x128, .f32⟩
  | 74 => ⟨S2x1x4x128x128, .f32⟩
  | 75 => ⟨S2x1x4x128x128, .f32⟩
  | 76 => ⟨S2x1x4x128x128, .f32⟩
  | 77 => ⟨S2x1x4x128x128, .f32⟩
  | 78 => ⟨S2x1x4x128x128, .f32⟩
  | 79 => ⟨S2x1x4x128x128, .f32⟩
  | 80 => ⟨S2x1x4x128x128, .f32⟩
  | 81 => ⟨S2x1x4x128x128, .f32⟩
  | 82 => ⟨S2x1x4x128x128, .f32⟩
  | 83 => ⟨S2x1x4x128x128, .f32⟩
  | 84 => ⟨S2x1x4x128x128, .f32⟩
  | 85 => ⟨S2x1x4x128x128, .f32⟩
  | 86 => ⟨S2x1x4x128x128, .f32⟩
  | 87 => ⟨S2x1x4x128x128, .f32⟩
  | 88 => ⟨S2x1x4x128x128, .f32⟩
  | 89 => ⟨S2x1x4x128x128, .f32⟩
  | 90 => ⟨S2x1x4x128x128, .f32⟩
  | 91 => ⟨S2x1x4x128x128, .f32⟩
  | 92 => ⟨S2x1x4x128x128, .f32⟩
  | 93 => ⟨S2x1x4x128x128, .f32⟩
  | 94 => ⟨S2x1x4x128x128, .f32⟩
  | 95 => ⟨S2x1x4x128x128, .f32⟩
  | 96 => ⟨S2x1x4x128x128, .f32⟩
  | 97 => ⟨S2x1x4x128x128, .f32⟩
  | 98 => ⟨S2x1x4x128x128, .f32⟩
  | 99 => ⟨S2x1x4x128x128, .f32⟩
  | 100 => ⟨S2x1x4x128x128, .f32⟩
  | 101 => ⟨S2x1x4x128x128, .f32⟩
  | 102 => ⟨S2x1x4x128x128, .f32⟩
  | 103 => ⟨S2x1x4x128x128, .f32⟩
  | 104 => ⟨S2x1x4x128x128, .f32⟩
  | 105 => ⟨S2x1x4x128x128, .f32⟩
  | 106 => ⟨S2x1x4x128x128, .f32⟩
  | 107 => ⟨S2x1x4x128x128, .f32⟩
  | 108 => ⟨S2x1x4x128x128, .f32⟩
  | 109 => ⟨S2x1x4x128x128, .f32⟩
  | 110 => ⟨S2x1x4x128x128, .f32⟩
  | 111 => ⟨S2x1x4x128x128, .f32⟩
  | 112 => ⟨S2x1x4x128x128, .f32⟩
  | 113 => ⟨S2x1x4x128x128, .f32⟩
  | 114 => ⟨S2x1x4x128x128, .f32⟩
  | 115 => ⟨S2x1x4x128x128, .f32⟩
  | 116 => ⟨S2x1x4x128x128, .f32⟩
  | 117 => ⟨S2x1x4x128x128, .f32⟩
  | 118 => ⟨S2x1x4x128x128, .f32⟩
  | 119 => ⟨S2x1x4x128x128, .f32⟩
  | 120 => ⟨S2x1x4x128x128, .f32⟩
  | 121 => ⟨S2x1x4x128x128, .f32⟩
  | 122 => ⟨S2x1x4x128x128, .f32⟩
  | 123 => ⟨S2x1x4x128x128, .f32⟩
  | 124 => ⟨S2x1x4x128x128, .f32⟩
  | 125 => ⟨S2x1x4x128x128, .f32⟩
  | 126 => ⟨S2x1x4x128x128, .f32⟩
  | 127 => ⟨S2x1x4x128x128, .f32⟩
  | _ => ⟨S2x4096x2560, .f32⟩

abbrev hbmTy0_3 (i : Nat) : BufTy := match i % 128 with
  | 0 => ⟨S2x1x4x128x128, .f32⟩
  | 1 => ⟨S2x1x4x128x128, .f32⟩
  | 2 => ⟨S2x1x4x128x128, .f32⟩
  | 3 => ⟨S2x1x4x128x128, .f32⟩
  | 4 => ⟨S2x16x4x128x128, .f32⟩
  | 5 => ⟨S2x16x4x128x128, .f32⟩
  | 6 => ⟨S2x16x4x128x128, .f32⟩
  | 7 => ⟨S2x16x4x128x128, .f32⟩
  | 8 => ⟨S2x64x4x128x128, .f32⟩
  | 9 => ⟨S2x64x4x64x128, .f32⟩
  | 10 => ⟨S2x64x4x64x128, .f32⟩
  | 11 => ⟨S2x64x4x64x128, .f32⟩
  | 12 => ⟨S2x64x4x64x128, .f32⟩
  | 13 => ⟨S2x64x64x4x128, .f32⟩
  | 14 => ⟨S8192x512, .f32⟩
  | 15 => ⟨S2x64x4x128x128, .f32⟩
  | 16 => ⟨S128x4x128x128, .f32⟩
  | 17 => ⟨S128x4x128x128, .bf16⟩
  | 18 => ⟨S8192x2x512, .f32⟩
  | 19 => ⟨S2x8192x512, .f32⟩
  | 20 => ⟨S2x8192x512, .bf16⟩
  | 21 => ⟨S5x8192x512, .bf16⟩
  | 22 => ⟨S4x128x128, .f32⟩
  | 23 => ⟨S4x1x128, .f32⟩
  | 24 => ⟨S4x1x128, .f32⟩
  | 25 => ⟨S4x1x128, .f32⟩
  | _ => ⟨S2x4096x2560, .f32⟩

abbrev hbmTy (i : Nat) : BufTy := match i / 128 with
  | 0 => hbmTy0_0 i
  | 1 => hbmTy0_1 i
  | 2 => hbmTy0_2 i
  | 3 => hbmTy0_3 i
  | _ => ⟨S2x4096x2560, .f32⟩

abbrev bufTy : (tb : Table) → Fin (tcTables nBuf tb) → BufTy
  | .hbm, ⟨i, _⟩ => hbmTy i
  | .local _ .vmem, ⟨0, _⟩ => ⟨S5x256x512, .f32⟩
  | .local _ .vmem, ⟨1, _⟩ => ⟨S5x256x512, .f32⟩
  | .local _ .vmem, ⟨2, _⟩ => ⟨S1x16x512, .f32⟩
  | .local _ .vmem, ⟨3, _⟩ => ⟨S1x16x512, .f32⟩
  | .local _ .vmem, ⟨4, _⟩ => ⟨S2x256x512, .bf16⟩
  | .local _ .vmem, ⟨5, _⟩ => ⟨S2x256x512, .bf16⟩
  | .local _ .vmem, ⟨6, _⟩ => ⟨S256x512, .f32⟩
  | .local _ .vmem, ⟨7, _⟩ => ⟨S256x512, .f32⟩
  | .local _ .vmem, ⟨8, _⟩ => ⟨S4x4x128x128, .bf16⟩
  | .local _ .vmem, ⟨9, _⟩ => ⟨S4x4x128x128, .bf16⟩
  | .local _ .vmem, ⟨10, _⟩ => ⟨S4x128x128, .bf16⟩
  | .local _ .vmem, ⟨11, _⟩ => ⟨S4x1x128, .f32⟩
  | .local _ .vmem, ⟨12, _⟩ => ⟨S4x2x128, .f32⟩
  | .local _ .vmem, ⟨13, _⟩ => ⟨S4x1x128, .f32⟩
  | .local _ .vmem, ⟨14, _⟩ => ⟨S2x256x256, .bf16⟩
  | .local _ .vmem, ⟨15, _⟩ => ⟨S2x256x256, .f32⟩
  | .local _ .vmem, ⟨16, _⟩ => ⟨S8x128, .f32⟩
  | .local _ .vmem, ⟨17, _⟩ => ⟨S5x256x512, .bf16⟩
  | .local _ .vmem, ⟨18, _⟩ => ⟨S5x256x512, .bf16⟩
  | .local _ .vmem, ⟨19, _⟩ => ⟨S4x128x128, .f32⟩
  | .local _ .vmem, ⟨20, _⟩ => ⟨S4x1x128, .f32⟩
  | .local _ .vmem, ⟨21, _⟩ => ⟨S4x1x128, .f32⟩
  | .local _ .vmem, ⟨22, _⟩ => ⟨S4x1x128, .f32⟩
  | .local _ .vmem, ⟨23, _⟩ => ⟨S4x16x128, .f32⟩
  | .local _ .vmem, ⟨24, _⟩ => ⟨S4x4x288x128, .f32⟩
  | .local _ .vmem, ⟨25, _⟩ => ⟨S4x128x128, .f32⟩
  | _, _ => ⟨S2x4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_call0_call0_cst : Ref sig .tc := ⟨.hbm, 52, rfl⟩
abbrev main_call0_call0_v0 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_3 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_4 : Ref sig .tc := ⟨.hbm, 62, rfl⟩
abbrev main_v47 : Ref sig .tc := ⟨.hbm, 63, rfl⟩
abbrev main_v48 : Ref sig .tc := ⟨.hbm, 64, rfl⟩
abbrev main_cst_5 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_call1_v0 : Ref sig .tc := ⟨.hbm, 74, rfl⟩
abbrev main_call1_v1 : Ref sig .tc := ⟨.hbm, 75, rfl⟩
abbrev main_call1_cst : Ref sig .tc := ⟨.hbm, 76, rfl⟩
abbrev main_call1_v2 : Ref sig .tc := ⟨.hbm, 77, rfl⟩
abbrev main_call1_v3 : Ref sig .tc := ⟨.hbm, 78, rfl⟩
abbrev main_call1_cst_0 : Ref sig .tc := ⟨.hbm, 79, rfl⟩
abbrev main_call1_v4 : Ref sig .tc := ⟨.hbm, 80, rfl⟩
abbrev main_call1_v5 : Ref sig .tc := ⟨.hbm, 81, rfl⟩
abbrev main_v57 : Ref sig .tc := ⟨.hbm, 82, rfl⟩
abbrev main_v58 : Ref sig .tc := ⟨.hbm, 83, rfl⟩
abbrev main_cst_6 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call2_call0_cst : Ref sig .tc := ⟨.hbm, 95, rfl⟩
abbrev main_call2_call0_v0 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c_7 : Ref sig .tc := ⟨.hbm, 109, rfl⟩
abbrev main_v81 : Ref sig .tc := ⟨.hbm, 110, rfl⟩
abbrev main_call3_v0 : Ref sig .tc := ⟨.hbm, 111, rfl⟩
abbrev main_call3_c : Ref sig .tc := ⟨.hbm, 112, rfl⟩
abbrev main_call3_v1 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_call3_c_0 : Ref sig .tc := ⟨.hbm, 117, rfl⟩
abbrev main_call3_v5 : Ref sig .tc := ⟨.hbm, 118, rfl⟩
abbrev main_v82 : Ref sig .tc := ⟨.hbm, 119, rfl⟩
abbrev main_cst_8 : Ref sig .tc := ⟨.hbm, 120, rfl⟩
abbrev main_v83 : Ref sig .tc := ⟨.hbm, 121, rfl⟩
abbrev main_call4_v0 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_9 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_v223 : Ref sig .tc := ⟨.hbm, 263, rfl⟩
abbrev main_v224 : Ref sig .tc := ⟨.hbm, 264, rfl⟩
abbrev main_v225 : Ref sig .tc := ⟨.hbm, 265, rfl⟩
abbrev main_v226 : Ref sig .tc := ⟨.hbm, 266, rfl⟩
abbrev main_v227 : Ref sig .tc := ⟨.hbm, 267, rfl⟩
abbrev main_v228 : Ref sig .tc := ⟨.hbm, 268, rfl⟩
abbrev main_v229 : Ref sig .tc := ⟨.hbm, 269, rfl⟩
abbrev main_v230 : Ref sig .tc := ⟨.hbm, 270, rfl⟩
abbrev main_v231 : Ref sig .tc := ⟨.hbm, 271, rfl⟩
abbrev main_v232 : Ref sig .tc := ⟨.hbm, 272, rfl⟩
abbrev main_v233 : Ref sig .tc := ⟨.hbm, 273, rfl⟩
abbrev main_v234 : Ref sig .tc := ⟨.hbm, 274, rfl⟩
abbrev main_v235 : Ref sig .tc := ⟨.hbm, 275, rfl⟩
abbrev main_v236 : Ref sig .tc := ⟨.hbm, 276, rfl⟩
abbrev main_v237 : Ref sig .tc := ⟨.hbm, 277, rfl⟩
abbrev main_v238 : Ref sig .tc := ⟨.hbm, 278, rfl⟩
abbrev main_v239 : Ref sig .tc := ⟨.hbm, 279, rfl⟩
abbrev main_v240 : Ref sig .tc := ⟨.hbm, 280, rfl⟩
abbrev main_v241 : Ref sig .tc := ⟨.hbm, 281, rfl⟩
abbrev main_v242 : Ref sig .tc := ⟨.hbm, 282, rfl⟩
abbrev main_v243 : Ref sig .tc := ⟨.hbm, 283, rfl⟩
abbrev main_v244 : Ref sig .tc := ⟨.hbm, 284, rfl⟩
abbrev main_v245 : Ref sig .tc := ⟨.hbm, 285, rfl⟩
abbrev main_v246 : Ref sig .tc := ⟨.hbm, 286, rfl⟩
abbrev main_v247 : Ref sig .tc := ⟨.hbm, 287, rfl⟩
abbrev main_v248 : Ref sig .tc := ⟨.hbm, 288, rfl⟩
abbrev main_v249 : Ref sig .tc := ⟨.hbm, 289, rfl⟩
abbrev main_v250 : Ref sig .tc := ⟨.hbm, 290, rfl⟩
abbrev main_v251 : Ref sig .tc := ⟨.hbm, 291, rfl⟩
abbrev main_v252 : Ref sig .tc := ⟨.hbm, 292, rfl⟩
abbrev main_v253 : Ref sig .tc := ⟨.hbm, 293, rfl⟩
abbrev main_v254 : Ref sig .tc := ⟨.hbm, 294, rfl⟩
abbrev main_v255 : Ref sig .tc := ⟨.hbm, 295, rfl⟩
abbrev main_v256 : Ref sig .tc := ⟨.hbm, 296, rfl⟩
abbrev main_v257 : Ref sig .tc := ⟨.hbm, 297, rfl⟩
abbrev main_v258 : Ref sig .tc := ⟨.hbm, 298, rfl⟩
abbrev main_v259 : Ref sig .tc := ⟨.hbm, 299, rfl⟩
abbrev main_v260 : Ref sig .tc := ⟨.hbm, 300, rfl⟩
abbrev main_v261 : Ref sig .tc := ⟨.hbm, 301, rfl⟩
abbrev main_v262 : Ref sig .tc := ⟨.hbm, 302, rfl⟩
abbrev main_v263 : Ref sig .tc := ⟨.hbm, 303, rfl⟩
abbrev main_v264 : Ref sig .tc := ⟨.hbm, 304, rfl⟩
abbrev main_v265 : Ref sig .tc := ⟨.hbm, 305, rfl⟩
abbrev main_v266 : Ref sig .tc := ⟨.hbm, 306, rfl⟩
abbrev main_v267 : Ref sig .tc := ⟨.hbm, 307, rfl⟩
abbrev main_v268 : Ref sig .tc := ⟨.hbm, 308, rfl⟩
abbrev main_v269 : Ref sig .tc := ⟨.hbm, 309, rfl⟩
abbrev main_v270 : Ref sig .tc := ⟨.hbm, 310, rfl⟩
abbrev main_v271 : Ref sig .tc := ⟨.hbm, 311, rfl⟩
abbrev main_v272 : Ref sig .tc := ⟨.hbm, 312, rfl⟩
abbrev main_v273 : Ref sig .tc := ⟨.hbm, 313, rfl⟩
abbrev main_v274 : Ref sig .tc := ⟨.hbm, 314, rfl⟩
abbrev main_v275 : Ref sig .tc := ⟨.hbm, 315, rfl⟩
abbrev main_v276 : Ref sig .tc := ⟨.hbm, 316, rfl⟩
abbrev main_v277 : Ref sig .tc := ⟨.hbm, 317, rfl⟩
abbrev main_v278 : Ref sig .tc := ⟨.hbm, 318, rfl⟩
abbrev main_v279 : Ref sig .tc := ⟨.hbm, 319, rfl⟩
abbrev main_v280 : Ref sig .tc := ⟨.hbm, 320, rfl⟩
abbrev main_v281 : Ref sig .tc := ⟨.hbm, 321, rfl⟩
abbrev main_v282 : Ref sig .tc := ⟨.hbm, 322, rfl⟩
abbrev main_v283 : Ref sig .tc := ⟨.hbm, 323, rfl⟩
abbrev main_v284 : Ref sig .tc := ⟨.hbm, 324, rfl⟩
abbrev main_v285 : Ref sig .tc := ⟨.hbm, 325, rfl⟩
abbrev main_v286 : Ref sig .tc := ⟨.hbm, 326, rfl⟩
abbrev main_v287 : Ref sig .tc := ⟨.hbm, 327, rfl⟩
abbrev main_v288 : Ref sig .tc := ⟨.hbm, 328, rfl⟩
abbrev main_v289 : Ref sig .tc := ⟨.hbm, 329, rfl⟩
abbrev main_v290 : Ref sig .tc := ⟨.hbm, 330, rfl⟩
abbrev main_v291 : Ref sig .tc := ⟨.hbm, 331, rfl⟩
abbrev main_v292 : Ref sig .tc := ⟨.hbm, 332, rfl⟩
abbrev main_v293 : Ref sig .tc := ⟨.hbm, 333, rfl⟩
abbrev main_v294 : Ref sig .tc := ⟨.hbm, 334, rfl⟩
abbrev main_v295 : Ref sig .tc := ⟨.hbm, 335, rfl⟩
abbrev main_v296 : Ref sig .tc := ⟨.hbm, 336, rfl⟩
abbrev main_v297 : Ref sig .tc := ⟨.hbm, 337, rfl⟩
abbrev main_v298 : Ref sig .tc := ⟨.hbm, 338, rfl⟩
abbrev main_v299 : Ref sig .tc := ⟨.hbm, 339, rfl⟩
abbrev main_v300 : Ref sig .tc := ⟨.hbm, 340, rfl⟩
abbrev main_v301 : Ref sig .tc := ⟨.hbm, 341, rfl⟩
abbrev main_v302 : Ref sig .tc := ⟨.hbm, 342, rfl⟩
abbrev main_v303 : Ref sig .tc := ⟨.hbm, 343, rfl⟩
abbrev main_v304 : Ref sig .tc := ⟨.hbm, 344, rfl⟩
abbrev main_v305 : Ref sig .tc := ⟨.hbm, 345, rfl⟩
abbrev main_v306 : Ref sig .tc := ⟨.hbm, 346, rfl⟩
abbrev main_v307 : Ref sig .tc := ⟨.hbm, 347, rfl⟩
abbrev main_v308 : Ref sig .tc := ⟨.hbm, 348, rfl⟩
abbrev main_v309 : Ref sig .tc := ⟨.hbm, 349, rfl⟩
abbrev main_v310 : Ref sig .tc := ⟨.hbm, 350, rfl⟩
abbrev main_v311 : Ref sig .tc := ⟨.hbm, 351, rfl⟩
abbrev main_v312 : Ref sig .tc := ⟨.hbm, 352, rfl⟩
abbrev main_v313 : Ref sig .tc := ⟨.hbm, 353, rfl⟩
abbrev main_v314 : Ref sig .tc := ⟨.hbm, 354, rfl⟩
abbrev main_v315 : Ref sig .tc := ⟨.hbm, 355, rfl⟩
abbrev main_v316 : Ref sig .tc := ⟨.hbm, 356, rfl⟩
abbrev main_v317 : Ref sig .tc := ⟨.hbm, 357, rfl⟩
abbrev main_v318 : Ref sig .tc := ⟨.hbm, 358, rfl⟩
abbrev main_v319 : Ref sig .tc := ⟨.hbm, 359, rfl⟩
abbrev main_v320 : Ref sig .tc := ⟨.hbm, 360, rfl⟩
abbrev main_v321 : Ref sig .tc := ⟨.hbm, 361, rfl⟩
abbrev main_v322 : Ref sig .tc := ⟨.hbm, 362, rfl⟩
abbrev main_v323 : Ref sig .tc := ⟨.hbm, 363, rfl⟩
abbrev main_v324 : Ref sig .tc := ⟨.hbm, 364, rfl⟩
abbrev main_v325 : Ref sig .tc := ⟨.hbm, 365, rfl⟩
abbrev main_v326 : Ref sig .tc := ⟨.hbm, 366, rfl⟩
abbrev main_v327 : Ref sig .tc := ⟨.hbm, 367, rfl⟩
abbrev main_v328 : Ref sig .tc := ⟨.hbm, 368, rfl⟩
abbrev main_v329 : Ref sig .tc := ⟨.hbm, 369, rfl⟩
abbrev main_v330 : Ref sig .tc := ⟨.hbm, 370, rfl⟩
abbrev main_v331 : Ref sig .tc := ⟨.hbm, 371, rfl⟩
abbrev main_v332 : Ref sig .tc := ⟨.hbm, 372, rfl⟩
abbrev main_v333 : Ref sig .tc := ⟨.hbm, 373, rfl⟩
abbrev main_v334 : Ref sig .tc := ⟨.hbm, 374, rfl⟩
abbrev main_v335 : Ref sig .tc := ⟨.hbm, 375, rfl⟩
abbrev main_v336 : Ref sig .tc := ⟨.hbm, 376, rfl⟩
abbrev main_v337 : Ref sig .tc := ⟨.hbm, 377, rfl⟩
abbrev main_v338 : Ref sig .tc := ⟨.hbm, 378, rfl⟩
abbrev main_v339 : Ref sig .tc := ⟨.hbm, 379, rfl⟩
abbrev main_v340 : Ref sig .tc := ⟨.hbm, 380, rfl⟩
abbrev main_v341 : Ref sig .tc := ⟨.hbm, 381, rfl⟩
abbrev main_v342 : Ref sig .tc := ⟨.hbm, 382, rfl⟩
abbrev main_v343 : Ref sig .tc := ⟨.hbm, 383, rfl⟩
abbrev main_v344 : Ref sig .tc := ⟨.hbm, 384, rfl⟩
abbrev main_v345 : Ref sig .tc := ⟨.hbm, 385, rfl⟩
abbrev main_v346 : Ref sig .tc := ⟨.hbm, 386, rfl⟩
abbrev main_v347 : Ref sig .tc := ⟨.hbm, 387, rfl⟩
abbrev main_v348 : Ref sig .tc := ⟨.hbm, 388, rfl⟩
abbrev main_v349 : Ref sig .tc := ⟨.hbm, 389, rfl⟩
abbrev main_v350 : Ref sig .tc := ⟨.hbm, 390, rfl⟩
abbrev main_v351 : Ref sig .tc := ⟨.hbm, 391, rfl⟩
abbrev main_v352 : Ref sig .tc := ⟨.hbm, 392, rfl⟩
abbrev main_v353 : Ref sig .tc := ⟨.hbm, 393, rfl⟩
abbrev main_v354 : Ref sig .tc := ⟨.hbm, 394, rfl⟩
abbrev main_v355 : Ref sig .tc := ⟨.hbm, 395, rfl⟩
abbrev main_v356 : Ref sig .tc := ⟨.hbm, 396, rfl⟩
abbrev main_v357 : Ref sig .tc := ⟨.hbm, 397, rfl⟩
abbrev main_v358 : Ref sig .tc := ⟨.hbm, 398, rfl⟩
abbrev main_v359 : Ref sig .tc := ⟨.hbm, 399, rfl⟩
abbrev main_v360 : Ref sig .tc := ⟨.hbm, 400, rfl⟩
abbrev main_v361 : Ref sig .tc := ⟨.hbm, 401, rfl⟩
abbrev main_v362 : Ref sig .tc := ⟨.hbm, 402, rfl⟩
abbrev main_v363 : Ref sig .tc := ⟨.hbm, 403, rfl⟩
abbrev main_v364 : Ref sig .tc := ⟨.hbm, 404, rfl⟩
abbrev main_v365_0 : Ref sig .tc := ⟨.hbm, 405, rfl⟩
abbrev main_v365_1 : Ref sig .tc := ⟨.hbm, 406, rfl⟩
abbrev main_v365_2 : Ref sig .tc := ⟨.hbm, 407, rfl⟩
abbrev main_v365_3 : Ref sig .tc := ⟨.hbm, 408, rfl⟩
abbrev main_v365_4 : Ref sig .tc := ⟨.hbm, 409, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem14_0 : DmaSem sig := 20
abbrev cc0_sem15_0 : DmaSem sig := 21
abbrev cc0_sem16_0 : DmaSem sig := 22

abbrev nD : Nat := 1
abbrev τ : Topo := Topo.v7x

variable {F : FTy → Type} [FloatOps F]

abbrev grid0 : Pipeline.Grid := ⟨3, ![1, 2, 16], ![false, false, false]⟩

def k0_cond2 (i : grid0.Coords) : BitVec 1 :=
  let arg1 : BitVec 32 := BitVec.ofNat 32 (i 1).val
  let c0_i32 : BitVec 32 := 0#32
  let v1 : BitVec 1 := Scalar.cmpi .eq arg1 c0_i32
  let arg2 : BitVec 32 := BitVec.ofNat 32 (i 2).val
  let c0_i32_0 : BitVec 32 := 0#32
  let v2 : BitVec 1 := Scalar.cmpi .eq arg2 c0_i32_0
  let v3 : BitVec 1 := Scalar.andi v1 v2
  let v2563 : BitVec 32 := Scalar.extui v3
  let c0_i32_1702 : BitVec 32 := 0#32
  let v2564 : BitVec 1 := Scalar.cmpi .ne v2563 c0_i32_1702
  v2564

def k0_cond3 (i : grid0.Coords) : BitVec 1 :=
  let arg1 : BitVec 32 := BitVec.ofNat 32 (i 1).val
  let c0_i32 : BitVec 32 := 0#32
  let v1 : BitVec 1 := Scalar.cmpi .eq arg1 c0_i32
  let arg2 : BitVec 32 := BitVec.ofNat 32 (i 2).val
  let c0_i32_0 : BitVec 32 := 0#32
  let v2 : BitVec 1 := Scalar.cmpi .eq arg2 c0_i32_0
  let v3 : BitVec 1 := Scalar.andi v1 v2
  let v_true : BitVec 1 := 1#1
  let v2565 : BitVec 1 := Scalar.xori v3 v_true
  let v2566 : BitVec 32 := Scalar.extui v2565
  let c0_i32_1703 : BitVec 32 := 0#32
  let v2567 : BitVec 1 := Scalar.cmpi .ne v2566 c0_i32_1703
  v2567

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c15_i32 : BitVec 32 := 15#32
  let v1 : BitVec 32 := Scalar.subi c15_i32 arg2
  let v2 : BitVec 32 := Scalar.addi v0 v1
  let c0_i32 : BitVec 32 := 0#32
  let c0_i32_0 : BitVec 32 := 0#32
  ![c0_i32.toNat, v2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c15_i32 : BitVec 32 := 15#32
  let v1 : BitVec 32 := Scalar.subi c15_i32 arg2
  let v2 : BitVec 32 := Scalar.addi v0 v1
  let c511_i32 : BitVec 32 := 511#32
  let v3 : BitVec 32 := Scalar.muli v2 c511_i32
  let c5_i32 : BitVec 32 := 5#32
  let v4 : BitVec 32 := Scalar.shrui v3 c5_i32
  let c0_i32 : BitVec 32 := 0#32
  let c0_i32_0 : BitVec 32 := 0#32
  ![c0_i32.toNat, v4.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c15_i32 : BitVec 32 := 15#32
  let v1 : BitVec 32 := Scalar.subi c15_i32 arg2
  let v2 : BitVec 32 := Scalar.addi v0 v1
  let c0_i32 : BitVec 32 := 0#32
  let c0_i32_0 : BitVec 32 := 0#32
  ![c0_i32.toNat, v2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c15_i32 : BitVec 32 := 15#32
  let v1 : BitVec 32 := Scalar.subi c15_i32 arg2
  let v2 : BitVec 32 := Scalar.addi v0 v1
  let c0_i32 : BitVec 32 := 0#32
  ![v2.toNat, arg0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c15_i32 : BitVec 32 := 15#32
  let v1 : BitVec 32 := Scalar.subi c15_i32 arg2
  let v2 : BitVec 32 := Scalar.addi v0 v1
  let c0_i32 : BitVec 32 := 0#32
  let c0_i32_0 : BitVec 32 := 0#32
  let c0_i32_1 : BitVec 32 := 0#32
  ![v2.toNat, arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c15_i32 : BitVec 32 := 15#32
  let v1 : BitVec 32 := Scalar.subi c15_i32 arg2
  let v2 : BitVec 32 := Scalar.addi v0 v1
  let c0_i32 : BitVec 32 := 0#32
  let c0_i32_0 : BitVec 32 := 0#32
  ![c0_i32.toNat, v2.toNat, arg0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4x4x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false, false]

abbrev stage0_6 : Fin 1 → Memref sig .tc .vmem S4x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, false]

abbrev stage0_7 : Fin 1 → Memref sig .tc .vmem S4x2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false, false]

abbrev stage0_8 : Fin 1 → Memref sig .tc .vmem S4x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false, false]

abbrev stage0_9 : Fin 1 → Memref sig .tc .vmem S2x256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S2x256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 2 → Memref sig .tc .vmem S5x256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 1 → Memref sig .tc .vmem S4x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false, false]

abbrev stage0_14 : Fin 1 → Memref sig .tc .vmem S4x1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, false, false]

abbrev stage0_15 : Fin 1 → Memref sig .tc .vmem S4x1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, false, false]

abbrev stage0_16 : Fin 1 → Memref sig .tc .vmem S4x1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, false, false]
-- ==== MixPoolRefIdeal.lean ====
abbrev S2x4096x2560 : Shape := ⟨3, ![2, 4096, 2560]⟩
abbrev S1x4x128x128 : Shape := ⟨4, ![1, 4, 128, 128]⟩
abbrev S1x512 : Shape := ⟨2, ![1, 512]⟩
abbrev S2x512 : Shape := ⟨2, ![2, 512]⟩
abbrev S2x4096x1024 : Shape := ⟨3, ![2, 4096, 1024]⟩
abbrev S8x128 : Shape := ⟨2, ![8, 128]⟩
abbrev S2x4096x512 : Shape := ⟨3, ![2, 4096, 512]⟩
abbrev S4x128x128 : Shape := ⟨3, ![4, 128, 128]⟩
abbrev S512 : Shape := ⟨1, ![512]⟩
abbrev S_ : Shape := ⟨0, ![]⟩
abbrev S2x1x512 : Shape := ⟨3, ![2, 1, 512]⟩
abbrev S2x4097x512 : Shape := ⟨3, ![2, 4097, 512]⟩
abbrev S4096 : Shape := ⟨1, ![4096]⟩
abbrev S2x1x128 : Shape := ⟨3, ![2, 1, 128]⟩
abbrev S2x4095x128 : Shape := ⟨3, ![2, 4095, 128]⟩
abbrev S2x4096x128 : Shape := ⟨3, ![2, 4096, 128]⟩
abbrev S1x4096x1 : Shape := ⟨3, ![1, 4096, 1]⟩
abbrev S2x3x128 : Shape := ⟨3, ![2, 3, 128]⟩
abbrev S2x4093x128 : Shape := ⟨3, ![2, 4093, 128]⟩
abbrev S2x7x128 : Shape := ⟨3, ![2, 7, 128]⟩
abbrev S2x4089x128 : Shape := ⟨3, ![2, 4089, 128]⟩
abbrev S2x15x128 : Shape := ⟨3, ![2, 15, 128]⟩
abbrev S2x4081x128 : Shape := ⟨3, ![2, 4081, 128]⟩
abbrev S2x4096x1x128 : Shape := ⟨4, ![2, 4096, 1, 128]⟩
abbrev S2x4096x4x128 : Shape := ⟨4, ![2, 4096, 4, 128]⟩
abbrev S4x128x2x4096 : Shape := ⟨4, ![4, 128, 2, 4096]⟩
abbrev S1x1x512 : Shape := ⟨3, ![1, 1, 512]⟩
abbrev S4x1x128 : Shape := ⟨3, ![4, 1, 128]⟩

abbrev nBuf : Space → Nat
  | .hbm => 117
  | .vmem => 0
  | .smem => 0
  | _ => 0

abbrev bufTy : (tb : Table) → Fin (tcTables nBuf tb) → BufTy
  | .hbm, ⟨0, _⟩ => ⟨S2x4096x2560, .f32⟩
  | .hbm, ⟨1, _⟩ => ⟨S1x4x128x128, .f32⟩
  | .hbm, ⟨2, _⟩ => ⟨S1x512, .f32⟩
  | .hbm, ⟨3, _⟩ => ⟨S2x512, .f32⟩
  | .hbm, ⟨4, _⟩ => ⟨S1x512, .f32⟩
  | .hbm, ⟨5, _⟩ => ⟨S2x4096x1024, .f32⟩
  | .hbm, ⟨6, _⟩ => ⟨S8x128, .f32⟩
  | .hbm, ⟨7, _⟩ => ⟨S2x4096x512, .f32⟩
  | .hbm, ⟨8, _⟩ => ⟨S4x128x128, .f32⟩
  | .hbm, ⟨9, _⟩ => ⟨S512, .f32⟩
  | .hbm, ⟨10, _⟩ => ⟨S_, .f32⟩
  | .hbm, ⟨11, _⟩ => ⟨S2x1x512, .f32⟩
  | .hbm, ⟨12, _⟩ => ⟨S_, .f32⟩
  | .hbm, ⟨13, _⟩ => ⟨S_, .f32⟩
  | .hbm, ⟨14, _⟩ => ⟨S2x4096x512, .f32⟩
  | .hbm, ⟨15, _⟩ => ⟨S2x4097x512, .f32⟩
  | .hbm, ⟨16, _⟩ => ⟨S4096, .i32⟩
  | .hbm, ⟨17, _⟩ => ⟨S_, .f32⟩
  | .hbm, ⟨18, _⟩ => ⟨S2x1x128, .f32⟩
  | .hbm, ⟨19, _⟩ => ⟨S2x4095x128, .f32⟩
  | .hbm, ⟨20, _⟩ => ⟨S2x4096x128, .f32⟩
  | .hbm, ⟨21, _⟩ => ⟨S2x4096x128, .f32⟩
  | .hbm, ⟨22, _⟩ => ⟨S2x4096x128, .f32⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096, .f32⟩
  | .hbm, ⟨30, _⟩ => ⟨S1x4096x1, .f32⟩
  | .hbm, ⟨31, _⟩ => ⟨S2x4096x128, .f32⟩
  | .hbm, ⟨32, _⟩ => ⟨S2x4096x128, .f32⟩
  | .hbm, ⟨33, _⟩ => ⟨S2x4096x128, .f32⟩
  | .hbm, ⟨34, _⟩ => ⟨S2x4096x128, .f32⟩
  | .hbm, ⟨35, _⟩ => ⟨S_, .f32⟩
  | .hbm, ⟨36, _⟩ => ⟨S2x3x128, .f32⟩
  | .hbm, ⟨37, _⟩ => ⟨S2x4093x128, .f32⟩
  | .hbm, ⟨38, _⟩ => ⟨S2x4096x128, .f32⟩
  | .hbm, ⟨39, _⟩ => ⟨S2x4096x128, .f32⟩
  | .hbm, ⟨40, _⟩ => ⟨S2x4096x128, .f32⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S_, .i32⟩
  | .hbm, ⟨45, _⟩ => ⟨S4096, .i32⟩
  | .hbm, ⟨46, _⟩ => ⟨S4096, .i32⟩
  | .hbm, ⟨47, _⟩ => ⟨S4096, .f32⟩
  | .hbm, ⟨48, _⟩ => ⟨S1x4096x1, .f32⟩
  | .hbm, ⟨49, _⟩ => ⟨S2x4096x128, .f32⟩
  | .hbm, ⟨50, _⟩ => ⟨S2x4096x128, .f32⟩
  | .hbm, ⟨51, _⟩ => ⟨S2x4096x128, .f32⟩
  | .hbm, ⟨52, _⟩ => ⟨S2x4096x128, .f32⟩
  | .hbm, ⟨53, _⟩ => ⟨S_, .f32⟩
  | .hbm, ⟨54, _⟩ => ⟨S2x7x128, .f32⟩
  | .hbm, ⟨55, _⟩ => ⟨S2x4089x128, .f32⟩
  | .hbm, ⟨56, _⟩ => ⟨S2x4096x128, .f32⟩
  | .hbm, ⟨57, _⟩ => ⟨S2x4096x128, .f32⟩
  | .hbm, ⟨58, _⟩ => ⟨S2x4096x128, .f32⟩
  | .hbm, ⟨59, _⟩ => ⟨S_, .i32⟩
  | .hbm, ⟨60, _⟩ => ⟨S4096, .i32⟩
  | .hbm, ⟨61, _⟩ => ⟨S4096, .i32⟩
  | .hbm, ⟨62, _⟩ => ⟨S_, .i32⟩
  | .hbm, ⟨63, _⟩ => ⟨S4096, .i32⟩
  | .hbm, ⟨64, _⟩ => ⟨S4096, .i32⟩
  | .hbm, ⟨65, _⟩ => ⟨S4096, .f32⟩
  | .hbm, ⟨66, _⟩ => ⟨S1x4096x1, .f32⟩
  | .hbm, ⟨67, _⟩ => ⟨S2x4096x128, .f32⟩
  | .hbm, ⟨68, _⟩ => ⟨S2x4096x128, .f32⟩
  | .hbm, ⟨69, _⟩ => ⟨S2x4096x128, .f32⟩
  | .hbm, ⟨70, _⟩ => ⟨S2x4096x128, .f32⟩
  | .hbm, ⟨71, _⟩ => ⟨S_, .f32⟩
  | .hbm, ⟨72, _⟩ => ⟨S2x15x128, .f32⟩
  | .hbm, ⟨73, _⟩ => ⟨S2x4081x128, .f32⟩
  | .hbm, ⟨74, _⟩ => ⟨S2x4096x128, .f32⟩
  | .hbm, ⟨75, _⟩ => ⟨S2x4096x128, .f32⟩
  | .hbm, ⟨76, _⟩ => ⟨S2x4096x128, .f32⟩
  | .hbm, ⟨77, _⟩ => ⟨S_, .i32⟩
  | .hbm, ⟨78, _⟩ => ⟨S4096, .i32⟩
  | .hbm, ⟨79, _⟩ => ⟨S4096, .i32⟩
  | .hbm, ⟨80, _⟩ => ⟨S_, .i32⟩
  | .hbm, ⟨81, _⟩ => ⟨S4096, .i32⟩
  | .hbm, ⟨82, _⟩ => ⟨S4096, .i32⟩
  | .hbm, ⟨83, _⟩ => ⟨S4096, .f32⟩
  | .hbm, ⟨84, _⟩ => ⟨S1x4096x1, .f32⟩
  | .hbm, ⟨85, _⟩ => ⟨S2x4096x128, .f32⟩
  | .hbm, ⟨86, _⟩ => ⟨S2x4096x128, .f32⟩
  | .hbm, ⟨87, _⟩ => ⟨S2x4096x128, .f32⟩
  | .hbm, ⟨88, _⟩ => ⟨S2x4096x128, .f32⟩
  | .hbm, ⟨89, _⟩ => ⟨S2x4096x1x128, .f32⟩
  | .hbm, ⟨90, _⟩ => ⟨S2x4096x1x128, .f32⟩
  | .hbm, ⟨91, _⟩ => ⟨S2x4096x1x128, .f32⟩
  | .hbm, ⟨92, _⟩ => ⟨S2x4096x1x128, .f32⟩
  | .hbm, ⟨93, _⟩ => ⟨S2x4096x4x128, .f32⟩
  | .hbm, ⟨94, _⟩ => ⟨S4x128x2x4096, .f32⟩
  | .hbm, ⟨95, _⟩ => ⟨S2x4096x4x128, .f32⟩
  | .hbm, ⟨96, _⟩ => ⟨S2x4096x512, .f32⟩
  | .hbm, ⟨97, _⟩ => ⟨S1x1x512, .f32⟩
  | .hbm, ⟨98, _⟩ => ⟨S2x4096x512, .f32⟩
  | .hbm, ⟨99, _⟩ => ⟨S2x4096x512, .f32⟩
  | .hbm, ⟨100, _⟩ => ⟨S2x4096x512, .f32⟩
  | .hbm, ⟨101, _⟩ => ⟨S2x4096x512, .f32⟩
  | .hbm, ⟨102, _⟩ => ⟨S_, .f32⟩
  | .hbm, ⟨103, _⟩ => ⟨S512, .f32⟩
  | .hbm, ⟨104, _⟩ => ⟨S1x1x512, .f32⟩
  | .hbm, ⟨105, _⟩ => ⟨S2x4096x512, .f32⟩
  | .hbm, ⟨106, _⟩ => ⟨S2x4096x512, .f32⟩
  | .hbm, ⟨107, _⟩ => ⟨S_, .f32⟩
  | .hbm, ⟨108, _⟩ => ⟨S512, .f32⟩
  | .hbm, ⟨109, _⟩ => ⟨S2x4096x4x128, .f32⟩
  | .hbm, ⟨110, _⟩ => ⟨S4x128x2x4096, .f32⟩
  | .hbm, ⟨111, _⟩ => ⟨S4x128x128, .f32⟩
  | .hbm, ⟨112, _⟩ => ⟨S4x128x128, .f32⟩
  | .hbm, ⟨113, _⟩ => ⟨S1x512, .f32⟩
  | .hbm, ⟨114, _⟩ => ⟨S1x4x128x128, .f32⟩
  | .hbm, ⟨115, _⟩ => ⟨S4x128x128, .f32⟩
  | .hbm, ⟨116, _⟩ => ⟨S4x1x128, .f32⟩
  | _, _ => ⟨S2x4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_call0_call0_cst : Ref sig .tc := ⟨.hbm, 12, rfl⟩
abbrev main_call0_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_3 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_6 : Ref sig .tc := ⟨.hbm, 59, rfl⟩
abbrev main_v42 : Ref sig .tc := ⟨.hbm, 60, rfl⟩
abbrev main_v43 : Ref sig .tc := ⟨.hbm, 61, rfl⟩
abbrev main_c_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_8 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_9 : Ref sig .tc := ⟨.hbm, 77, rfl⟩
abbrev main_v57 : Ref sig .tc := ⟨.hbm, 78, rfl⟩
abbrev main_v58 : Ref sig .tc := ⟨.hbm, 79, rfl⟩
abbrev main_c_10 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_11 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_12 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩

abbrev nD : Nat := 1
abbrev τ : Topo := Topo.v7x

variable {F : FTy → Type} [FloatOps F]
-- ==== Proof.Sums.lean ====
module

public import Idealize.ShloMosaic.Lib.Pipeline.ValueKit
public import Idealize.ShloMosaic.Lib.Pointwise

/-! Sums cut into equal pieces, and the sum of a three-axis array over its first two axes. -/

@[expose] public section

noncomputable section

namespace Cert.Sums

open Idealize.ShloMosaic

variable {M : Type*} [AddCommMonoid M]

/-- A sum over `a * b` places, `b` at a time. -/
theorem sum_split (n a b : ℕ) (h : n = a * b) (f : Fin n → M) :
    ∑ k : Fin n, f k = ∑ i : Fin a, ∑ j : Fin b, f ⟨i.val * b + j.val, by
      subst h; calc i.val * b + j.val < i.val * b + b := by omega
        _ = (i.val + 1) * b := by ring
        _ ≤ a * b := Nat.mul_le_mul_right _ i.isLt⟩ := by
  subst h
  rw [← Fintype.sum_prod_type', ← finProdFinEquiv.sum_comp f]
  refine Finset.sum_congr rfl fun x _ => congrArg f (Fin.ext ?_)
  rw [finProdFinEquiv_apply_val]; ring

/-- A host sum over the first two axes of three, at an index of the last. -/
theorem hostSum_firstTwo {n0 n1 n2 : ℕ} (h : (⟨3, ![n0, n1, n2]⟩ : Shape).ReducesTo [0, 1] ⟨1, ![n2]⟩)
    (v : (⟨3, ![n0, n1, n2]⟩ : Shape).Idx → EReal) (z : EReal) (j : Fin n2) :
    Ideal.hostReduceAdd h v z (ix1 j) = z + ∑ a : Fin n0, ∑ b : Fin n1, v (ix3 a b j) := by
  unfold Ideal.hostReduceAdd
  congr 1
  have key : ∀ a b c, h.drop (ix3 a b c) = ix1 j ↔ c = j := by
    intro a b c
    constructor
    · intro e; exact Fin.ext (congrArg Fin.val (congrFun e 0))
    · rintro rfl; funext x; fin_cases x; rfl
  rw [Finset.sum_filter, sum_idx3]
  simp only [key, Finset.sum_ite_eq', Finset.mem_univ, if_true]

end Cert.Sums

end
-- ==== Proof.KvBwd.lean ====
module

public import proofs.«01_k».proof.Proof.Sums
public import proofs.«01_k».proof.Proof.Gen.KvBwdIdeal.Value
public import proofs.«01_k».proof.Proof.Gen.KvBwdRefIdeal.Run
public import proofs.«01_k».proof.Proof.Gen.KvBwdRefIdeal.Read
public import Idealize.ShloMosaic.Lib.Pipeline.ValueKit
public import Idealize.ShloMosaic.Lib.Pointwise

@[expose] public section

set_option maxRecDepth 16384

noncomputable section

namespace Cert.KvBwdIdeal.Hand

open Cert.KvBwdIdeal Cert.KvBwdIdeal.Gen Idealize.ShloMosaic Idealize.ShloMosaic.TcCoe Idealize.SL.Sem
open Idealize.ShloMosaic.Pipeline (Dat)

variable (m : (ℓ : Loc nD τ sig) → Buf (Elt Ideal) ℓ)

/-- Every input's one block starts at the array's origin. -/
theorem origin : ∀ t : Fin grid0.N, win0_0.index t = ![0, 0, 0] ∧ win0_1.index t = ![0, 0, 0] ∧ win0_2.index t = ![0, 0]
    ∧ win0_4.index t = ![0, 0] := by decide +kernel

/-- The cotangent's block: row `r` is token `r % 256` of sequence `r / 256`, slab `s` its columns from `1024 s` on. -/
theorem ct_at (c : Dev nD) (t) (s : Fin 2) (r : Fin 512) (k : Fin 1024) : iblk m c 0 t (ix3 s r k)
    = m ((c : Thread nD τ).loc main_arg3) (ix3 ⟨r.val / 256, by omega⟩ ⟨r.val % 256, by omega⟩ ⟨s.val * 1024 + k.val, by omega⟩) := by
  blk_ext! [iblk, V, origin t]

/-- The weight's block: slab `s` holds the weight's columns from `256 s` on. -/
theorem weight_at (c : Dev nD) (t) (s : Fin 8) (r : Fin 1024) (k : Fin 256) : iblk m c 1 t (ix3 s r k)
    = m ((c : Thread nD τ).loc main_arg2) (ix3 0 r ⟨s.val * 256 + k.val, by omega⟩) := by
  blk_ext! [iblk, V, origin t]

/-- The memory tokens' block. -/
theorem mem_at (c : Dev nD) (t) (r : Fin 512) (k : Fin 1024) : iblk m c 2 t (ix2 r k)
    = m ((c : Thread nD τ).loc main_arg0) (ix3 ⟨r.val / 256, by omega⟩ ⟨r.val % 256, by omega⟩ k) := by
  blk_ext! [iblk, V, origin t]

/-- The gain's gradient at feature `j`: over all memory tokens, the normalised input times the token's cotangent. -/
def grad (mem : S2x256x1024.Idx → EReal) (w : S1x1024x2048.Idx → EReal) (ct : S2x256x2048.Idx → EReal) (j : Fin 1024) : EReal :=
  ∑ b : Fin 2, ∑ i : Fin 256, (∑ k : Fin 2048, ct (ix3 b i k) * w (ix3 0 j k))
    * (mem (ix3 b i j) * Ideal.rsqrt (Ideal.div (∑ d : Fin 1024, mem (ix3 b i d) * mem (ix3 b i d))
        (Ideal.ofBits FTy.f32 1149239296#32) + Ideal.ofBits FTy.f32 897988541#32))

/-- The kernel's result array. -/
theorem kernel_result (c : Dev nD) : (dats m 0 c).arrAt 4 (cfgs 0).N = fun j : S1x1024.Idx =>
    grad (m ((c : Thread nD τ).loc main_arg0)) (m ((c : Thread nD τ).loc main_arg2)) (m ((c : Thread nD τ).loc main_arg3)) (j 1) := by
  refine (dats m 0 c).arrAt_eq_of_covers 4 _ (by decide +kernel) fun t hf (y : S1x1024.Idx) => ?_
  idx_vars y
  blk_simp
  rw [after0_4]
  unfold outsAt0
  frame_out
  unfold_payloads
  have hy : (((View.whole main_v7).slice (win0_4.rect t)).emb (ix2 y0 y1)) 1 = y1 := by
    apply Fin.ext; blk_simp [origin t]
  rw [hy]
  pointwise
  unfold grad
  refine (Sums.sum_split (M := EReal) 512 2 256 rfl _).trans ?_
  refine Finset.sum_congr rfl fun b _ => Finset.sum_congr rfl fun i _ => ?_
  have hb : (b.val * 256 + i.val) / 256 = b.val := by omega
  have hi : (b.val * 256 + i.val) % 256 = i.val := by omega
  rw [Sums.sum_split 2048 8 256 rfl, Fin.sum_univ_eight]
  simp only [ct_at, weight_at, mem_at, hb, hi, Fin.eta]
  congr 1

open Cert.KvBwdRefIdeal.Read in
/-- The reference's result. -/
theorem reference_result (mem : S2x256x1024.Idx → EReal) (w : S1x1024x2048.Idx → EReal) (ct : S2x256x2048.Idx → EReal) (j : S1x1024.Idx) :
    val_main_v21 (F := Ideal) mem w ct j = grad mem w ct (j 1) := by
  idx_vars j
  have e20 : val_main_v20 (F := Ideal) mem w ct (ix1 j1) = 0 + ∑ a : Fin 1, ∑ b : Fin 1, val_main_v19 (F := Ideal) mem w ct (ix3 a b j1) :=
    (Sums.hostSum_firstTwo _ _ _ _).trans (by pointwise [val_main_cst_3])
  have e18 : val_main_v18 (F := Ideal) mem w ct (ix1 j1) = 0 + ∑ a : Fin 2, ∑ b : Fin 256, val_main_v17 (F := Ideal) mem w ct (ix3 a b j1) :=
    (Sums.hostSum_firstTwo _ _ _ _).trans (by pointwise [val_main_cst_2])
  have e19 : val_main_v19 (F := Ideal) mem w ct (ix3 0 0 j1) = val_main_v18 (F := Ideal) mem w ct (ix1 j1) := by
    pointwise [val_main_v19]
  have e21 : val_main_v21 (F := Ideal) mem w ct (ix2 j0 j1) = val_main_v20 (F := Ideal) mem w ct (ix1 j1) := by
    pointwise [val_main_v21]
  refine (e21.trans e20).trans ?_
  rw [Fin.sum_univ_one, Fin.sum_univ_one, e19, e18, zero_add, zero_add]
  unfold grad
  refine Finset.sum_congr rfl fun b _ => Finset.sum_congr rfl fun i _ => ?_
  pointwise [val_main_v17, val_main_v16, val_main_v14, val_main_v10, val_main_v9, val_main_v8, val_main_v7, val_main_v6, val_main_v5, val_main_v4, val_main_v3,
    val_main_v2, val_main_v1, val_main_cst, val_main_cst_0, val_main_cst_1]
  exact mul_comm _ _
end Cert.KvBwdIdeal.Hand
end
-- ==== Proof.NormGrad.lean ====
module

public import Idealize.ShloMosaic.PureOps.Ideal.Laws
public import Idealize.ShloMosaic.Lib.IdealHost

@[expose] public section

noncomputable section

namespace Cert.NormGrad

open Idealize.ShloMosaic

/-- A row of extended reals without an infinite entry. -/
def Finite {ι : Type*} (f : ι → EReal) : Prop := ∃ g : ι → ℝ, f = fun i => (g i : EReal)

/-- The number of features, as the programs write it. -/
abbrev width : EReal := Ideal.ofBits FTy.f32 1149239296#32
/-- The norm's small constant, as the programs write it. -/
abbrev eps : EReal := Ideal.ofBits FTy.f32 897988541#32
/-- Minus one half, as the programs write it. -/
abbrev negHalf : EReal := Ideal.ofBits FTy.f32 3204448256#32

theorem width_eq : width = ((1024 : ℝ) : EReal) := by
  simp [width, Ideal.ofBits, Ideal.ieee, -EReal.coe_mul]; norm_num

theorem negHalf_eq : negHalf = ((-(1 / 2) : ℝ) : EReal) := by
  simp [negHalf, Ideal.ofBits, Ideal.ieee, -EReal.coe_mul]; norm_num

theorem eps_eq : ∃ e : ℝ, 0 < e ∧ eps = (e : EReal) := by
  refine ⟨8796093 * 2 ^ (-43 : ℤ), by positivity, ?_⟩
  simp [eps, Ideal.ofBits, Ideal.ieee, -EReal.coe_mul]

theorem Finite.at {ι : Type*} {f : ι → EReal} (hf : ∀ i, f i ≠ ⊤ ∧ f i ≠ ⊥) : Finite f :=
  ⟨fun i => (f i).toReal, funext fun i => (EReal.coe_toReal (hf i).1 (hf i).2).symm⟩

theorem coe_sum {ι : Type*} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- A row of sums of products of finite entries is finite. -/
theorem Finite.dot {ι κ : Type*} [Fintype κ] {a : κ → EReal} {b : ι → κ → EReal} (ha : Finite a) (hb : ∀ i, Finite (b i)) :
    Finite fun i => ∑ k, a k * b i k := by
  obtain ⟨a', rfl⟩ := ha
  choose b' hb' using hb
  refine ⟨fun i => ∑ k, a' k * b' i k, funext fun i => ?_⟩
  rw [hb' i, ← coe_sum]
  simp only [EReal.coe_mul]

/-- The reciprocal root of a row's mean square. -/
def rinv {n : ℕ} (h : Fin n → EReal) : EReal := Ideal.rsqrt (Ideal.div (∑ d, h d * h d) width + eps)

/-- A row divided by its root mean square, times the gain. -/
def normed {n : ℕ} (h g : Fin n → EReal) (j : Fin n) : EReal := h j * rinv h * g j

/-- The kernel's form of the gradient of a row's norm, added to the gradient that passes the norm by. -/
def back {n : ℕ} (h g dn : Fin n → EReal) (res : EReal) (j : Fin n) : EReal :=
  res + rinv h * (dn j * g j - h j * rinv h * Ideal.div (∑ d, dn d * g d * (h d * rinv h)) width)

/-- A number whose magnitude tests below infinity is finite. -/
theorem finite_of_test (x : EReal) (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  constructor <;> rintro rfl <;> simp [Ideal.cmp] at h

/-- The gradient of a row's norm as the kernel forms it: the projection of the scaled cotangent off the normalised row. -/
theorem gradient_eq {n : ℕ} (h g dn : Fin n → EReal) (hh : Finite h) (hg : Finite g) (hd : Finite dn) (res : EReal) (j : Fin n) :
    back h g dn res j = res + dn j * g j * rinv h
        + h j * Ideal.div ((∑ d, h d * (dn d * g d)) * (negHalf * Ideal.div (rinv h) (Ideal.div (∑ d, h d * h d) width + eps))) width
        + Ideal.div ((∑ d, h d * (dn d * g d)) * (negHalf * Ideal.div (rinv h) (Ideal.div (∑ d, h d * h d) width + eps))) width * h j := by
  unfold back
  obtain ⟨h, rfl⟩ := hh
  obtain ⟨g, rfl⟩ := hg
  obtain ⟨dn, rfl⟩ := hd
  obtain ⟨e, he, hee⟩ := eps_eq
  have hv : (0 : ℝ) < (∑ d, h d * h d) * (1 / 1024) + e :=
    add_pos_of_nonneg_of_pos (mul_nonneg (Finset.sum_nonneg fun d _ => mul_self_nonneg _) (by norm_num)) he
  have hV : Ideal.div (∑ d, ((h d : ℝ) : EReal) * (h d : ℝ)) width + eps = (((∑ d, h d * h d) * (1 / 1024) + e : ℝ) : EReal) := by
    rw [width_eq, hee, Ideal.div_coe (by norm_num : (1024 : ℝ) ≠ 0)]
    simp only [← EReal.coe_mul, coe_sum, ← EReal.coe_add]
  have hR : rinv (fun d => ((h d : ℝ) : EReal)) = ((Real.sqrt ((∑ d, h d * h d) * (1 / 1024) + e))⁻¹ : ℝ) := by
    unfold rinv
    rw [hV]
    show (if _ then _ else _) = _
    rw [if_neg (not_lt.mpr hv.le), if_neg hv.ne']
  rw [hR, hV, width_eq, negHalf_eq]
  generalize hvv : (∑ d, h d * h d) * (1 / 1024) + e = v at *
  have hs : Real.sqrt v ≠ 0 := (Real.sqrt_pos.mpr hv).ne'
  simp only [Ideal.div_coe (by norm_num : (1024 : ℝ) ≠ 0), Ideal.div_coe hv.ne', ← EReal.coe_mul, coe_sum, ← EReal.coe_sub, ← EReal.coe_add]
  rw [add_assoc, add_assoc, ← EReal.coe_add, ← EReal.coe_add]
  congr 2
  have hq : ∑ d, dn d * g d * (h d * (Real.sqrt v)⁻¹) = (∑ d, h d * (dn d * g d)) * (Real.sqrt v)⁻¹ := by
    rw [Finset.sum_mul]; exact Finset.sum_congr rfl fun d _ => by ring
  rw [hq]
  have h3 : 1 / v = (Real.sqrt v)⁻¹ * (Real.sqrt v)⁻¹ := by
    rw [← mul_inv, Real.mul_self_sqrt hv.le, one_div]
  rw [h3]
  ring

/-- Of a finite row the reciprocal root is a number. -/
theorem rinv_real {n : ℕ} {h : Fin n → EReal} (hh : Finite h) : ∃ r : ℝ, rinv h = (r : EReal) := by
  obtain ⟨h, rfl⟩ := hh
  obtain ⟨e, he, hee⟩ := eps_eq
  have hv : (0 : ℝ) < (∑ d, h d * h d) * (1 / 1024) + e :=
    add_pos_of_nonneg_of_pos (mul_nonneg (Finset.sum_nonneg fun d _ => mul_self_nonneg _) (by norm_num)) he
  refine ⟨(Real.sqrt ((∑ d, h d * h d) * (1 / 1024) + e))⁻¹, ?_⟩
  unfold rinv
  rw [width_eq, hee, Ideal.div_coe (by norm_num : (1024 : ℝ) ≠ 0)]
  simp only [← EReal.coe_mul, coe_sum, ← EReal.coe_add]
  show (if _ then _ else _) = _
  rw [if_neg (not_lt.mpr hv.le), if_neg hv.ne']

end Cert.NormGrad

end
-- ==== Proof.QBwd.lean ====
module

public import proofs.«01_k».proof.Proof.Sums
public import proofs.«01_k».proof.Proof.NormGrad
public import proofs.«01_k».proof.Proof.Gen.QBwdIdeal.Value
public import proofs.«01_k».proof.Proof.Gen.QBwdRefIdeal.Run
public import proofs.«01_k».proof.Proof.Gen.QBwdRefIdeal.Read
public import Idealize.ShloMosaic.Lib.Pipeline.ValueKit
public import Idealize.ShloMosaic.Lib.Pointwise

@[expose] public section

set_option maxRecDepth 16384

noncomputable section

namespace Cert.QBwdIdeal.Hand

open Cert.QBwdIdeal Cert.QBwdIdeal.Gen Idealize.ShloMosaic Idealize.ShloMosaic.TcCoe Idealize.SL.Sem
open Idealize.ShloMosaic.Pipeline (Dat)
open Cert.NormGrad

variable (m : (ℓ : Loc nD τ sig) → Buf (Elt Ideal) ℓ)

/-- The block a point reads or writes of each array. -/
theorem origin : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![0, 0] ∧ win0_6.index t = ![t.val, 0]
    ∧ win0_7.index t = ![t.val, 0] ∧ win0_8.index t = ![0, t.val, 0] ∧ win0_9.index t = ![0, 0] := by decide +kernel

theorem point_lt (t : Fin cfg0.N) : t.val < 8 := t.isLt

/-- Row `r` of point `t`'s block among all rows. -/
abbrev row (t : Fin cfg0.N) (r : Fin 1024) : Fin 8192 := ⟨t.val * 1024 + r.val, by have := point_lt t; omega⟩

theorem dq_at (c : Dev nD) (t) (r k : Fin 1024) : iblk m c 0 t (ix2 r k) = m ((c : Thread nD τ).loc main_arg5) (ix2 (row t r) k) := by
  blk_ext! [iblk, V, origin t]
theorem weight_at (c : Dev nD) (t) (r k : Fin 1024) : iblk m c 1 t (ix2 r k) = m ((c : Thread nD τ).loc main_arg2) (ix3 0 r k) := by
  blk_ext! [iblk, V, origin t]
theorem input_at (c : Dev nD) (t) (r k : Fin 1024) : iblk m c 2 t (ix2 r k) = m ((c : Thread nD τ).loc main_arg0) (ix2 (row t r) k) := by
  blk_ext! [iblk, V, origin t]
theorem gain_at (c : Dev nD) (t) (k : Fin 1024) : iblk m c 3 t (ix2 0 k) = m ((c : Thread nD τ).loc main_arg1) (ix2 0 k) := by
  blk_ext! [iblk, V, origin t]
theorem passed_at (c : Dev nD) (t) (r k : Fin 1024) : iblk m c 4 t (ix2 r k) = m ((c : Thread nD τ).loc main_arg4) (ix2 (row t r) k) := by
  blk_ext! [iblk, V, origin t]
theorem next_at (c : Dev nD) (t) (r k : Fin 1024) : iblk m c 5 t (ix2 r k) = m ((c : Thread nD τ).loc main_arg3) (ix3 0 r k) := by
  blk_ext! [iblk, V, origin t]

section
variable (h : S8192x1024.Idx → EReal) (g : S1x1024.Idx → EReal) (w wo : S1x1024x1024.Idx → EReal) (dh dq : S8192x1024.Idx → EReal)

/-- The cotangent of the normalised row `i`: the product's cotangent times the transposed weight. -/
def dn (i : Fin 8192) (j : Fin 1024) : EReal := ∑ k : Fin 1024, dq (ix2 i k) * w (ix3 0 j k)

/-- The gradient of the block's input at row `i`, feature `j`. -/
def dinput (i : Fin 8192) (j : Fin 1024) : EReal := back (fun d => h (ix2 i d)) (fun d => g (ix2 0 d)) (dn w dq i) (dh (ix2 i j)) j

/-- The cotangent of what the next product back took, at row `i`, column `j`. -/
def dnext (i : Fin 8192) (j : Fin 1024) : EReal := ∑ d : Fin 1024, dinput h g w dh dq i d * wo (ix3 0 j d)

/-- The gain's gradient at feature `j`. -/
def dgain (j : Fin 1024) : EReal := ∑ i : Fin 8192, dn w dq i j * (h (ix2 i j) * rinv fun d => h (ix2 i d))
end

/-- The arguments, named. -/
abbrev argH (c : Dev nD) : S8192x1024.Idx → EReal := m ((c : Thread nD τ).loc main_arg0)
abbrev argG (c : Dev nD) : S1x1024.Idx → EReal := m ((c : Thread nD τ).loc main_arg1)
abbrev argW (c : Dev nD) : S1x1024x1024.Idx → EReal := m ((c : Thread nD τ).loc main_arg2)
abbrev argO (c : Dev nD) : S1x1024x1024.Idx → EReal := m ((c : Thread nD τ).loc main_arg3)
abbrev argR (c : Dev nD) : S8192x1024.Idx → EReal := m ((c : Thread nD τ).loc main_arg4)
abbrev argQ (c : Dev nD) : S8192x1024.Idx → EReal := m ((c : Thread nD τ).loc main_arg5)

theorem first_point (t : Fin cfg0.N) : (t.val % 8 = 0 ∧ ¬ 1 ≤ t.val) ∨ (¬ t.val % 8 = 0 ∧ 1 ≤ t.val) := by
  have := point_lt t; omega

/-- What a point stores as the input's gradient. -/
theorem block_input (c : Dev nD) (t : Fin cfg0.N) (r j : Fin 1024) :
    (outsAt0 m c t.val t.isLt).1 (ix2 r j) = dinput (argH m c) (argG m c) (argW m c) (argR m c) (argQ m c) (row t r) j := by
  unfold dinput dn back rinv
  rcases first_point t with ⟨h0, h1⟩ | ⟨h0, h1⟩
  · rw [outsAt0_A m c t h0 h1]
    frame_out
    unfold_payloads
    pointwise
    simp only [dq_at, weight_at, input_at, gain_at, passed_at]
  · rw [outsAt0_B m c t h0 h1]
    frame_out
    unfold_payloads
    pointwise
    simp only [dq_at, weight_at, input_at, gain_at, passed_at]

/-- The same, as it is stored for the next product. -/
theorem block_rounded (c : Dev nD) (t : Fin cfg0.N) (r j : Fin 1024) :
    (outsAt0 m c t.val t.isLt).2.1 (ix2 r j) = dinput (argH m c) (argG m c) (argW m c) (argR m c) (argQ m c) (row t r) j := by
  unfold dinput dn back rinv
  rcases first_point t with ⟨h0, h1⟩ | ⟨h0, h1⟩
  · rw [outsAt0_A m c t h0 h1]
    frame_out
    unfold_payloads
    pointwise
    simp only [dq_at, weight_at, input_at, gain_at, passed_at]
  · rw [outsAt0_B m c t h0 h1]
    frame_out
    unfold_payloads
    pointwise
    simp only [dq_at, weight_at, input_at, gain_at, passed_at]

/-- What a point stores of the next product, in two slabs. -/
theorem block_next (c : Dev nD) (t : Fin cfg0.N) (s : Fin 2) (r : Fin 1024) (j : Fin 512) :
    (outsAt0 m c t.val t.isLt).2.2.1 (ix3 s r j)
      = dnext (argH m c) (argG m c) (argW m c) (argO m c) (argR m c) (argQ m c) (row t r) ⟨s.val * 512 + j.val, by omega⟩ := by
  unfold dnext dinput dn back rinv
  rcases first_point t with ⟨h0, h1⟩ | ⟨h0, h1⟩
  · rw [outsAt0_A m c t h0 h1]
    frame_out
    unfold_payloads
    canon_tiles x h
    all_goals
      idx_vars x
      obtain rfl : r = x1 := Fin.ext h1
      obtain rfl : j = x2 := Fin.ext h2
      pointwise
      simp only [dq_at, weight_at, input_at, gain_at, passed_at, next_at]
      refine Finset.sum_congr (M := EReal) rfl fun d _ => congrArg₂ (· * ·) rfl ?_
      exact congrArg (fun q => argO m c (ix3 0 q d)) (Fin.ext (by dsimp only; omega))
  · rw [outsAt0_B m c t h0 h1]
    frame_out
    unfold_payloads
    canon_tiles x h
    all_goals
      idx_vars x
      obtain rfl : r = x1 := Fin.ext h1
      obtain rfl : j = x2 := Fin.ext h2
      pointwise
      simp only [dq_at, weight_at, input_at, gain_at, passed_at, next_at]
      refine Finset.sum_congr (M := EReal) rfl fun d _ => congrArg₂ (· * ·) rfl ?_
      exact congrArg (fun q => argO m c (ix3 0 q d)) (Fin.ext (by dsimp only; omega))

/-- What one point adds to the gain's gradient. -/
def dgainTerm (c : Dev nD) (t : Fin cfg0.N) (y : S1x1024.Idx) : EReal :=
  ∑ r : Fin 1024, dn (argW m c) (argQ m c) (row t r) (y 1) * (argH m c (ix2 (row t r) (y 1)) * rinv fun d => argH m c (ix2 (row t r) d))

/-- The gain's gradient after every point. -/
theorem gain_sum (c : Dev nD) (t : Fin cfg0.N) (ht : t.val + 1 = cfg0.N) (y : S1x1024.Idx) :
    (outsAt0 m c t.val t.isLt).2.2.2 y = dgain (argH m c) (argW m c) (argQ m c) (y 1) := by
  have e := Pipeline.eq_sum_fin_of_reset_step_apply_last (fun n h => (outsAt0 m c n h).2.2.2) 8 (fun _ => 0) (dgainTerm m c)
    (fun t h y => ?_) (fun t h y => ?_) (by decide +kernel) t ht y
  · refine e.trans ?_
    rw [zero_add]
    unfold dgain dgainTerm
    refine Eq.trans ?_ (Sums.sum_split 8192 8 1024 rfl _).symm
    rfl
  · idx_vars y
    rw [outsAt0_A m c t h (by have := point_lt t; omega)]
    unfold dgainTerm dn rinv
    frame_out
    unfold_payloads
    pointwise
    simp only [dq_at, weight_at, input_at]
  · idx_vars y
    rw [outsAt0_B m c t h (by have := point_lt t; omega)]
    unfold dgainTerm dn rinv
    frame_out
    unfold_payloads
    pointwise
    simp only [dq_at, weight_at, input_at]

/-- The input's gradient, as the kernel leaves it. -/
theorem result_input (c : Dev nD) : (dats m 0 c).arrAt 6 (cfgs 0).N = fun i : S8192x1024.Idx =>
    dinput (argH m c) (argG m c) (argW m c) (argR m c) (argQ m c) (i 0) (i 1) := by
  refine (dats m 0 c).arrAt_eq_of_covers 6 _ (by decide +kernel) fun t hf (y : S1024x1024.Idx) => ?_
  idx_vars y
  blk_simp
  have e0 : ((View.whole main_v4_0).slice (win0_6.rect t)).emb (ix2 y0 y1) 0 = row t y0 := by apply Fin.ext; blk_simp [origin t]
  have e1 : ((View.whole main_v4_0).slice (win0_6.rect t)).emb (ix2 y0 y1) 1 = y1 := by apply Fin.ext; blk_simp [origin t]
  rw [after0_6, block_input, e0, e1]

/-- The same, in the format the next product reads. -/
theorem result_rounded (c : Dev nD) : (dats m 0 c).arrAt 7 (cfgs 0).N = fun i : S8192x1024.Idx =>
    dinput (argH m c) (argG m c) (argW m c) (argR m c) (argQ m c) (i 0) (i 1) := by
  refine (dats m 0 c).arrAt_eq_of_covers 7 _ (by decide +kernel) fun t hf (y : S1024x1024.Idx) => ?_
  idx_vars y
  blk_simp
  have e0 : ((View.whole main_v4_1).slice (win0_7.rect t)).emb (ix2 y0 y1) 0 = row t y0 := by apply Fin.ext; blk_simp [origin t]
  have e1 : ((View.whole main_v4_1).slice (win0_7.rect t)).emb (ix2 y0 y1) 1 = y1 := by apply Fin.ext; blk_simp [origin t]
  rw [after0_7, block_rounded, e0, e1]

/-- The next product, as the kernel leaves it. -/
theorem result_next (c : Dev nD) : (dats m 0 c).arrAt 8 (cfgs 0).N = fun i : S2x8192x512.Idx =>
    dnext (argH m c) (argG m c) (argW m c) (argO m c) (argR m c) (argQ m c) (i 1) ⟨(i 0).val * 512 + (i 2).val, by have := (i 0).isLt; have := (i 2).isLt; simp at *; omega⟩ := by
  refine (dats m 0 c).arrAt_eq_of_covers 8 _ (by decide +kernel) fun t hf (y : S2x1024x512.Idx) => ?_
  idx_vars y
  blk_simp
  have e0 : ((View.whole main_v4_2).slice (win0_8.rect t)).emb (ix3 y0 y1 y2) 0 = y0 := by apply Fin.ext; blk_simp [origin t]
  have e1 : ((View.whole main_v4_2).slice (win0_8.rect t)).emb (ix3 y0 y1 y2) 1 = row t y1 := by apply Fin.ext; blk_simp [origin t]
  have e2 : ((View.whole main_v4_2).slice (win0_8.rect t)).emb (ix3 y0 y1 y2) 2 = y2 := by apply Fin.ext; blk_simp [origin t]
  rw [after0_8, block_next]
  simp only [e0, e1, e2]
  exact congrArg (dnext (argH m c) (argG m c) (argW m c) (argO m c) (argR m c) (argQ m c) (row t y1)) (Fin.ext (by blk_simp [origin t]))

/-- The gain's gradient, as the kernel leaves it. -/
theorem result_gain (c : Dev nD) : (dats m 0 c).arrAt 9 (cfgs 0).N = fun i : S1x1024.Idx =>
    dgain (argH m c) (argW m c) (argQ m c) (i 1) := by
  refine (dats m 0 c).arrAt_eq_of_covers 9 _ (by decide +kernel) fun t hf (y : S1x1024.Idx) => ?_
  have ht : t.val + 1 = cfg0.N := by
    revert t; decide +kernel
  blk_simp
  rw [after0_9, gain_sum m c t ht]
  congr 1
  apply Fin.ext; blk_simp [origin t]

open Cert.QBwdRefIdeal.Read

section
variable (h : S8192x1024.Idx → EReal) (g : S1x1024.Idx → EReal) (w wo : S1x1024x1024.Idx → EReal) (dh dq : S8192x1024.Idx → EReal)

theorem reference_dn (i : Fin 8192) (j : Fin 1024) : val_main_v20 (F := Ideal) w dq (ix2 i j) = dn w dq i j := by
  pointwise [val_main_v20, val_main_v19, val_main_v17]
  rfl

/-- The reference's gradient of the input. -/
theorem reference_input (hh : ∀ i, h i ≠ ⊤ ∧ h i ≠ ⊥) (hg : ∀ i, g i ≠ ⊤ ∧ g i ≠ ⊥) (hw : ∀ i, w i ≠ ⊤ ∧ w i ≠ ⊥)
    (hq : ∀ i, dq i ≠ ⊤ ∧ dq i ≠ ⊥) (i : S8192x1024.Idx) :
    val_main_v41 (F := Ideal) h g w dh dq i = dinput h g w dh dq (i 0) (i 1) := by
  idx_vars i
  refine Eq.trans ?_ (gradient_eq _ _ _ (.at fun _ => hh _) (.at fun _ => hg _)
    (Finite.dot (a := fun k => dq (ix2 i0 k)) (b := fun j k => w (ix3 0 j k)) (.at fun _ => hq _) fun _ => .at fun _ => hw _) _ _).symm
  pointwise [val_main_v41, val_main_v40, val_main_v39, val_main_v38, val_main_v37, val_main_v36, val_main_v35, val_main_v34, val_main_v33,
    val_main_v32, val_main_v31, val_main_v30, val_main_v29, val_main_v28, val_main_v27, val_main_v25, val_main_v24, val_main_v14, val_main_v0,
    val_main_v11, val_main_v10, val_main_v9, val_main_v8, val_main_v7, val_main_v6, val_main_v5, val_main_v4, val_main_v3, val_main_v2, val_main_v1,
    val_main_cst, val_main_cst_0, val_main_cst_1, val_main_cst_2, val_main_cst_5, val_main_cst_6, val_main_cst_7, reference_dn]
  rw [Fin.sum_univ_one]
  rfl

theorem reference_gain (i : S1x1024.Idx) : val_main_v42 (F := Ideal) h w dq i = dgain h w dq (i 1) := by
  idx_vars i
  unfold dgain rinv
  pointwise [val_main_v42, val_main_v26, val_main_v23, val_main_v22, val_main_v21, val_main_v13, val_main_v12, val_main_v8, val_main_v7, val_main_v6, val_main_v5, val_main_v4, val_main_v3, val_main_v2, val_main_v1, val_main_cst, val_main_cst_0, val_main_cst_1, val_main_cst_3, val_main_cst_4, reference_dn]
  rw [Fin.sum_univ_one]
  exact Finset.sum_congr rfl fun x _ => mul_comm _ _

/-- The reference's next product. -/
theorem reference_next (hh : ∀ i, h i ≠ ⊤ ∧ h i ≠ ⊥) (hg : ∀ i, g i ≠ ⊤ ∧ g i ≠ ⊥) (hw : ∀ i, w i ≠ ⊤ ∧ w i ≠ ⊥)
    (hq : ∀ i, dq i ≠ ⊤ ∧ dq i ≠ ⊥) (i : S2x8192x512.Idx) :
    val_main_v50 (F := Ideal) h g w wo dh dq i = dnext h g w wo dh dq (i 1) ⟨(i 0).val * 512 + (i 2).val, by have := (i 0).isLt; have := (i 2).isLt; simp at *; omega⟩ := by
  idx_vars i
  unfold dnext
  pointwise [val_main_v50, val_main_v49, val_main_v48, val_main_v46, val_main_v44, reference_input h g w dh dq hh hg hw hq]

/-- The reference's rounded gradient of the input. -/
theorem reference_rounded (hh : ∀ i, h i ≠ ⊤ ∧ h i ≠ ⊥) (hg : ∀ i, g i ≠ ⊤ ∧ g i ≠ ⊥) (hw : ∀ i, w i ≠ ⊤ ∧ w i ≠ ⊥)
    (hq : ∀ i, dq i ≠ ⊤ ∧ dq i ≠ ⊥) (i : S8192x1024.Idx) :
    val_main_v47 (F := Ideal) h g w dh dq i = dinput h g w dh dq (i 0) (i 1) :=
  reference_input h g w dh dq hh hg hw hq i
end
end Cert.QBwdIdeal.Hand
end
-- ==== Proof.UpBwd.lean ====
module

public import proofs.«01_k».proof.Proof.Sums
public import proofs.«01_k».proof.Proof.NormGrad
public import proofs.«01_k».proof.Proof.Gen.UpBwdIdeal.Value
public import proofs.«01_k».proof.Proof.Gen.UpBwdRefIdeal.Run
public import proofs.«01_k».proof.Proof.Gen.UpBwdRefIdeal.Read
public import Idealize.ShloMosaic.Lib.Pipeline.ValueKit
public import Idealize.ShloMosaic.Lib.Pointwise

@[expose] public section

set_option maxRecDepth 16384

noncomputable section

namespace Cert.UpBwdIdeal.Hand

open Cert.UpBwdIdeal Cert.UpBwdIdeal.Gen Idealize.ShloMosaic Idealize.ShloMosaic.TcCoe Idealize.SL.Sem
open Idealize.ShloMosaic.Pipeline (Dat)
open Cert.NormGrad

variable (m : (ℓ : Loc nD τ sig) → Buf (Elt Ideal) ℓ)

/-- The block a point reads or writes of each array. -/
theorem origin : ∀ t : Fin grid0.N, win0_0.index t = ![t.val, 0] ∧ win0_1.index t = ![0, 0, 0] ∧ win0_2.index t = ![t.val, 0]
    ∧ win0_3.index t = ![0, 0] ∧ win0_4.index t = ![t.val, 0] ∧ win0_5.index t = ![0, 0] ∧ win0_7.index t = ![t.val, 0]
    ∧ win0_8.index t = ![t.val, 0] ∧ win0_9.index t = ![t.val, 0] ∧ win0_10.index t = ![0, 0] := by decide +kernel

theorem point_lt (t : Fin cfg0.N) : t.val < 16 := t.isLt

/-- Row `r` of point `t`'s block among all rows. -/
abbrev row (t : Fin cfg0.N) (r : Fin 512) : Fin 8192 := ⟨t.val * 512 + r.val, by have := point_lt t; omega⟩

theorem dq_at (c : Dev nD) (t) (r : Fin 512) (k : Fin 4096) : iblk m c 0 t (ix2 r k) = m ((c : Thread nD τ).loc main_arg5) (ix2 (row t r) k) := by
  blk_ext! [iblk, V, origin t]
theorem weight_at (c : Dev nD) (t) (s : Fin 8) (r : Fin 1024) (k : Fin 512) : iblk m c 1 t (ix3 s r k) = m ((c : Thread nD τ).loc main_arg2) (ix3 0 r ⟨s.val * 512 + k.val, by omega⟩) := by
  blk_ext! [iblk, V, origin t]
theorem input_at (c : Dev nD) (t) (r : Fin 512) (k : Fin 1024) : iblk m c 2 t (ix2 r k) = m ((c : Thread nD τ).loc main_arg0) (ix2 (row t r) k) := by
  blk_ext! [iblk, V, origin t]
theorem gain_at (c : Dev nD) (t) (k : Fin 1024) : iblk m c 3 t (ix2 0 k) = m ((c : Thread nD τ).loc main_arg1) (ix2 0 k) := by
  blk_ext! [iblk, V, origin t]
theorem passed_at (c : Dev nD) (t) (r : Fin 512) (k : Fin 1024) : iblk m c 4 t (ix2 r k) = m ((c : Thread nD τ).loc main_arg4) (ix2 (row t r) k) := by
  blk_ext! [iblk, V, origin t]
theorem next_at (c : Dev nD) (t) (r k : Fin 1024) : iblk m c 5 t (ix2 r k) = m ((c : Thread nD τ).loc main_arg3) (ix3 0 r k) := by
  blk_ext! [iblk, V, origin t]

section
variable (h : S8192x1024.Idx → EReal) (g : S1x1024.Idx → EReal) (w : S1x1024x4096.Idx → EReal) (wo : S1x1024x1024.Idx → EReal) (dh : S8192x1024.Idx → EReal) (dq : S8192x4096.Idx → EReal)

/-- The cotangent of the normalised row `i`: the product's cotangent times the transposed weight. -/
def dn (i : Fin 8192) (j : Fin 1024) : EReal := ∑ k : Fin 4096, dq (ix2 i k) * w (ix3 0 j k)

/-- The part of a row's cotangent that comes from 512 columns. -/
def part (i : Fin 8192) (j : Fin 1024) (o : ℕ) (ho : o + 512 ≤ 4096) : EReal :=
  ∑ k : Fin 512, dq (ix2 i ⟨o + k.val, by omega⟩) * w (ix3 0 j ⟨o + k.val, by omega⟩)

/-- The same, in the eight slabs of columns that the kernel goes through. -/
theorem dn_slabs (i : Fin 8192) (j : Fin 1024) : dn w dq i j
    = (∑ k : Fin 512, dq (ix2 i ⟨k.val, by omega⟩) * w (ix3 0 j ⟨0 + k.val, by omega⟩))
      + part w dq i j 512 (by omega) + part w dq i j 1024 (by omega) + part w dq i j 1536 (by omega) + part w dq i j 2048 (by omega)
      + part w dq i j 2560 (by omega) + part w dq i j 3072 (by omega) + part w dq i j 3584 (by omega) := by
  refine (Sums.sum_split 4096 8 512 rfl _).trans ?_
  rw [Fin.sum_univ_eight]
  refine congrArg (fun z : EReal => z + _ + _ + _ + _ + _ + _ + _) (Finset.sum_congr rfl fun k _ => ?_)
  exact congrArg₂ (fun a b => dq (ix2 i a) * w (ix3 0 j b)) (Fin.ext (by simp)) (Fin.ext (by simp))

/-- The gradient of the block's input at row `i`, feature `j`. -/
def dinput (i : Fin 8192) (j : Fin 1024) : EReal := back (fun d => h (ix2 i d)) (fun d => g (ix2 0 d)) (dn w dq i) (dh (ix2 i j)) j

/-- The cotangent of what the next product back took, at row `i`, column `j`. -/
def dnext (i : Fin 8192) (j : Fin 1024) : EReal := ∑ d : Fin 1024, dinput h g w dh dq i d * wo (ix3 0 j d)

/-- The gain's gradient at feature `j`. -/
def dgain (j : Fin 1024) : EReal := ∑ i : Fin 8192, dn w dq i j * (h (ix2 i j) * rinv fun d => h (ix2 i d))
end

/-- The arguments, named. -/
abbrev argH (c : Dev nD) : S8192x1024.Idx → EReal := m ((c : Thread nD τ).loc main_arg0)
abbrev argG (c : Dev nD) : S1x1024.Idx → EReal := m ((c : Thread nD τ).loc main_arg1)
abbrev argW (c : Dev nD) : S1x1024x4096.Idx → EReal := m ((c : Thread nD τ).loc main_arg2)
abbrev argO (c : Dev nD) : S1x1024x1024.Idx → EReal := m ((c : Thread nD τ).loc main_arg3)
abbrev argR (c : Dev nD) : S8192x1024.Idx → EReal := m ((c : Thread nD τ).loc main_arg4)
abbrev argQ (c : Dev nD) : S8192x4096.Idx → EReal := m ((c : Thread nD τ).loc main_arg5)

theorem first_point (t : Fin cfg0.N) : (t.val % 16 = 0 ∧ ¬ 1 ≤ t.val) ∨ (¬ t.val % 16 = 0 ∧ 1 ≤ t.val) := by
  have := point_lt t; omega

/-- What a point stores as the input's gradient. -/
theorem block_input (c : Dev nD) (t : Fin cfg0.N) (r : Fin 512) (j : Fin 1024) :
    (outsAt0 m c t.val t.isLt).1 (ix2 r j) = dinput (argH m c) (argG m c) (argW m c) (argR m c) (argQ m c) (row t r) j := by
  unfold dinput back rinv
  rcases first_point t with ⟨h0, h1⟩ | ⟨h0, h1⟩
  · rw [outsAt0_A m c t h0 h1]
    frame_out
    unfold_payloads
    pointwise
    simp only [dq_at, weight_at, input_at, gain_at, passed_at, dn_slabs, part]
    rfl
  · rw [outsAt0_B m c t h0 h1]
    frame_out
    unfold_payloads
    pointwise
    simp only [dq_at, weight_at, input_at, gain_at, passed_at, dn_slabs, part]
    rfl

/-- The same, as it is stored for the next product. -/
theorem block_rounded (c : Dev nD) (t : Fin cfg0.N) (r : Fin 512) (j : Fin 1024) :
    (outsAt0 m c t.val t.isLt).2.1 (ix2 r j) = dinput (argH m c) (argG m c) (argW m c) (argR m c) (argQ m c) (row t r) j := by
  unfold dinput back rinv
  rcases first_point t with ⟨h0, h1⟩ | ⟨h0, h1⟩
  · rw [outsAt0_A m c t h0 h1]
    frame_out
    unfold_payloads
    pointwise
    simp only [dq_at, weight_at, input_at, gain_at, passed_at, dn_slabs, part]
    rfl
  · rw [outsAt0_B m c t h0 h1]
    frame_out
    unfold_payloads
    pointwise
    simp only [dq_at, weight_at, input_at, gain_at, passed_at, dn_slabs, part]
    rfl

/-- What a point stores of the next product, in two tiles of columns. -/
theorem block_next (c : Dev nD) (t : Fin cfg0.N) (r : Fin 512) (j : Fin 1024) :
    (outsAt0 m c t.val t.isLt).2.2.1 (ix2 r j)
      = dnext (argH m c) (argG m c) (argW m c) (argO m c) (argR m c) (argQ m c) (row t r) j := by
  unfold dnext dinput back rinv
  rcases first_point t with ⟨h0, h1⟩ | ⟨h0, h1⟩
  · rw [outsAt0_A m c t h0 h1]
    frame_out
    unfold_payloads
    canon_tiles x h
    all_goals
      idx_vars x
      obtain rfl : r = x0 := Fin.ext (by assumption)
      pointwise
      simp only [dq_at, weight_at, input_at, gain_at, passed_at, next_at, dn_slabs, part]
      refine Finset.sum_congr (M := EReal) rfl fun d _ => congrArg₂ (· * ·) rfl ?_
      exact congrArg (fun q => argO m c (ix3 0 q d)) (Fin.ext (by dsimp only; omega))
  · rw [outsAt0_B m c t h0 h1]
    frame_out
    unfold_payloads
    canon_tiles x h
    all_goals
      idx_vars x
      obtain rfl : r = x0 := Fin.ext (by assumption)
      pointwise
      simp only [dq_at, weight_at, input_at, gain_at, passed_at, next_at, dn_slabs, part]
      refine Finset.sum_congr (M := EReal) rfl fun d _ => congrArg₂ (· * ·) rfl ?_
      exact congrArg (fun q => argO m c (ix3 0 q d)) (Fin.ext (by dsimp only; omega))

/-- What one point adds to the gain's gradient. -/
def dgainTerm (c : Dev nD) (t : Fin cfg0.N) (y : S1x1024.Idx) : EReal :=
  ∑ r : Fin 512, dn (argW m c) (argQ m c) (row t r) (y 1) * (argH m c (ix2 (row t r) (y 1)) * rinv fun d => argH m c (ix2 (row t r) d))

/-- The gain's gradient after every point. -/
theorem gain_sum (c : Dev nD) (t : Fin cfg0.N) (ht : t.val + 1 = cfg0.N) (y : S1x1024.Idx) :
    (outsAt0 m c t.val t.isLt).2.2.2 y = dgain (argH m c) (argW m c) (argQ m c) (y 1) := by
  have e := Pipeline.eq_sum_fin_of_reset_step_apply_last (fun n h => (outsAt0 m c n h).2.2.2) 16 (fun _ => 0) (dgainTerm m c)
    (fun t h y => ?_) (fun t h y => ?_) (by decide +kernel) t ht y
  · refine e.trans ?_
    rw [zero_add]
    unfold dgain dgainTerm
    refine Eq.trans ?_ (Sums.sum_split 8192 16 512 rfl _).symm
    rfl
  · idx_vars y
    rw [outsAt0_A m c t h (by have := point_lt t; omega)]
    unfold dgainTerm rinv
    frame_out
    unfold_payloads
    pointwise
    simp only [dq_at, weight_at, input_at, dn_slabs, part]
    rfl
  · idx_vars y
    rw [outsAt0_B m c t h (by have := point_lt t; omega)]
    unfold dgainTerm rinv
    frame_out
    unfold_payloads
    pointwise
    simp only [dq_at, weight_at, input_at, dn_slabs, part]
    rfl

/-- The input's gradient, as the kernel leaves it. -/
theorem result_input (c : Dev nD) : (dats m 0 c).arrAt 7 (cfgs 0).N = fun i : S8192x1024.Idx =>
    dinput (argH m c) (argG m c) (argW m c) (argR m c) (argQ m c) (i 0) (i 1) := by
  refine (dats m 0 c).arrAt_eq_of_covers 7 _ (by decide +kernel) fun t hf (y : S512x1024.Idx) => ?_
  idx_vars y
  blk_simp
  have e0 : ((View.whole main_v6_0).slice (win0_7.rect t)).emb (ix2 y0 y1) 0 = row t y0 := by apply Fin.ext; blk_simp [origin t]
  have e1 : ((View.whole main_v6_0).slice (win0_7.rect t)).emb (ix2 y0 y1) 1 = y1 := by apply Fin.ext; blk_simp [origin t]
  rw [after0_7, block_input, e0, e1]

/-- The same, in the format the next product reads. -/
theorem result_rounded (c : Dev nD) : (dats m 0 c).arrAt 8 (cfgs 0).N = fun i : S8192x1024.Idx =>
    dinput (argH m c) (argG m c) (argW m c) (argR m c) (argQ m c) (i 0) (i 1) := by
  refine (dats m 0 c).arrAt_eq_of_covers 8 _ (by decide +kernel) fun t hf (y : S512x1024.Idx) => ?_
  idx_vars y
  blk_simp
  have e0 : ((View.whole main_v6_1).slice (win0_8.rect t)).emb (ix2 y0 y1) 0 = row t y0 := by apply Fin.ext; blk_simp [origin t]
  have e1 : ((View.whole main_v6_1).slice (win0_8.rect t)).emb (ix2 y0 y1) 1 = y1 := by apply Fin.ext; blk_simp [origin t]
  rw [after0_8, block_rounded, e0, e1]

/-- The next product, as the kernel leaves it. -/
theorem result_next (c : Dev nD) : (dats m 0 c).arrAt 9 (cfgs 0).N = fun i : S8192x1024.Idx =>
    dnext (argH m c) (argG m c) (argW m c) (argO m c) (argR m c) (argQ m c) (i 0) (i 1) := by
  refine (dats m 0 c).arrAt_eq_of_covers 9 _ (by decide +kernel) fun t hf (y : S512x1024.Idx) => ?_
  idx_vars y
  blk_simp
  have e0 : ((View.whole main_v6_2).slice (win0_9.rect t)).emb (ix2 y0 y1) 0 = row t y0 := by apply Fin.ext; blk_simp [origin t]
  have e1 : ((View.whole main_v6_2).slice (win0_9.rect t)).emb (ix2 y0 y1) 1 = y1 := by apply Fin.ext; blk_simp [origin t]
  rw [after0_9, block_next, e0, e1]

/-- The gain's gradient, as the kernel leaves it. -/
theorem result_gain (c : Dev nD) : (dats m 0 c).arrAt 10 (cfgs 0).N = fun i : S1x1024.Idx =>
    dgain (argH m c) (argW m c) (argQ m c) (i 1) := by
  refine (dats m 0 c).arrAt_eq_of_covers 10 _ (by decide +kernel) fun t hf (y : S1x1024.Idx) => ?_
  have ht : t.val + 1 = cfg0.N := by
    revert t; decide +kernel
  blk_simp
  rw [after0_10, gain_sum m c t ht]
  congr 1
  apply Fin.ext; blk_simp [origin t]

open Cert.UpBwdRefIdeal.Read

section
variable (h : S8192x1024.Idx → EReal) (g : S1x1024.Idx → EReal) (w : S1x1024x4096.Idx → EReal) (wo : S1x1024x1024.Idx → EReal) (dh : S8192x1024.Idx → EReal) (dq : S8192x4096.Idx → EReal)

theorem reference_dn (i : Fin 8192) (j : Fin 1024) : val_main_v20 (F := Ideal) w dq (ix2 i j) = dn w dq i j := by
  pointwise [val_main_v20, val_main_v19, val_main_v17]
  rfl

/-- The reference's gradient of the input. -/
theorem reference_input (hh : ∀ i, h i ≠ ⊤ ∧ h i ≠ ⊥) (hg : ∀ i, g i ≠ ⊤ ∧ g i ≠ ⊥) (hw : ∀ i, w i ≠ ⊤ ∧ w i ≠ ⊥)
    (hq : ∀ i, dq i ≠ ⊤ ∧ dq i ≠ ⊥) (i : S8192x1024.Idx) :
    val_main_v41 (F := Ideal) h g w dh dq i = dinput h g w dh dq (i 0) (i 1) := by
  idx_vars i
  refine Eq.trans ?_ (gradient_eq _ _ _ (.at fun _ => hh _) (.at fun _ => hg _)
    (Finite.dot (a := fun k => dq (ix2 i0 k)) (b := fun j k => w (ix3 0 j k)) (.at fun _ => hq _) fun _ => .at fun _ => hw _) _ _).symm
  pointwise [val_main_v41, val_main_v40, val_main_v39, val_main_v38, val_main_v37, val_main_v36, val_main_v35, val_main_v34, val_main_v33,
    val_main_v32, val_main_v31, val_main_v30, val_main_v29, val_main_v28, val_main_v27, val_main_v25, val_main_v24, val_main_v14, val_main_v0,
    val_main_v11, val_main_v10, val_main_v9, val_main_v8, val_main_v7, val_main_v6, val_main_v5, val_main_v4, val_main_v3, val_main_v2, val_main_v1,
    val_main_cst, val_main_cst_0, val_main_cst_1, val_main_cst_2, val_main_cst_5, val_main_cst_6, val_main_cst_7, reference_dn]
  rw [Fin.sum_univ_one]
  rfl

theorem reference_gain (i : S1x1024.Idx) : val_main_v42 (F := Ideal) h w dq i = dgain h w dq (i 1) := by
  idx_vars i
  unfold dgain rinv
  pointwise [val_main_v42, val_main_v26, val_main_v23, val_main_v22, val_main_v21, val_main_v13, val_main_v12, val_main_v8, val_main_v7, val_main_v6, val_main_v5, val_main_v4, val_main_v3, val_main_v2, val_main_v1, val_main_cst, val_main_cst_0, val_main_cst_1, val_main_cst_3, val_main_cst_4, reference_dn]
  rw [Fin.sum_univ_one]
  exact Finset.sum_congr rfl fun x _ => mul_comm _ _

/-- The reference's next product. -/
theorem reference_next (hh : ∀ i, h i ≠ ⊤ ∧ h i ≠ ⊥) (hg : ∀ i, g i ≠ ⊤ ∧ g i ≠ ⊥) (hw : ∀ i, w i ≠ ⊤ ∧ w i ≠ ⊥)
    (hq : ∀ i, dq i ≠ ⊤ ∧ dq i ≠ ⊥) (i : S8192x1024.Idx) :
    val_main_v48 (F := Ideal) h g w wo dh dq i = dnext h g w wo dh dq (i 0) (i 1) := by
  idx_vars i
  unfold dnext
  pointwise [val_main_v48, val_main_v46, val_main_v44, reference_input h g w dh dq hh hg hw hq]

/-- The reference's rounded gradient of the input. -/
theorem reference_rounded (hh : ∀ i, h i ≠ ⊤ ∧ h i ≠ ⊥) (hg : ∀ i, g i ≠ ⊤ ∧ g i ≠ ⊥) (hw : ∀ i, w i ≠ ⊤ ∧ w i ≠ ⊥)
    (hq : ∀ i, dq i ≠ ⊤ ∧ dq i ≠ ⊥) (i : S8192x1024.Idx) :
    val_main_v47 (F := Ideal) h g w dh dq i = dinput h g w dh dq (i 0) (i 1) :=
  reference_input h g w dh dq hh hg hw hq i
end
end Cert.UpBwdIdeal.Hand
end
-- ==== Proof.InBwd.lean ====
module

public import proofs.«01_k».proof.Proof.Sums
public import proofs.«01_k».proof.Proof.NormGrad
public import proofs.«01_k».proof.Proof.Gen.InBwdIdeal.Value
public import proofs.«01_k».proof.Proof.Gen.InBwdRefIdeal.Run
public import proofs.«01_k».proof.Proof.Gen.InBwdRefIdeal.Read
public import Idealize.ShloMosaic.Lib.Pipeline.ValueKit
public import Idealize.ShloMosaic.Lib.Pointwise

@[expose] public section

set_option maxRecDepth 16384

noncomputable section

namespace Cert.InBwdIdeal.Hand

open Cert.InBwdIdeal Cert.InBwdIdeal.Gen Idealize.ShloMosaic Idealize.ShloMosaic.TcCoe Idealize.SL.Sem
open Idealize.ShloMosaic.Pipeline (Dat)
open Cert.NormGrad

variable (m : (ℓ : Loc nD τ sig) → Buf (Elt Ideal) ℓ)

/-- The block a point reads or writes of each array. -/
theorem origin : ∀ t : Fin grid0.N, win0_0.index t = ![0, t.val, 0] ∧ win0_1.index t = ![0, 0] ∧ win0_2.index t = ![t.val, 0]
    ∧ win0_3.index t = ![0, 0] ∧ win0_4.index t = ![t.val, 0] ∧ win0_6.index t = ![t.val, 0]
    ∧ win0_7.index t = ![0, 0] := by decide +kernel

theorem point_lt (t : Fin cfg0.N) : t.val < 8 := t.isLt

/-- Row `r` of point `t`'s block among all rows. -/
abbrev row (t : Fin cfg0.N) (r : Fin 1024) : Fin 8192 := ⟨t.val * 1024 + r.val, by have := point_lt t; omega⟩

theorem dq_at (c : Dev nD) (t) (s : Fin 5) (r : Fin 1024) (k : Fin 512) : iblk m c 0 t (ix3 s r k) = m ((c : Thread nD τ).loc main_arg4) (ix2 (row t r) ⟨s.val * 512 + k.val, by omega⟩) := by
  blk_ext! [iblk, V, origin t]
theorem weight_at (c : Dev nD) (t) (r : Fin 1024) (k : Fin 2560) : iblk m c 1 t (ix2 r k) = m ((c : Thread nD τ).loc main_arg2) (ix3 0 r k) := by
  blk_ext! [iblk, V, origin t]
theorem input_at (c : Dev nD) (t) (r k : Fin 1024) : iblk m c 2 t (ix2 r k)
    = m ((c : Thread nD τ).loc main_arg0) (ix3 ⟨(row t r).val / 4096, by omega⟩ ⟨(row t r).val % 4096, by omega⟩ k) := by
  blk_ext! [iblk, V, origin t]
theorem gain_at (c : Dev nD) (t) (k : Fin 1024) : iblk m c 3 t (ix2 0 k) = m ((c : Thread nD τ).loc main_arg1) (ix2 0 k) := by
  blk_ext! [iblk, V, origin t]
theorem passed_at (c : Dev nD) (t) (r k : Fin 1024) : iblk m c 4 t (ix2 r k) = m ((c : Thread nD τ).loc main_arg3) (ix2 (row t r) k) := by
  blk_ext! [iblk, V, origin t]

section
variable (h : S2x4096x1024.Idx → EReal) (g : S1x1024.Idx → EReal) (w : S1x1024x2560.Idx → EReal) (dh : S8192x1024.Idx → EReal) (dq : S8192x2560.Idx → EReal)

/-- Row `i` of the input, both sequences' rows counted through. -/
def flat (i : Fin 8192) (d : Fin 1024) : EReal := h (ix3 ⟨i.val / 4096, by omega⟩ ⟨i.val % 4096, by omega⟩ d)

/-- The cotangent of the normalised row `i`: the product's cotangent times the transposed weight. -/
def dn (i : Fin 8192) (j : Fin 1024) : EReal := ∑ k : Fin 2560, dq (ix2 i k) * w (ix3 0 j k)

/-- Entry `x` of row `i` of the cotangent, out of its five slabs of columns side by side. -/
def joined (i : Fin 8192) (x : Fin 2560) : EReal :=
  if h : x.val < 512 then dq (ix2 i ⟨0 + x.val, by omega⟩)
  else if h : x.val - 512 < 512 then dq (ix2 i ⟨512 + (x.val - 512), by omega⟩)
  else if h : x.val - 512 - 512 < 512 then dq (ix2 i ⟨1024 + (x.val - 512 - 512), by omega⟩)
  else if h : x.val - 512 - 512 - 512 < 512 then dq (ix2 i ⟨1536 + (x.val - 512 - 512 - 512), by omega⟩)
  else dq (ix2 i ⟨2048 + (x.val - 512 - 512 - 512 - 512), by omega⟩)

theorem dn_joined (i : Fin 8192) (j : Fin 1024) : dn w dq i j = ∑ k : Fin 2560, joined dq i k * w (ix3 0 j k) := by
  refine Finset.sum_congr rfl fun k _ => congrArg (· * _) ?_
  unfold joined
  have e : ∀ y : Fin 2560, y.val = k.val → dq (ix2 i k) = dq (ix2 i y) := fun y hy => by rw [Fin.ext hy]
  split_ifs <;> exact e _ (by dsimp only; omega)

/-- The gradient of the block's input at row `i`, feature `j`. -/
def dinput (i : Fin 8192) (j : Fin 1024) : EReal := back (flat h i) (fun d => g (ix2 0 d)) (dn w dq i) (dh (ix2 i j)) j

/-- The gain's gradient at feature `j`. -/
def dgain (j : Fin 1024) : EReal := ∑ i : Fin 8192, dn w dq i j * (flat h i j * rinv (flat h i))
end

/-- The arguments, named. -/
abbrev argH (c : Dev nD) : S2x4096x1024.Idx → EReal := m ((c : Thread nD τ).loc main_arg0)
abbrev argG (c : Dev nD) : S1x1024.Idx → EReal := m ((c : Thread nD τ).loc main_arg1)
abbrev argW (c : Dev nD) : S1x1024x2560.Idx → EReal := m ((c : Thread nD τ).loc main_arg2)
abbrev argR (c : Dev nD) : S8192x1024.Idx → EReal := m ((c : Thread nD τ).loc main_arg3)
abbrev argQ (c : Dev nD) : S8192x2560.Idx → EReal := m ((c : Thread nD τ).loc main_arg4)

theorem first_point (t : Fin cfg0.N) : (t.val % 8 = 0 ∧ ¬ 1 ≤ t.val) ∨ (¬ t.val % 8 = 0 ∧ 1 ≤ t.val) := by
  have := point_lt t; omega

/-- What a point stores as the input's gradient. -/
theorem block_input (c : Dev nD) (t : Fin cfg0.N) (r j : Fin 1024) :
    (outsAt0 m c t.val t.isLt).1 (ix2 r j) = dinput (argH m c) (argG m c) (argW m c) (argR m c) (argQ m c) (row t r) j := by
  unfold dinput back rinv flat
  rcases first_point t with ⟨h0, h1⟩ | ⟨h0, h1⟩
  · rw [outsAt0_A m c t h0 h1]
    frame_out
    unfold_payloads
    pointwise
    simp only [dq_at, weight_at, input_at, gain_at, passed_at, dn_joined]
    rfl
  · rw [outsAt0_B m c t h0 h1]
    frame_out
    unfold_payloads
    pointwise
    simp only [dq_at, weight_at, input_at, gain_at, passed_at, dn_joined]
    rfl

/-- What one point adds to the gain's gradient. -/
def dgainTerm (c : Dev nD) (t : Fin cfg0.N) (y : S1x1024.Idx) : EReal :=
  ∑ r : Fin 1024, dn (argW m c) (argQ m c) (row t r) (y 1) * (flat (argH m c) (row t r) (y 1) * rinv (flat (argH m c) (row t r)))

/-- The gain's gradient after every point. -/
theorem gain_sum (c : Dev nD) (t : Fin cfg0.N) (ht : t.val + 1 = cfg0.N) (y : S1x1024.Idx) :
    (outsAt0 m c t.val t.isLt).2 y = dgain (argH m c) (argW m c) (argQ m c) (y 1) := by
  have e := Pipeline.eq_sum_fin_of_reset_step_apply_last (fun n h => (outsAt0 m c n h).2) 8 (fun _ => 0) (dgainTerm m c)
    (fun t h y => ?_) (fun t h y => ?_) (by decide +kernel) t ht y
  · refine e.trans ?_
    rw [zero_add]
    unfold dgain dgainTerm
    refine Eq.trans ?_ (Sums.sum_split 8192 8 1024 rfl _).symm
    rfl
  · idx_vars y
    rw [outsAt0_A m c t h (by have := point_lt t; omega)]
    unfold dgainTerm rinv flat
    frame_out
    unfold_payloads
    pointwise
    simp only [dq_at, weight_at, input_at, dn_joined]
    rfl
  · idx_vars y
    rw [outsAt0_B m c t h (by have := point_lt t; omega)]
    unfold dgainTerm rinv flat
    frame_out
    unfold_payloads
    pointwise
    simp only [dq_at, weight_at, input_at, dn_joined]
    rfl

/-- The input's gradient, as the kernel leaves it. -/
theorem result_input (c : Dev nD) : (dats m 0 c).arrAt 6 (cfgs 0).N = fun i : S8192x1024.Idx =>
    dinput (argH m c) (argG m c) (argW m c) (argR m c) (argQ m c) (i 0) (i 1) := by
  refine (dats m 0 c).arrAt_eq_of_covers 6 _ (by decide +kernel) fun t hf (y : S1024x1024.Idx) => ?_
  idx_vars y
  blk_simp
  have e0 : ((View.whole main_v5_0).slice (win0_6.rect t)).emb (ix2 y0 y1) 0 = row t y0 := by apply Fin.ext; blk_simp [origin t]
  have e1 : ((View.whole main_v5_0).slice (win0_6.rect t)).emb (ix2 y0 y1) 1 = y1 := by apply Fin.ext; blk_simp [origin t]
  rw [after0_6, block_input, e0, e1]

/-- The gain's gradient, as the kernel leaves it. -/
theorem result_gain (c : Dev nD) : (dats m 0 c).arrAt 7 (cfgs 0).N = fun i : S1x1024.Idx =>
    dgain (argH m c) (argW m c) (argQ m c) (i 1) := by
  refine (dats m 0 c).arrAt_eq_of_covers 7 _ (by decide +kernel) fun t hf (y : S1x1024.Idx) => ?_
  have ht : t.val + 1 = cfg0.N := by
    revert t; decide +kernel
  blk_simp
  rw [after0_7, gain_sum m c t ht]
  congr 1
  apply Fin.ext; blk_simp [origin t]

open Cert.InBwdRefIdeal.Read

section
variable (h : S2x4096x1024.Idx → EReal) (g : S1x1024.Idx → EReal) (w : S1x1024x2560.Idx → EReal) (dh : S8192x1024.Idx → EReal) (dq : S8192x2560.Idx → EReal)

theorem reference_row (i : Fin 8192) (d : Fin 1024) : val_main_v0 (F := Ideal) h (ix2 i d) = flat h i d := by
  pointwise [val_main_v0]
  rfl

theorem reference_dn (i : Fin 8192) (j : Fin 1024) : val_main_v21 (F := Ideal) w dq (ix2 i j) = dn w dq i j := by
  pointwise [val_main_v21, val_main_v20, val_main_v18]
  rfl

/-- The reference's gradient of the input. -/
theorem reference_input (hh : ∀ i, h i ≠ ⊤ ∧ h i ≠ ⊥) (hg : ∀ i, g i ≠ ⊤ ∧ g i ≠ ⊥) (hw : ∀ i, w i ≠ ⊤ ∧ w i ≠ ⊥)
    (hq : ∀ i, dq i ≠ ⊤ ∧ dq i ≠ ⊥) (i : S8192x1024.Idx) :
    val_main_v42 (F := Ideal) h g w dh dq i = dinput h g w dh dq (i 0) (i 1) := by
  idx_vars i
  refine Eq.trans ?_ (gradient_eq _ _ _ (.at fun _ => hh _) (.at fun _ => hg _)
    (Finite.dot (a := fun k => dq (ix2 i0 k)) (b := fun j k => w (ix3 0 j k)) (.at fun _ => hq _) fun _ => .at fun _ => hw _) _ _).symm
  pointwise [val_main_v42, val_main_v41, val_main_v40, val_main_v39, val_main_v38, val_main_v37, val_main_v36, val_main_v35, val_main_v34,
    val_main_v33, val_main_v32, val_main_v31, val_main_v30, val_main_v29, val_main_v28, val_main_v26, val_main_v25, val_main_v15, val_main_v1,
    val_main_v12, val_main_v11, val_main_v10, val_main_v9, val_main_v8, val_main_v7, val_main_v6, val_main_v5, val_main_v4, val_main_v3, val_main_v2,
    val_main_cst, val_main_cst_0, val_main_cst_1, val_main_cst_2, val_main_cst_5, val_main_cst_6, val_main_cst_7, reference_dn, reference_row]
  rw [Fin.sum_univ_one]
  rfl

theorem reference_gain (i : S1x1024.Idx) : val_main_v43 (F := Ideal) h w dq i = dgain h w dq (i 1) := by
  idx_vars i
  unfold dgain rinv
  pointwise [val_main_v43, val_main_v27, val_main_v24, val_main_v23, val_main_v22, val_main_v14, val_main_v13, val_main_v9, val_main_v8, val_main_v7, val_main_v6, val_main_v5, val_main_v4, val_main_v3, val_main_v2, val_main_v1, val_main_cst, val_main_cst_0, val_main_cst_1, val_main_cst_3, val_main_cst_4, reference_dn, reference_row]
  rw [Fin.sum_univ_one]
  exact Finset.sum_congr rfl fun x _ => mul_comm _ _

end
end Cert.InBwdIdeal.Hand
end
-- ==== Proof.LossBwd.lean ====
module

public import proofs.«01_k».proof.Proof.Sums
public import proofs.«01_k».proof.Proof.NormGrad
public import proofs.«01_k».proof.Proof.Gen.LossBwdIdeal.Value
public import proofs.«01_k».proof.Proof.Gen.LossBwdRefIdeal.Run
public import proofs.«01_k».proof.Proof.Gen.LossBwdRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.LossBwdIdeal.Hand

open Cert.LossBwdIdeal Cert.LossBwdIdeal.Gen Idealize.ShloMosaic Idealize.ShloMosaic.TcCoe Idealize.SL.Sem
open Idealize.ShloMosaic.Pipeline (Dat)
open Cert.NormGrad

variable (m : (ℓ : Loc nD τ sig) → Buf (Elt Ideal) ℓ)

theorem point_lt (t : Fin cfg0.N) : t.val < 16 := t.isLt

/-- The block a point reads or writes of each array. -/
theorem origin : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] ∧ win0_8.index t = ![0, 0] := by decide +kernel

/-- Row `r` of point `t`'s block among all rows. -/
abbrev row (t : Fin cfg0.N) (r : Fin 512) : Fin 8192 := ⟨t.val * 512 + r.val, by have := point_lt t; omega⟩

theorem aa_at (c : Dev nD) (t) (r : Fin 512) (k : Fin 4096) : iblk m c 0 t (ix2 r k) = m ((c : Thread nD τ).loc main_arg0) (ix2 (row t r) k) := by
  blk_ext! [iblk, V, origin t]
theorem weight_at (c : Dev nD) (t) (r : Fin 4096) (k : Fin 1024) : iblk m c 1 t (ix2 r k) = m ((c : Thread nD τ).loc main_arg1) (ix3 0 r k) := by
  blk_ext! [iblk, V, origin t]
theorem input_at (c : Dev nD) (t) (r : Fin 512) (k : Fin 1024) : iblk m c 2 t (ix2 r k) = m ((c : Thread nD τ).loc main_arg2) (ix2 (row t r) k) := by
  blk_ext! [iblk, V, origin t]
theorem gain_at (c : Dev nD) (t) (k : Fin 1024) : iblk m c 3 t (ix2 0 k) = m ((c : Thread nD τ).loc main_arg3) (ix1 k) := by
  blk_ext! [iblk, V, origin t]
theorem target_at (c : Dev nD) (t) (r : Fin 512) (k : Fin 1024) : iblk m c 4 t (ix2 r k)
    = m ((c : Thread nD τ).loc main_arg4) (ix3 ⟨(row t r).val / 4096, by omega⟩ ⟨(row t r).val % 4096, by omega⟩ k) := by
  blk_ext! [iblk, V, origin t]

section
variable (aa : S8192x4096.Idx → EReal) (w : S1x4096x1024.Idx → EReal) (h : S8192x1024.Idx → EReal) (g : S1024.Idx → EReal) (y : S2x4096x1024.Idx → EReal)

/-- The last layer's output at row `i`: the residual plus the down projection. -/
def act (i : Fin 8192) (j : Fin 1024) : EReal := h (ix2 i j) + ∑ k : Fin 4096, aa (ix2 i k) * w (ix3 0 k j)

/-- The model's error at row `i`: the normalised output less the target. -/
def err (i : Fin 8192) (j : Fin 1024) : EReal :=
  act aa w h i j * rinv (act aa w h i) * g (ix1 j) - y (ix3 ⟨i.val / 4096, by omega⟩ ⟨i.val % 4096, by omega⟩ j)

/-- The loss's cotangent of the normalised output at row `i`. -/
def dn (i : Fin 8192) (j : Fin 1024) : EReal := err aa w h g y i j * Ideal.ofBits FTy.f32 981467136#32

/-- The loss's gradient of the output at row `i`. -/
def dinput (i : Fin 8192) (j : Fin 1024) : EReal := back (act aa w h i) (fun d => g (ix1 d)) (dn aa w h g y i) 0 j

/-- The squared error summed over the rows. -/
def squares (j : Fin 1024) : EReal := ∑ i : Fin 8192, err aa w h g y i j * err aa w h g y i j

/-- The gain's gradient. -/
def dgain (j : Fin 1024) : EReal := ∑ i : Fin 8192, dn aa w h g y i j * (act aa w h i j * rinv (act aa w h i))
end

/-- The arguments, named. -/
abbrev argA (c : Dev nD) : S8192x4096.Idx → EReal := m ((c : Thread nD τ).loc main_arg0)
abbrev argW (c : Dev nD) : S1x4096x1024.Idx → EReal := m ((c : Thread nD τ).loc main_arg1)
abbrev argH (c : Dev nD) : S8192x1024.Idx → EReal := m ((c : Thread nD τ).loc main_arg2)
abbrev argG (c : Dev nD) : S1024.Idx → EReal := m ((c : Thread nD τ).loc main_arg3)
abbrev argY (c : Dev nD) : S2x4096x1024.Idx → EReal := m ((c : Thread nD τ).loc main_arg4)

/-- The two tiles in which a point stores the lower half of its rows of the output before it reads them again. -/
abbrev lower (c : Dev nD) (t : Fin cfg0.N) : List (View.Piece (Elt Ideal) S512x1024 .f32) :=
  [⟨Rect.unit ![0, 512] ![256, 512] inb_S512x1024_S256x512_0_512,
      k0_pay7 (View.ld (iblk m c 0 t) (Rect.unit ![0, 0] ![256, 4096] inb_S512x4096_S256x4096_0_0)) (View.ld (iblk m c 2 t) (Rect.unit ![0, 512] ![256, 512] inb_S512x1024_S256x512_0_512)) (View.ld (iblk m c 1 t) (Rect.unit ![0, 512] ![4096, 512] inb_S4096x1024_S4096x512_0_512))⟩,
    ⟨Rect.unit ![0, 0] ![256, 512] inb_S512x1024_S256x512_0_0,
      k0_pay6 (View.ld (iblk m c 0 t) (Rect.unit ![0, 0] ![256, 4096] inb_S512x4096_S256x4096_0_0)) (View.ld (iblk m c 2 t) (Rect.unit ![0, 0] ![256, 512] inb_S512x1024_S256x512_0_0)) (View.ld (iblk m c 1 t) (Rect.unit ![0, 0] ![4096, 512] inb_S4096x1024_S4096x512_0_0))⟩]

/-- What those tiles hold. -/
theorem lower_at (c : Dev nD) (t : Fin cfg0.N) (r : Fin 512) (j : Fin 1024) (hlow : r.val < 256) :
    View.canon (lower m c t) (ix2 r j) = act (argA m c) (argW m c) (argH m c) (row t r) j := by
  have hcover : ∀ (a b : S256x512.Idx → EReal) (L : List (View.Piece (Elt Ideal) S512x1024 .f32)),
      ∃ p ∈ (⟨Rect.unit ![0, 512] ![256, 512] inb_S512x1024_S256x512_0_512, a⟩ ::
        ⟨Rect.unit ![0, 0] ![256, 512] inb_S512x1024_S256x512_0_0, b⟩ :: L : List (View.Piece (Elt Ideal) S512x1024 .f32)),
        (ix2 r j : S512x1024.Idx) ∈ p.1.set := by
    intro a b L
    have hr := r.isLt
    have hj := j.isLt
    rcases Nat.lt_or_ge j.val 512 with h | h
    · refine ⟨_, List.mem_cons_of_mem _ (List.mem_cons_self ..), ?_⟩
      simp only [Rect.mem_set_unit]
      intro k; fin_cases k <;> simp <;> omega
    · refine ⟨_, List.mem_cons_self .., ?_⟩
      simp only [Rect.mem_set_unit]
      intro k; fin_cases k <;> simp <;> omega
  unfold lower
  unfold_payloads
  obtain ⟨r, hr⟩ := r
  obtain ⟨j, hj⟩ := j
  dsimp only at hlow
  canon_tiles x h using (hcover _ _ _)
  all_goals
    idx_vars x
    try dsimp only at h0 h1
    try (exfalso; omega)
    subst h0 h1
    pointwise
    simp only [aa_at, weight_at, input_at]
    try simp only [Nat.zero_add]
    rfl

/-- Read again, that half is the output there. -/
theorem lower_reread (c : Dev nD) (t : Fin cfg0.N) {κ : Kind} {sp : Space} (v : View sig κ sp S512x1024 .f32) :
    v.readCov (lower m c t) (Rect.unit ![0, 0] ![256, 1024] inb_S512x1024_S256x1024_0_0).toLoadRect
      = fun x : S256x1024.Idx => act (argA m c) (argW m c) (argH m c) (row t ⟨0 + (x 0).val, by have : (x 0).val < 256 := (x 0).isLt; omega⟩) (x 1) := by
  rw [View.readCov_eq_canon']
  funext (x : S256x1024.Idx)
  idx_vars x
  have e : (Rect.unit ![0, 0] ![256, 1024] inb_S512x1024_S256x1024_0_0 : Rect S512x1024).toLoadRect.idx (ix2 x0 x1)
      = ix2 ⟨0 + x0.val, by omega⟩ x1 := by
    funext a
    fin_cases a <;> apply Fin.ext <;> simp [LoadRect.idx]
  exact (congrArg _ e).trans (lower_at m c t _ _ (by dsimp only; omega))

/-- The same with the two tiles of the upper half stored as well. -/
abbrev upper (c : Dev nD) (t : Fin cfg0.N) : List (View.Piece (Elt Ideal) S512x1024 .f32) :=
  [⟨Rect.unit ![256, 512] ![256, 512] inb_S512x1024_S256x512_256_512,
      k0_pay10 (View.ld (iblk m c 0 t) (Rect.unit ![256, 0] ![256, 4096] inb_S512x4096_S256x4096_256_0)) (View.ld (iblk m c 2 t) (Rect.unit ![256, 512] ![256, 512] inb_S512x1024_S256x512_256_512)) (k0_pay9 (View.ld (iblk m c 1 t) (Rect.unit ![0, 512] ![4096, 512] inb_S4096x1024_S4096x512_0_512)))⟩,
    ⟨Rect.unit ![256, 0] ![256, 512] inb_S512x1024_S256x512_256_0,
      k0_pay8 (View.ld (iblk m c 0 t) (Rect.unit ![256, 0] ![256, 4096] inb_S512x4096_S256x4096_256_0)) (View.ld (iblk m c 2 t) (Rect.unit ![256, 0] ![256, 512] inb_S512x1024_S256x512_256_0)) (View.ld (iblk m c 1 t) (Rect.unit ![0, 0] ![4096, 512] inb_S4096x1024_S4096x512_0_0))⟩,
    ⟨Rect.unit ![0, 512] ![256, 512] inb_S512x1024_S256x512_0_512,
      k0_pay7 (View.ld (iblk m c 0 t) (Rect.unit ![0, 0] ![256, 4096] inb_S512x4096_S256x4096_0_0)) (View.ld (iblk m c 2 t) (Rect.unit ![0, 512] ![256, 512] inb_S512x1024_S256x512_0_512)) (View.ld (iblk m c 1 t) (Rect.unit ![0, 512] ![4096, 512] inb_S4096x1024_S4096x512_0_512))⟩,
    ⟨Rect.unit ![0, 0] ![256, 512] inb_S512x1024_S256x512_0_0,
      k0_pay6 (View.ld (iblk m c 0 t) (Rect.unit ![0, 0] ![256, 4096] inb_S512x4096_S256x4096_0_0)) (View.ld (iblk m c 2 t) (Rect.unit ![0, 0] ![256, 512] inb_S512x1024_S256x512_0_0)) (View.ld (iblk m c 1 t) (Rect.unit ![0, 0] ![4096, 512] inb_S4096x1024_S4096x512_0_0))⟩]

/-- What those tiles hold. -/
theorem upper_at (c : Dev nD) (t : Fin cfg0.N) (r : Fin 512) (j : Fin 1024) (hlow : 256 ≤ r.val) :
    View.canon (upper m c t) (ix2 r j) = act (argA m c) (argW m c) (argH m c) (row t r) j := by
  have hcover : ∀ (a b : S256x512.Idx → EReal) (L : List (View.Piece (Elt Ideal) S512x1024 .f32)),
      ∃ p ∈ (⟨Rect.unit ![256, 512] ![256, 512] inb_S512x1024_S256x512_256_512, a⟩ ::
        ⟨Rect.unit ![256, 0] ![256, 512] inb_S512x1024_S256x512_256_0, b⟩ :: L : List (View.Piece (Elt Ideal) S512x1024 .f32)),
        (ix2 r j : S512x1024.Idx) ∈ p.1.set := by
    intro a b L
    have hr := r.isLt
    have hj := j.isLt
    rcases Nat.lt_or_ge j.val 512 with h | h
    · refine ⟨_, List.mem_cons_of_mem _ (List.mem_cons_self ..), ?_⟩
      simp only [Rect.mem_set_unit]
      intro k; fin_cases k <;> simp <;> omega
    · refine ⟨_, List.mem_cons_self .., ?_⟩
      simp only [Rect.mem_set_unit]
      intro k; fin_cases k <;> simp <;> omega
  unfold upper
  unfold_payloads
  obtain ⟨r, hr⟩ := r
  obtain ⟨j, hj⟩ := j
  dsimp only at hlow
  canon_tiles x h using (hcover _ _ _)
  all_goals
    idx_vars x
    try dsimp only at h0 h1
    first
    | (exfalso; omega)
    | (subst h0 h1; pointwise; simp only [aa_at, weight_at, input_at]; rfl)

/-- Read again, that half is the output there. -/
theorem upper_reread (c : Dev nD) (t : Fin cfg0.N) {κ : Kind} {sp : Space} (v : View sig κ sp S512x1024 .f32) :
    v.readCov (upper m c t) (Rect.unit ![256, 0] ![256, 1024] inb_S512x1024_S256x1024_256_0).toLoadRect
      = fun x : S256x1024.Idx => act (argA m c) (argW m c) (argH m c) (row t ⟨256 + (x 0).val, by have : (x 0).val < 256 := (x 0).isLt; omega⟩) (x 1) := by
  rw [View.readCov_eq_canon']
  funext (x : S256x1024.Idx)
  idx_vars x
  have e : (Rect.unit ![256, 0] ![256, 1024] inb_S512x1024_S256x1024_256_0 : Rect S512x1024).toLoadRect.idx (ix2 x0 x1)
      = ix2 ⟨256 + x0.val, by omega⟩ x1 := by
    funext a
    fin_cases a <;> apply Fin.ext <;> simp [LoadRect.idx]
  exact (congrArg _ e).trans (upper_at m c t _ _ (by dsimp only; omega))

/-- The output of a point is stored in two halves, over whatever was there before. -/
theorem canon_halves {e : EltTy} (p q : S256x1024.Idx → Elt Ideal e) (L : List (View.Piece (Elt Ideal) S512x1024 e)) (r : Fin 512) (j : Fin 1024) :
    View.canon (⟨Rect.unit ![256, 0] ![256, 1024] inb_S512x1024_S256x1024_256_0, p⟩
        :: ⟨Rect.unit ![0, 0] ![256, 1024] inb_S512x1024_S256x1024_0_0, q⟩ :: L) (ix2 r j)
      = if h : 256 ≤ r.val then p (ix2 ⟨r.val - 256, by omega⟩ j) else q (ix2 ⟨r.val, by omega⟩ j) := by
  split_ifs with h
  · have e : (ix2 r j : S512x1024.Idx) = (Rect.unit ![256, 0] ![256, 1024] inb_S512x1024_S256x1024_256_0 : Rect S512x1024).emb
        (ix2 (⟨r.val - 256, by omega⟩ : Fin 256) j) := by
      funext a
      fin_cases a <;> apply Fin.ext <;> simp
      omega
    rw [e, View.canon_cons_emb]
  · have e : (ix2 r j : S512x1024.Idx) = (Rect.unit ![0, 0] ![256, 1024] inb_S512x1024_S256x1024_0_0 : Rect S512x1024).emb
        (ix2 (⟨r.val, by omega⟩ : Fin 256) j) := by
      funext a
      fin_cases a <;> apply Fin.ext <;> simp
    rw [View.canon_cons_of_not_mem, e, View.canon_cons_emb]
    simp only [Rect.mem_set_unit]
    intro hm
    have := hm 0
    simp at this
    omega

/-- A point is the first or a later one. -/
theorem first_point (t : Fin cfg0.N) : (t.val % 16 = 0 ∧ ¬ 1 ≤ t.val) ∨ (¬ t.val % 16 = 0 ∧ 1 ≤ t.val) := by
  have := point_lt t; omega

/-- What a point computes of the rows of its upper half. -/
theorem upper_value (c : Dev nD) (t : Fin cfg0.N) (x : Fin 256) (j : Fin 1024) :
    k0_pay26 (k0_pay5 (iblk m c 3 t))
      (fun x : S256x1024.Idx => act (argA m c) (argW m c) (argH m c) (row t ⟨256 + (x 0).val, by have : (x 0).val < 256 := (x 0).isLt; omega⟩) (x 1))
      (View.ld (iblk m c 4 t) (Rect.unit ![256, 0] ![256, 1024] inb_S512x1024_S256x1024_256_0)) (ix2 x j)
    = dinput (argA m c) (argW m c) (argH m c) (argG m c) (argY m c) (row t ⟨256 + x.val, by omega⟩) j := by
  unfold_payloads
  pointwise
  simp only [gain_at, target_at]
  try simp only [Nat.zero_add]
  exact (zero_add _).symm

/-- What a point computes of the rows of its lower half. -/
theorem lower_value (c : Dev nD) (t : Fin cfg0.N) (x : Fin 256) (j : Fin 1024) :
    k0_pay16 (k0_pay5 (iblk m c 3 t))
      (fun x : S256x1024.Idx => act (argA m c) (argW m c) (argH m c) (row t ⟨0 + (x 0).val, by have : (x 0).val < 256 := (x 0).isLt; omega⟩) (x 1))
      (View.ld (iblk m c 4 t) (Rect.unit ![0, 0] ![256, 1024] inb_S512x1024_S256x1024_0_0)) (ix2 x j)
    = dinput (argA m c) (argW m c) (argH m c) (argG m c) (argY m c) (row t ⟨0 + x.val, by omega⟩) j := by
  unfold_payloads
  pointwise
  simp only [gain_at, target_at]
  try simp only [Nat.zero_add]
  exact (zero_add _).symm

/-- What a point stores as the output's gradient. -/
theorem block_input (c : Dev nD) (t : Fin cfg0.N) (r : Fin 512) (j : Fin 1024) :
    (outsAt0 m c t.val t.isLt).1 (ix2 r j) = dinput (argA m c) (argW m c) (argH m c) (argG m c) (argY m c) (row t r) j := by
  rcases first_point t with ⟨h0, h1⟩ | ⟨h0, h1⟩
  · rw [outsAt0_A m c t h0 h1]
    frame_out
    simp (disch := decide) only [View.readCov_skip]
    rw [canon_halves]
    split_ifs with h
    · exact ((congrArg (fun f => k0_pay26 _ f _ _) (upper_reread m c t _)).trans (upper_value m c t _ j)).trans
        (congrArg (fun q => dinput _ _ _ _ _ q j) (Fin.ext (by dsimp only; omega)))
    · exact ((congrArg (fun f => k0_pay16 _ f _ _) (lower_reread m c t _)).trans (lower_value m c t _ j)).trans
        (congrArg (fun q => dinput _ _ _ _ _ q j) (Fin.ext (by dsimp only; omega)))
  · rw [outsAt0_B m c t h0 h1]
    frame_out
    simp (disch := decide) only [View.readCov_skip]
    rw [canon_halves]
    split_ifs with h
    · exact ((congrArg (fun f => k0_pay26 _ f _ _) (upper_reread m c t _)).trans (upper_value m c t _ j)).trans
        (congrArg (fun q => dinput _ _ _ _ _ q j) (Fin.ext (by dsimp only; omega)))
    · exact ((congrArg (fun f => k0_pay16 _ f _ _) (lower_reread m c t _)).trans (lower_value m c t _ j)).trans
        (congrArg (fun q => dinput _ _ _ _ _ q j) (Fin.ext (by dsimp only; omega)))

/-- What a point rounds of the rows of its upper half. -/
theorem upper_rounded (c : Dev nD) (t : Fin cfg0.N) (x : Fin 256) (j : Fin 1024) :
    k0_pay27 (k0_pay5 (iblk m c 3 t))
      (fun x : S256x1024.Idx => act (argA m c) (argW m c) (argH m c) (row t ⟨256 + (x 0).val, by have : (x 0).val < 256 := (x 0).isLt; omega⟩) (x 1))
      (View.ld (iblk m c 4 t) (Rect.unit ![256, 0] ![256, 1024] inb_S512x1024_S256x1024_256_0)) (ix2 x j)
    = dinput (argA m c) (argW m c) (argH m c) (argG m c) (argY m c) (row t ⟨256 + x.val, by omega⟩) j := by
  unfold_payloads
  pointwise
  simp only [gain_at, target_at]
  try simp only [Nat.zero_add]
  exact (zero_add _).symm

/-- What a point rounds of the rows of its lower half. -/
theorem lower_rounded (c : Dev nD) (t : Fin cfg0.N) (x : Fin 256) (j : Fin 1024) :
    k0_pay17 (k0_pay5 (iblk m c 3 t))
      (fun x : S256x1024.Idx => act (argA m c) (argW m c) (argH m c) (row t ⟨0 + (x 0).val, by have : (x 0).val < 256 := (x 0).isLt; omega⟩) (x 1))
      (View.ld (iblk m c 4 t) (Rect.unit ![0, 0] ![256, 1024] inb_S512x1024_S256x1024_0_0)) (ix2 x j)
    = dinput (argA m c) (argW m c) (argH m c) (argG m c) (argY m c) (row t ⟨0 + x.val, by omega⟩) j := by
  unfold_payloads
  pointwise
  simp only [gain_at, target_at]
  try simp only [Nat.zero_add]
  exact (zero_add _).symm

/-- What a point stores as the output's gradient, rounded. -/
theorem block_rounded (c : Dev nD) (t : Fin cfg0.N) (r : Fin 512) (j : Fin 1024) :
    (outsAt0 m c t.val t.isLt).2.1 (ix2 r j) = dinput (argA m c) (argW m c) (argH m c) (argG m c) (argY m c) (row t r) j := by
  rcases first_point t with ⟨h0, h1⟩ | ⟨h0, h1⟩
  · rw [outsAt0_A m c t h0 h1]
    frame_out
    simp (disch := decide) only [View.readCov_skip]
    rw [canon_halves]
    split_ifs with h
    · exact ((congrArg (fun f => k0_pay27 _ f _ _) (upper_reread m c t _)).trans (upper_rounded m c t _ j)).trans
        (congrArg (fun q => dinput _ _ _ _ _ q j) (Fin.ext (by dsimp only; omega)))
    · exact ((congrArg (fun f => k0_pay17 _ f _ _) (lower_reread m c t _)).trans (lower_rounded m c t _ j)).trans
        (congrArg (fun q => dinput _ _ _ _ _ q j) (Fin.ext (by dsimp only; omega)))
  · rw [outsAt0_B m c t h0 h1]
    frame_out
    simp (disch := decide) only [View.readCov_skip]
    rw [canon_halves]
    split_ifs with h
    · exact ((congrArg (fun f => k0_pay27 _ f _ _) (upper_reread m c t _)).trans (upper_rounded m c t _ j)).trans
        (congrArg (fun q => dinput _ _ _ _ _ q j) (Fin.ext (by dsimp only; omega)))
    · exact ((congrArg (fun f => k0_pay17 _ f _ _) (lower_reread m c t _)).trans (lower_rounded m c t _ j)).trans
        (congrArg (fun q => dinput _ _ _ _ _ q j) (Fin.ext (by dsimp only; omega)))

/-- A sum over a point's rows, half by half. -/
theorem sum_halves (t : Fin cfg0.N) (f : Fin 8192 → EReal) :
    (∑ x : Fin 256, f (row t ⟨x.val, by omega⟩)) + (∑ x : Fin 256, f (row t ⟨256 + x.val, by omega⟩)) = ∑ r : Fin 512, f (row t r) := by
  rw [Sums.sum_split 512 2 256 rfl, Fin.sum_univ_two]
  congr 1

/-- A point's part of the squared errors. -/
def squaresTerm (c : Dev nD) (t : Fin cfg0.N) (y : S1x1024.Idx) : EReal :=
  ∑ r : Fin 512, err (argA m c) (argW m c) (argH m c) (argG m c) (argY m c) (row t r) (y 1) * err (argA m c) (argW m c) (argH m c) (argG m c) (argY m c) (row t r) (y 1)

/-- A point's part of the gain's gradient. -/
def dgainTerm (c : Dev nD) (t : Fin cfg0.N) (y : S1x1024.Idx) : EReal :=
  ∑ r : Fin 512, dn (argA m c) (argW m c) (argH m c) (argG m c) (argY m c) (row t r) (y 1) * (act (argA m c) (argW m c) (argH m c) (row t r) (y 1) * rinv (act (argA m c) (argW m c) (argH m c) (row t r)))

/-- The squared errors after every point. -/
theorem squares_sum (c : Dev nD) (t : Fin cfg0.N) (ht : t.val + 1 = cfg0.N) (y : S1x1024.Idx) :
    (outsAt0 m c t.val t.isLt).2.2.1 y = squares (argA m c) (argW m c) (argH m c) (argG m c) (argY m c) (y 1) := by
  have e := Pipeline.eq_sum_fin_of_reset_step_apply_last (fun n h => (outsAt0 m c n h).2.2.1) 16 (fun _ => 0) (squaresTerm m c)
    (fun t h y => ?_) (fun t h y => ?_) (by decide +kernel) t ht y
  · refine e.trans ?_
    rw [zero_add]
    unfold squares squaresTerm
    refine Eq.trans ?_ (Sums.sum_split 8192 16 512 rfl _).symm
    rfl
  · idx_vars y
    rw [outsAt0_A m c t h (by have := point_lt t; omega)]
    frame_out
    simp (disch := decide) only [View.readCov_skip]
    generalize hf : View.readCov (ms0_5 t).view (lower m c t) (Rect.unit ![0, 0] ![256, 1024] inb_S512x1024_S256x1024_0_0).toLoadRect = f
    generalize hg : View.readCov (ms0_5 t).view (upper m c t) (Rect.unit ![256, 0] ![256, 1024] inb_S512x1024_S256x1024_256_0).toLoadRect = g
    obtain rfl := hf.symm.trans (lower_reread m c t (ms0_5 t).view)
    obtain rfl := hg.symm.trans (upper_reread m c t (ms0_5 t).view)
    clear hf hg
    unfold_payloads
    pointwise
    simp only [gain_at, target_at]
    exact sum_halves t fun i => err (argA m c) (argW m c) (argH m c) (argG m c) (argY m c) i y1 * err (argA m c) (argW m c) (argH m c) (argG m c) (argY m c) i y1
  · idx_vars y
    rw [outsAt0_B m c t h (by have := point_lt t; omega)]
    frame_out
    simp (disch := decide) only [View.readCov_skip]
    generalize hf : View.readCov (ms0_5 t).view (lower m c t) (Rect.unit ![0, 0] ![256, 1024] inb_S512x1024_S256x1024_0_0).toLoadRect = f
    generalize hg : View.readCov (ms0_5 t).view (upper m c t) (Rect.unit ![256, 0] ![256, 1024] inb_S512x1024_S256x1024_256_0).toLoadRect = g
    obtain rfl := hf.symm.trans (lower_reread m c t (ms0_5 t).view)
    obtain rfl := hg.symm.trans (upper_reread m c t (ms0_5 t).view)
    clear hf hg
    unfold_payloads
    pointwise
    simp only [gain_at, target_at]
    exact congrArg _ (sum_halves t fun i => err (argA m c) (argW m c) (argH m c) (argG m c) (argY m c) i y1 * err (argA m c) (argW m c) (argH m c) (argG m c) (argY m c) i y1)

/-- The gain's gradient after every point. -/
theorem gain_sum (c : Dev nD) (t : Fin cfg0.N) (ht : t.val + 1 = cfg0.N) (y : S1x1024.Idx) :
    (outsAt0 m c t.val t.isLt).2.2.2 y = dgain (argA m c) (argW m c) (argH m c) (argG m c) (argY m c) (y 1) := by
  have e := Pipeline.eq_sum_fin_of_reset_step_apply_last (fun n h => (outsAt0 m c n h).2.2.2) 16 (fun _ => 0) (dgainTerm m c)
    (fun t h y => ?_) (fun t h y => ?_) (by decide +kernel) t ht y
  · refine e.trans ?_
    rw [zero_add]
    unfold dgain dgainTerm
    refine Eq.trans ?_ (Sums.sum_split 8192 16 512 rfl _).symm
    rfl
  · idx_vars y
    rw [outsAt0_A m c t h (by have := point_lt t; omega)]
    frame_out
    simp (disch := decide) only [View.readCov_skip]
    generalize hf : View.readCov (ms0_5 t).view (lower m c t) (Rect.unit ![0, 0] ![256, 1024] inb_S512x1024_S256x1024_0_0).toLoadRect = f
    generalize hg : View.readCov (ms0_5 t).view (upper m c t) (Rect.unit ![256, 0] ![256, 1024] inb_S512x1024_S256x1024_256_0).toLoadRect = g
    obtain rfl := hf.symm.trans (lower_reread m c t (ms0_5 t).view)
    obtain rfl := hg.symm.trans (upper_reread m c t (ms0_5 t).view)
    clear hf hg
    unfold_payloads
    pointwise
    simp only [gain_at, target_at]
    exact sum_halves t fun i => dn (argA m c) (argW m c) (argH m c) (argG m c) (argY m c) i y1 * (act (argA m c) (argW m c) (argH m c) i y1 * rinv (act (argA m c) (argW m c) (argH m c) i))
  · idx_vars y
    rw [outsAt0_B m c t h (by have := point_lt t; omega)]
    frame_out
    simp (disch := decide) only [View.readCov_skip]
    generalize hf : View.readCov (ms0_5 t).view (lower m c t) (Rect.unit ![0, 0] ![256, 1024] inb_S512x1024_S256x1024_0_0).toLoadRect = f
    generalize hg : View.readCov (ms0_5 t).view (upper m c t) (Rect.unit ![256, 0] ![256, 1024] inb_S512x1024_S256x1024_256_0).toLoadRect = g
    obtain rfl := hf.symm.trans (lower_reread m c t (ms0_5 t).view)
    obtain rfl := hg.symm.trans (upper_reread m c t (ms0_5 t).view)
    clear hf hg
    unfold_payloads
    pointwise
    simp only [gain_at, target_at]
    exact congrArg _ (sum_halves t fun i => dn (argA m c) (argW m c) (argH m c) (argG m c) (argY m c) i y1 * (act (argA m c) (argW m c) (argH m c) i y1 * rinv (act (argA m c) (argW m c) (argH m c) i)))

/-- The output's gradient, as the kernel leaves it. -/
theorem result_input (c : Dev nD) : (dats m 0 c).arrAt 5 (cfgs 0).N = fun i : S8192x1024.Idx =>
    dinput (argA m c) (argW m c) (argH m c) (argG m c) (argY m c) (i 0) (i 1) := by
  refine (dats m 0 c).arrAt_eq_of_covers 5 _ (by decide +kernel) fun t hf (y : S512x1024.Idx) => ?_
  idx_vars y
  blk_simp
  have e0 : ((View.whole main_v4_0).slice (win0_5.rect t)).emb (ix2 y0 y1) 0 = row t y0 := by apply Fin.ext; blk_simp [origin t]
  have e1 : ((View.whole main_v4_0).slice (win0_5.rect t)).emb (ix2 y0 y1) 1 = y1 := by apply Fin.ext; blk_simp [origin t]
  rw [after0_5, block_input, e0, e1]

/-- The same, in the format the next product reads. -/
theorem result_rounded (c : Dev nD) : (dats m 0 c).arrAt 6 (cfgs 0).N = fun i : S8192x1024.Idx =>
    dinput (argA m c) (argW m c) (argH m c) (argG m c) (argY m c) (i 0) (i 1) := by
  refine (dats m 0 c).arrAt_eq_of_covers 6 _ (by decide +kernel) fun t hf (y : S512x1024.Idx) => ?_
  idx_vars y
  blk_simp
  have e0 : ((View.whole main_v4_1).slice (win0_6.rect t)).emb (ix2 y0 y1) 0 = row t y0 := by apply Fin.ext; blk_simp [origin t]
  have e1 : ((View.whole main_v4_1).slice (win0_6.rect t)).emb (ix2 y0 y1) 1 = y1 := by apply Fin.ext; blk_simp [origin t]
  rw [after0_6, block_rounded, e0, e1]

/-- The squared errors, as the kernel leaves them. -/
theorem result_squares (c : Dev nD) : (dats m 0 c).arrAt 7 (cfgs 0).N = fun i : S1x1024.Idx => squares (argA m c) (argW m c) (argH m c) (argG m c) (argY m c) (i 1) := by
  refine (dats m 0 c).arrAt_eq_of_covers 7 _ (by decide +kernel) fun t hf (y : S1x1024.Idx) => ?_
  have ht : t.val + 1 = cfg0.N := by
    revert t; decide +kernel
  blk_simp
  rw [after0_7, squares_sum m c t ht]
  congr 1
  apply Fin.ext; blk_simp [origin t]

/-- The gain's gradient, as the kernel leaves it. -/
theorem result_gain (c : Dev nD) : (dats m 0 c).arrAt 8 (cfgs 0).N = fun i : S1x1024.Idx => dgain (argA m c) (argW m c) (argH m c) (argG m c) (argY m c) (i 1) := by
  refine (dats m 0 c).arrAt_eq_of_covers 8 _ (by decide +kernel) fun t hf (y : S1x1024.Idx) => ?_
  have ht : t.val + 1 = cfg0.N := by
    revert t; decide +kernel
  blk_simp
  rw [after0_8, gain_sum m c t ht]
  congr 1
  apply Fin.ext; blk_simp [origin t]

open Cert.LossBwdRefIdeal.Read

section
variable (aa : S8192x4096.Idx → EReal) (w : S1x4096x1024.Idx → EReal) (h : S8192x1024.Idx → EReal) (g : S1024.Idx → EReal) (y : S2x4096x1024.Idx → EReal)

theorem reference_act (i : Fin 8192) (j : Fin 1024) : val_main_v4 (F := Ideal) aa w h (ix2 i j) = act aa w h i j := by
  pointwise [val_main_v1, val_main_v2, val_main_v3, val_main_v4]
  rfl

theorem reference_err (i : Fin 8192) (j : Fin 1024) : val_main_v21 (F := Ideal) aa w h g y (ix2 i j) = err aa w h g y i j := by
  unfold err rinv
  pointwise [val_main_v0, val_main_v5, val_main_v6, val_main_v7, val_main_v8, val_main_v9, val_main_v10, val_main_v11, val_main_v12, val_main_v13, val_main_v14, val_main_v15, val_main_v16, val_main_v17, val_main_v18, val_main_v19, val_main_v20, val_main_v21, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, reference_act]

/-- The mean over the loss's elements, doubled by the square: one constant. -/
theorem factor (e : EReal) : Ideal.div (Ideal.ofBits FTy.f32 1056964608#32 * Ideal.ofBits FTy.f32 1065353216#32) width * (Ideal.ofBits FTy.f32 1073741824#32 * e)
    = e * Ideal.ofBits FTy.f32 981467136#32 := by
  have hh : Ideal.ofBits FTy.f32 1056964608#32 = ((1 / 2 : ℝ) : EReal) := by
    simp [Ideal.ofBits, Ideal.ieee, -EReal.coe_mul]; norm_num
  have h1 : Ideal.ofBits FTy.f32 1065353216#32 = ((1 : ℝ) : EReal) := by
    simp [Ideal.ofBits, Ideal.ieee, -EReal.coe_mul]; norm_num
  have h2 : Ideal.ofBits FTy.f32 1073741824#32 = ((2 : ℝ) : EReal) := by
    simp [Ideal.ofBits, Ideal.ieee, -EReal.coe_mul]; norm_num
  have hk : Ideal.ofBits FTy.f32 981467136#32 = ((1 / 1024 : ℝ) : EReal) := by
    simp [Ideal.ofBits, Ideal.ieee, -EReal.coe_mul]; norm_num
  rw [hh, h1, h2, hk, width_eq, Ideal.div_coe (by norm_num : (1024 : ℝ) ≠ 0), ← mul_assoc, mul_comm e]
  congr 1
  simp only [← EReal.coe_mul]
  congr 1
  norm_num

theorem reference_dn (i : Fin 8192) (j : Fin 1024) : val_main_v35 (F := Ideal) aa w h g y (ix2 i j) = dn aa w h g y i j := by
  unfold dn
  rw [← factor]
  pointwise [val_main_v23, val_main_v24, val_main_v30, val_main_v31, val_main_v32, val_main_v33, val_main_v34, val_main_v35, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, reference_err]

/-- The errors are finite where the arguments are. -/
theorem dn_finite (ha : ∀ i, aa i ≠ ⊤ ∧ aa i ≠ ⊥) (hw : ∀ i, w i ≠ ⊤ ∧ w i ≠ ⊥) (hh : ∀ i, h i ≠ ⊤ ∧ h i ≠ ⊥) (hg : ∀ i, g i ≠ ⊤ ∧ g i ≠ ⊥)
    (hy : ∀ i, y i ≠ ⊤ ∧ y i ≠ ⊥) (i : Fin 8192) : Finite (act aa w h i) ∧ Finite (dn aa w h g y i) := by
  have hact : Finite (act aa w h i) := by
    obtain ⟨d, hd⟩ := Finite.dot (a := fun k => aa (ix2 i k)) (b := fun j k => w (ix3 0 k j)) (.at fun _ => ha _) fun _ => .at fun _ => hw _
    refine ⟨fun j => (h (ix2 i j)).toReal + d j, funext fun j => ?_⟩
    rw [EReal.coe_add, EReal.coe_toReal (hh _).1 (hh _).2]
    exact congrArg _ (congrFun hd j)
  refine ⟨hact, ?_⟩
  obtain ⟨r, hr⟩ := rinv_real hact
  obtain ⟨a, ha'⟩ := hact
  refine ⟨fun j => (a j * r * (g (ix1 j)).toReal - (y (ix3 ⟨i.val / 4096, by omega⟩ ⟨i.val % 4096, by omega⟩ j)).toReal) * (1 / 1024), funext fun j => ?_⟩
  have hk : Ideal.ofBits FTy.f32 981467136#32 = ((1 / 1024 : ℝ) : EReal) := by
    simp [Ideal.ofBits, Ideal.ieee, -EReal.coe_mul]; norm_num
  simp only [EReal.coe_mul, EReal.coe_sub]
  rw [EReal.coe_toReal (hg _).1 (hg _).2, EReal.coe_toReal (hy _).1 (hy _).2, ← hr, ← hk, ← congrFun ha' j]
  rfl

/-- The reference's gradient of the output. -/
theorem reference_input (ha : ∀ i, aa i ≠ ⊤ ∧ aa i ≠ ⊥) (hw : ∀ i, w i ≠ ⊤ ∧ w i ≠ ⊥) (hh : ∀ i, h i ≠ ⊤ ∧ h i ≠ ⊥) (hg : ∀ i, g i ≠ ⊤ ∧ g i ≠ ⊥)
    (hy : ∀ i, y i ≠ ⊤ ∧ y i ≠ ⊥) (i : S8192x1024.Idx) : val_main_v55 (F := Ideal) aa w h g y i = dinput aa w h g y (i 0) (i 1) := by
  idx_vars i
  obtain ⟨fa, fd⟩ := dn_finite aa w h g y ha hw hh hg hy i0
  refine Eq.trans ?_ (gradient_eq (act aa w h i0) (fun d => g (ix1 d)) (dn aa w h g y i0) fa (.at fun _ => hg _) fd 0 i1).symm
  unfold rinv
  rw [zero_add]
  pointwise [val_main_v5, val_main_v6, val_main_v7, val_main_v8, val_main_v9, val_main_v10, val_main_v11, val_main_v12, val_main_v13, val_main_v14, val_main_v15, val_main_v16, val_main_v18, val_main_v39, val_main_v40, val_main_v42, val_main_v43, val_main_v44, val_main_v45, val_main_v46, val_main_v47, val_main_v48, val_main_v49, val_main_v50, val_main_v51, val_main_v52, val_main_v53, val_main_v54, val_main_v55, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, reference_act, reference_dn]
  simp only [Fin.sum_univ_one]

/-- The reference's rounded gradient of the output. -/
theorem reference_rounded (ha : ∀ i, aa i ≠ ⊤ ∧ aa i ≠ ⊥) (hw : ∀ i, w i ≠ ⊤ ∧ w i ≠ ⊥) (hh : ∀ i, h i ≠ ⊤ ∧ h i ≠ ⊥) (hg : ∀ i, g i ≠ ⊤ ∧ g i ≠ ⊥)
    (hy : ∀ i, y i ≠ ⊤ ∧ y i ≠ ⊥) (i : S8192x1024.Idx) : val_main_v56 (F := Ideal) aa w h g y i = dinput aa w h g y (i 0) (i 1) :=
  reference_input aa w h g y ha hw hh hg hy i

/-- The reference's squared errors. -/
theorem reference_squares (i : S1x1024.Idx) : val_main_v73 (F := Ideal) aa w h g y i = squares aa w h g y (i 1) := by
  idx_vars i
  unfold squares err rinv
  pointwise [val_main_v0, val_main_v57, val_main_v58, val_main_v59, val_main_v60, val_main_v61, val_main_v62, val_main_v63, val_main_v64, val_main_v65, val_main_v66, val_main_v67, val_main_v68, val_main_v69, val_main_v70, val_main_v71, val_main_v72, val_main_v73, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, reference_act]

/-- The reference's gradient of the gain. -/
theorem reference_gain (i : S1x1024.Idx) : val_main_v74 (F := Ideal) aa w h g y i = dgain aa w h g y (i 1) := by
  idx_vars i
  unfold dgain rinv
  pointwise [val_main_v5, val_main_v6, val_main_v7, val_main_v8, val_main_v9, val_main_v10, val_main_v11, val_main_v12, val_main_v13, val_main_v14, val_main_v15, val_main_v16, val_main_v17, val_main_v36, val_main_v37, val_main_v38, val_main_v41, val_main_v74, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, reference_act, reference_dn]
  rw [Fin.sum_univ_one]
  exact Finset.sum_congr rfl fun x _ => mul_comm _ _
end

end Cert.LossBwdIdeal.Hand

end
-- ==== Proof.Softmax.lean ====
module

public import proofs.«01_k».proof.Proof.NormGrad

/-! A row's softmax, and the gradient of its scores: the form of the attention's kernels, and the one that differentiating the row gives. -/

@[expose] public section

noncomputable section

namespace Cert.Softmax

open Idealize.ShloMosaic Cert.NormGrad

variable {n : ℕ}

/-- Minus infinity, one sixteenth and sixteen, as the programs write them. -/
abbrev lowest : EReal := Ideal.ofBits FTy.f32 4286578688#32
abbrev sixteenth : EReal := Ideal.ofBits FTy.f32 1031798784#32
abbrev sixteen : EReal := Ideal.ofBits FTy.f32 1098907648#32

/-- A query's scores against the rows of keys. -/
def scores {k : ℕ} (q : Fin k → EReal) (keys : Fin n → Fin k → EReal) (j : Fin n) : EReal := (∑ d, q d * keys j d) * sixteenth

/-- The exponential of a score, less the greatest score. -/
def weight (s : Fin n → EReal) (j : Fin n) : EReal := Ideal.exp (s j - Finset.fold max lowest s Finset.univ)

/-- A row's sum of weights. -/
def total (s : Fin n → EReal) : EReal := ∑ j, weight s j

/-- A score's share of the row. -/
def prob (s : Fin n → EReal) (j : Fin n) : EReal := weight s j * Ideal.div 1 (total s)

/-- The kernels' form of the scores' gradient, from the shares' gradient. -/
def dscore (s dp : Fin n → EReal) (j : Fin n) : EReal := prob s j * (dp j - ∑ x, dp x * prob s x) * sixteenth

theorem lowest_eq : lowest = ⊥ := by simp [lowest, Ideal.ofBits, Ideal.ieee]

theorem sixteenth_eq : sixteenth = ((1 / 16 : ℝ) : EReal) := by
  simp [sixteenth, Ideal.ofBits, Ideal.ieee, -EReal.coe_mul]; norm_num

theorem sixteen_eq : sixteen = ((16 : ℝ) : EReal) := by
  simp [sixteen, Ideal.ofBits, Ideal.ieee, -EReal.coe_mul]; norm_num

/-- A sixteenth of a number, as a quotient. -/
theorem div_sixteen (x : EReal) : Ideal.div x sixteen = x * sixteenth := by
  rw [sixteen_eq, sixteenth_eq, Ideal.div_coe (by norm_num : (16 : ℝ) ≠ 0)]

theorem scores_finite {k : ℕ} {q : Fin k → EReal} {keys : Fin n → Fin k → EReal} (hq : Finite q) (hk : ∀ j, Finite (keys j)) : Finite (scores q keys) := by
  obtain ⟨s, hs⟩ := Finite.dot hq hk
  refine ⟨fun j => s j * (1 / 16), funext fun j => ?_⟩
  rw [EReal.coe_mul, ← congrFun hs j, ← sixteenth_eq]
  rfl

/-- Finite scores have positive finite weights, and a positive finite sum. -/
theorem weight_real [NeZero n] {s : Fin n → EReal} (hs : Finite s) : ∃ w : Fin n → ℝ, (∀ j, 0 < w j) ∧ ∀ j, weight s j = (w j : EReal) := by
  obtain ⟨s, rfl⟩ := hs
  have hne : Finset.fold max lowest (fun j => ((s j : ℝ) : EReal)) Finset.univ ≠ ⊥ := by
    refine (bot_lt_iff_ne_bot).mp ((Finset.lt_fold_max _).mpr (Or.inr ⟨0, Finset.mem_univ _, EReal.bot_lt_coe _⟩))
  have hnt : Finset.fold max lowest (fun j => ((s j : ℝ) : EReal)) Finset.univ ≠ ⊤ := by
    refine (lt_top_iff_ne_top).mp ((Finset.fold_max_lt _).mpr ⟨?_, fun x _ => EReal.coe_lt_top _⟩)
    rw [lowest_eq]; exact bot_lt_top
  refine ⟨fun j => Real.exp (s j - (Finset.fold max lowest (fun j => ((s j : ℝ) : EReal)) Finset.univ).toReal), fun j => Real.exp_pos _, fun j => ?_⟩
  unfold weight
  conv_lhs => rw [← EReal.coe_toReal hnt hne, ← EReal.coe_sub]
  rfl

theorem total_real [NeZero n] {s : Fin n → EReal} {w : Fin n → ℝ} (hw : ∀ j, 0 < w j) (h : ∀ j, weight s j = (w j : EReal)) :
    0 < ∑ j, w j ∧ total s = ((∑ j, w j : ℝ) : EReal) := by
  refine ⟨Finset.sum_pos (fun j _ => hw j) ⟨0, Finset.mem_univ _⟩, ?_⟩
  unfold total
  rw [← coe_sum]
  exact Finset.sum_congr rfl fun j _ => h j

/-- A share as a quotient. -/
theorem prob_eq [NeZero n] {s : Fin n → EReal} (hs : Finite s) (j : Fin n) : Ideal.div (weight s j) (total s) = prob s j := by
  obtain ⟨w, hw, h⟩ := weight_real hs
  obtain ⟨ht, e⟩ := total_real hw h
  unfold prob
  rw [e, Ideal.div_coe ht.ne', Ideal.div_coe ht.ne', one_mul]

/-- The scores' gradient as differentiating the row gives it. -/
theorem dscore_eq [NeZero n] {s dp : Fin n → EReal} (hs : Finite s) (hd : Finite dp) (j : Fin n) :
    Ideal.div ((Ideal.div (dp j) (total s) + -(∑ x, dp x * Ideal.div 1 (total s * total s) * weight s x)) * weight s j) sixteen = dscore s dp j := by
  obtain ⟨w, hw, h⟩ := weight_real hs
  obtain ⟨ht, e⟩ := total_real hw h
  obtain ⟨dp, rfl⟩ := hd
  unfold dscore prob
  rw [div_sixteen, e]
  generalize ∑ j, w j = z at *
  have hz : z * z ≠ 0 := mul_ne_zero ht.ne' ht.ne'
  have h1 : (1 : EReal) = ((1 : ℝ) : EReal) := rfl
  simp only [h, ← EReal.coe_mul, Ideal.div_coe hz, Ideal.div_coe ht.ne', h1, coe_sum, sixteenth_eq, ← EReal.coe_neg, ← EReal.coe_add, ← EReal.coe_sub]
  congr 1
  have hq : ∑ x, dp x * (1 * (1 / (z * z))) * w x = (∑ x, dp x * (w x * (1 * (1 / z)))) * (1 / z) := by
    rw [Finset.sum_mul]; exact Finset.sum_congr rfl fun x _ => by field_simp
  rw [hq]
  ring

end Cert.Softmax

end
-- ==== Proof.AttnBwd.lean ====
module

public import proofs.«01_k».proof.Proof.Gen.AttnBwdIdeal.Value
public import proofs.«01_k».proof.Proof.Gen.AttnBwdRefIdeal.Run
public import proofs.«01_k».proof.Proof.Gen.AttnBwdRefIdeal.Read
public import proofs.«01_k».proof.Proof.Softmax
public import proofs.«01_k».proof.Proof.Sums
public import Idealize.ShloMosaic.Lib.Pipeline.ValueKit
public import Idealize.ShloMosaic.Lib.Pointwise
public import Idealize.ShloMosaic.Lib.Pipeline.ReadBack

/-! The attention's gradients: what the call leaves, and what its reference computes. -/

@[expose] public section

set_option maxRecDepth 16384

noncomputable section

namespace Cert.AttnBwdIdeal.Hand

open Cert.AttnBwdIdeal Cert.AttnBwdIdeal.Gen Idealize.ShloMosaic Idealize.ShloMosaic.TcCoe Idealize.SL.Sem

variable (m : (ℓ : Loc nD τ sig) → Buf (Elt Ideal) ℓ)

theorem point_lt (t : Fin cfg0.N) : t.val < 8 := t.isLt

/-- The block a point reads or writes of each array. -/
theorem origin : ∀ t : Fin grid0.N, win0_0.index t = ![t.val, 0] ∧ win0_1.index t = ![0, t.val / 4, 0] ∧ win0_2.index t = ![t.val, 0]
    ∧ win0_3.index t = ![t.val, 0] ∧ win0_4.index t = ![0, t.val / 4, 0] := by decide +kernel

/-- Row `r` of point `t`'s block among all rows. -/
abbrev row (t : Fin cfg0.N) (r : Fin 1024) : Fin 8192 := ⟨t.val * 1024 + r.val, by have := point_lt t; omega⟩

theorem query_at (c : Dev nD) (t) (r : Fin 1024) (k : Fin 1024) : iblk m c 0 t (ix2 r k) = m ((c : Thread nD τ).loc main_arg0) (ix2 (row t r) k) := by
  blk_ext! [iblk, V, origin t]
theorem memory_at (c : Dev nD) (t) (s : Fin 2) (r : Fin 256) (k : Fin 1024) : iblk m c 1 t (ix3 s r k)
    = m ((c : Thread nD τ).loc main_arg1) (ix3 ⟨t.val / 4, by have := point_lt t; omega⟩ r ⟨s.val * 1024 + k.val, by omega⟩) := by
  blk_ext! [iblk, V, origin t]
theorem out_at (c : Dev nD) (t) (r : Fin 1024) (k : Fin 1024) : iblk m c 2 t (ix2 r k) = m ((c : Thread nD τ).loc main_arg2) (ix2 (row t r) k) := by
  blk_ext! [iblk, V, origin t]

abbrev Rows := (S1024x256 : Shape).Idx → EReal
abbrev Slab := (S1x256x256 : Shape).Idx → EReal

/-- A row's scores and its shares' gradient, of one head's slices. -/
abbrev sc (q : Rows) (k : Slab) (r : Fin 1024) : Fin 256 → EReal := Softmax.scores (fun d => q (ix2 r d)) fun n d => k (ix3 0 n d)
abbrev dp (o : Rows) (v : Slab) (r : Fin 1024) (n : Fin 256) : EReal := ∑ d, o (ix2 r d) * v (ix3 0 n d)

section
variable (q o : Rows) (k v z : Slab) (p : (S1024x256 : Shape).Idx → EReal) (r : Fin 1024) (n j : Fin 256)

theorem prob0 : k0_pay4 (F := Ideal) q k (ix2 r n) = Softmax.prob (sc q k r) n := by
  unfold k0_pay4; pointwise; rfl
theorem weight1 : k0_pay5 (F := Ideal) q k (ix2 r n) = Softmax.weight (sc q k r) n := by
  unfold k0_pay5; pointwise; rfl
theorem prob1 : k0_pay7 (F := Ideal) (k0_pay5 q k) (k0_pay6 q k) (ix2 r n) = Softmax.prob (sc q k r) n := by
  unfold k0_pay7 k0_pay6; pointwise; simp only [weight1]; rfl
theorem prob2 : k0_pay8 (F := Ideal) q k (ix2 r n) = Softmax.prob (sc q k r) n := by
  unfold k0_pay8; pointwise; rfl
theorem prob3 : k0_pay9 (F := Ideal) q k (ix2 r n) = Softmax.prob (sc q k r) n := by
  unfold k0_pay9; pointwise; rfl
theorem ds0 : k0_pay12 (F := Ideal) (k0_pay4 q k) o v (ix2 r n) = Softmax.dscore (sc q k r) (dp o v r) n := by
  unfold k0_pay12; pointwise; simp only [prob0]; rfl
theorem ds1 : k0_pay13 (F := Ideal) (k0_pay7 (k0_pay5 q k) (k0_pay6 q k)) o v (ix2 r n) = Softmax.dscore (sc q k r) (dp o v r) n := by
  unfold k0_pay13; pointwise; simp only [prob1]; rfl
theorem ds2 : k0_pay15 (F := Ideal) (k0_pay8 q k) (k0_pay10 o v) (k0_pay14 (k0_pay8 q k) o v) (ix2 r n) = Softmax.dscore (sc q k r) (dp o v r) n := by
  unfold k0_pay15 k0_pay14 k0_pay10; pointwise; simp only [prob2]; rfl
theorem ds3 : k0_pay16 (F := Ideal) (k0_pay9 q k) (k0_pay11 o v) (ix2 r n) = Softmax.dscore (sc q k r) (dp o v r) n := by
  unfold k0_pay16 k0_pay11; pointwise; simp only [prob3]; rfl

theorem dq0 : k0_pay17 (F := Ideal) p k (ix2 r j) = ∑ n, p (ix2 r n) * k (ix3 0 n j) := by unfold k0_pay17; pointwise
theorem dq1 : k0_pay22 (F := Ideal) p k (ix2 r j) = ∑ n, p (ix2 r n) * k (ix3 0 n j) := by unfold k0_pay22; pointwise
theorem dq2 : k0_pay25 (F := Ideal) p k (ix2 r j) = ∑ n, p (ix2 r n) * k (ix3 0 n j) := by unfold k0_pay25; pointwise
theorem dq3 : k0_pay28 (F := Ideal) p k (ix2 r j) = ∑ n, p (ix2 r n) * k (ix3 0 n j) := by unfold k0_pay28; pointwise

variable (x : Fin 1)

theorem dk0 : k0_pay18 (F := Ideal) p z q (ix3 x n j) = z (ix3 x n j) + ∑ r, p (ix2 r n) * q (ix2 r j) := by
  obtain rfl : x = 0 := Subsingleton.elim _ _
  unfold k0_pay18; pointwise
theorem dk1 : k0_pay23 (F := Ideal) p z q (ix3 x n j) = z (ix3 x n j) + ∑ r, p (ix2 r n) * q (ix2 r j) := by
  obtain rfl : x = 0 := Subsingleton.elim _ _
  unfold k0_pay23; pointwise
theorem dk2 : k0_pay26 (F := Ideal) p z q (ix3 x n j) = z (ix3 x n j) + ∑ r, p (ix2 r n) * q (ix2 r j) := by
  obtain rfl : x = 0 := Subsingleton.elim _ _
  unfold k0_pay26; pointwise
theorem dk3 : k0_pay1 (F := Ideal) p z q (ix3 x n j) = z (ix3 x n j) + ∑ r, p (ix2 r n) * q (ix2 r j) := by
  obtain rfl : x = 0 := Subsingleton.elim _ _
  unfold k0_pay1; pointwise
theorem dv0 : k0_pay21 (F := Ideal) (k0_pay19 z) (k0_pay20 p) o (constant S256x256 FTy.f32 0#32) (ix3 x n j) = z (ix3 x n j) + ∑ r, p (ix2 r n) * o (ix2 r j) := by
  obtain rfl : x = 0 := Subsingleton.elim _ _
  unfold k0_pay21 k0_pay20 k0_pay19; pointwise
theorem dv1 : k0_pay24 (F := Ideal) p z o (ix3 x n j) = z (ix3 x n j) + ∑ r, p (ix2 r n) * o (ix2 r j) := by
  obtain rfl : x = 0 := Subsingleton.elim _ _
  unfold k0_pay24; pointwise
theorem dv2 : k0_pay27 (F := Ideal) p z o (ix3 x n j) = z (ix3 x n j) + ∑ r, p (ix2 r n) * o (ix2 r j) := by
  obtain rfl : x = 0 := Subsingleton.elim _ _
  unfold k0_pay27; pointwise
theorem dv3 : k0_pay2 (F := Ideal) p z o (ix3 x n j) = z (ix3 x n j) + ∑ r, p (ix2 r n) * o (ix2 r j) := by
  obtain rfl : x = 0 := Subsingleton.elim _ _
  unfold k0_pay2; pointwise

/-- One head's part of the gradients, of its slices. -/
abbrev dqHead (q o : Rows) (k v : Slab) (r : Fin 1024) (j : Fin 256) : EReal := ∑ n, Softmax.dscore (sc q k r) (dp o v r) n * k (ix3 0 n j)
abbrev dkHead (q o : Rows) (k v : Slab) (n j : Fin 256) : EReal := ∑ r, Softmax.dscore (sc q k r) (dp o v r) n * q (ix2 r j)
abbrev dvHead (q o : Rows) (k : Slab) (n j : Fin 256) : EReal := ∑ r, Softmax.prob (sc q k r) n * o (ix2 r j)

theorem dqHead0 : k0_pay17 (F := Ideal) (k0_pay12 (k0_pay4 q k) o v) k (ix2 r j) = dqHead q o k v r j := by
  rw [dq0]; exact Finset.sum_congr rfl fun n _ => by rw [ds0]
theorem dkHead0 : k0_pay18 (F := Ideal) (k0_pay12 (k0_pay4 q k) o v) z q (ix3 x n j) = z (ix3 x n j) + dkHead q o k v n j := by
  rw [dk0]; exact congrArg (_ + ·) (Finset.sum_congr rfl fun r _ => by rw [ds0])
theorem dvHead0 : k0_pay21 (F := Ideal) (k0_pay19 z) (k0_pay20 (k0_pay4 q k)) o (constant S256x256 FTy.f32 0#32) (ix3 x n j) = z (ix3 x n j) + dvHead q o k n j := by
  rw [dv0]; exact congrArg (_ + ·) (Finset.sum_congr rfl fun r _ => by rw [prob0])
theorem dqHead1 : k0_pay22 (F := Ideal) (k0_pay13 (k0_pay7 (k0_pay5 q k) (k0_pay6 q k)) o v) k (ix2 r j) = dqHead q o k v r j := by
  rw [dq1]; exact Finset.sum_congr rfl fun n _ => by rw [ds1]
theorem dkHead1 : k0_pay23 (F := Ideal) (k0_pay13 (k0_pay7 (k0_pay5 q k) (k0_pay6 q k)) o v) z q (ix3 x n j) = z (ix3 x n j) + dkHead q o k v n j := by
  rw [dk1]; exact congrArg (_ + ·) (Finset.sum_congr rfl fun r _ => by rw [ds1])
theorem dvHead1 : k0_pay24 (F := Ideal) (k0_pay7 (k0_pay5 q k) (k0_pay6 q k)) z o (ix3 x n j) = z (ix3 x n j) + dvHead q o k n j := by
  rw [dv1]; exact congrArg (_ + ·) (Finset.sum_congr rfl fun r _ => by rw [prob1])
theorem dqHead2 : k0_pay25 (F := Ideal) (k0_pay15 (k0_pay8 q k) (k0_pay10 o v) (k0_pay14 (k0_pay8 q k) o v)) k (ix2 r j) = dqHead q o k v r j := by
  rw [dq2]; exact Finset.sum_congr rfl fun n _ => by rw [ds2]
theorem dkHead2 : k0_pay26 (F := Ideal) (k0_pay15 (k0_pay8 q k) (k0_pay10 o v) (k0_pay14 (k0_pay8 q k) o v)) z q (ix3 x n j) = z (ix3 x n j) + dkHead q o k v n j := by
  rw [dk2]; exact congrArg (_ + ·) (Finset.sum_congr rfl fun r _ => by rw [ds2])
theorem dvHead2 : k0_pay27 (F := Ideal) (k0_pay8 q k) z o (ix3 x n j) = z (ix3 x n j) + dvHead q o k n j := by
  rw [dv2]; exact congrArg (_ + ·) (Finset.sum_congr rfl fun r _ => by rw [prob2])
theorem dqHead3 : k0_pay28 (F := Ideal) (k0_pay16 (k0_pay9 q k) (k0_pay11 o v)) k (ix2 r j) = dqHead q o k v r j := by
  rw [dq3]; exact Finset.sum_congr rfl fun n _ => by rw [ds3]
theorem dkHead3 : k0_pay1 (F := Ideal) (k0_pay16 (k0_pay9 q k) (k0_pay11 o v)) z q (ix3 x n j) = z (ix3 x n j) + dkHead q o k v n j := by
  rw [dk3]; exact congrArg (_ + ·) (Finset.sum_congr rfl fun r _ => by rw [ds3])
theorem dvHead3 : k0_pay2 (F := Ideal) (k0_pay9 q k) z o (ix3 x n j) = z (ix3 x n j) + dvHead q o k n j := by
  rw [dv3]; exact congrArg (_ + ·) (Finset.sum_congr rfl fun r _ => by rw [prob3])
end

/-! ### The same, of the whole arrays: `h` is a head's first column, `b` a sequence, `i` a query. -/

abbrev argQ (c : Dev nD) : (S8192x1024 : Shape).Idx → EReal := m ((c : Thread nD τ).loc main_arg0)
abbrev argM (c : Dev nD) : (S2x256x2048 : Shape).Idx → EReal := m ((c : Thread nD τ).loc main_arg1)
abbrev argO (c : Dev nD) : (S8192x1024 : Shape).Idx → EReal := m ((c : Thread nD τ).loc main_arg2)

section
variable (c : Dev nD) (h : ℕ) (hh : h ≤ 768) (b : Fin 2) (i : Fin 8192)

abbrev scoreOf : Fin 256 → EReal :=
  Softmax.scores (fun d : Fin 256 => argQ m c (ix2 i ⟨h + d.val, by omega⟩)) fun (n d : Fin 256) => argM m c (ix3 b n ⟨h + d.val, by omega⟩)
abbrev shareGrad (n : Fin 256) : EReal :=
  ∑ d : Fin 256, argO m c (ix2 i ⟨h + d.val, by omega⟩) * argM m c (ix3 b n ⟨1024 + (h + d.val), by omega⟩)
def share (n : Fin 256) : EReal := Softmax.prob (scoreOf m c h hh b i) n
def scoreGrad (n : Fin 256) : EReal := Softmax.dscore (scoreOf m c h hh b i) (shareGrad m c h hh b i) n
end

/-- The first column of a column's head. -/
abbrev head (j : Fin 1024) : ℕ := j.val / 256 * 256
theorem head_le (j : Fin 1024) : head j ≤ 768 := by unfold head; omega
theorem at_head {α : Type} (f : (h : ℕ) → h ≤ 768 → α) (h : ℕ) (hh : h ≤ 768) (hd : h % 256 = 0) (x : Fin 256) (hx : h + x.val < 1024) :
    f (head ⟨h + x.val, hx⟩) (head_le _) = f h hh := by
  have : ∀ h' (hh' : h' ≤ 768), h' = h → f h' hh' = f h hh := by rintro _ _ rfl; rfl
  refine this _ _ ?_
  unfold head; dsimp only; omega

def dqAt (c : Dev nD) (b : Fin 2) (i : Fin 8192) (j : Fin 1024) : EReal :=
  ∑ n, scoreGrad m c (head j) (head_le j) b i n * argM m c (ix3 b n ⟨j.val, by omega⟩)
/-- Column `j` of what query `i` adds to the gradient of key (`s = 0`) or value (`s = 1`) `n`. -/
def dkvAt (c : Dev nD) (b : Fin 2) (i : Fin 8192) (s : ℕ) (n : Fin 256) (j : Fin 1024) : EReal :=
  if s = 0 then scoreGrad m c (head j) (head_le j) b i n * argQ m c (ix2 i j) else share m c (head j) (head_le j) b i n * argO m c (ix2 i j)

abbrev seqOf (t : Fin cfg0.N) : Fin 2 := ⟨t.val / 4, by have := point_lt t; omega⟩

section
variable (c : Dev nD) (t : Fin cfg0.N) (h : ℕ) (hh : h ≤ 768) (r : Fin 1024) (n : Fin 256)

theorem q_slice (inb) (d : Fin 256) : View.ld (iblk m c 0 t) (Rect.unit (s := S1024x1024) ![0, h] ![1024, 256] inb) (ix2 r d)
    = argQ m c (ix2 (row t r) ⟨h + d.val, by omega⟩) := by
  refine Eq.trans (congrArg (iblk m c 0 t) ?_) (query_at m c t r ⟨h + d.val, by omega⟩)
  funext a; fin_cases a <;> apply Fin.ext <;> simp
theorem o_slice (inb) (d : Fin 256) : View.ld (iblk m c 2 t) (Rect.unit (s := S1024x1024) ![0, h] ![1024, 256] inb) (ix2 r d)
    = argO m c (ix2 (row t r) ⟨h + d.val, by omega⟩) := by
  refine Eq.trans (congrArg (iblk m c 2 t) ?_) (out_at m c t r ⟨h + d.val, by omega⟩)
  funext a; fin_cases a <;> apply Fin.ext <;> simp
theorem k_slice (inb) (x : Fin 1) (d : Fin 256) : View.ld (iblk m c 1 t) (Rect.unit (s := S2x256x1024) ![0, 0, h] ![1, 256, 256] inb) (ix3 x n d)
    = argM m c (ix3 (seqOf t) n ⟨h + d.val, by omega⟩) := by
  refine Eq.trans (congrArg (iblk m c 1 t) ?_) ((memory_at m c t 0 n ⟨h + d.val, by omega⟩).trans (congrArg (fun j => argM m c (ix3 (seqOf t) n j)) (Fin.ext ?_)))
  · funext a; fin_cases a <;> apply Fin.ext <;> simp
  · simp
theorem v_slice (inb) (x : Fin 1) (d : Fin 256) : View.ld (iblk m c 1 t) (Rect.unit (s := S2x256x1024) ![1, 0, h] ![1, 256, 256] inb) (ix3 x n d)
    = argM m c (ix3 (seqOf t) n ⟨1024 + (h + d.val), by omega⟩) := by
  refine Eq.trans (congrArg (iblk m c 1 t) ?_) ((memory_at m c t 1 n ⟨h + d.val, by omega⟩).trans (congrArg (fun j => argM m c (ix3 (seqOf t) n j)) (Fin.ext ?_)))
  · funext a; fin_cases a <;> apply Fin.ext <;> simp
  · simp

variable (inbq inbo : ∀ a, (![0, h] : Fin 2 → ℕ) a + ![1024, 256] a ≤ S1024x1024.size a)
  (inbk : ∀ a, (![0, 0, h] : Fin 3 → ℕ) a + ![1, 256, 256] a ≤ S2x256x1024.size a)
  (inbv : ∀ a, (![1, 0, h] : Fin 3 → ℕ) a + ![1, 256, 256] a ≤ S2x256x1024.size a)

theorem share_slice : Softmax.prob (sc (View.ld (iblk m c 0 t) (Rect.unit (s := S1024x1024) ![0, h] ![1024, 256] inbq))
    (View.ld (iblk m c 1 t) (Rect.unit (s := S2x256x1024) ![0, 0, h] ![1, 256, 256] inbk)) r) n = share m c h hh (seqOf t) (row t r) n := by
  unfold share sc
  simp only [q_slice m c t h hh, k_slice m c t h hh]
theorem grad_slice : Softmax.dscore (sc (View.ld (iblk m c 0 t) (Rect.unit (s := S1024x1024) ![0, h] ![1024, 256] inbq))
    (View.ld (iblk m c 1 t) (Rect.unit (s := S2x256x1024) ![0, 0, h] ![1, 256, 256] inbk)) r)
    (dp (View.ld (iblk m c 2 t) (Rect.unit (s := S1024x1024) ![0, h] ![1024, 256] inbo))
    (View.ld (iblk m c 1 t) (Rect.unit (s := S2x256x1024) ![1, 0, h] ![1, 256, 256] inbv)) r) n = scoreGrad m c h hh (seqOf t) (row t r) n := by
  unfold scoreGrad sc dp
  simp only [q_slice m c t h hh, k_slice m c t h hh, o_slice m c t h hh, v_slice m c t h hh]
variable (hd : h % 256 = 0)

include hd in
theorem dq_head (j : Fin 256) : dqHead (View.ld (iblk m c 0 t) (Rect.unit (s := S1024x1024) ![0, h] ![1024, 256] inbq))
    (View.ld (iblk m c 2 t) (Rect.unit (s := S1024x1024) ![0, h] ![1024, 256] inbo)) (View.ld (iblk m c 1 t) (Rect.unit (s := S2x256x1024) ![0, 0, h] ![1, 256, 256] inbk))
    (View.ld (iblk m c 1 t) (Rect.unit (s := S2x256x1024) ![1, 0, h] ![1, 256, 256] inbv)) r j = dqAt m c (seqOf t) (row t r) ⟨h + j.val, by omega⟩ := by
  unfold dqAt
  rw [at_head (fun h' hh' => ∑ n, scoreGrad m c h' hh' (seqOf t) (row t r) n * argM m c (ix3 (seqOf t) n ⟨h + j.val, by omega⟩)) h hh hd j (by omega)]
  unfold dqHead
  simp only [grad_slice m c t h hh, k_slice m c t h hh]

include hd in
theorem dk_head (j : Fin 256) : dkHead (View.ld (iblk m c 0 t) (Rect.unit (s := S1024x1024) ![0, h] ![1024, 256] inbq))
    (View.ld (iblk m c 2 t) (Rect.unit (s := S1024x1024) ![0, h] ![1024, 256] inbo)) (View.ld (iblk m c 1 t) (Rect.unit (s := S2x256x1024) ![0, 0, h] ![1, 256, 256] inbk))
    (View.ld (iblk m c 1 t) (Rect.unit (s := S2x256x1024) ![1, 0, h] ![1, 256, 256] inbv)) n j = ∑ r, dkvAt m c (seqOf t) (row t r) 0 n ⟨h + j.val, by omega⟩ := by
  unfold dkvAt dkHead
  simp only [if_pos]
  rw [at_head (fun h' hh' => ∑ r, scoreGrad m c h' hh' (seqOf t) (row t r) n * argQ m c (ix2 (row t r) ⟨h + j.val, by omega⟩)) h hh hd j (by omega)]
  simp only [grad_slice m c t h hh, q_slice m c t h hh]
include hd in
theorem dv_head (j : Fin 256) : dvHead (View.ld (iblk m c 0 t) (Rect.unit (s := S1024x1024) ![0, h] ![1024, 256] inbq))
    (View.ld (iblk m c 2 t) (Rect.unit (s := S1024x1024) ![0, h] ![1024, 256] inbo)) (View.ld (iblk m c 1 t) (Rect.unit (s := S2x256x1024) ![0, 0, h] ![1, 256, 256] inbk)) n j = ∑ r, dkvAt m c (seqOf t) (row t r) 1 n ⟨h + j.val, by omega⟩ := by
  unfold dkvAt dvHead
  simp only [if_neg one_ne_zero]
  rw [at_head (fun h' hh' => ∑ r, share m c h' hh' (seqOf t) (row t r) n * argO m c (ix2 (row t r) ⟨h + j.val, by omega⟩)) h hh hd j (by omega)]
  simp only [share_slice m c t h hh, o_slice m c t h hh]

end

theorem emb_key (h : ℕ) (hh : h ≤ 768) (n : Fin 256) (s : ℕ) (hs : s < 2) (inb) (x : Fin 1) (j : Fin 256) :
    (Rect.unit (s := S2x256x1024) ![s, 0, h] ![1, 256, 256] inb).emb (ix3 x n j) = ix3 ⟨s, hs⟩ n ⟨h + j.val, by omega⟩ := by
  funext a; fin_cases a <;> apply Fin.ext <;> simp
theorem emb_row (h : ℕ) (hh : h ≤ 768) (r : Fin 1024) (inb) (j : Fin 256) : (Rect.unit (s := S1024x1024) ![0, h] ![1024, 256] inb).emb (ix2 r j) = ix2 r ⟨h + j.val, by omega⟩ := by
  funext a; fin_cases a <;> apply Fin.ext <;> simp

theorem canon_of_pieces {s : Shape} {e : EltTy} (G : s.Idx → Elt Ideal e) (L : List (View.Piece (Elt Ideal) s e)) (h : View.PiecesOf G L) (y : s.Idx)
    (hc : ∃ p ∈ L, y ∈ p.1.set) : View.canon L y = G y := by
  have := View.canon_append_of_piecesOf G [] L h y hc
  rwa [List.append_nil] at this

/-- The block of the queries' gradient. -/
theorem dq_block (c : Dev nD) (t : Fin cfg0.N) (r j : Fin 1024) : (outsAt0 m c t.val t.isLt).1 (ix2 r j) = dqAt m c (seqOf t) (row t r) j := by
  have key : ∀ x : (S1024x1024 : Shape).Idx, (outsAt0 m c t.val t.isLt).1 x = dqAt m c (seqOf t) (row t (x 0)) (x 1) := by
    intro x
    by_cases h0 : t.val % 4 = 0
    all_goals first | rw [outsAt0_A m c t h0] | rw [outsAt0_B m c t h0]
    all_goals
      frame_out
      refine canon_of_pieces (e := .bf16) (fun x : (S1024x1024 : Shape).Idx => dqAt m c (seqOf t) (row t (x 0)) (x 1)) _ ?_ x ?_
      rotate_left
      · exact View.cover_of_tiled _ ![1024, 256] (by rfl) x
      refine ⟨fun y => ?_, fun y => ?_, fun y => ?_, fun y => ?_, trivial⟩
      · idx_vars y
        rw [emb_row 768 (by decide) y0]; exact (dqHead3 _ _ _ _ _ _).trans (dq_head m c t 768 (by decide) y0 _ _ _ _ (by decide) y1)
      · idx_vars y
        rw [emb_row 512 (by decide) y0]; exact (dqHead2 _ _ _ _ _ _).trans (dq_head m c t 512 (by decide) y0 _ _ _ _ (by decide) y1)
      · idx_vars y
        rw [emb_row 256 (by decide) y0]; exact (dqHead1 _ _ _ _ _ _).trans (dq_head m c t 256 (by decide) y0 _ _ _ _ (by decide) y1)
      · idx_vars y
        rw [emb_row 0 (by decide) y0]; exact (dqHead0 _ _ _ _ _ _).trans (dq_head m c t 0 (by decide) y0 _ _ _ _ (by decide) y1)
  exact key (ix2 r j)

/-- What a point adds to the block of the keys' and the values' gradients. -/
def dkvTerm (c : Dev nD) (t : Fin cfg0.N) (y : (S2x256x1024 : Shape).Idx) : EReal := ∑ r, dkvAt m c (seqOf t) (row t r) (y 0).val (y 1) (y 2)

/-- The pieces a block is made of, with others under them. -/
theorem canon_of_take {s : Shape} {e : EltTy} (k : ℕ) (G : s.Idx → Elt Ideal e) (L : List (View.Piece (Elt Ideal) s e)) (h : View.PiecesOf G (L.take k)) (y : s.Idx)
    (hc : ∃ p ∈ L.take k, y ∈ p.1.set) : View.canon L y = G y := by
  have := View.canon_append_of_piecesOf G (L.drop k) (L.take k) h y hc
  rwa [List.take_append_drop] at this

/-- What a sequence's block holds before a point: zero at its first one. -/
def before (c : Dev nD) (t : Fin cfg0.N) : (S2x256x1024 : Shape).Idx → EReal :=
  if t.val % 4 = 0 then k0_pay3 (F := Ideal) else (outsAt0 m c (t.val - 1) (by omega)).2

theorem dkv_step (c : Dev nD) (t : Fin cfg0.N) (x : (S2x256x1024 : Shape).Idx) :
    (outsAt0 m c t.val t.isLt).2 x = before m c t x + dkvTerm m c t x := by
  have hZ : before m c t = if t.val % 4 = 0 then k0_pay3 (F := Ideal) else (outsAt0 m c (t.val - 1) (by omega)).2 := rfl
  have hz : ∀ a, (![0, 0, 0] : Fin 3 → ℕ) a = 0 := by decide
  by_cases h0 : t.val % 4 = 0
  all_goals
    first
      | (rw [outsAt0_A m c t h0]
         rw [if_pos h0] at hZ
         frame_out
         simp (disch := decide) only [View.readCov_skip]
         rw [hZ]
         clear hZ
         generalize k0_pay3 (F := Ideal) = Z)
      | (rw [outsAt0_B m c t h0]
         rw [if_neg h0] at hZ
         frame_out
         rw [← hZ]
         generalize before m c t = Z)
    refine canon_of_take (e := .f32) 8 (fun x : (S2x256x1024 : Shape).Idx => Z x + dkvTerm m c t x) _ ?_ x ?_
    · refine ⟨fun y => ?_, fun y => ?_, fun y => ?_, fun y => ?_, fun y => ?_, fun y => ?_, fun y => ?_, fun y => ?_, trivial⟩
      · idx_vars y
        rw [emb_key 768 (by decide) y1 1 (by decide)]
        refine (dvHead3 _ _ _ _ _ _ _).trans (congrArg₂ (· + ·) ?_ (dv_head m c t 768 (by decide) y1 _ _ _ (by decide) y2))
        first | exact congrArg Z (emb_key 768 (by decide) y1 1 (by decide) _ y0 y2) | exact (congrFun (View.readCov_fill _ _ _ _ _ hz) _).trans (congrArg Z (emb_key 768 (by decide) y1 1 (by decide) _ y0 y2))
      · idx_vars y
        rw [emb_key 768 (by decide) y1 0 (by decide)]
        refine (dkHead3 _ _ _ _ _ _ _ _).trans (congrArg₂ (· + ·) ?_ (dk_head m c t 768 (by decide) y1 _ _ _ _ (by decide) y2))
        first | exact congrArg Z (emb_key 768 (by decide) y1 0 (by decide) _ y0 y2) | exact (congrFun (View.readCov_fill _ _ _ _ _ hz) _).trans (congrArg Z (emb_key 768 (by decide) y1 0 (by decide) _ y0 y2))
      · idx_vars y
        rw [emb_key 512 (by decide) y1 1 (by decide)]
        refine (dvHead2 _ _ _ _ _ _ _).trans (congrArg₂ (· + ·) ?_ (dv_head m c t 512 (by decide) y1 _ _ _ (by decide) y2))
        first | exact congrArg Z (emb_key 512 (by decide) y1 1 (by decide) _ y0 y2) | exact (congrFun (View.readCov_fill _ _ _ _ _ hz) _).trans (congrArg Z (emb_key 512 (by decide) y1 1 (by decide) _ y0 y2))
      · idx_vars y
        rw [emb_key 512 (by decide) y1 0 (by decide)]
        refine (dkHead2 _ _ _ _ _ _ _ _).trans (congrArg₂ (· + ·) ?_ (dk_head m c t 512 (by decide) y1 _ _ _ _ (by decide) y2))
        first | exact congrArg Z (emb_key 512 (by decide) y1 0 (by decide) _ y0 y2) | exact (congrFun (View.readCov_fill _ _ _ _ _ hz) _).trans (congrArg Z (emb_key 512 (by decide) y1 0 (by decide) _ y0 y2))
      · idx_vars y
        rw [emb_key 256 (by decide) y1 1 (by decide)]
        refine (dvHead1 _ _ _ _ _ _ _).trans (congrArg₂ (· + ·) ?_ (dv_head m c t 256 (by decide) y1 _ _ _ (by decide) y2))
        first | exact congrArg Z (emb_key 256 (by decide) y1 1 (by decide) _ y0 y2) | exact (congrFun (View.readCov_fill _ _ _ _ _ hz) _).trans (congrArg Z (emb_key 256 (by decide) y1 1 (by decide) _ y0 y2))
      · idx_vars y
        rw [emb_key 256 (by decide) y1 0 (by decide)]
        refine (dkHead1 _ _ _ _ _ _ _ _).trans (congrArg₂ (· + ·) ?_ (dk_head m c t 256 (by decide) y1 _ _ _ _ (by decide) y2))
        first | exact congrArg Z (emb_key 256 (by decide) y1 0 (by decide) _ y0 y2) | exact (congrFun (View.readCov_fill _ _ _ _ _ hz) _).trans (congrArg Z (emb_key 256 (by decide) y1 0 (by decide) _ y0 y2))
      · idx_vars y
        rw [emb_key 0 (by decide) y1 1 (by decide)]
        refine (dvHead0 _ _ _ _ _ _ _).trans (congrArg₂ (· + ·) ?_ (dv_head m c t 0 (by decide) y1 _ _ _ (by decide) y2))
        first | exact congrArg Z (emb_key 0 (by decide) y1 1 (by decide) _ y0 y2) | exact (congrFun (View.readCov_fill _ _ _ _ _ hz) _).trans (congrArg Z (emb_key 0 (by decide) y1 1 (by decide) _ y0 y2))
      · idx_vars y
        rw [emb_key 0 (by decide) y1 0 (by decide)]
        refine (dkHead0 _ _ _ _ _ _ _ _).trans (congrArg₂ (· + ·) ?_ (dk_head m c t 0 (by decide) y1 _ _ _ _ (by decide) y2))
        first | exact congrArg Z (emb_key 0 (by decide) y1 0 (by decide) _ y0 y2) | exact (congrFun (View.readCov_fill _ _ _ _ _ hz) _).trans (congrArg Z (emb_key 0 (by decide) y1 0 (by decide) _ y0 y2))
    · exact View.cover_of_tiled _ ![1, 256, 256] (by rfl) x

/-- The same, of any number. -/
def dkvTermN (c : Dev nD) (n : ℕ) (y : (S2x256x1024 : Shape).Idx) : EReal := if h : n < cfg0.N then dkvTerm m c ⟨n, h⟩ y else 0

/-- A sequence's gradient of key (`s = 0`) or value (`s = 1`) `n`. -/
def dkvAll (c : Dev nD) (b : Fin 2) (s : ℕ) (n : Fin 256) (j : Fin 1024) : EReal :=
  ∑ x : Fin 4096, dkvAt m c b ⟨b.val * 4096 + x.val, by omega⟩ s n j

theorem dkv_sum (c : Dev nD) (t : Fin cfg0.N) (ht : t.val % 4 = 3) (y : (S2x256x1024 : Shape).Idx) :
    (outsAt0 m c t.val t.isLt).2 y = dkvAll m c (seqOf t) (y 0).val (y 1) (y 2) := by
  have e := Pipeline.eq_sum_of_reset_step_apply_of_mod (fun n h => (outsAt0 m c n h).2) 4 (fun _ => 0) (dkvTermN m c)
    (fun t h y => ?_) (fun t h y => ?_) t ht y
  · refine e.trans ?_
    rw [zero_add, Finset.sum_range]
    unfold dkvAll
    refine Eq.trans ?_ (Sums.sum_split 4096 4 1024 rfl _).symm
    refine Finset.sum_congr rfl fun k _ => ?_
    have hk : 4 * (t.val / 4) + k.val < cfg0.N := by have := point_lt t; have : cfg0.N = 8 := by decide +kernel
                                                     omega
    unfold dkvTermN dkvTerm
    rw [dif_pos hk]
    refine Finset.sum_congr rfl fun r _ => ?_
    congr 1
    · apply Fin.ext; dsimp only; omega
    · apply Fin.ext; dsimp only; omega
  · refine (dkv_step m c t y).trans ?_
    unfold before dkvTermN
    rw [if_pos h, dif_pos t.isLt]
    congr 1
    unfold k0_pay3; pointwise
  · refine (dkv_step m c t y).trans ?_
    unfold before dkvTermN
    rw [if_neg h, dif_pos t.isLt]

/-- A query's sequence; a key's sequence and place in it. -/
def seqRow (i : Fin 8192) : Fin 2 := ⟨i.val / 4096, by omega⟩
def keySeq (n : Fin 512) : Fin 2 := ⟨n.val / 256, by omega⟩
def keyRow (n : Fin 512) : Fin 256 := ⟨n.val % 256, by omega⟩

/-- The queries' gradient, as the kernel leaves it. -/
theorem result_dq (c : Dev nD) : (dats m 0 c).arrAt 3 (cfgs 0).N = fun i : S8192x1024.Idx => dqAt m c (seqRow (i 0)) (i 0) (i 1) := by
  refine (dats m 0 c).arrAt_eq_of_covers 3 _ (by decide +kernel) fun t hf (y : S1024x1024.Idx) => ?_
  idx_vars y
  blk_simp
  have e0 : ((View.whole main_v2_0).slice (win0_3.rect t)).emb (ix2 y0 y1) 0 = row t y0 := by apply Fin.ext; blk_simp [origin t]
  have e1 : ((View.whole main_v2_0).slice (win0_3.rect t)).emb (ix2 y0 y1) 1 = y1 := by apply Fin.ext; blk_simp [origin t]
  rw [after0_3, dq_block, e0, e1]
  congr 1
  apply Fin.ext; unfold seqRow; dsimp only; omega

/-- The keys' and values' gradients, as the kernel leaves them. -/
theorem result_dkv (c : Dev nD) : (dats m 0 c).arrAt 4 (cfgs 0).N = fun i : S2x512x1024.Idx =>
    dkvAll m c (keySeq (i 1)) (Fin.val (i 0 : Fin 2)) (keyRow (i 1)) (i 2) := by
  refine (dats m 0 c).arrAt_eq_of_covers 4 _ (by decide +kernel) fun t hf (y : S2x256x1024.Idx) => ?_
  have ht : t.val % 4 = 3 := by revert t; decide +kernel
  idx_vars y
  have e0 : ((View.whole main_v2_1).slice (win0_4.rect t)).emb (ix3 y0 y1 y2) 0 = y0 := by apply Fin.ext; blk_simp [origin t]
  have e1 : ((View.whole main_v2_1).slice (win0_4.rect t)).emb (ix3 y0 y1 y2) 1 = (⟨t.val / 4 * 256 + y1.val, by have := point_lt t; omega⟩ : Fin 512) := by
    apply Fin.ext; blk_simp [origin t]
  have e2 : ((View.whole main_v2_1).slice (win0_4.rect t)).emb (ix3 y0 y1 y2) 2 = y2 := by apply Fin.ext; blk_simp [origin t]
  refine (congrFun (after0_4 m c t) _).trans ((dkv_sum m c t ht _).trans ?_)
  change _ = dkvAll m c (keySeq (((View.whole main_v2_1).slice (win0_4.rect t)).emb (ix3 y0 y1 y2) 1)) (Fin.val (((View.whole main_v2_1).slice (win0_4.rect t)).emb (ix3 y0 y1 y2) 0))
    (keyRow (((View.whole main_v2_1).slice (win0_4.rect t)).emb (ix3 y0 y1 y2) 1)) (((View.whole main_v2_1).slice (win0_4.rect t)).emb (ix3 y0 y1 y2) 2)
  rw [e0, e1, e2]
  change dkvAll m c (seqOf t) y0.val y1 y2 = _
  congr 1
  · apply Fin.ext; unfold keySeq; dsimp only; omega
  · apply Fin.ext; unfold keyRow; dsimp only; omega

end Cert.AttnBwdIdeal.Hand
-- ==== Proof.ReluBwd.lean ====
module

public import proofs.«01_k».proof.Proof.Gen.ReluBwdIdeal.Value
public import proofs.«01_k».proof.Proof.Gen.ReluBwdRefIdeal.Run
public import proofs.«01_k».proof.Proof.Gen.ReluBwdRefIdeal.Read
public import Idealize.ShloMosaic.Lib.Pipeline.ValueKit
public import Idealize.ShloMosaic.Lib.Pointwise

/-! The gradient through the MLP's squared relu: the array the kernel leaves, and the reference's. -/

@[expose] public section

set_option maxRecDepth 16384

noncomputable section

namespace Cert.ReluBwdIdeal.Hand

open Cert.ReluBwdIdeal Cert.ReluBwdIdeal.Gen Idealize.ShloMosaic Idealize.ShloMosaic.TcCoe Idealize.SL.Sem

variable (m : (ℓ : Loc nD τ sig) → Buf (Elt Ideal) ℓ)

/-- The root of a positive part's square is the positive part. -/
theorem sqrt_square (z : EReal) : Ideal.sqrt (max z 0 * max z 0) = max z 0 := by
  induction z using EReal.rec with
  | bot =>
    rw [max_eq_right bot_le, mul_zero]
    show (if (0 : ℝ) < 0 then _ else ((Real.sqrt 0 : ℝ) : EReal)) = 0
    simp
  | top => rw [max_eq_left le_top, EReal.top_mul_top]; rfl
  | coe r =>
    have e : max (r : EReal) 0 = ((max r 0 : ℝ) : EReal) := by
      rcases le_total r 0 with h | h
      · rw [max_eq_right h, max_eq_right (by exact_mod_cast h)]; rfl
      · rw [max_eq_left h, max_eq_left (by exact_mod_cast h)]
    rw [e, ← EReal.coe_mul]
    show (if _ then _ else _) = _
    rw [if_neg (not_lt.mpr (mul_self_nonneg _)), Real.sqrt_mul_self (le_max_right r 0)]

/-- Twice a number times a nonnegative one, as the sum of two products. -/
theorem twice (d r : EReal) (hr : 0 ≤ r) : d * (2 * r) = r * d + d * r := by
  rw [← one_add_one_eq_two, EReal.right_distrib_of_nonneg zero_le_one zero_le_one, one_mul, EReal.left_distrib_of_nonneg hr hr, mul_comm r d]

/-- The kernel's factor is the derivative of the squared relu. -/
theorem slope (z d : EReal) : d * (2 * Ideal.sqrt (max z 0 * max z 0)) = if 0 < z then max z 0 * d + d * max z 0 else 0 := by
  rw [sqrt_square]
  split_ifs with h
  · exact twice _ _ (le_max_right z 0)
  · rw [max_eq_right (not_lt.mp h), mul_zero, mul_zero]

/-- The block a point reads or writes of each array. -/
theorem origin : ∀ t : Fin grid0.N, win0_0.index t = ![t.val, 0] ∧ win0_1.index t = ![0, 0] ∧ win0_2.index t = ![t.val, 0]
    ∧ win0_3.index t = ![t.val, 0] := by
  decide +kernel

/-- Row `r` of point `t`'s block among all rows. -/
abbrev row (t : Fin cfg0.N) (r : Fin 512) : Fin 8192 := ⟨t.val * 512 + r.val, by have : t.val < 16 := t.isLt; omega⟩

abbrev argN (c : Dev nD) : S8192x1024.Idx → EReal := m ((c : Thread nD τ).loc main_arg0)
abbrev argU (c : Dev nD) : S1x1024x4096.Idx → EReal := m ((c : Thread nD τ).loc main_arg1)
abbrev argD (c : Dev nD) : S1x4096x1024.Idx → EReal := m ((c : Thread nD τ).loc main_arg2)
abbrev argG (c : Dev nD) : S8192x1024.Idx → EReal := m ((c : Thread nD τ).loc main_arg3)

/-- The up projection at row `i`, column `j`. -/
def up (n : S8192x1024.Idx → EReal) (w : S1x1024x4096.Idx → EReal) (i : Fin 8192) (j : Fin 4096) : EReal :=
  ∑ k : Fin 1024, n (ix2 i k) * w (ix3 0 k j)

/-- The cotangent of the squared relu at row `i`, column `j`. -/
def down (dh : S8192x1024.Idx → EReal) (w : S1x4096x1024.Idx → EReal) (i : Fin 8192) (j : Fin 4096) : EReal :=
  ∑ k : Fin 1024, dh (ix2 i k) * w (ix3 0 j k)

/-- The gradient at row `i`, column `j`. -/
def grad (n : S8192x1024.Idx → EReal) (wu : S1x1024x4096.Idx → EReal) (wd : S1x4096x1024.Idx → EReal) (dh : S8192x1024.Idx → EReal)
    (i : Fin 8192) (j : Fin 4096) : EReal :=
  down dh wd i j * (2 * Ideal.sqrt (max (up n wu i j) 0 * max (up n wu i j) 0))

theorem ct_at (c : Dev nD) (t) (r : Fin 512) (k : Fin 1024) : iblk m c 0 t (ix2 r k) = argG m c (ix2 (row t r) k) := by
  blk_ext! [iblk, V, origin t]
theorem weight_at (c : Dev nD) (t) (j : Fin 4096) (k : Fin 1024) : iblk m c 1 t (ix2 j k) = argD m c (ix3 0 j k) := by
  blk_ext! [iblk, V, origin t]

section
variable (n : S8192x1024.Idx → EReal) (w : S1x1024x4096.Idx → EReal)

/-- The up projection, as the host forms it. -/
abbrev hostUp : FVec Ideal S8192x4096 .f32 := Host.dotGeneral (F := Ideal) (φ₁ := .bf16) (φ₂ := .bf16) dot_S8192x1024_S1024x4096_S8192x4096_1_0_0_1_n_n none n
  (truncf (F := Ideal) (φ := .f32) .bf16 (shapeCast S1024x4096 w shapeCasts_S1x1024x4096_S1024x4096) bitsLt_bf16_f32)
/-- Zero everywhere, as the host forms it. -/
abbrev hostZero : FVec Ideal S8192x4096 .f32 := broadcastInDim S8192x4096 ![] bcast_S_S8192x4096 (constant (F := Ideal) S_ .f32 0x00000000#32)

theorem hostUp_apply (i : Fin 8192) (j : Fin 4096) : hostUp n w (ix2 i j) = up n w i j := by
  unfold up hostUp
  pointwise
theorem hostZero_apply (i : S8192x4096.Idx) : hostZero i = 0 := by
  unfold hostZero
  pointwise

/-- The positive part, as the host forms it. -/
abbrev hostRelu : FVec Ideal S8192x4096 .f32 := maximumf (F := Ideal) (hostUp n w) hostZero

theorem hostRelu_apply (i : Fin 8192) (j : Fin 4096) : hostRelu n w (ix2 i j) = max (up n w i j) 0 :=
  show max (hostUp n w (ix2 i j)) (hostZero (ix2 i j)) = _ by rw [hostUp_apply, hostZero_apply]
end

/-- The forward pass's value, as the host computed it. -/
theorem act_array (c : Dev nD) : V m c main_v6
    = truncf (F := Ideal) .bf16 (mulf (F := Ideal) (hostRelu (argN m c) (argU m c)) (hostRelu (argN m c) (argU m c))) bitsLt_bf16_f32 := rfl

theorem act_block (c : Dev nD) (t) (r : Fin 512) (j : Fin 4096) : iblk m c 2 t (ix2 r j) = V m c main_v6 (ix2 (row t r) j) := by
  blk_ext! [iblk, origin t]

theorem act_at (c : Dev nD) (t) (r : Fin 512) (j : Fin 4096) : iblk m c 2 t (ix2 r j)
    = max (up (argN m c) (argU m c) (row t r) j) 0 * max (up (argN m c) (argU m c) (row t r) j) 0 :=
  (act_block m c t r j).trans ((congrFun (act_array m c) _).trans
    (congrArg (fun z : EReal => z * z) (hostRelu_apply (argN m c) (argU m c) (row t r) j)))

theorem two_eq : Ideal.ofBits FTy.f32 1073741824#32 = 2 := by
  simp [Ideal.ofBits, Ideal.ieee, -EReal.coe_mul]; norm_num; rfl

/-- What a point stores, in eight tiles of columns. -/
theorem block (c : Dev nD) (t : Fin cfg0.N) (r : Fin 512) (j : Fin 4096) :
    out0_3 (iblk m c 0 t) (iblk m c 1 t) (iblk m c 2 t) (ix2 r j) = grad (argN m c) (argU m c) (argD m c) (argG m c) (row t r) j := by
  unfold grad down
  frame_out
  unfold_payloads
  canon_tiles x h
  all_goals
    idx_vars x
    obtain rfl : r = x0 := Fin.ext (by assumption)
    pointwise
    simp only [ct_at, weight_at, act_at, two_eq]
    have key : ∀ a b : Fin 4096, a = b → ∀ q : Fin 4096, q = b →
        (∑ k : Fin 1024, argG m c (ix2 (row t r) k) * argD m c (ix3 0 a k))
            * (2 * Ideal.sqrt (max (up (argN m c) (argU m c) (row t r) q) 0 * max (up (argN m c) (argU m c) (row t r) q) 0))
          = (∑ k : Fin 1024, argG m c (ix2 (row t r) k) * argD m c (ix3 0 b k))
            * (2 * Ideal.sqrt (max (up (argN m c) (argU m c) (row t r) b) 0 * max (up (argN m c) (argU m c) (row t r) b) 0)) := by
      rintro a _ rfl _ rfl
      rfl
    exact key _ _ (Fin.ext (by dsimp only; omega)) _ (Fin.ext (by dsimp only; omega))

/-- The array the kernel leaves. -/
theorem result (c : Dev nD) : (dats m 0 c).arrAt 3 (cfgs 0).N = fun i : S8192x4096.Idx => grad (argN m c) (argU m c) (argD m c) (argG m c) (i 0) (i 1) := by
  refine (dats m 0 c).arrAt_eq_of_covers 3 _ (by decide +kernel) fun t hf (y : S512x4096.Idx) => ?_
  idx_vars y
  blk_simp
  have e0 : ((View.whole main_v9).slice (win0_3.rect t)).emb (ix2 y0 y1) 0 = row t y0 := by apply Fin.ext; blk_simp [origin t]
  have e1 : ((View.whole main_v9).slice (win0_3.rect t)).emb (ix2 y0 y1) 1 = y1 := by apply Fin.ext; blk_simp [origin t]
  rw [after0_3, block, e0, e1]

open Cert.ReluBwdRefIdeal.Read

section
variable (n : S8192x1024.Idx → EReal) (wu : S1x1024x4096.Idx → EReal) (wd : S1x4096x1024.Idx → EReal) (dh : S8192x1024.Idx → EReal)
  (i : Fin 8192) (j : Fin 4096)

theorem reference_up : val_main_v2 (F := Ideal) n wu (ix2 i j) = up n wu i j := by
  pointwise [val_main_v2, val_main_v1, val_main_v0]
  rfl

theorem reference_down : val_main_v11 (F := Ideal) wd dh (ix2 i j) = down dh wd i j := by
  pointwise [val_main_v11, val_main_v10, val_main_v8]
  rfl

theorem reference_zero (i : S8192x4096.Idx) : val_main_call0_v0 (F := Ideal) i = 0 := by
  pointwise [val_main_call0_v0, val_main_call0_cst]
theorem reference_bound (i : S8192x4096.Idx) : val_main_v4 (F := Ideal) i = 0 := by
  pointwise [val_main_v4, val_main_cst]
theorem reference_off (i : S8192x4096.Idx) : val_main_v15 (F := Ideal) i = 0 := by
  pointwise [val_main_v15, val_main_cst_1]

theorem reference_relu : val_main_v3 (F := Ideal) n wu (ix2 i j) = max (up n wu i j) 0 := by
  rw [val_main_v3_apply, reference_up, reference_zero]
  rfl

theorem reference_mask : val_main_v5 (F := Ideal) n wu (ix2 i j) = Ideal.cmp .ogt (up n wu i j) 0 := by
  rw [val_main_v5_apply, reference_up, reference_bound]
  rfl

theorem select_eq (z a b : EReal) : Scalar.select (Ideal.cmp .ogt z 0) a b = if 0 < z then a else b := by
  unfold Scalar.select Ideal.cmp
  by_cases h : 0 < z <;> simp [h]

theorem reference_sum : val_main_v14 (F := Ideal) n wu wd dh (ix2 i j)
    = max (up n wu i j) 0 * down dh wd i j + down dh wd i j * max (up n wu i j) 0 := by
  rw [val_main_v14_apply, val_main_v12_apply, val_main_v13_apply, reference_relu, reference_down]
  rfl
end

/-- The reference's result. -/
theorem reference_result (n : S8192x1024.Idx → EReal) (wu : S1x1024x4096.Idx → EReal) (wd : S1x4096x1024.Idx → EReal)
    (dh : S8192x1024.Idx → EReal) (i : S8192x4096.Idx) : val_main_v17 (F := Ideal) n wu wd dh i = grad n wu wd dh (i 0) (i 1) := by
  idx_vars i
  unfold grad
  rw [slope, ← select_eq, ← reference_sum, ← reference_mask, ← reference_off (ix2 i0 i1)]
  exact (val_main_v17_apply _ _ _ _ _).trans (val_main_v16_apply _ _ _ _ _)

end Cert.ReluBwdIdeal.Hand
end
-- ==== Proof.ReluFwd.lean ====
module

public import proofs.«01_k».proof.Proof.Gen.ReluFwdIdeal.Value
public import proofs.«01_k».proof.Proof.Gen.ReluFwdRefIdeal.Run
public import proofs.«01_k».proof.Proof.Gen.ReluFwdRefIdeal.Read
public import Idealize.ShloMosaic.Lib.Pipeline.ValueKit
public import Idealize.ShloMosaic.Lib.Pointwise

/-! The forward up projection with its squared relu: the array the kernel leaves, and the reference's. -/

@[expose] public section

set_option maxRecDepth 16384

noncomputable section

namespace Cert.ReluFwdIdeal.Hand

open Cert.ReluFwdIdeal Cert.ReluFwdIdeal.Gen Idealize.ShloMosaic Idealize.ShloMosaic.TcCoe Idealize.SL.Sem

variable (m : (ℓ : Loc nD τ sig) → Buf (Elt Ideal) ℓ)

/-- The block a point reads or writes of each array. -/
theorem origin : ∀ t : Fin grid0.N, win0_0.index t = ![t.val, 0] ∧ win0_1.index t = ![0, 0, 0] ∧ win0_2.index t = ![t.val, 0] := by
  decide +kernel

/-- Row `r` of point `t`'s block among all rows. -/
abbrev row (t : Fin cfg0.N) (r : Fin 512) : Fin 8192 := ⟨t.val * 512 + r.val, by have : t.val < 16 := t.isLt; omega⟩

theorem rows_at (c : Dev nD) (t) (r : Fin 512) (k : Fin 1024) : iblk m c 0 t (ix2 r k) = m ((c : Thread nD τ).loc main_arg0) (ix2 (row t r) k) := by
  blk_ext! [iblk, V, origin t]
theorem weight_at (c : Dev nD) (t) (s : Fin 8) (r : Fin 1024) (k : Fin 512) :
    iblk m c 1 t (ix3 s r k) = m ((c : Thread nD τ).loc main_arg1) (ix3 0 r ⟨s.val * 512 + k.val, by omega⟩) := by
  blk_ext! [iblk, V, origin t]

/-- The square of the positive part. -/
def square (z : EReal) : EReal := max z 0 * max z 0

/-- The result at row `i`, column `j`. -/
def act (n : S8192x1024.Idx → EReal) (w : S1x1024x4096.Idx → EReal) (i : Fin 8192) (j : Fin 4096) : EReal :=
  square (∑ k : Fin 1024, n (ix2 i k) * w (ix3 0 k j))

abbrev argN (c : Dev nD) : S8192x1024.Idx → EReal := m ((c : Thread nD τ).loc main_arg0)
abbrev argW (c : Dev nD) : S1x1024x4096.Idx → EReal := m ((c : Thread nD τ).loc main_arg1)

/-- What a point stores, in eight tiles of columns. -/
theorem block (c : Dev nD) (t : Fin cfg0.N) (r : Fin 512) (j : Fin 4096) :
    out0_2 (iblk m c 0 t) (iblk m c 1 t) (ix2 r j) = act (argN m c) (argW m c) (row t r) j := by
  unfold act square
  frame_out
  unfold_payloads
  canon_tiles x h
  all_goals
    idx_vars x
    obtain rfl : r = x0 := Fin.ext (by assumption)
    pointwise
    simp only [rows_at, weight_at]
    refine congrArg (fun z : EReal => max z 0 * max z 0) (Finset.sum_congr (M := EReal) rfl fun d _ => congrArg₂ (· * ·) rfl ?_)
    exact congrArg (fun q => argW m c (ix3 0 d q)) (Fin.ext (by dsimp only; omega))

/-- The array the kernel leaves. -/
theorem result (c : Dev nD) : (dats m 0 c).arrAt 2 (cfgs 0).N = fun i : S8192x4096.Idx => act (argN m c) (argW m c) (i 0) (i 1) := by
  refine (dats m 0 c).arrAt_eq_of_covers 2 _ (by decide +kernel) fun t hf (y : S512x4096.Idx) => ?_
  idx_vars y
  blk_simp
  have e0 : ((View.whole main_v4).slice (win0_2.rect t)).emb (ix2 y0 y1) 0 = row t y0 := by apply Fin.ext; blk_simp [origin t]
  have e1 : ((View.whole main_v4).slice (win0_2.rect t)).emb (ix2 y0 y1) 1 = y1 := by apply Fin.ext; blk_simp [origin t]
  rw [after0_2, block, e0, e1]

open Cert.ReluFwdRefIdeal.Read

theorem reference_product (n : S8192x1024.Idx → EReal) (w : S1x1024x4096.Idx → EReal) (i : Fin 8192) (j : Fin 4096) :
    val_main_v2 (F := Ideal) n w (ix2 i j) = ∑ k : Fin 1024, n (ix2 i k) * w (ix3 0 k j) := by
  pointwise [val_main_v2, val_main_v1, val_main_v0]

theorem reference_zero (i : S8192x4096.Idx) : val_main_call0_v0 (F := Ideal) i = 0 := by
  pointwise [val_main_call0_v0, val_main_call0_cst]

/-- The reference's result. -/
theorem reference_result (n : S8192x1024.Idx → EReal) (w : S1x1024x4096.Idx → EReal) (i : S8192x4096.Idx) :
    val_main_v5 (F := Ideal) n w i = act n w (i 0) (i 1) := by
  idx_vars i
  have e : val_main_v3 (F := Ideal) n w (ix2 i0 i1) = max (∑ k : Fin 1024, n (ix2 i0 k) * w (ix3 0 k i1)) 0 := by
    rw [val_main_v3_apply, reference_product, reference_zero]
    rfl
  exact congrArg (fun a : EReal => a * a) e

end Cert.ReluFwdIdeal.Hand
end
-- ==== Proof.AttnFwd.lean ====
module

public import proofs.«01_k».proof.Proof.Gen.AttnFwdIdeal.Value
public import proofs.«01_k».proof.Proof.Gen.AttnFwdRefIdeal.Run
public import proofs.«01_k».proof.Proof.Gen.AttnFwdRefIdeal.Read
public import proofs.«01_k».proof.Proof.Softmax
public import Idealize.ShloMosaic.Lib.Pipeline.ValueKit
public import Idealize.ShloMosaic.Lib.Pipeline.ReadBack
public import Idealize.ShloMosaic.Lib.Pointwise

/-! The attention forward: what the call leaves, and what its reference computes. -/

@[expose] public section

set_option maxRecDepth 16384

noncomputable section

namespace Cert.AttnFwdIdeal.Hand

open Cert.AttnFwdIdeal Cert.AttnFwdIdeal.Gen Idealize.ShloMosaic Idealize.ShloMosaic.TcCoe Idealize.SL.Sem
open Cert.NormGrad

variable (m : (ℓ : Loc nD τ sig) → Buf (Elt Ideal) ℓ)

theorem point_lt (t : Fin cfg0.N) : t.val < 8 := t.isLt

/-- The block a point reads or writes of each array. -/
theorem origin : ∀ t : Fin grid0.N, win0_0.index t = ![t.val, 0] ∧ win0_1.index t = ![0, t.val / 4, 0] ∧ win0_2.index t = ![t.val, 0] := by
  decide +kernel

abbrev argQ (c : Dev nD) : (S8192x1024 : Shape).Idx → EReal := m ((c : Thread nD τ).loc main_arg0)
abbrev argM (c : Dev nD) : (S2x256x2048 : Shape).Idx → EReal := m ((c : Thread nD τ).loc main_arg1)

/-- Row `r` of point `t`'s block among all rows. -/
abbrev row (t : Fin cfg0.N) (r : Fin 1024) : Fin 8192 := ⟨t.val * 1024 + r.val, by have := point_lt t; omega⟩
/-- A row's sequence. -/
def seqOf (i : Fin 8192) : Fin 2 := ⟨i.val / 4096, by omega⟩
theorem seqOf_row (t : Fin cfg0.N) (r : Fin 1024) : seqOf (row t r) = ⟨t.val / 4, by have := point_lt t; omega⟩ := by
  apply Fin.ext; unfold seqOf; dsimp only; omega

theorem query_at (c : Dev nD) (t) (r k : Fin 1024) : iblk m c 0 t (ix2 r k) = argQ m c (ix2 (row t r) k) := by
  blk_ext! [iblk, V, origin t]
theorem memory_at (c : Dev nD) (t) (s : Fin 2) (n : Fin 256) (k : Fin 1024) : iblk m c 1 t (ix3 s n k)
    = argM m c (ix3 ⟨t.val / 4, by have := point_lt t; omega⟩ n ⟨s.val * 1024 + k.val, by omega⟩) := by
  blk_ext! [iblk, V, origin t]

/-! One row's output, of one head's query and its keys and values. -/

section
variable (q : S1024x256.Idx → EReal) (k v : S1x256x256.Idx → EReal) (r : Fin 1024) (n j : Fin 256)

/-- A row's shares times the values. -/
def mix (q : Fin 256 → EReal) (keys values : Fin 256 → Fin 256 → EReal) (j : Fin 256) : EReal :=
  ∑ n, Softmax.prob (Softmax.scores q keys) n * values n j

abbrev sc : Fin 256 → EReal := Softmax.scores (fun d => q (ix2 r d)) fun n d => k (ix3 0 n d)
abbrev mixed : EReal := mix (fun d => q (ix2 r d)) (fun n d => k (ix3 0 n d)) (fun n d => v (ix3 0 n d)) j

theorem prob0 : k0_pay4 (F := Ideal) q k (ix2 r n) = Softmax.prob (sc q k r) n := by
  unfold k0_pay4; pointwise; rfl
theorem prob1 : k0_pay5 (F := Ideal) q k (ix2 r n) = Softmax.prob (sc q k r) n := prob0 q k r n
theorem prob2 : k0_pay6 (F := Ideal) q k (ix2 r n) = Softmax.prob (sc q k r) n := prob0 q k r n
theorem prob3 : k0_pay7 (F := Ideal) q k (ix2 r n) = Softmax.prob (sc q k r) n := prob0 q k r n

theorem out0 : k0_pay8 (F := Ideal) (k0_pay4 q k) v (ix2 r j) = mixed q k v r j := by
  unfold k0_pay8 mixed mix; pointwise; simp only [prob0]
theorem out1 : k0_pay1 (F := Ideal) (k0_pay5 q k) v (ix2 r j) = mixed q k v r j := by
  unfold k0_pay1 mixed mix; pointwise; simp only [prob1]
theorem out2 : k0_pay2 (F := Ideal) (k0_pay6 q k) v (ix2 r j) = mixed q k v r j := by
  unfold k0_pay2 mixed mix; pointwise; simp only [prob2]
theorem out3 : k0_pay3 (F := Ideal) (k0_pay7 q k) v (ix2 r j) = mixed q k v r j := by
  unfold k0_pay3 mixed mix; pointwise; simp only [prob3]
end

/-! The same of the whole arrays. -/

section
variable (Q : S8192x1024.Idx → EReal) (M : S2x256x2048.Idx → EReal)

/-- The output of row `i`, head `e`, column `d` of the head. -/
def attn (i : Fin 8192) (e : Fin 4) (d : Fin 256) : EReal :=
  mix (fun d => Q (ix2 i ⟨e.val * 256 + d.val, by omega⟩)) (fun n d => M (ix3 (seqOf i) n ⟨e.val * 256 + d.val, by omega⟩))
    (fun n d => M (ix3 (seqOf i) n ⟨1024 + (e.val * 256 + d.val), by omega⟩)) d
/-- The same, by the column among all. -/
def attnAt (i : Fin 8192) (j : Fin 1024) : EReal := attn Q M i ⟨j.val / 256, by omega⟩ ⟨j.val % 256, by omega⟩
theorem attnAt_head (i : Fin 8192) (e : Fin 4) (d : Fin 256) (j : Fin 1024) (h : j.val = e.val * 256 + d.val) : attnAt Q M i j = attn Q M i e d := by
  unfold attnAt
  congr 1
  · apply Fin.ext; dsimp only; omega
  · apply Fin.ext; dsimp only; omega
end

section
variable (c : Dev nD) (t : Fin cfg0.N) (e : Fin 4) (h : ℕ) (hh : h = e.val * 256) (r : Fin 1024) (n : Fin 256)
include hh

theorem q_slice (inb) (d : Fin 256) : View.ld (iblk m c 0 t) (Rect.unit (s := S1024x1024) ![0, h] ![1024, 256] inb) (ix2 r d)
    = argQ m c (ix2 (row t r) ⟨e.val * 256 + d.val, by omega⟩) := by
  subst hh
  refine Eq.trans (congrArg (iblk m c 0 t) ?_) (query_at m c t r ⟨e.val * 256 + d.val, by omega⟩)
  funext a; fin_cases a <;> apply Fin.ext <;> simp
theorem k_slice (inb) (d : Fin 256) : View.ld (iblk m c 1 t) (Rect.unit (s := S2x256x1024) ![0, 0, h] ![1, 256, 256] inb) (ix3 0 n d)
    = argM m c (ix3 (seqOf (row t r)) n ⟨e.val * 256 + d.val, by omega⟩) := by
  subst hh
  rw [seqOf_row]
  refine Eq.trans (congrArg (iblk m c 1 t) ?_) ((memory_at m c t 0 n ⟨e.val * 256 + d.val, by omega⟩).trans (congrArg (fun j => argM m c (ix3 _ n j)) (Fin.ext ?_)))
  · funext a; fin_cases a <;> apply Fin.ext <;> simp
  · simp
theorem v_slice (inb) (d : Fin 256) : View.ld (iblk m c 1 t) (Rect.unit (s := S2x256x1024) ![1, 0, h] ![1, 256, 256] inb) (ix3 0 n d)
    = argM m c (ix3 (seqOf (row t r)) n ⟨1024 + (e.val * 256 + d.val), by omega⟩) := by
  subst hh
  rw [seqOf_row]
  refine Eq.trans (congrArg (iblk m c 1 t) ?_) ((memory_at m c t 1 n ⟨e.val * 256 + d.val, by omega⟩).trans (congrArg (fun j => argM m c (ix3 _ n j)) (Fin.ext ?_)))
  · funext a; fin_cases a <;> apply Fin.ext <;> simp
  · simp

theorem mixed_slice (inbq inbk inbv) (j : Fin 256) : mixed (View.ld (iblk m c 0 t) (Rect.unit (s := S1024x1024) ![0, h] ![1024, 256] inbq))
    (View.ld (iblk m c 1 t) (Rect.unit (s := S2x256x1024) ![0, 0, h] ![1, 256, 256] inbk))
    (View.ld (iblk m c 1 t) (Rect.unit (s := S2x256x1024) ![1, 0, h] ![1, 256, 256] inbv)) r j = attn (argQ m c) (argM m c) (row t r) e j := by
  unfold mixed attn
  simp only [q_slice m c t e h hh, k_slice m c t e h hh r, v_slice m c t e h hh r]

theorem mixed_block (inbq inbk inbv) (j : Fin 256) : mixed (View.ld (iblk m c 0 t) (Rect.unit (s := S1024x1024) ![0, h] ![1024, 256] inbq))
    (View.ld (iblk m c 1 t) (Rect.unit (s := S2x256x1024) ![0, 0, h] ![1, 256, 256] inbk))
    (View.ld (iblk m c 1 t) (Rect.unit (s := S2x256x1024) ![1, 0, h] ![1, 256, 256] inbv)) r j = attnAt (argQ m c) (argM m c) (row t r) ⟨h + j.val, by omega⟩ :=
  (mixed_slice m c t e h hh r _ _ _ j).trans (attnAt_head _ _ _ e j _ (by dsimp only; omega)).symm
end

theorem emb_row (h : ℕ) (hh : h ≤ 768) (r : Fin 1024) (inb) (j : Fin 256) : (Rect.unit (s := S1024x1024) ![0, h] ![1024, 256] inb).emb (ix2 r j) = ix2 r ⟨h + j.val, by omega⟩ := by
  funext a; fin_cases a <;> apply Fin.ext <;> simp

theorem canon_of_pieces {s : Shape} {e : EltTy} (G : s.Idx → Elt Ideal e) (L : List (View.Piece (Elt Ideal) s e)) (h : View.PiecesOf G L) (y : s.Idx)
    (hc : ∃ p ∈ L, y ∈ p.1.set) : View.canon L y = G y := by
  have := View.canon_append_of_piecesOf G [] L h y hc
  rwa [List.append_nil] at this

/-- What a point stores. -/
theorem block (c : Dev nD) (t : Fin cfg0.N) (x : S1024x1024.Idx) :
    out0_2 (iblk m c 0 t) (iblk m c 1 t) x = attnAt (argQ m c) (argM m c) (row t (x 0)) (x 1) := by
  frame_out
  refine canon_of_pieces (e := .bf16) (fun x : S1024x1024.Idx => attnAt (argQ m c) (argM m c) (row t (x 0)) (x 1)) _ ?_ x ?_
  rotate_left
  · exact View.cover_of_tiled _ ![1024, 256] (by rfl) x
  refine ⟨fun y => ?_, fun y => ?_, fun y => ?_, fun y => ?_, trivial⟩
  · idx_vars y
    rw [emb_row 768 (by decide) y0]
    exact (out3 _ _ _ _ _).trans (mixed_block m c t 3 768 rfl y0 _ _ _ y1)
  · idx_vars y
    rw [emb_row 512 (by decide) y0]
    exact (out2 _ _ _ _ _).trans (mixed_block m c t 2 512 rfl y0 _ _ _ y1)
  · idx_vars y
    rw [emb_row 256 (by decide) y0]
    exact (out1 _ _ _ _ _).trans (mixed_block m c t 1 256 rfl y0 _ _ _ y1)
  · idx_vars y
    rw [emb_row 0 (by decide) y0]
    exact (out0 _ _ _ _ _).trans (mixed_block m c t 0 0 rfl y0 _ _ _ y1)

/-- The array the kernel leaves. -/
theorem result (c : Dev nD) : (dats m 0 c).arrAt 2 (cfgs 0).N = fun i : S8192x1024.Idx => attnAt (argQ m c) (argM m c) (i 0) (i 1) := by
  refine (dats m 0 c).arrAt_eq_of_covers 2 _ (by decide +kernel) fun t hf (y : S1024x1024.Idx) => ?_
  idx_vars y
  blk_simp
  have e0 : ((View.whole main_v2).slice (win0_2.rect t)).emb (ix2 y0 y1) 0 = row t y0 := by apply Fin.ext; blk_simp [origin t]
  have e1 : ((View.whole main_v2).slice (win0_2.rect t)).emb (ix2 y0 y1) 1 = y1 := by apply Fin.ext; blk_simp [origin t]
  rw [after0_2, block, e0, e1]; rfl

/-! The reference. -/

open Cert.AttnFwdRefIdeal.Read

/-- A maximum over the keys, from a starting value. -/
theorem max_keys (V : (AttnFwdRefIdeal.S2x4x4096x256 : Shape).Idx → EReal) (z : (AttnFwdRefIdeal.S_ : Shape).Idx → EReal) (b : Fin 2) (e : Fin 4) (x : Fin 4096) :
    Host.reduce (FloatOps.maximumf : Ideal FTy.f32 → Ideal FTy.f32 → Ideal FTy.f32) V z AttnFwdRefIdeal.Gen.reducesTo_S2x4x4096x256_S2x4x4096_d3 AttnFwdRefIdeal.Gen.h_S_ (ix3 b e x)
      = Finset.fold max (z (Shape.Idx.first (by decide))) (fun n : Fin 256 => V (ix4 b e x n)) Finset.univ := by
  pointwise

section
variable (Q : S8192x1024.Idx → EReal) (M : S2x256x2048.Idx → EReal) (b : Fin 2) (e : Fin 4) (x : Fin 4096) (n d : Fin 256)

abbrev rowOf (b : Fin 2) (x : Fin 4096) : Fin 8192 := ⟨b.val * 4096 + x.val, by omega⟩
abbrev refScores : Fin 256 → EReal :=
  Softmax.scores (fun d : Fin 256 => Q (ix2 (rowOf b x) ⟨e.val * 256 + d.val, by omega⟩)) fun (n d : Fin 256) => M (ix3 b n ⟨e.val * 256 + d.val, by omega⟩)

theorem reference_q : val_main_v1 (F := Ideal) Q (ix4 b x e d) = Q (ix2 (rowOf b x) ⟨e.val * 256 + d.val, by omega⟩) := by
  pointwise [val_main_v1, val_main_v0]
theorem reference_k : val_main_v5 (F := Ideal) M (ix4 b n e d) = M (ix3 b n ⟨e.val * 256 + d.val, by omega⟩) := by
  pointwise [val_main_v5, val_main_v3, val_main_v2]
theorem reference_v : val_main_v6 (F := Ideal) M (ix4 b n e d) = M (ix3 b n ⟨1024 + (e.val * 256 + d.val), by omega⟩) := by
  pointwise [val_main_v6, val_main_v4, val_main_v2]
theorem reference_score : val_main_v9 (F := Ideal) Q M (ix4 b e x n) = refScores Q M b e x n := by
  pointwise [val_main_v9, val_main_v8, val_main_v7, val_main_cst, reference_q, reference_k]
  exact Softmax.div_sixteen _
theorem lowest_first : Softmax.lowest = val_main_cst_0 (F := Ideal) (Shape.Idx.first (by decide)) := by
  unfold val_main_cst_0; pointwise
theorem reference_top : val_main_v10 (F := Ideal) Q M (ix3 b e x) = Finset.fold max Softmax.lowest (refScores Q M b e x) Finset.univ := by
  have h : val_main_v10 (F := Ideal) Q M = Host.reduce (FloatOps.maximumf : Ideal FTy.f32 → Ideal FTy.f32 → Ideal FTy.f32)
      (val_main_v9 (F := Ideal) Q M) (val_main_cst_0 (F := Ideal)) AttnFwdRefIdeal.Gen.reducesTo_S2x4x4096x256_S2x4x4096_d3 AttnFwdRefIdeal.Gen.h_S_ := rfl
  rw [h, max_keys, ← lowest_first]
  exact congrArg (fun f => Finset.fold max Softmax.lowest f Finset.univ) (funext fun n => reference_score Q M b e x n)
theorem reference_lowest : val_main_v11 (F := Ideal) (ix3 b e x) = Softmax.lowest := by
  pointwise [val_main_v11, val_main_cst_1]
theorem maximum_eq (u v w z : EReal) (hu : u = w) (hv : v = z) : (FloatOps.maximumf (F := Ideal) (φ := FTy.f32) u v : EReal) = max w z := by
  subst hu hv; rfl
theorem reference_greatest : val_main_v12 (F := Ideal) Q M (ix3 b e x) = Finset.fold max Softmax.lowest (refScores Q M b e x) Finset.univ :=
  ((val_main_v12_apply (F := Ideal) Q M (ix3 b e x)).trans (maximum_eq _ _ _ _ (reference_lowest b e x) (reference_top Q M b e x))).trans
    (max_eq_right ((Finset.le_fold_max _).mpr (Or.inl le_rfl)))
theorem reference_weight : val_main_v16 (F := Ideal) Q M (ix4 b e x n) = Softmax.weight (refScores Q M b e x) n := by
  pointwise [val_main_v16, val_main_v15, val_main_v14, val_main_v13, reference_score, reference_greatest]
  rfl
theorem reference_total : val_main_v17 (F := Ideal) Q M (ix3 b e x) = Softmax.total (refScores Q M b e x) := by
  pointwise [val_main_v17, val_main_cst_2, reference_weight]
  rfl
theorem reference_share : val_main_v20 (F := Ideal) Q M (ix4 b e x n)
    = Ideal.div (Softmax.weight (refScores Q M b e x) n) (Softmax.total (refScores Q M b e x)) := by
  pointwise [val_main_v20, val_main_v19, val_main_v18, reference_weight, reference_total]
theorem reference_mix : val_main_v21 (F := Ideal) Q M (ix4 b e d x)
    = ∑ n : Fin 256, M (ix3 b n ⟨1024 + (e.val * 256 + d.val), by omega⟩) * Ideal.div (Softmax.weight (refScores Q M b e x) n) (Softmax.total (refScores Q M b e x)) := by
  pointwise [val_main_v21, reference_v, reference_share]
end

/-- The reference's result, where every argument is finite. -/
theorem reference_result (Q : S8192x1024.Idx → EReal) (M : S2x256x2048.Idx → EReal) (hq : ∀ i, Q i ≠ ⊤ ∧ Q i ≠ ⊥) (hm : ∀ i, M i ≠ ⊤ ∧ M i ≠ ⊥)
    (i : S8192x1024.Idx) : val_main_v24 (F := Ideal) Q M i = attnAt Q M (i 0) (i 1) := by
  idx_vars i
  have e : val_main_v24 (F := Ideal) Q M (ix2 i0 i1)
      = val_main_v21 (F := Ideal) Q M (ix4 ⟨i0.val / 4096, by omega⟩ ⟨i1.val / 256, by omega⟩ ⟨i1.val % 256, by omega⟩ ⟨i0.val % 4096, by omega⟩) := by
    pointwise [val_main_v24, val_main_v23, val_main_v22]
  refine (e.trans (reference_mix _ _ _ _ _ _)).trans ?_
  have hr : rowOf ⟨i0.val / 4096, by omega⟩ ⟨i0.val % 4096, by omega⟩ = i0 := Fin.ext (by dsimp only; omega)
  unfold attnAt attn mix seqOf
  refine Finset.sum_congr rfl fun n _ => ?_
  rw [Softmax.prob_eq (Softmax.scores_finite (.at fun _ => hq _) fun _ => .at fun _ => hm _), mul_comm]
  simp only [hr]

end Cert.AttnFwdIdeal.Hand
end
-- ==== Proof.PreFwd.lean ====
module

public import proofs.«01_k».proof.Proof.Gen.PreFwdIdeal.Value
public import proofs.«01_k».proof.Proof.Gen.PreFwdRefIdeal.Run
public import proofs.«01_k».proof.Proof.Gen.PreFwdRefIdeal.Read
public import proofs.«01_k».proof.Proof.NormGrad
public import Idealize.ShloMosaic.Lib.Pipeline.ValueKit
public import Idealize.ShloMosaic.Lib.Pointwise

/-! The mixer's norm: the array the kernel leaves, and the reference's. -/

@[expose] public section

set_option maxRecDepth 16384

noncomputable section

namespace Cert.PreFwdIdeal.Hand

open Cert.PreFwdIdeal Cert.PreFwdIdeal.Gen Idealize.ShloMosaic Idealize.ShloMosaic.TcCoe Idealize.SL.Sem
open Cert.NormGrad

variable (m : (ℓ : Loc nD τ sig) → Buf (Elt Ideal) ℓ)

/-- The block a point reads or writes of each array. -/
theorem origin : ∀ t : Fin grid0.N, win0_0.index t = ![t.val, 0] ∧ win0_1.index t = ![0, 0] ∧ win0_3.index t = ![t.val, 0] := by
  decide +kernel

abbrev argX (c : Dev nD) : S2x4096x1024.Idx → EReal := m ((c : Thread nD τ).loc main_arg0)
abbrev argG (c : Dev nD) : S1x1024.Idx → EReal := m ((c : Thread nD τ).loc main_arg1)

/-- Row `r` of point `t`'s block among all rows. -/
abbrev row (t : Fin cfg0.N) (r : Fin 1024) : Fin 8192 := ⟨t.val * 1024 + r.val, by have : t.val < 8 := t.isLt; omega⟩

theorem input_at (c : Dev nD) (t) (r k : Fin 1024) :
    iblk m c 0 t (ix2 r k) = argX m c (ix3 ⟨(row t r).val / 4096, by omega⟩ ⟨(row t r).val % 4096, by omega⟩ k) := by
  blk_ext! [iblk, V, origin t]
theorem gain_at (c : Dev nD) (t) (k : Fin 1024) : iblk m c 1 t (ix2 0 k) = argG m c (ix2 0 k) := by
  blk_ext! [iblk, V, origin t]

/-- Row `i` of the norm, column `j`. -/
def out (x : S2x4096x1024.Idx → EReal) (g : S1x1024.Idx → EReal) (i : Fin 8192) (j : Fin 1024) : EReal :=
  normed (fun k => x (ix3 ⟨i.val / 4096, by omega⟩ ⟨i.val % 4096, by omega⟩ k)) (fun k => g (ix2 0 k)) j

theorem block (c : Dev nD) (t : Fin cfg0.N) (r j : Fin 1024) :
    out0_3 (iblk m c 0 t) (iblk m c 1 t) (iblk m c 2 t) (ix2 r j) = out (argX m c) (argG m c) (row t r) j := by
  frame_out
  unfold_payloads
  pointwise
  simp only [input_at, gain_at]
  rfl

/-- The array the kernel leaves. -/
theorem result (c : Dev nD) : (dats m 0 c).arrAt 3 (cfgs 0).N = fun i : S8192x1024.Idx => out (argX m c) (argG m c) (i 0) (i 1) := by
  refine (dats m 0 c).arrAt_eq_of_covers 3 _ (by decide +kernel) fun t hf (y : S1024x1024.Idx) => ?_
  idx_vars y
  blk_simp
  have e0 : ((View.whole main_v1).slice (win0_3.rect t)).emb (ix2 y0 y1) 0 = row t y0 := by apply Fin.ext; blk_simp [origin t]
  have e1 : ((View.whole main_v1).slice (win0_3.rect t)).emb (ix2 y0 y1) 1 = y1 := by apply Fin.ext; blk_simp [origin t]
  rw [after0_3, block, e0, e1]

open Cert.PreFwdRefIdeal.Read

/-- The reference's result. -/
theorem reference_result (x : S2x4096x1024.Idx → EReal) (g : S1x1024.Idx → EReal) (i : S8192x1024.Idx) :
    val_main_v15 (F := Ideal) x g i = out x g (i 0) (i 1) := by
  idx_vars i
  pointwise [val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

end Cert.PreFwdIdeal.Hand
end
-- ==== Proof.KvFwd.lean ====
module

public import proofs.«01_k».proof.Proof.Gen.KvFwdIdeal.Value
public import proofs.«01_k».proof.Proof.Gen.KvFwdRefIdeal.Run
public import proofs.«01_k».proof.Proof.Gen.KvFwdRefIdeal.Read
public import proofs.«01_k».proof.Proof.NormGrad
public import Idealize.ShloMosaic.Lib.Pipeline.ValueKit
public import Idealize.ShloMosaic.Lib.Pointwise

/-! The keys and values of the memory, with its norm: the arrays the kernel leaves, and the reference's. -/

@[expose] public section

set_option maxRecDepth 16384

noncomputable section

namespace Cert.KvFwdIdeal.Hand

open Cert.KvFwdIdeal Cert.KvFwdIdeal.Gen Idealize.ShloMosaic Idealize.ShloMosaic.TcCoe Idealize.SL.Sem
open Cert.NormGrad

variable (m : (ℓ : Loc nD τ sig) → Buf (Elt Ideal) ℓ)

theorem origin : ∀ t : Fin grid0.N, win0_0.index t = ![0, 0] ∧ win0_1.index t = ![0, 0] ∧ win0_2.index t = ![0, 0, 0] ∧ win0_3.index t = ![0, 0, 0]
    ∧ win0_4.index t = ![0, 0] := by
  decide +kernel

abbrev argM (c : Dev nD) : S2x256x1024.Idx → EReal := m ((c : Thread nD τ).loc main_arg0)
abbrev argG (c : Dev nD) : S1x1024.Idx → EReal := m ((c : Thread nD τ).loc main_arg1)
abbrev argW (c : Dev nD) : S1x1024x2048.Idx → EReal := m ((c : Thread nD τ).loc main_arg2)

theorem memory_at (c : Dev nD) (t) (r : Fin 512) (k : Fin 1024) :
    iblk m c 0 t (ix2 r k) = argM m c (ix3 ⟨r.val / 256, by omega⟩ ⟨r.val % 256, by omega⟩ k) := by
  blk_ext! [iblk, V, origin t]
theorem gain_at (c : Dev nD) (t) (k : Fin 1024) : iblk m c 1 t (ix2 0 k) = argG m c (ix2 0 k) := by
  blk_ext! [iblk, V, origin t]
theorem weight_at (c : Dev nD) (t) (s : Fin 8) (r : Fin 1024) (k : Fin 256) :
    iblk m c 2 t (ix3 s r k) = argW m c (ix3 0 r ⟨s.val * 256 + k.val, by omega⟩) := by
  blk_ext! [iblk, V, origin t]

/-- Row `i` of the norm, column `j`. -/
def norm (x : S2x256x1024.Idx → EReal) (g : S1x1024.Idx → EReal) (i : Fin 512) (j : Fin 1024) : EReal :=
  normed (fun k => x (ix3 ⟨i.val / 256, by omega⟩ ⟨i.val % 256, by omega⟩ k)) (fun k => g (ix2 0 k)) j
/-- Its product with the weight, column `j` of the keys (`s = 0`) or the values. -/
def out (x : S2x256x1024.Idx → EReal) (g : S1x1024.Idx → EReal) (w : S1x1024x2048.Idx → EReal) (s : Fin 2) (i : Fin 512) (j : Fin 1024) : EReal :=
  ∑ k, norm x g i k * w (ix3 0 k ⟨s.val * 1024 + j.val, by omega⟩)

theorem norm_block (c : Dev nD) (t : Fin cfg0.N) (r : Fin 512) (j : Fin 1024) :
    out0_4 (iblk m c 0 t) (iblk m c 1 t) (iblk m c 2 t) (ix2 r j) = norm (argM m c) (argG m c) r j := by
  frame_out
  unfold_payloads
  pointwise
  simp only [memory_at, gain_at]
  rfl

theorem block (c : Dev nD) (t : Fin cfg0.N) (s : Fin 2) (r : Fin 512) (j : Fin 1024) :
    out0_3 (iblk m c 0 t) (iblk m c 1 t) (iblk m c 2 t) (ix3 s r j) = out (argM m c) (argG m c) (argW m c) s r j := by
  frame_out
  unfold_payloads
  canon_tiles x h
  all_goals
    idx_vars x
    obtain rfl : r = x1 := Fin.ext (by assumption)
    pointwise
    simp only [memory_at, gain_at, weight_at]
    unfold out
    refine Finset.sum_congr rfl fun k _ => congrArg₂ (· * ·) rfl (congrArg (fun q => argW m c (ix3 0 k q)) (Fin.ext ?_))
    dsimp only
    omega

/-- The arrays the kernel leaves. -/
theorem result (c : Dev nD) : (dats m 0 c).arrAt 3 (cfgs 0).N = fun i : S2x512x1024.Idx => out (argM m c) (argG m c) (argW m c) (i 0) (i 1) (i 2) := by
  refine (dats m 0 c).arrAt_eq_of_covers 3 _ (by decide +kernel) fun t hf (y : S2x512x1024.Idx) => ?_
  idx_vars y
  blk_simp
  have e0 : ((View.whole main_v5_0).slice (win0_3.rect t)).emb (ix3 y0 y1 y2) 0 = y0 := by apply Fin.ext; blk_simp [origin t]
  have e1 : ((View.whole main_v5_0).slice (win0_3.rect t)).emb (ix3 y0 y1 y2) 1 = y1 := by apply Fin.ext; blk_simp [origin t]
  have e2 : ((View.whole main_v5_0).slice (win0_3.rect t)).emb (ix3 y0 y1 y2) 2 = y2 := by apply Fin.ext; blk_simp [origin t]
  rw [after0_3, block, e0, e1, e2]
theorem norm_result (c : Dev nD) : (dats m 0 c).arrAt 4 (cfgs 0).N = fun i : S512x1024.Idx => norm (argM m c) (argG m c) (i 0) (i 1) := by
  refine (dats m 0 c).arrAt_eq_of_covers 4 _ (by decide +kernel) fun t hf (y : S512x1024.Idx) => ?_
  idx_vars y
  blk_simp
  have e0 : ((View.whole main_v5_1).slice (win0_4.rect t)).emb (ix2 y0 y1) 0 = y0 := by apply Fin.ext; blk_simp [origin t]
  have e1 : ((View.whole main_v5_1).slice (win0_4.rect t)).emb (ix2 y0 y1) 1 = y1 := by apply Fin.ext; blk_simp [origin t]
  rw [after0_4, norm_block, e0, e1]

open Cert.KvFwdRefIdeal.Read

theorem reference_rows (x : S2x256x1024.Idx → EReal) (g : S1x1024.Idx → EReal) (b : Fin 2) (i : Fin 256) (j : Fin 1024) :
    val_main_v13 (F := Ideal) x g (ix3 b i j) = norm x g ⟨b.val * 256 + i.val, by omega⟩ j := by
  have hb : (⟨(b.val * 256 + i.val) / 256, by omega⟩ : Fin 2) = b := Fin.ext (by dsimp only; omega)
  have hi : (⟨(b.val * 256 + i.val) % 256, by omega⟩ : Fin 256) = i := Fin.ext (by dsimp only; omega)
  unfold norm
  simp only [hb, hi]
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- The reference's results. -/
theorem reference_norm (x : S2x256x1024.Idx → EReal) (g : S1x1024.Idx → EReal) (i : S512x1024.Idx) :
    val_main_v20 (F := Ideal) x g i = norm x g (i 0) (i 1) := by
  idx_vars i
  have e : val_main_v20 (F := Ideal) x g (ix2 i0 i1) = val_main_v13 (F := Ideal) x g (ix3 ⟨i0.val / 256, by omega⟩ ⟨i0.val % 256, by omega⟩ i1) := by
    pointwise [val_main_v20, val_main_v19]
  refine (e.trans (reference_rows _ _ _ _ _)).trans (congrArg (fun q => norm x g q i1) (Fin.ext ?_))
  dsimp only
  omega
theorem reference_result (x : S2x256x1024.Idx → EReal) (g : S1x1024.Idx → EReal) (w : S1x1024x2048.Idx → EReal) (i : S2x512x1024.Idx) :
    val_main_v18 (F := Ideal) x g w i = out x g w (i 0) (i 1) (i 2) := by
  idx_vars i
  have e : val_main_v18 (F := Ideal) x g w (ix3 i0 i1 i2) = val_main_v15 (F := Ideal) x g w (ix3 ⟨i1.val / 256, by omega⟩ ⟨i1.val % 256, by omega⟩ ⟨i0.val * 1024 + i2.val, by omega⟩) := by
    pointwise [val_main_v18, val_main_v17, val_main_v16]
  have hi : (⟨i1.val / 256 * 256 + i1.val % 256, by omega⟩ : Fin 512) = i1 := Fin.ext (by dsimp only; omega)
  refine e.trans ?_
  unfold out
  pointwise [val_main_v15, val_main_v14, reference_rows]
  simp only [hi]

end Cert.KvFwdIdeal.Hand
end
-- ==== Proof.OutQFwd.lean ====
module

public import proofs.«01_k».proof.Proof.Gen.OutQFwdIdeal.Value
public import proofs.«01_k».proof.Proof.Gen.OutQFwdRefIdeal.Run
public import proofs.«01_k».proof.Proof.Gen.OutQFwdRefIdeal.Read
public import proofs.«01_k».proof.Proof.NormGrad
public import Idealize.ShloMosaic.Lib.Pipeline.ValueKit
public import Idealize.ShloMosaic.Lib.Pipeline.ReadBack
public import Idealize.ShloMosaic.Lib.Pointwise

/-! The mixer's output projection with its residual, the next norm and the query projection: the arrays the kernel leaves, and the reference's. -/

@[expose] public section

set_option maxRecDepth 16384

noncomputable section

namespace Cert.OutQFwdIdeal.Hand

open Cert.OutQFwdIdeal Cert.OutQFwdIdeal.Gen Idealize.ShloMosaic Idealize.ShloMosaic.TcCoe Idealize.SL.Sem
open Cert.NormGrad

variable (m : (ℓ : Loc nD τ sig) → Buf (Elt Ideal) ℓ)

theorem origin : ∀ t : Fin grid0.N, win0_0.index t = ![0, t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0] := by
  decide +kernel

abbrev argY (c : Dev nD) : S8192x1024.Idx → EReal := m ((c : Thread nD τ).loc main_arg0)
abbrev argW (c : Dev nD) : S1x1024x1024.Idx → EReal := m ((c : Thread nD τ).loc main_arg1)
abbrev argX (c : Dev nD) : S2x4096x1024.Idx → EReal := m ((c : Thread nD τ).loc main_arg2)
abbrev argG (c : Dev nD) : S1x1024.Idx → EReal := m ((c : Thread nD τ).loc main_arg3)
abbrev argQ (c : Dev nD) : S1x1024x1024.Idx → EReal := m ((c : Thread nD τ).loc main_arg4)

/-- Row `r` of point `t`'s block among all rows. -/
abbrev row (t : Fin cfg0.N) (r : Fin 1024) : Fin 8192 := ⟨t.val * 1024 + r.val, by have : t.val < 8 := t.isLt; omega⟩

theorem mixed_at (c : Dev nD) (t) (s : Fin 2) (r : Fin 1024) (k : Fin 512) :
    iblk m c 0 t (ix3 s r k) = argY m c (ix2 (row t r) ⟨s.val * 512 + k.val, by omega⟩) := by
  blk_ext! [iblk, V, origin t]
theorem weight_at (c : Dev nD) (t) (r k : Fin 1024) : iblk m c 1 t (ix2 r k) = argW m c (ix3 0 r k) := by
  blk_ext! [iblk, V, origin t]
theorem input_at (c : Dev nD) (t) (r k : Fin 1024) :
    iblk m c 2 t (ix2 r k) = argX m c (ix3 ⟨(row t r).val / 4096, by omega⟩ ⟨(row t r).val % 4096, by omega⟩ k) := by
  blk_ext! [iblk, V, origin t]
theorem gain_at (c : Dev nD) (t) (k : Fin 1024) : iblk m c 3 t (ix2 0 k) = argG m c (ix2 0 k) := by
  blk_ext! [iblk, V, origin t]
theorem query_at (c : Dev nD) (t) (r k : Fin 1024) : iblk m c 4 t (ix2 r k) = argQ m c (ix3 0 r k) := by
  blk_ext! [iblk, V, origin t]

section
variable (y : S8192x1024.Idx → EReal) (w : S1x1024x1024.Idx → EReal) (x : S2x4096x1024.Idx → EReal) (g : S1x1024.Idx → EReal)
  (q : S1x1024x1024.Idx → EReal) (i : Fin 8192) (j : Fin 1024)
/-- Row `i` after the residual, column `j`. -/
def res : EReal := x (ix3 ⟨i.val / 4096, by omega⟩ ⟨i.val % 4096, by omega⟩ j) + ∑ k : Fin 1024, y (ix2 i k) * w (ix3 0 k j)
/-- The norm of that row. -/
def norm : EReal := normed (fun k => res y w x i k) (fun k => g (ix2 0 k)) j
/-- The queries of that row. -/
def query : EReal := ∑ k : Fin 1024, norm y w x g i k * q (ix3 0 k j)
end

abbrev resAt (c : Dev nD) (i : Fin 8192) (j : Fin 1024) : EReal := res (argY m c) (argW m c) (argX m c) i j
abbrev normAt (c : Dev nD) (i : Fin 8192) (j : Fin 1024) : EReal := norm (argY m c) (argW m c) (argX m c) (argG m c) i j
abbrev queryAt (c : Dev nD) (i : Fin 8192) (j : Fin 1024) : EReal := query (argY m c) (argW m c) (argX m c) (argG m c) (argQ m c) i j

/-- The two slabs of columns side by side. -/
theorem mixed_rows (c : Dev nD) (t : Fin cfg0.N) (r k : Fin 1024) :
    k0_pay4 (F := Ideal) (View.ld (iblk m c 0 t) (Rect.unit ![0, 0, 0] ![1, 1024, 512] inb_S2x1024x512_S1x1024x512_0_0_0))
      (View.ld (iblk m c 0 t) (Rect.unit ![1, 0, 0] ![1, 1024, 512] inb_S2x1024x512_S1x1024x512_1_0_0)) (ix2 r k) = argY m c (ix2 (row t r) k) := by
  unfold_payloads
  pointwise
  split
  · rw [mixed_at]
    exact congrArg (fun q => argY m c (ix2 (row t r) q)) (Fin.ext (by simp))
  · rw [mixed_at]
    exact congrArg (fun q => argY m c (ix2 (row t r) q)) (Fin.ext (by simp; omega))

/-- What a point stores of the rows after the residual, in two halves of columns. -/
abbrev halves (c : Dev nD) (t : Fin cfg0.N) : List (View.Piece (Elt Ideal) S1024x1024 .f32) :=
  [⟨Rect.unit ![0, 512] ![1024, 512] inb_S1024x1024_S1024x512_0_512,
      k0_pay6 (View.ld (iblk m c 0 t) (Rect.unit ![0, 0, 0] ![1, 1024, 512] inb_S2x1024x512_S1x1024x512_0_0_0))
        (View.ld (iblk m c 0 t) (Rect.unit ![1, 0, 0] ![1, 1024, 512] inb_S2x1024x512_S1x1024x512_1_0_0))
        (View.ld (iblk m c 2 t) (Rect.unit ![0, 512] ![1024, 512] inb_S1024x1024_S1024x512_0_512))
        (View.ld (iblk m c 1 t) (Rect.unit ![0, 512] ![1024, 512] inb_S1024x1024_S1024x512_0_512))⟩,
    ⟨Rect.unit ![0, 0] ![1024, 512] inb_S1024x1024_S1024x512_0_0,
      k0_pay5 (View.ld (iblk m c 0 t) (Rect.unit ![0, 0, 0] ![1, 1024, 512] inb_S2x1024x512_S1x1024x512_0_0_0))
        (View.ld (iblk m c 0 t) (Rect.unit ![1, 0, 0] ![1, 1024, 512] inb_S2x1024x512_S1x1024x512_1_0_0))
        (View.ld (iblk m c 2 t) (Rect.unit ![0, 0] ![1024, 512] inb_S1024x1024_S1024x512_0_0))
        (View.ld (iblk m c 1 t) (Rect.unit ![0, 0] ![1024, 512] inb_S1024x1024_S1024x512_0_0))⟩]

theorem halves_at (c : Dev nD) (t : Fin cfg0.N) (r j : Fin 1024) : View.canon (halves m c t) (ix2 r j) = resAt m c (row t r) j := by
  unfold halves resAt res k0_pay5 k0_pay6
  canon_tiles x h
  all_goals
    idx_vars x
    obtain rfl : r = x0 := Fin.ext (by assumption)
    obtain ⟨j, hj⟩ := j
    dsimp only at h1
    subst h1
    pointwise
    simp only [mixed_rows, weight_at, input_at]

/-- Read again, they are the same rows. -/
theorem reread (c : Dev nD) (t : Fin cfg0.N) {κ : Kind} {sp : Space} (v : View sig κ sp S1024x1024 .f32) :
    v.readCov (halves m c t) (Rect.unit ![0, 0] ![1024, 1024] inb_S1024x1024_S1024x1024_0_0).toLoadRect
      = fun x : S1024x1024.Idx => resAt m c (row t (x 0)) (x 1) := by
  rw [View.readCov_eq_canon']
  funext (x : S1024x1024.Idx)
  idx_vars x
  have e : (Rect.unit ![0, 0] ![1024, 1024] inb_S1024x1024_S1024x1024_0_0 : Rect S1024x1024).toLoadRect.idx (ix2 x0 x1) = ix2 x0 x1 := by
    funext a
    fin_cases a <;> apply Fin.ext <;> simp [LoadRect.idx]
  exact (congrArg _ e).trans (halves_at m c t _ _)

/-- A row divided by its root mean square, times the gain. -/
theorem norm_value (f : Fin 1024 → Fin 1024 → EReal) (g : S1x1024.Idx → EReal) (r j : Fin 1024) :
    k0_pay1 (F := Ideal) (k0_pay7 (fun x : S1024x1024.Idx => f (x 0) (x 1))) g (ix2 r j) = normed (f r) (fun k => g (ix2 0 k)) j := by
  unfold_payloads
  pointwise
  rfl

theorem norm_rows (c : Dev nD) (t : Fin cfg0.N) (r j : Fin 1024) :
    k0_pay1 (F := Ideal) (k0_pay7 (fun x : S1024x1024.Idx => resAt m c (row t (x 0)) (x 1))) (iblk m c 3 t) (ix2 r j) = normAt m c (row t r) j := by
  refine (norm_value (fun i k => resAt m c (row t i) k) (iblk m c 3 t) r j).trans ?_
  simp only [gain_at]
  rfl

theorem res_block (c : Dev nD) (t : Fin cfg0.N) (r j : Fin 1024) : (outsAt0 m c t).1 (ix2 r j) = resAt m c (row t r) j := by
  unfold outsAt0
  dsimp only
  frame_out
  exact halves_at m c t r j

theorem norm_block (c : Dev nD) (t : Fin cfg0.N) (r j : Fin 1024) : (outsAt0 m c t).2.1 (ix2 r j) = normAt m c (row t r) j := by
  unfold outsAt0
  dsimp only
  frame_out
  exact (congrArg (fun f => k0_pay1 (k0_pay7 f) _ _) (reread m c t _)).trans (norm_rows m c t r j)

/-- What a point stores of the queries, from the rows after the residual. -/
abbrev queries (c : Dev nD) (t : Fin cfg0.N) (f : S1024x1024.Idx → EReal) : List (View.Piece (Elt Ideal) S1024x1024 .bf16) :=
  [⟨Rect.unit ![0, 512] ![1024, 512] inb_S1024x1024_S1024x512_0_512,
      k0_pay3 (F := Ideal) (k0_pay7 f) (iblk m c 3 t) (View.ld (iblk m c 4 t) (Rect.unit ![0, 512] ![1024, 512] inb_S1024x1024_S1024x512_0_512))⟩,
    ⟨Rect.unit ![0, 0] ![1024, 512] inb_S1024x1024_S1024x512_0_0,
      k0_pay2 (F := Ideal) (k0_pay7 f) (iblk m c 3 t) (View.ld (iblk m c 4 t) (Rect.unit ![0, 0] ![1024, 512] inb_S1024x1024_S1024x512_0_0))⟩]

theorem queries_at (c : Dev nD) (t : Fin cfg0.N) (r j : Fin 1024) :
    View.canon (queries m c t fun x : S1024x1024.Idx => resAt m c (row t (x 0)) (x 1)) (ix2 r j) = queryAt m c (row t r) j := by
  unfold queries queryAt query k0_pay3 k0_pay2
  canon_tiles x h
  all_goals
    idx_vars x
    obtain rfl : r = x0 := Fin.ext (by assumption)
    obtain ⟨j, hj⟩ := j
    dsimp only at h1
    subst h1
    pointwise
    simp only [norm_rows, query_at]

theorem query_block (c : Dev nD) (t : Fin cfg0.N) (r j : Fin 1024) : (outsAt0 m c t).2.2 (ix2 r j) = queryAt m c (row t r) j := by
  unfold outsAt0
  dsimp only
  frame_out
  exact (congrArg (fun f => View.canon (queries m c t f) (ix2 r j)) (reread m c t _)).trans (queries_at m c t r j)

/-- The arrays the kernel leaves. -/
theorem result (c : Dev nD) : (dats m 0 c).arrAt 5 (cfgs 0).N = fun i : S8192x1024.Idx => resAt m c (i 0) (i 1) := by
  refine (dats m 0 c).arrAt_eq_of_covers 5 _ (by decide +kernel) fun t hf (y : S1024x1024.Idx) => ?_
  idx_vars y
  blk_simp
  have e0 : ((View.whole main_v7_0).slice (win0_5.rect t)).emb (ix2 y0 y1) 0 = row t y0 := by apply Fin.ext; blk_simp [origin t]
  have e1 : ((View.whole main_v7_0).slice (win0_5.rect t)).emb (ix2 y0 y1) 1 = y1 := by apply Fin.ext; blk_simp [origin t]
  rw [after0_5, res_block, e0, e1]
theorem norm_result (c : Dev nD) : (dats m 0 c).arrAt 6 (cfgs 0).N = fun i : S8192x1024.Idx => normAt m c (i 0) (i 1) := by
  refine (dats m 0 c).arrAt_eq_of_covers 6 _ (by decide +kernel) fun t hf (y : S1024x1024.Idx) => ?_
  idx_vars y
  blk_simp
  have e0 : ((View.whole main_v7_1).slice (win0_6.rect t)).emb (ix2 y0 y1) 0 = row t y0 := by apply Fin.ext; blk_simp [origin t]
  have e1 : ((View.whole main_v7_1).slice (win0_6.rect t)).emb (ix2 y0 y1) 1 = y1 := by apply Fin.ext; blk_simp [origin t]
  rw [after0_6, norm_block, e0, e1]
theorem query_result (c : Dev nD) : (dats m 0 c).arrAt 7 (cfgs 0).N = fun i : S8192x1024.Idx => queryAt m c (i 0) (i 1) := by
  refine (dats m 0 c).arrAt_eq_of_covers 7 _ (by decide +kernel) fun t hf (y : S1024x1024.Idx) => ?_
  idx_vars y
  blk_simp
  have e0 : ((View.whole main_v7_2).slice (win0_7.rect t)).emb (ix2 y0 y1) 0 = row t y0 := by apply Fin.ext; blk_simp [origin t]
  have e1 : ((View.whole main_v7_2).slice (win0_7.rect t)).emb (ix2 y0 y1) 1 = y1 := by apply Fin.ext; blk_simp [origin t]
  rw [after0_7, query_block, e0, e1]

open Cert.OutQFwdRefIdeal.Read

section
variable (y : S8192x1024.Idx → EReal) (w : S1x1024x1024.Idx → EReal) (x : S2x4096x1024.Idx → EReal) (g : S1x1024.Idx → EReal)
  (q : S1x1024x1024.Idx → EReal) (i : Fin 8192) (j : Fin 1024)
theorem reference_res : val_main_v4 (F := Ideal) y w x (ix2 i j) = res y w x i j := by
  pointwise [val_main_v0, val_main_v1, val_main_v2, val_main_v3, val_main_v4]
  rfl
theorem reference_rows : val_main_v18 (F := Ideal) y w x g (ix2 i j) = norm y w x g i j := by
  unfold norm
  pointwise [val_main_v5, val_main_v6, val_main_cst, val_main_v7, val_main_v8, val_main_cst_0, val_main_v9, val_main_v10, val_main_cst_1, val_main_v11, val_main_v12, val_main_v13, val_main_v14, val_main_v15, val_main_v16, val_main_v17, val_main_v18, reference_res]
  rfl
theorem reference_norm : val_main_v19 (F := Ideal) y w x g (ix2 i j) = norm y w x g i j := by
  pointwise [val_main_v19, reference_rows]
theorem reference_query : val_main_v22 (F := Ideal) y w x g q (ix2 i j) = query y w x g q i j := by
  unfold query
  pointwise [val_main_v20, val_main_v21, val_main_v22, reference_rows]
end

end Cert.OutQFwdIdeal.Hand
end
-- ==== Proof.AttnOutFwd.lean ====
module

public import proofs.«01_k».proof.Proof.Gen.AttnOutFwdIdeal.Value
public import proofs.«01_k».proof.Proof.Gen.AttnOutFwdRefIdeal.Run
public import proofs.«01_k».proof.Proof.Gen.AttnOutFwdRefIdeal.Read
public import proofs.«01_k».proof.Proof.NormGrad
public import Idealize.ShloMosaic.Lib.Pipeline.ValueKit
public import Idealize.ShloMosaic.Lib.Pipeline.ReadBack
public import Idealize.ShloMosaic.Lib.Pointwise

/-! The attention's output projection with its residual and the next norm: the arrays the kernel leaves, and the reference's. -/

@[expose] public section

set_option maxRecDepth 16384

noncomputable section

namespace Cert.AttnOutFwdIdeal.Hand

open Cert.AttnOutFwdIdeal Cert.AttnOutFwdIdeal.Gen Idealize.ShloMosaic Idealize.ShloMosaic.TcCoe Idealize.SL.Sem
open Cert.NormGrad

variable (m : (ℓ : Loc nD τ sig) → Buf (Elt Ideal) ℓ)

theorem origin : ∀ t : Fin grid0.N, win0_0.index t = ![t.val, 0] ∧ win0_1.index t = ![0, 0] ∧ win0_2.index t = ![t.val, 0] ∧ win0_3.index t = ![0, 0]
    ∧ win0_4.index t = ![t.val, 0] ∧ win0_5.index t = ![t.val, 0] := by
  decide +kernel

abbrev argO (c : Dev nD) : S8192x1024.Idx → EReal := m ((c : Thread nD τ).loc main_arg0)
abbrev argW (c : Dev nD) : S1x1024x1024.Idx → EReal := m ((c : Thread nD τ).loc main_arg1)
abbrev argH (c : Dev nD) : S8192x1024.Idx → EReal := m ((c : Thread nD τ).loc main_arg2)
abbrev argG (c : Dev nD) : S1x1024.Idx → EReal := m ((c : Thread nD τ).loc main_arg3)

/-- Row `r` of point `t`'s block among all rows. -/
abbrev row (t : Fin cfg0.N) (r : Fin 1024) : Fin 8192 := ⟨t.val * 1024 + r.val, by have : t.val < 8 := t.isLt; omega⟩

theorem out_at (c : Dev nD) (t) (r k : Fin 1024) : iblk m c 0 t (ix2 r k) = argO m c (ix2 (row t r) k) := by
  blk_ext! [iblk, V, origin t]
theorem weight_at (c : Dev nD) (t) (r k : Fin 1024) : iblk m c 1 t (ix2 r k) = argW m c (ix3 0 r k) := by
  blk_ext! [iblk, V, origin t]
theorem input_at (c : Dev nD) (t) (r k : Fin 1024) : iblk m c 2 t (ix2 r k) = argH m c (ix2 (row t r) k) := by
  blk_ext! [iblk, V, origin t]
theorem gain_at (c : Dev nD) (t) (k : Fin 1024) : iblk m c 3 t (ix2 0 k) = argG m c (ix2 0 k) := by
  blk_ext! [iblk, V, origin t]

section
variable (o : S8192x1024.Idx → EReal) (w : S1x1024x1024.Idx → EReal) (h : S8192x1024.Idx → EReal) (g : S1x1024.Idx → EReal) (i : Fin 8192) (j : Fin 1024)
/-- Row `i` after the residual, column `j`. -/
def res : EReal := h (ix2 i j) + ∑ k : Fin 1024, o (ix2 i k) * w (ix3 0 k j)
/-- The norm of that row. -/
def norm : EReal := normed (fun k => res o w h i k) (fun k => g (ix2 0 k)) j
end

abbrev resAt (c : Dev nD) (i : Fin 8192) (j : Fin 1024) : EReal := res (argO m c) (argW m c) (argH m c) i j

/-- What a point stores of the rows after the residual, in two halves of columns. -/
abbrev halves (c : Dev nD) (t : Fin cfg0.N) : List (View.Piece (Elt Ideal) S1024x1024 .f32) :=
  [⟨Rect.unit ![0, 512] ![1024, 512] inb_S1024x1024_S1024x512_0_512,
      k0_pay2 (iblk m c 0 t) (View.ld (iblk m c 2 t) (Rect.unit ![0, 512] ![1024, 512] inb_S1024x1024_S1024x512_0_512))
        (View.ld (iblk m c 1 t) (Rect.unit ![0, 512] ![1024, 512] inb_S1024x1024_S1024x512_0_512))⟩,
    ⟨Rect.unit ![0, 0] ![1024, 512] inb_S1024x1024_S1024x512_0_0,
      k0_pay1 (iblk m c 0 t) (View.ld (iblk m c 2 t) (Rect.unit ![0, 0] ![1024, 512] inb_S1024x1024_S1024x512_0_0))
        (View.ld (iblk m c 1 t) (Rect.unit ![0, 0] ![1024, 512] inb_S1024x1024_S1024x512_0_0))⟩]

theorem halves_at (c : Dev nD) (t : Fin cfg0.N) (r j : Fin 1024) : View.canon (halves m c t) (ix2 r j) = resAt m c (row t r) j := by
  unfold halves resAt res
  unfold_payloads
  canon_tiles x h
  all_goals
    idx_vars x
    obtain rfl : r = x0 := Fin.ext (by assumption)
    obtain ⟨j, hj⟩ := j
    dsimp only at h1
    subst h1
    pointwise
    simp only [out_at, weight_at, input_at]

/-- Read again, they are the same rows. -/
theorem reread (c : Dev nD) (t : Fin cfg0.N) {κ : Kind} {sp : Space} (v : View sig κ sp S1024x1024 .f32) :
    v.readCov (halves m c t) (Rect.unit ![0, 0] ![1024, 1024] inb_S1024x1024_S1024x1024_0_0).toLoadRect
      = fun x : S1024x1024.Idx => resAt m c (row t (x 0)) (x 1) := by
  rw [View.readCov_eq_canon']
  funext (x : S1024x1024.Idx)
  idx_vars x
  have e : (Rect.unit ![0, 0] ![1024, 1024] inb_S1024x1024_S1024x1024_0_0 : Rect S1024x1024).toLoadRect.idx (ix2 x0 x1) = ix2 x0 x1 := by
    funext a
    fin_cases a <;> apply Fin.ext <;> simp [LoadRect.idx]
  exact (congrArg _ e).trans (halves_at m c t _ _)

theorem res_block (c : Dev nD) (t : Fin cfg0.N) (r j : Fin 1024) :
    (outsAt0 m c t).1 (ix2 r j) = resAt m c (row t r) j := by
  unfold outsAt0
  dsimp only
  frame_out
  exact halves_at m c t r j

theorem norm_value (f : Fin 1024 → Fin 1024 → EReal) (g : S1x1024.Idx → EReal) (r j : Fin 1024) :
    k0_pay3 (F := Ideal) (fun x : S1024x1024.Idx => f (x 0) (x 1)) g (ix2 r j) = normed (f r) (fun k => g (ix2 0 k)) j := by
  unfold k0_pay3
  pointwise
  rfl

theorem norm_block (c : Dev nD) (t : Fin cfg0.N) (r j : Fin 1024) :
    (outsAt0 m c t).2 (ix2 r j) = norm (argO m c) (argW m c) (argH m c) (argG m c) (row t r) j := by
  unfold outsAt0
  dsimp only
  frame_out
  refine ((congrArg (fun f => k0_pay3 f _ _) (reread m c t _)).trans (norm_value (fun i k => resAt m c (row t i) k) (iblk m c 3 t) r j)).trans ?_
  simp only [gain_at]
  rfl

/-- The arrays the kernel leaves. -/
theorem result (c : Dev nD) : (dats m 0 c).arrAt 4 (cfgs 0).N = fun i : S8192x1024.Idx => resAt m c (i 0) (i 1) := by
  refine (dats m 0 c).arrAt_eq_of_covers 4 _ (by decide +kernel) fun t hf (y : S1024x1024.Idx) => ?_
  idx_vars y
  blk_simp
  have e0 : ((View.whole main_v2_0).slice (win0_4.rect t)).emb (ix2 y0 y1) 0 = row t y0 := by apply Fin.ext; blk_simp [origin t]
  have e1 : ((View.whole main_v2_0).slice (win0_4.rect t)).emb (ix2 y0 y1) 1 = y1 := by apply Fin.ext; blk_simp [origin t]
  rw [after0_4, res_block, e0, e1]
theorem norm_result (c : Dev nD) : (dats m 0 c).arrAt 5 (cfgs 0).N = fun i : S8192x1024.Idx => norm (argO m c) (argW m c) (argH m c) (argG m c) (i 0) (i 1) := by
  refine (dats m 0 c).arrAt_eq_of_covers 5 _ (by decide +kernel) fun t hf (y : S1024x1024.Idx) => ?_
  idx_vars y
  blk_simp
  have e0 : ((View.whole main_v2_1).slice (win0_5.rect t)).emb (ix2 y0 y1) 0 = row t y0 := by apply Fin.ext; blk_simp [origin t]
  have e1 : ((View.whole main_v2_1).slice (win0_5.rect t)).emb (ix2 y0 y1) 1 = y1 := by apply Fin.ext; blk_simp [origin t]
  rw [after0_5, norm_block, e0, e1]

open Cert.AttnOutFwdRefIdeal.Read

section
variable (o : S8192x1024.Idx → EReal) (w : S1x1024x1024.Idx → EReal) (h : S8192x1024.Idx → EReal) (g : S1x1024.Idx → EReal) (i : Fin 8192) (j : Fin 1024)
theorem reference_res : val_main_v3 (F := Ideal) o w h (ix2 i j) = res o w h i j := by
  pointwise [val_main_v0, val_main_v1, val_main_v2, val_main_v3]
  rfl
theorem reference_rows : val_main_v18 (F := Ideal) o w h g (ix2 i j) = norm o w h g i j := by
  unfold norm
  pointwise [val_main_v4, val_main_v5, val_main_cst, val_main_v6, val_main_v7, val_main_cst_0, val_main_v8, val_main_v9, val_main_cst_1, val_main_v10, val_main_v11, val_main_v12, val_main_v13, val_main_v14, val_main_v15, val_main_v16, val_main_v17, val_main_v18, reference_res]
  rfl
end

end Cert.AttnOutFwdIdeal.Hand
end
-- ==== Proof.AttnBwdRef.lean ====
module

public import proofs.«01_k».proof.Proof.AttnBwd

/-! The attention's gradients, as the reference computes them. -/

@[expose] public section

set_option maxRecDepth 16384

noncomputable section

namespace Cert.AttnBwdIdeal.Hand

open Cert.AttnBwdIdeal Cert.AttnBwdIdeal.Gen Idealize.ShloMosaic Idealize.ShloMosaic.TcCoe Idealize.SL.Sem
open Cert.NormGrad

variable (m : (ℓ : Loc nD τ sig) → Buf (Elt Ideal) ℓ)

open Cert.AttnBwdRefIdeal.Read

/-- A maximum over the keys, from a starting value. -/
theorem max_keys (V : (AttnBwdRefIdeal.S2x4x4096x256 : Shape).Idx → EReal) (z : (AttnBwdRefIdeal.S_ : Shape).Idx → EReal) (b : Fin 2) (e : Fin 4) (x : Fin 4096) :
    Host.reduce (FloatOps.maximumf : Ideal FTy.f32 → Ideal FTy.f32 → Ideal FTy.f32) V z AttnBwdRefIdeal.Gen.reducesTo_S2x4x4096x256_S2x4x4096_d3 AttnBwdRefIdeal.Gen.h_S_ (ix3 b e x)
      = Finset.fold max (z (Shape.Idx.first (by decide))) (fun n : Fin 256 => V (ix4 b e x n)) Finset.univ := by
  pointwise

section
variable (c : Dev nD) (b : Fin 2) (e : Fin 4) (x : Fin 4096) (n d : Fin 256)

abbrev queryOf (b : Fin 2) (x : Fin 4096) : Fin 8192 := ⟨b.val * 4096 + x.val, by omega⟩
theorem first_le (e : Fin 4) : e.val * 256 ≤ 768 := by omega

theorem reference_q : val_main_v2 (F := Ideal) (argQ m c) (ix4 b x e d) = argQ m c (ix2 (queryOf b x) ⟨e.val * 256 + d.val, by omega⟩) := by
  pointwise [val_main_v2, val_main_v0]
theorem reference_o : val_main_v42 (F := Ideal) (argO m c) (ix4 b x e d) = argO m c (ix2 (queryOf b x) ⟨e.val * 256 + d.val, by omega⟩) := by
  pointwise [val_main_v42, val_main_v41]
theorem reference_k : val_main_v5 (F := Ideal) (argM m c) (ix4 b n e d) = argM m c (ix3 b n ⟨e.val * 256 + d.val, by omega⟩) := by
  pointwise [val_main_v5, val_main_v3, val_main_v1]
theorem reference_v : val_main_v6 (F := Ideal) (argM m c) (ix4 b n e d) = argM m c (ix3 b n ⟨1024 + (e.val * 256 + d.val), by omega⟩) := by
  pointwise [val_main_v6, val_main_v4, val_main_v1]

theorem reference_score : val_main_v9 (F := Ideal) (argQ m c) (argM m c) (ix4 b e x n) = scoreOf m c (e.val * 256) (first_le e) b (queryOf b x) n := by
  pointwise [val_main_v9, val_main_v8, val_main_v7, val_main_cst, reference_q, reference_k]
  exact Softmax.div_sixteen _
theorem lowest_first : Softmax.lowest = val_main_cst_0 (F := Ideal) (Shape.Idx.first (by decide)) := by
  unfold val_main_cst_0; pointwise
theorem reference_max (q k) : val_main_v10 (F := Ideal) q k = Host.reduce (FloatOps.maximumf : Ideal FTy.f32 → Ideal FTy.f32 → Ideal FTy.f32) (val_main_v9 (F := Ideal) q k) (val_main_cst_0 (F := Ideal)) AttnBwdRefIdeal.Gen.reducesTo_S2x4x4096x256_S2x4x4096_d3 AttnBwdRefIdeal.Gen.h_S_  := rfl
theorem reference_fold : val_main_v10 (F := Ideal) (argQ m c) (argM m c) (ix3 b e x) = Finset.fold max (val_main_cst_0 (F := Ideal) (Shape.Idx.first (by decide))) (fun n : Fin 256 => val_main_v9 (F := Ideal) (argQ m c) (argM m c) (ix4 b e x n)) Finset.univ := by
  rw [reference_max, max_keys]

theorem reference_fold_scores : val_main_v10 (F := Ideal) (argQ m c) (argM m c) (ix3 b e x) = Finset.fold max Softmax.lowest (fun n : Fin 256 => val_main_v9 (F := Ideal) (argQ m c) (argM m c) (ix4 b e x n)) Finset.univ :=
  (reference_fold m c b e x).trans (congrArg (fun z => Finset.fold max z (fun n : Fin 256 => val_main_v9 (F := Ideal) (argQ m c) (argM m c) (ix4 b e x n)) Finset.univ) lowest_first.symm)
theorem reference_top : val_main_v10 (F := Ideal) (argQ m c) (argM m c) (ix3 b e x) = Finset.fold max Softmax.lowest (scoreOf m c (e.val * 256) (first_le e) b (queryOf b x)) Finset.univ :=
  (reference_fold_scores m c b e x).trans (congrArg (fun f => Finset.fold max Softmax.lowest f Finset.univ) (funext fun n => reference_score m c b e x n))
theorem max_fold (z : EReal) (f : Fin 256 → EReal) : max z (Finset.fold max z f Finset.univ) = Finset.fold max z f Finset.univ :=
  max_eq_right ((Finset.le_fold_max _).mpr (Or.inl le_rfl))
theorem reference_lowest : val_main_v16 (F := Ideal) (ix3 b e x) = Softmax.lowest := by
  pointwise [val_main_v16, val_main_cst_2]
theorem maximum_eq (u v w : EReal) (hu : u = w) (z : EReal) (hv : v = z) : (FloatOps.maximumf (F := Ideal) (φ := FTy.f32) u v : EReal) = max w z := by
  subst hu hv; rfl
theorem reference_top' : val_main_v17 (F := Ideal) (argQ m c) (argM m c) (ix3 b e x) = Finset.fold max Softmax.lowest (scoreOf m c (e.val * 256) (first_le e) b (queryOf b x)) Finset.univ :=
  ((val_main_v17_apply (F := Ideal) (argQ m c) (argM m c) (ix3 b e x)).trans (maximum_eq _ _ _ (reference_lowest b e x) _ (reference_top m c b e x))).trans (max_fold _ _)
theorem reference_weight : val_main_v30 (F := Ideal) (argQ m c) (argM m c) (ix4 b e x n) = Softmax.weight (scoreOf m c (e.val * 256) (first_le e) b (queryOf b x)) n := by
  pointwise [val_main_v30, val_main_v29, val_main_v28, val_main_v27, reference_score, reference_top']
  rfl
theorem reference_total : val_main_v32 (F := Ideal) (argQ m c) (argM m c) (ix4 b e x 0) = Softmax.total (scoreOf m c (e.val * 256) (first_le e) b (queryOf b x)) := by
  pointwise [val_main_v32, val_main_v31, val_main_cst_8, reference_weight]
  rfl
theorem reference_dp : val_main_v44 (F := Ideal) (argM m c) (argO m c) (ix4 b e x n) = shareGrad m c (e.val * 256) (first_le e) b (queryOf b x) n := by
  pointwise [val_main_v44, val_main_v43, reference_o, reference_v]

theorem score_finite (hq : ∀ i, argQ m c i ≠ ⊤ ∧ argQ m c i ≠ ⊥) (hm : ∀ i, argM m c i ≠ ⊤ ∧ argM m c i ≠ ⊥) (h : ℕ) (hh : h ≤ 768) (i : Fin 8192) :
    Finite (scoreOf m c h hh b i) := Softmax.scores_finite (.at fun _ => hq _) fun _ => .at fun _ => hm _

variable (hq : ∀ i, argQ m c i ≠ ⊤ ∧ argQ m c i ≠ ⊥) (hm : ∀ i, argM m c i ≠ ⊤ ∧ argM m c i ≠ ⊥) (ho : ∀ i, argO m c i ≠ ⊤ ∧ argO m c i ≠ ⊥)

include hq hm in
theorem reference_share : val_main_v34 (F := Ideal) (argQ m c) (argM m c) (ix4 b e x n) = share m c (e.val * 256) (first_le e) b (queryOf b x) n := by
  pointwise [val_main_v34, val_main_v33, reference_weight, reference_total]
  exact Softmax.prob_eq (score_finite m c b hq hm _ _ _) _
include hq hm ho in
theorem reference_grad : val_main_v60 (F := Ideal) (argQ m c) (argM m c) (argO m c) (ix4 b e x n) = scoreGrad m c (e.val * 256) (first_le e) b (queryOf b x) n := by
  pointwise [val_main_v60, val_main_v59, val_main_v58, val_main_v57, val_main_v56, val_main_v55, val_main_v54, val_main_v53, val_main_v52, val_main_v51, val_main_v50,
    val_main_v49, val_main_v48, val_main_v47, val_main_v37, val_main_v36, val_main_v35, val_main_cst_9, val_main_cst_10, val_main_cst_11, val_main_cst_12,
    reference_weight, reference_total, reference_dp]
  rw [Fin.sum_univ_one]
  exact Softmax.dscore_eq (score_finite m c b hq hm _ _ _) (Finite.dot (a := fun d : Fin 256 => argO m c (ix2 (queryOf b x) ⟨e.val * 256 + d.val, by omega⟩))
    (b := fun (n d : Fin 256) => argM m c (ix3 b n ⟨1024 + (e.val * 256 + d.val), by omega⟩)) (.at fun _ => ho _) fun _ => .at fun _ => hm _) _

include hq hm ho in
theorem reference_dq (i : S8192x1024.Idx) : val_main_v69 (F := Ideal) (argQ m c) (argM m c) (argO m c) i = dqAt m c (seqRow (i 0)) (i 0) (i 1) := by
  idx_vars i
  pointwise [val_main_v69, val_main_v68, val_main_v64, val_main_v63, reference_k]
  simp only [reference_grad m c _ _ _ _ hq hm ho]
  unfold dqAt
  refine Finset.sum_congr rfl fun n _ => ?_
  have hx : queryOf ⟨i0.val / 4096, by omega⟩ ⟨i0.val % 4096, by omega⟩ = i0 := by apply Fin.ext; dsimp only; omega
  have hj : (⟨i1.val / 256 * 256 + i1.val % 256, by omega⟩ : Fin 2048) = ⟨i1.val, by omega⟩ := by apply Fin.ext; dsimp only; omega
  rw [hx, hj]
  rfl
include hq hm ho in
theorem reference_dk (j : Fin 1024) : val_main_v62 (F := Ideal) (argQ m c) (argM m c) (argO m c) (ix4 b n ⟨j.val / 256, by omega⟩ ⟨j.val % 256, by omega⟩) = dkvAll m c b 0 n j := by
  pointwise [val_main_v62, val_main_v61, reference_q]
  simp only [reference_grad m c _ _ _ _ hq hm ho]
  unfold dkvAll dkvAt
  simp only [if_pos]
  refine Finset.sum_congr rfl fun x _ => ?_
  have hj : (⟨j.val / 256 * 256 + j.val % 256, by omega⟩ : Fin 1024) = j := by apply Fin.ext; dsimp only; omega
  rw [hj]
include hq hm in
theorem reference_dv (j : Fin 1024) : val_main_v46 (F := Ideal) (argQ m c) (argM m c) (argO m c) (ix4 b n ⟨j.val / 256, by omega⟩ ⟨j.val % 256, by omega⟩) = dkvAll m c b 1 n j := by
  pointwise [val_main_v46, val_main_v45, val_main_v43, reference_o]
  simp only [reference_share m c _ _ _ _ hq hm]
  unfold dkvAll dkvAt
  simp only [if_neg one_ne_zero]
  refine Finset.sum_congr rfl fun x _ => ?_
  have hj : (⟨j.val / 256 * 256 + j.val % 256, by omega⟩ : Fin 1024) = j := by apply Fin.ext; dsimp only; omega
  rw [hj]
  exact mul_comm _ _
include hq hm ho in
theorem reference_dkv (i : S2x512x1024.Idx) : val_main_v71 (F := Ideal) (argQ m c) (argM m c) (argO m c) i
    = dkvAll m c (keySeq (i 1)) (Fin.val (i 0 : Fin 2)) (keyRow (i 1)) (i 2) := by
  idx_vars i
  pointwise [val_main_v71, val_main_v70, val_main_v67, val_main_v66, val_main_v65]
  by_cases h : i0.val = 0
  · rw [dif_pos (by omega)]
    obtain rfl : i0 = 0 := Fin.ext h
    have hj : (0 : Fin 2).val * 1024 + i2.val = i2.val := by simp
    simp only [hj]
    exact reference_dk m c _ _ hq hm ho i2
  · rw [dif_neg (by omega)]
    obtain rfl : i0 = 1 := Fin.ext (by have := i0.isLt; omega)
    have hj : (1 : Fin 2).val * 1024 + i2.val - 1024 = i2.val := by simp
    simp only [hj]
    exact reference_dv m c _ _ hq hm i2
end

end Cert.AttnBwdIdeal.Hand

end
-- ==== Proof.lean ====
module

public import proofs.«01_k».proof.Defs
public import proofs.«01_k».proof.Proof.Gen.KvBwd
public import proofs.«01_k».proof.Proof.Gen.KvBwd.Skeleton
public import proofs.«01_k».proof.Proof.Gen.KvBwd.Launch
public import proofs.«01_k».proof.Proof.Gen.KvBwd.Points
public import proofs.«01_k».proof.Proof.Gen.KvBwd.Frame
public import proofs.«01_k».proof.Proof.Gen.KvBwdIdeal
public import proofs.«01_k».proof.Proof.Gen.KvBwdIdeal.Skeleton
public import proofs.«01_k».proof.Proof.Gen.KvBwdIdeal.Launch
public import proofs.«01_k».proof.Proof.Gen.KvBwdIdeal.Points
public import proofs.«01_k».proof.Proof.Gen.KvBwdIdeal.Frame
public import proofs.«01_k».proof.Proof.Gen.KvBwdRefIdeal
public import proofs.«01_k».proof.Proof.Gen.KvBwdIdeal.Value
public import proofs.«01_k».proof.Proof.Gen.KvBwdRefIdeal.Run
public import proofs.«01_k».proof.Proof.Gen.KvBwdRefIdeal.Read
public import proofs.«01_k».proof.Proof.KvBwd
public import proofs.«01_k».proof.Proof.Gen.QBwd
public import proofs.«01_k».proof.Proof.Gen.QBwd.Skeleton
public import proofs.«01_k».proof.Proof.Gen.QBwd.Launch
public import proofs.«01_k».proof.Proof.Gen.QBwd.Points
public import proofs.«01_k».proof.Proof.Gen.QBwd.Frame
public import proofs.«01_k».proof.Proof.Gen.QBwdIdeal
public import proofs.«01_k».proof.Proof.Gen.QBwdIdeal.Skeleton
public import proofs.«01_k».proof.Proof.Gen.QBwdIdeal.Launch
public import proofs.«01_k».proof.Proof.Gen.QBwdIdeal.Points
public import proofs.«01_k».proof.Proof.Gen.QBwdIdeal.Frame
public import proofs.«01_k».proof.Proof.Gen.QBwdRefIdeal
public import proofs.«01_k».proof.Proof.Gen.QBwdIdeal.Value
public import proofs.«01_k».proof.Proof.Gen.QBwdRefIdeal.Run
public import proofs.«01_k».proof.Proof.Gen.QBwdRefIdeal.Read
public import proofs.«01_k».proof.Proof.QBwd
public import proofs.«01_k».proof.Proof.Gen.UpBwd
public import proofs.«01_k».proof.Proof.Gen.UpBwd.Skeleton
public import proofs.«01_k».proof.Proof.Gen.UpBwd.Launch
public import proofs.«01_k».proof.Proof.Gen.UpBwd.Points
public import proofs.«01_k».proof.Proof.Gen.UpBwd.Frame
public import proofs.«01_k».proof.Proof.Gen.UpBwdIdeal
public import proofs.«01_k».proof.Proof.Gen.UpBwdIdeal.Skeleton
public import proofs.«01_k».proof.Proof.Gen.UpBwdIdeal.Launch
public import proofs.«01_k».proof.Proof.Gen.UpBwdIdeal.Points
public import proofs.«01_k».proof.Proof.Gen.UpBwdIdeal.Frame
public import proofs.«01_k».proof.Proof.Gen.UpBwdRefIdeal
public import proofs.«01_k».proof.Proof.Gen.UpBwdIdeal.Value
public import proofs.«01_k».proof.Proof.Gen.UpBwdRefIdeal.Run
public import proofs.«01_k».proof.Proof.Gen.UpBwdRefIdeal.Read
public import proofs.«01_k».proof.Proof.UpBwd
public import proofs.«01_k».proof.Proof.Gen.InBwd
public import proofs.«01_k».proof.Proof.Gen.InBwd.Skeleton
public import proofs.«01_k».proof.Proof.Gen.InBwd.Launch
public import proofs.«01_k».proof.Proof.Gen.InBwd.Points
public import proofs.«01_k».proof.Proof.Gen.InBwd.Frame
public import proofs.«01_k».proof.Proof.Gen.InBwdIdeal
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InBwdIdeal.Frame
public import proofs.«01_k».proof.Proof.Gen.InBwdRefIdeal
public import proofs.«01_k».proof.Proof.Gen.InBwdIdeal.Value
public import proofs.«01_k».proof.Proof.Gen.InBwdRefIdeal.Run
public import proofs.«01_k».proof.Proof.Gen.InBwdRefIdeal.Read
public import proofs.«01_k».proof.Proof.InBwd
public import proofs.«01_k».proof.Proof.Gen.LossBwd
public import proofs.«01_k».proof.Proof.Gen.LossBwd.Skeleton
public import proofs.«01_k».proof.Proof.Gen.LossBwd.Launch
public import proofs.«01_k».proof.Proof.Gen.LossBwd.Points
public import proofs.«01_k».proof.Proof.Gen.LossBwd.Frame
public import proofs.«01_k».proof.Proof.Gen.LossBwdIdeal
public import proofs.«01_k».proof.Proof.Gen.LossBwdIdeal.Skeleton
public import proofs.«01_k».proof.Proof.Gen.LossBwdIdeal.Launch
public import proofs.«01_k».proof.Proof.Gen.LossBwdIdeal.Points
public import proofs.«01_k».proof.Proof.Gen.LossBwdIdeal.Frame
public import proofs.«01_k».proof.Proof.Gen.LossBwdRefIdeal
public import proofs.«01_k».proof.Proof.Gen.LossBwdIdeal.Value
public import proofs.«01_k».proof.Proof.Gen.LossBwdRefIdeal.Run
public import proofs.«01_k».proof.Proof.Gen.LossBwdRefIdeal.Read
public import proofs.«01_k».proof.Proof.LossBwd
public import proofs.«01_k».proof.Proof.Gen.AttnBwd
public import proofs.«01_k».proof.Proof.Gen.AttnBwd.Skeleton
public import proofs.«01_k».proof.Proof.Gen.AttnBwd.Launch
public import proofs.«01_k».proof.Proof.Gen.AttnBwd.Points
public import proofs.«01_k».proof.Proof.Gen.AttnBwd.Frame
public import proofs.«01_k».proof.Proof.Gen.AttnBwdIdeal
public import proofs.«01_k».proof.Proof.Gen.AttnBwdIdeal.Skeleton
public import proofs.«01_k».proof.Proof.Gen.AttnBwdIdeal.Launch
public import proofs.«01_k».proof.Proof.Gen.AttnBwdIdeal.Points
public import proofs.«01_k».proof.Proof.Gen.AttnBwdIdeal.Frame
public import proofs.«01_k».proof.Proof.Gen.AttnBwdRefIdeal
public import proofs.«01_k».proof.Proof.Gen.AttnBwdIdeal.Value
public import proofs.«01_k».proof.Proof.Gen.AttnBwdRefIdeal.Run
public import proofs.«01_k».proof.Proof.Gen.AttnBwdRefIdeal.Read
public import proofs.«01_k».proof.Proof.AttnBwd
public import proofs.«01_k».proof.Proof.Gen.ReluBwd
public import proofs.«01_k».proof.Proof.Gen.ReluBwd.Skeleton
public import proofs.«01_k».proof.Proof.Gen.ReluBwd.Launch
public import proofs.«01_k».proof.Proof.Gen.ReluBwd.Points
public import proofs.«01_k».proof.Proof.Gen.ReluBwd.Frame
public import proofs.«01_k».proof.Proof.Gen.ReluBwdIdeal
public import proofs.«01_k».proof.Proof.Gen.ReluBwdIdeal.Skeleton
public import proofs.«01_k».proof.Proof.Gen.ReluBwdIdeal.Launch
public import proofs.«01_k».proof.Proof.Gen.ReluBwdIdeal.Points
public import proofs.«01_k».proof.Proof.Gen.ReluBwdIdeal.Frame
public import proofs.«01_k».proof.Proof.Gen.ReluBwdRefIdeal
public import proofs.«01_k».proof.Proof.Gen.ReluBwdIdeal.Value
public import proofs.«01_k».proof.Proof.Gen.ReluBwdRefIdeal.Run
public import proofs.«01_k».proof.Proof.Gen.ReluBwdRefIdeal.Read
public import proofs.«01_k».proof.Proof.ReluBwd
public import proofs.«01_k».proof.Proof.Gen.ReluFwd
public import proofs.«01_k».proof.Proof.Gen.ReluFwd.Skeleton
public import proofs.«01_k».proof.Proof.Gen.ReluFwd.Launch
public import proofs.«01_k».proof.Proof.Gen.ReluFwd.Points
public import proofs.«01_k».proof.Proof.Gen.ReluFwd.Frame
public import proofs.«01_k».proof.Proof.Gen.ReluFwdIdeal
public import proofs.«01_k».proof.Proof.Gen.ReluFwdIdeal.Skeleton
public import proofs.«01_k».proof.Proof.Gen.ReluFwdIdeal.Launch
public import proofs.«01_k».proof.Proof.Gen.ReluFwdIdeal.Points
public import proofs.«01_k».proof.Proof.Gen.ReluFwdIdeal.Frame
public import proofs.«01_k».proof.Proof.Gen.ReluFwdRefIdeal
public import proofs.«01_k».proof.Proof.Gen.ReluFwdIdeal.Value
public import proofs.«01_k».proof.Proof.Gen.ReluFwdRefIdeal.Run
public import proofs.«01_k».proof.Proof.Gen.ReluFwdRefIdeal.Read
public import proofs.«01_k».proof.Proof.ReluFwd
public import proofs.«01_k».proof.Proof.Gen.AttnFwd
public import proofs.«01_k».proof.Proof.Gen.AttnFwd.Skeleton
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdRefIdeal
public import proofs.«01_k».proof.Proof.Gen.AttnFwdIdeal.Value
public import proofs.«01_k».proof.Proof.Gen.AttnFwdRefIdeal.Run
public import proofs.«01_k».proof.Proof.Gen.AttnFwdRefIdeal.Read
public import proofs.«01_k».proof.Proof.AttnFwd
public import proofs.«01_k».proof.Proof.Gen.PreFwd
public import proofs.«01_k».proof.Proof.Gen.PreFwd.Skeleton
public import proofs.«01_k».proof.Proof.Gen.PreFwd.Launch
public import proofs.«01_k».proof.Proof.Gen.PreFwd.Points
public import proofs.«01_k».proof.Proof.Gen.PreFwd.Frame
public import proofs.«01_k».proof.Proof.Gen.PreFwdIdeal
public import proofs.«01_k».proof.Proof.Gen.PreFwdIdeal.Skeleton
public import proofs.«01_k».proof.Proof.Gen.PreFwdIdeal.Launch
public import proofs.«01_k».proof.Proof.Gen.PreFwdIdeal.Points
public import proofs.«01_k».proof.Proof.Gen.PreFwdIdeal.Frame
public import proofs.«01_k».proof.Proof.Gen.PreFwdRefIdeal
public import proofs.«01_k».proof.Proof.Gen.PreFwdIdeal.Value
public import proofs.«01_k».proof.Proof.Gen.PreFwdRefIdeal.Run
public import proofs.«01_k».proof.Proof.Gen.PreFwdRefIdeal.Read
public import proofs.«01_k».proof.Proof.PreFwd
public import proofs.«01_k».proof.Proof.Gen.KvFwd
public import proofs.«01_k».proof.Proof.Gen.KvFwd.Skeleton
public import proofs.«01_k».proof.Proof.Gen.KvFwd.Launch
public import proofs.«01_k».proof.Proof.Gen.KvFwd.Points
public import proofs.«01_k».proof.Proof.Gen.KvFwd.Frame
public import proofs.«01_k».proof.Proof.Gen.KvFwdIdeal
public import proofs.«01_k».proof.Proof.Gen.KvFwdIdeal.Skeleton
public import proofs.«01_k».proof.Proof.Gen.KvFwdIdeal.Launch
public import proofs.«01_k».proof.Proof.Gen.KvFwdIdeal.Points
public import proofs.«01_k».proof.Proof.Gen.KvFwdIdeal.Frame
public import proofs.«01_k».proof.Proof.Gen.KvFwdRefIdeal
public import proofs.«01_k».proof.Proof.Gen.KvFwdIdeal.Value
public import proofs.«01_k».proof.Proof.Gen.KvFwdRefIdeal.Run
public import proofs.«01_k».proof.Proof.Gen.KvFwdRefIdeal.Read
public import proofs.«01_k».proof.Proof.KvFwd
public import proofs.«01_k».proof.Proof.Gen.OutQFwd
public import proofs.«01_k».proof.Proof.Gen.OutQFwd.Skeleton
public import proofs.«01_k».proof.Proof.Gen.OutQFwd.Launch
public import proofs.«01_k».proof.Proof.Gen.OutQFwd.Points
public import proofs.«01_k».proof.Proof.Gen.OutQFwd.Frame
public import proofs.«01_k».proof.Proof.Gen.OutQFwdIdeal
public import proofs.«01_k».proof.Proof.Gen.OutQFwdIdeal.Skeleton
public import proofs.«01_k».proof.Proof.Gen.OutQFwdIdeal.Launch
public import proofs.«01_k».proof.Proof.Gen.OutQFwdIdeal.Points
public import proofs.«01_k».proof.Proof.Gen.OutQFwdIdeal.Frame
public import proofs.«01_k».proof.Proof.Gen.OutQFwdRefIdeal
public import proofs.«01_k».proof.Proof.Gen.OutQFwdIdeal.Value
public import proofs.«01_k».proof.Proof.Gen.OutQFwdRefIdeal.Run
public import proofs.«01_k».proof.Proof.Gen.OutQFwdRefIdeal.Read
public import proofs.«01_k».proof.Proof.OutQFwd
public import proofs.«01_k».proof.Proof.Gen.AttnOutFwd
public import proofs.«01_k».proof.Proof.Gen.AttnOutFwd.Skeleton
public import proofs.«01_k».proof.Proof.Gen.AttnOutFwd.Launch
public import proofs.«01_k».proof.Proof.Gen.AttnOutFwd.Points
public import proofs.«01_k».proof.Proof.Gen.AttnOutFwd.Frame
public import proofs.«01_k».proof.Proof.Gen.AttnOutFwdIdeal
public import proofs.«01_k».proof.Proof.Gen.AttnOutFwdIdeal.Skeleton
public import proofs.«01_k».proof.Proof.Gen.AttnOutFwdIdeal.Launch
public import proofs.«01_k».proof.Proof.Gen.AttnOutFwdIdeal.Points
public import proofs.«01_k».proof.Proof.Gen.AttnOutFwdIdeal.Frame
public import proofs.«01_k».proof.Proof.Gen.AttnOutFwdRefIdeal
public import proofs.«01_k».proof.Proof.Gen.AttnOutFwdIdeal.Value
public import proofs.«01_k».proof.Proof.Gen.AttnOutFwdRefIdeal.Run
public import proofs.«01_k».proof.Proof.Gen.AttnOutFwdRefIdeal.Read
public import proofs.«01_k».proof.Proof.AttnOutFwd
public import proofs.«01_k».proof.Proof.Gen.MixPool
public import proofs.«01_k».proof.Proof.Gen.MixPool.Skeleton
public import proofs.«01_k».proof.Proof.Gen.MixPool.Launch
public import proofs.«01_k».proof.Proof.Gen.MixPool.Points
public import proofs.«01_k».proof.Proof.Gen.MixPool.Frame
public import proofs.«01_k».proof.Proof.Gen.MixPoolIdeal
public import proofs.«01_k».proof.Proof.Gen.MixPoolIdeal.Skeleton
public import proofs.«01_k».proof.Proof.Gen.MixPoolIdeal.Launch
public import proofs.«01_k».proof.Proof.Gen.MixPoolIdeal.Points
public import proofs.«01_k».proof.Proof.Gen.MixPoolIdeal.Frame
public import proofs.«01_k».proof.Proof.Gen.MixPoolRefIdeal
public import proofs.«01_k».proof.Proof.Gen.MixPoolRefIdeal.Run
public import proofs.«01_k».proof.Proof.AttnBwdRef
public import proofs.«01_k».proof.Proof.Gen.Pre_finite_q
public import proofs.«01_k».proof.Proof.Gen.Pre_finite_up
public import proofs.«01_k».proof.Proof.Gen.Pre_finite_in
public import proofs.«01_k».proof.Proof.Gen.Pre_finite_loss
public import proofs.«01_k».proof.Proof.Gen.Pre_finite_attn
public import proofs.«01_k».proof.Proof.Gen.Pre_finite_fwd
public import Idealize.ShloMosaic.Adequacy
public import Idealize.ShloMosaic.Init

@[expose] public section

noncomputable section

namespace Cert.Proof

open Idealize.ShloMosaic Idealize.SL.Sem

/-! ### The memory tokens' projection: the norm's gain -/

/-- The reference's run leaves its arguments alone and ends with every counter at zero. -/
theorem kvBwdRef : Cert.quiescent_KvBwdRefIdeal (hKvBwdRefIdeal := Cert.KvBwdRefIdeal.Gen.facts) := fun m ρ _ =>
  (θ_run Cert.KvBwdRefIdeal.defs _ _).mono (fun r h => ⟨fun c => (h c).2, Idealize.ShloMosaic.sem_eq_zero_of_no_sems (by decide) r.2⟩)
    (Cert.KvBwdRefIdeal.Value.run (F := Ideal) m ρ)

attribute [local instance] Cert.KvBwdIdeal.Gen.facts Cert.KvBwdRefIdeal.Gen.facts in
/-- Both programs leave the same gradient of the gain. -/
theorem kvBwd : Cert.algebraic_KvBwdIdeal_KvBwdRefIdeal := by
  intro m ρ m' ρ' _ hagree
  refine ⟨fun c => (Cert.KvBwdIdeal.Gen.dats m 0 c).arrAt 4 (Cert.KvBwdIdeal.cfgs 0).N, Cert.KvBwdIdeal.Value.run_blocks m ρ,
    (θ_run Cert.KvBwdRefIdeal.defs _ _).mono (fun r h c => ⟨(h c).1.trans ?_, (h c).2⟩) (Cert.KvBwdRefIdeal.Value.run (F := Ideal) m' ρ')⟩
  rw [Cert.KvBwdRefIdeal.Read.val_main_v21_eq, (hagree c).1, (hagree c).2.2.1, (hagree c).2.2.2]
  exact (funext fun j => Cert.KvBwdIdeal.Hand.reference_result _ _ _ j).trans (Cert.KvBwdIdeal.Hand.kernel_result m c).symm

/-! ### The query projection, the norm before it and the product before that -/

/-- The reference's run leaves its arguments alone and ends with every counter at zero. -/
theorem qBwdRef : Cert.quiescent_QBwdRefIdeal (hQBwdRefIdeal := Cert.QBwdRefIdeal.Gen.facts) := fun m ρ _ =>
  (θ_run Cert.QBwdRefIdeal.defs _ _).mono (fun r h => ⟨fun c => (h c).2.2.2.2, Idealize.ShloMosaic.sem_eq_zero_of_no_sems (by decide) r.2⟩)
    (Cert.QBwdRefIdeal.Value.run (F := Ideal) m ρ)

attribute [local instance] Cert.QBwdIdeal.Gen.facts Cert.QBwdRefIdeal.Gen.facts Cert.Pre_finite_q.Gen.facts in
/-- Both programs leave the same four gradients. -/
theorem qBwd : Cert.algebraic_QBwdIdeal_QBwdRefIdeal_pre_finite_q := by
  intro m ρ m' ρ' hpre hagree
  refine ⟨fun c => (Cert.QBwdIdeal.Gen.dats m 0 c).arrAt 6 (Cert.QBwdIdeal.cfgs 0).N, fun c => (Cert.QBwdIdeal.Gen.dats m 0 c).arrAt 7 (Cert.QBwdIdeal.cfgs 0).N,
    fun c => (Cert.QBwdIdeal.Gen.dats m 0 c).arrAt 8 (Cert.QBwdIdeal.cfgs 0).N, fun c => (Cert.QBwdIdeal.Gen.dats m 0 c).arrAt 9 (Cert.QBwdIdeal.cfgs 0).N,
    Cert.QBwdIdeal.Value.run_blocks m ρ,
    (θ_run Cert.QBwdRefIdeal.defs _ _).mono (fun r h c => ?_) (Cert.QBwdRefIdeal.Value.run (F := Ideal) m' ρ')⟩
  obtain ⟨a0, a1, a2, a3, a4, a5⟩ := hagree c
  obtain ⟨p0, p1, p2, p5⟩ := hpre c
  have f0 := fun i => NormGrad.finite_of_test _ (congrFun p0 i)
  have f1 := fun i => NormGrad.finite_of_test _ (congrFun p1 i)
  have f2 := fun i => NormGrad.finite_of_test _ (congrFun p2 i)
  have f5 := fun i => NormGrad.finite_of_test _ (congrFun p5 i)
  refine ⟨(h c).1.trans ?_, (h c).2.1.trans ?_, (h c).2.2.1.trans ?_, (h c).2.2.2.1.trans ?_, (h c).2.2.2.2⟩
  · rw [Cert.QBwdRefIdeal.Read.val_main_v41_eq, a0, a1, a2, a4, a5]
    exact (funext fun i => Cert.QBwdIdeal.Hand.reference_input _ _ _ _ _ f0 f1 f2 f5 i).trans (Cert.QBwdIdeal.Hand.result_input m c).symm
  · rw [Cert.QBwdRefIdeal.Read.val_main_v47_eq, a0, a1, a2, a4, a5]
    exact (funext fun i => Cert.QBwdIdeal.Hand.reference_rounded _ _ _ _ _ f0 f1 f2 f5 i).trans (Cert.QBwdIdeal.Hand.result_rounded m c).symm
  · rw [Cert.QBwdRefIdeal.Read.val_main_v50_eq, a0, a1, a2, a3, a4, a5]
    exact (funext fun i => Cert.QBwdIdeal.Hand.reference_next _ _ _ _ _ _ f0 f1 f2 f5 i).trans (Cert.QBwdIdeal.Hand.result_next m c).symm
  · rw [Cert.QBwdRefIdeal.Read.val_main_v42_eq, a0, a2, a5]
    exact (funext fun i => Cert.QBwdIdeal.Hand.reference_gain _ _ _ i).trans (Cert.QBwdIdeal.Hand.result_gain m c).symm

/-! ### The MLP's up projection, the norm before it and the product before that -/

/-- The reference's run leaves its arguments alone and ends with every counter at zero. -/
theorem upBwdRef : Cert.quiescent_UpBwdRefIdeal (hUpBwdRefIdeal := Cert.UpBwdRefIdeal.Gen.facts) := fun m ρ _ =>
  (θ_run Cert.UpBwdRefIdeal.defs _ _).mono (fun r h => ⟨fun c => (h c).2.2.2.2, Idealize.ShloMosaic.sem_eq_zero_of_no_sems (by decide) r.2⟩)
    (Cert.UpBwdRefIdeal.Value.run (F := Ideal) m ρ)

attribute [local instance] Cert.UpBwdIdeal.Gen.facts Cert.UpBwdRefIdeal.Gen.facts Cert.Pre_finite_up.Gen.facts in
/-- Both programs leave the same four gradients. -/
theorem upBwd : Cert.algebraic_UpBwdIdeal_UpBwdRefIdeal_pre_finite_up := by
  intro m ρ m' ρ' hpre hagree
  refine ⟨fun c => (Cert.UpBwdIdeal.Gen.dats m 0 c).arrAt 7 (Cert.UpBwdIdeal.cfgs 0).N, fun c => (Cert.UpBwdIdeal.Gen.dats m 0 c).arrAt 8 (Cert.UpBwdIdeal.cfgs 0).N,
    fun c => (Cert.UpBwdIdeal.Gen.dats m 0 c).arrAt 9 (Cert.UpBwdIdeal.cfgs 0).N, fun c => (Cert.UpBwdIdeal.Gen.dats m 0 c).arrAt 10 (Cert.UpBwdIdeal.cfgs 0).N,
    Cert.UpBwdIdeal.Value.run_blocks m ρ,
    (θ_run Cert.UpBwdRefIdeal.defs _ _).mono (fun r h c => ?_) (Cert.UpBwdRefIdeal.Value.run (F := Ideal) m' ρ')⟩
  obtain ⟨a0, a1, a2, a3, a4, a5, -⟩ := hagree c
  obtain ⟨p0, p1, p2, p5⟩ := hpre c
  have f0 := fun i => NormGrad.finite_of_test _ (congrFun p0 i)
  have f1 := fun i => NormGrad.finite_of_test _ (congrFun p1 i)
  have f2 := fun i => NormGrad.finite_of_test _ (congrFun p2 i)
  have f5 := fun i => NormGrad.finite_of_test _ (congrFun p5 i)
  refine ⟨(h c).1.trans ?_, (h c).2.1.trans ?_, (h c).2.2.1.trans ?_, (h c).2.2.2.1.trans ?_, (h c).2.2.2.2⟩
  · rw [Cert.UpBwdRefIdeal.Read.val_main_v41_eq, a0, a1, a2, a4, a5]
    exact (funext fun i => Cert.UpBwdIdeal.Hand.reference_input _ _ _ _ _ f0 f1 f2 f5 i).trans (Cert.UpBwdIdeal.Hand.result_input m c).symm
  · rw [Cert.UpBwdRefIdeal.Read.val_main_v47_eq, a0, a1, a2, a4, a5]
    exact (funext fun i => Cert.UpBwdIdeal.Hand.reference_rounded _ _ _ _ _ f0 f1 f2 f5 i).trans (Cert.UpBwdIdeal.Hand.result_rounded m c).symm
  · rw [Cert.UpBwdRefIdeal.Read.val_main_v48_eq, a0, a1, a2, a3, a4, a5]
    exact (funext fun i => Cert.UpBwdIdeal.Hand.reference_next _ _ _ _ _ _ f0 f1 f2 f5 i).trans (Cert.UpBwdIdeal.Hand.result_next m c).symm
  · rw [Cert.UpBwdRefIdeal.Read.val_main_v42_eq, a0, a2, a5]
    exact (funext fun i => Cert.UpBwdIdeal.Hand.reference_gain _ _ _ i).trans (Cert.UpBwdIdeal.Hand.result_gain m c).symm

/-! ### The mixer's input projection and the norm before it -/

/-- The reference's run leaves its arguments alone and ends with every counter at zero. -/
theorem inBwdRef : Cert.quiescent_InBwdRefIdeal (hInBwdRefIdeal := Cert.InBwdRefIdeal.Gen.facts) := fun m ρ _ =>
  (θ_run Cert.InBwdRefIdeal.defs _ _).mono (fun r h => ⟨fun c => (h c).2.2, Idealize.ShloMosaic.sem_eq_zero_of_no_sems (by decide) r.2⟩)
    (Cert.InBwdRefIdeal.Value.run (F := Ideal) m ρ)

attribute [local instance] Cert.InBwdIdeal.Gen.facts Cert.InBwdRefIdeal.Gen.facts Cert.Pre_finite_in.Gen.facts in
/-- Both programs leave the same two gradients. -/
theorem inBwd : Cert.algebraic_InBwdIdeal_InBwdRefIdeal_pre_finite_in := by
  intro m ρ m' ρ' hpre hagree
  refine ⟨fun c => (Cert.InBwdIdeal.Gen.dats m 0 c).arrAt 6 (Cert.InBwdIdeal.cfgs 0).N, fun c => (Cert.InBwdIdeal.Gen.dats m 0 c).arrAt 7 (Cert.InBwdIdeal.cfgs 0).N,
    Cert.InBwdIdeal.Value.run_blocks m ρ,
    (θ_run Cert.InBwdRefIdeal.defs _ _).mono (fun r h c => ?_) (Cert.InBwdRefIdeal.Value.run (F := Ideal) m' ρ')⟩
  obtain ⟨a0, a1, a2, a3, a4, -⟩ := hagree c
  obtain ⟨p0, p1, p2, p4⟩ := hpre c
  have f0 := fun i => NormGrad.finite_of_test _ (congrFun p0 i)
  have f1 := fun i => NormGrad.finite_of_test _ (congrFun p1 i)
  have f2 := fun i => NormGrad.finite_of_test _ (congrFun p2 i)
  have f4 := fun i => NormGrad.finite_of_test _ (congrFun p4 i)
  refine ⟨(h c).1.trans ?_, (h c).2.1.trans ?_, (h c).2.2⟩
  · rw [Cert.InBwdRefIdeal.Read.val_main_v42_eq, a0, a1, a2, a3, a4]
    exact (funext fun i => Cert.InBwdIdeal.Hand.reference_input _ _ _ _ _ f0 f1 f2 f4 i).trans (Cert.InBwdIdeal.Hand.result_input m c).symm
  · rw [Cert.InBwdRefIdeal.Read.val_main_v43_eq, a0, a2, a4]
    exact (funext fun i => Cert.InBwdIdeal.Hand.reference_gain _ _ _ i).trans (Cert.InBwdIdeal.Hand.result_gain m c).symm

/-! ### The loss, the norm before it and the last down projection -/

/-- The reference's run leaves its arguments alone and ends with every counter at zero. -/
theorem lossBwdRef : Cert.quiescent_LossBwdRefIdeal (hLossBwdRefIdeal := Cert.LossBwdRefIdeal.Gen.facts) := fun m ρ _ =>
  (θ_run Cert.LossBwdRefIdeal.defs _ _).mono (fun r h => ⟨fun c => (h c).2.2.2.2, Idealize.ShloMosaic.sem_eq_zero_of_no_sems (by decide) r.2⟩)
    (Cert.LossBwdRefIdeal.Value.run (F := Ideal) m ρ)

attribute [local instance] Cert.LossBwdIdeal.Gen.facts Cert.LossBwdRefIdeal.Gen.facts Cert.Pre_finite_loss.Gen.facts in
/-- Both programs leave the same gradients and squared errors. -/
theorem lossBwd : Cert.algebraic_LossBwdIdeal_LossBwdRefIdeal_pre_finite_loss := by
  intro m ρ m' ρ' hpre hagree
  refine ⟨fun c => (Cert.LossBwdIdeal.Gen.dats m 0 c).arrAt 5 (Cert.LossBwdIdeal.cfgs 0).N, fun c => (Cert.LossBwdIdeal.Gen.dats m 0 c).arrAt 6 (Cert.LossBwdIdeal.cfgs 0).N,
    fun c => (Cert.LossBwdIdeal.Gen.dats m 0 c).arrAt 7 (Cert.LossBwdIdeal.cfgs 0).N, fun c => (Cert.LossBwdIdeal.Gen.dats m 0 c).arrAt 8 (Cert.LossBwdIdeal.cfgs 0).N,
    Cert.LossBwdIdeal.Value.run_blocks m ρ,
    (θ_run Cert.LossBwdRefIdeal.defs _ _).mono (fun r h c => ?_) (Cert.LossBwdRefIdeal.Value.run (F := Ideal) m' ρ')⟩
  obtain ⟨a0, a1, a2, a3, a4⟩ := hagree c
  obtain ⟨p0, p1, p2, p3, p4⟩ := hpre c
  have f0 := fun i => NormGrad.finite_of_test _ (congrFun p0 i)
  have f1 := fun i => NormGrad.finite_of_test _ (congrFun p1 i)
  have f2 := fun i => NormGrad.finite_of_test _ (congrFun p2 i)
  have f3 := fun i => NormGrad.finite_of_test _ (congrFun p3 i)
  have f4 := fun i => NormGrad.finite_of_test _ (congrFun p4 i)
  refine ⟨(h c).1.trans ?_, (h c).2.1.trans ?_, (h c).2.2.1.trans ?_, (h c).2.2.2.1.trans ?_, (h c).2.2.2.2⟩
  · rw [Cert.LossBwdRefIdeal.Read.val_main_v55_eq, a0, a1, a2, a3, a4]
    exact (funext fun i => Cert.LossBwdIdeal.Hand.reference_input _ _ _ _ _ f0 f1 f2 f3 f4 i).trans (Cert.LossBwdIdeal.Hand.result_input m c).symm
  · rw [Cert.LossBwdRefIdeal.Read.val_main_v56_eq, a0, a1, a2, a3, a4]
    exact (funext fun i => Cert.LossBwdIdeal.Hand.reference_rounded _ _ _ _ _ f0 f1 f2 f3 f4 i).trans (Cert.LossBwdIdeal.Hand.result_rounded m c).symm
  · refine (Cert.LossBwdRefIdeal.Read.val_main_v73_eq _ _ _ _ _).trans ?_
    rw [a0, a1, a2, a3, a4]
    exact (funext fun i => Cert.LossBwdIdeal.Hand.reference_squares _ _ _ _ _ i).trans (Cert.LossBwdIdeal.Hand.result_squares m c).symm
  · refine (Cert.LossBwdRefIdeal.Read.val_main_v74_eq _ _ _ _ _).trans ?_
    rw [a0, a1, a2, a3, a4]
    exact (funext fun i => Cert.LossBwdIdeal.Hand.reference_gain _ _ _ _ _ i).trans (Cert.LossBwdIdeal.Hand.result_gain m c).symm

/-! ### Attention -/

/-- The reference's run leaves its arguments alone and ends with every counter at zero. -/
theorem attnBwdRef : Cert.quiescent_AttnBwdRefIdeal (hAttnBwdRefIdeal := Cert.AttnBwdRefIdeal.Gen.facts) := fun m ρ _ =>
  (θ_run Cert.AttnBwdRefIdeal.defs _ _).mono (fun r h => ⟨fun c => (h c).2.2, Idealize.ShloMosaic.sem_eq_zero_of_no_sems (by decide) r.2⟩)
    (Cert.AttnBwdRefIdeal.Value.run (F := Ideal) m ρ)

attribute [local instance] Cert.AttnBwdIdeal.Gen.facts Cert.AttnBwdRefIdeal.Gen.facts Cert.Pre_finite_attn.Gen.facts in
/-- Both programs leave the same gradients of the queries, the keys and the values. -/
theorem attnBwd : Cert.algebraic_AttnBwdIdeal_AttnBwdRefIdeal_pre_finite_attn := by
  intro m ρ m' ρ' hpre hagree
  refine ⟨fun c => (Cert.AttnBwdIdeal.Gen.dats m 0 c).arrAt 3 (Cert.AttnBwdIdeal.cfgs 0).N, fun c => (Cert.AttnBwdIdeal.Gen.dats m 0 c).arrAt 4 (Cert.AttnBwdIdeal.cfgs 0).N,
    Cert.AttnBwdIdeal.Value.run_blocks m ρ,
    (θ_run Cert.AttnBwdRefIdeal.defs _ _).mono (fun r h c => ?_) (Cert.AttnBwdRefIdeal.Value.run (F := Ideal) m' ρ')⟩
  obtain ⟨a0, a1, a2⟩ := hagree c
  obtain ⟨p0, p1, p2⟩ := hpre c
  have f0 := fun i => NormGrad.finite_of_test _ (congrFun p0 i)
  have f1 := fun i => NormGrad.finite_of_test _ (congrFun p1 i)
  have f2 := fun i => NormGrad.finite_of_test _ (congrFun p2 i)
  refine ⟨(h c).1.trans ?_, (h c).2.1.trans ?_, (h c).2.2⟩
  · rw [Cert.AttnBwdRefIdeal.Read.val_main_v69_eq, a0, a1, a2]
    exact (funext fun i => Cert.AttnBwdIdeal.Hand.reference_dq m c f0 f1 f2 i).trans (Cert.AttnBwdIdeal.Hand.result_dq m c).symm
  · rw [Cert.AttnBwdRefIdeal.Read.val_main_v71_eq, a0, a1, a2]
    exact (funext fun i => Cert.AttnBwdIdeal.Hand.reference_dkv m c f0 f1 f2 i).trans (Cert.AttnBwdIdeal.Hand.result_dkv m c).symm
/-! ### The gradient through the squared relu -/

/-- The reference's run leaves its arguments alone and ends with every counter at zero. -/
theorem reluBwdRef : Cert.quiescent_ReluBwdRefIdeal (hReluBwdRefIdeal := Cert.ReluBwdRefIdeal.Gen.facts) := fun m ρ _ =>
  (θ_run Cert.ReluBwdRefIdeal.defs _ _).mono (fun r h => ⟨fun c => (h c).2, Idealize.ShloMosaic.sem_eq_zero_of_no_sems (by decide) r.2⟩)
    (Cert.ReluBwdRefIdeal.Value.run (F := Ideal) m ρ)

attribute [local instance] Cert.ReluBwdIdeal.Gen.facts Cert.ReluBwdRefIdeal.Gen.facts in
/-- Both programs leave the same gradient. -/
theorem reluBwd : Cert.algebraic_ReluBwdIdeal_ReluBwdRefIdeal := by
  intro m ρ m' ρ' _ hagree
  refine ⟨fun c => (Cert.ReluBwdIdeal.Gen.dats m 0 c).arrAt 3 (Cert.ReluBwdIdeal.cfgs 0).N, Cert.ReluBwdIdeal.Value.run_blocks m ρ,
    (θ_run Cert.ReluBwdRefIdeal.defs _ _).mono (fun r h c => ⟨(h c).1.trans ?_, (h c).2⟩) (Cert.ReluBwdRefIdeal.Value.run (F := Ideal) m' ρ')⟩
  refine (Cert.ReluBwdRefIdeal.Read.val_main_v17_eq _ _ _ _).trans ?_
  rw [(hagree c).1, (hagree c).2.1, (hagree c).2.2.1, (hagree c).2.2.2]
  exact (funext fun j => Cert.ReluBwdIdeal.Hand.reference_result _ _ _ _ j).trans (Cert.ReluBwdIdeal.Hand.result m c).symm

/-! ### The MLP's up projection forward, with its squared relu -/

/-- The reference's run leaves its arguments alone and ends with every counter at zero. -/
theorem reluFwdRef : Cert.quiescent_ReluFwdRefIdeal (hReluFwdRefIdeal := Cert.ReluFwdRefIdeal.Gen.facts) := fun m ρ _ =>
  (θ_run Cert.ReluFwdRefIdeal.defs _ _).mono (fun r h => ⟨fun c => (h c).2, Idealize.ShloMosaic.sem_eq_zero_of_no_sems (by decide) r.2⟩)
    (Cert.ReluFwdRefIdeal.Value.run (F := Ideal) m ρ)

attribute [local instance] Cert.ReluFwdIdeal.Gen.facts Cert.ReluFwdRefIdeal.Gen.facts in
/-- Both programs leave the same activations. -/
theorem reluFwd : Cert.algebraic_ReluFwdIdeal_ReluFwdRefIdeal := by
  intro m ρ m' ρ' _ hagree
  refine ⟨fun c => (Cert.ReluFwdIdeal.Gen.dats m 0 c).arrAt 2 (Cert.ReluFwdIdeal.cfgs 0).N, Cert.ReluFwdIdeal.Value.run_blocks m ρ,
    (θ_run Cert.ReluFwdRefIdeal.defs _ _).mono (fun r h c => ⟨(h c).1.trans ?_, (h c).2⟩) (Cert.ReluFwdRefIdeal.Value.run (F := Ideal) m' ρ')⟩
  refine (Cert.ReluFwdRefIdeal.Read.val_main_v5_eq _ _).trans ?_
  rw [(hagree c).1, (hagree c).2]
  exact (funext fun j => Cert.ReluFwdIdeal.Hand.reference_result _ _ j).trans (Cert.ReluFwdIdeal.Hand.result m c).symm

/-! ### Attention forward -/

/-- The reference's run leaves its arguments alone and ends with every counter at zero. -/
theorem attnFwdRef : Cert.quiescent_AttnFwdRefIdeal (hAttnFwdRefIdeal := Cert.AttnFwdRefIdeal.Gen.facts) := fun m ρ _ =>
  (θ_run Cert.AttnFwdRefIdeal.defs _ _).mono (fun r h => ⟨fun c => (h c).2, Idealize.ShloMosaic.sem_eq_zero_of_no_sems (by decide) r.2⟩)
    (Cert.AttnFwdRefIdeal.Value.run (F := Ideal) m ρ)

attribute [local instance] Cert.AttnFwdIdeal.Gen.facts Cert.AttnFwdRefIdeal.Gen.facts Cert.Pre_finite_fwd.Gen.facts in
/-- Both programs leave the same outputs of all heads. -/
theorem attnFwd : Cert.algebraic_AttnFwdIdeal_AttnFwdRefIdeal_pre_finite_fwd := by
  intro m ρ m' ρ' hpre hagree
  refine ⟨fun c => (Cert.AttnFwdIdeal.Gen.dats m 0 c).arrAt 2 (Cert.AttnFwdIdeal.cfgs 0).N, Cert.AttnFwdIdeal.Value.run_blocks m ρ,
    (θ_run Cert.AttnFwdRefIdeal.defs _ _).mono (fun r h c => ⟨(h c).1.trans ?_, (h c).2⟩) (Cert.AttnFwdRefIdeal.Value.run (F := Ideal) m' ρ')⟩
  obtain ⟨p0, p1⟩ := hpre c
  refine (Cert.AttnFwdRefIdeal.Read.val_main_v24_eq _ _).trans ?_
  rw [(hagree c).1, (hagree c).2]
  exact (funext fun j => Cert.AttnFwdIdeal.Hand.reference_result _ _ (fun i => NormGrad.finite_of_test _ (congrFun p0 i))
    (fun i => NormGrad.finite_of_test _ (congrFun p1 i)) j).trans (Cert.AttnFwdIdeal.Hand.result m c).symm
/-! ### The norm before the mixer -/

/-- The reference's run leaves its arguments alone and ends with every counter at zero. -/
theorem preFwdRef : Cert.quiescent_PreFwdRefIdeal (hPreFwdRefIdeal := Cert.PreFwdRefIdeal.Gen.facts) := fun m ρ _ =>
  (θ_run Cert.PreFwdRefIdeal.defs _ _).mono (fun r h => ⟨fun c => (h c).2, Idealize.ShloMosaic.sem_eq_zero_of_no_sems (by decide) r.2⟩)
    (Cert.PreFwdRefIdeal.Value.run (F := Ideal) m ρ)

attribute [local instance] Cert.PreFwdIdeal.Gen.facts Cert.PreFwdRefIdeal.Gen.facts in
/-- Both programs leave the same norm of every row. -/
theorem preFwd : Cert.algebraic_PreFwdIdeal_PreFwdRefIdeal := by
  intro m ρ m' ρ' _ hagree
  refine ⟨fun c => (Cert.PreFwdIdeal.Gen.dats m 0 c).arrAt 3 (Cert.PreFwdIdeal.cfgs 0).N,
    Cert.PreFwdIdeal.Value.run_blocks m ρ,
    (θ_run Cert.PreFwdRefIdeal.defs _ _).mono (fun r h c => ?_) (Cert.PreFwdRefIdeal.Value.run (F := Ideal) m' ρ')⟩
  obtain ⟨a0, a1, a2⟩ := hagree c
  refine ⟨(h c).1.trans ?_, (h c).2⟩
  · refine (Cert.PreFwdRefIdeal.Read.val_main_v15_eq _ _).trans ?_
    rw [a0, a1]
    exact (funext fun j => Cert.PreFwdIdeal.Hand.reference_result _ _ _).trans (Cert.PreFwdIdeal.Hand.result m c).symm
/-! ### The keys and values -/

/-- The reference's run leaves its arguments alone and ends with every counter at zero. -/
theorem kvFwdRef : Cert.quiescent_KvFwdRefIdeal (hKvFwdRefIdeal := Cert.KvFwdRefIdeal.Gen.facts) := fun m ρ _ =>
  (θ_run Cert.KvFwdRefIdeal.defs _ _).mono (fun r h => ⟨fun c => (h c).2.2, Idealize.ShloMosaic.sem_eq_zero_of_no_sems (by decide) r.2⟩)
    (Cert.KvFwdRefIdeal.Value.run (F := Ideal) m ρ)

attribute [local instance] Cert.KvFwdIdeal.Gen.facts Cert.KvFwdRefIdeal.Gen.facts in
/-- Both programs leave the same keys and values and the same norm of the memory. -/
theorem kvFwd : Cert.algebraic_KvFwdIdeal_KvFwdRefIdeal := by
  intro m ρ m' ρ' _ hagree
  refine ⟨fun c => (Cert.KvFwdIdeal.Gen.dats m 0 c).arrAt 3 (Cert.KvFwdIdeal.cfgs 0).N, fun c => (Cert.KvFwdIdeal.Gen.dats m 0 c).arrAt 4 (Cert.KvFwdIdeal.cfgs 0).N,
    Cert.KvFwdIdeal.Value.run_blocks m ρ,
    (θ_run Cert.KvFwdRefIdeal.defs _ _).mono (fun r h c => ?_) (Cert.KvFwdRefIdeal.Value.run (F := Ideal) m' ρ')⟩
  obtain ⟨a0, a1, a2⟩ := hagree c
  refine ⟨(h c).1.trans ?_, (h c).2.1.trans ?_, (h c).2.2⟩
  · refine (Cert.KvFwdRefIdeal.Read.val_main_v18_eq _ _ _).trans ?_
    rw [a0, a1, a2]
    exact (funext fun j => Cert.KvFwdIdeal.Hand.reference_result _ _ _ _).trans (Cert.KvFwdIdeal.Hand.result m c).symm
  · refine (Cert.KvFwdRefIdeal.Read.val_main_v20_eq _ _).trans ?_
    rw [a0, a1]
    exact (funext fun j => Cert.KvFwdIdeal.Hand.reference_norm _ _ _).trans (Cert.KvFwdIdeal.Hand.norm_result m c).symm
/-! ### The output and query projections -/

/-- The reference's run leaves its arguments alone and ends with every counter at zero. -/
theorem outQFwdRef : Cert.quiescent_OutQFwdRefIdeal (hOutQFwdRefIdeal := Cert.OutQFwdRefIdeal.Gen.facts) := fun m ρ _ =>
  (θ_run Cert.OutQFwdRefIdeal.defs _ _).mono (fun r h => ⟨fun c => (h c).2.2.2, Idealize.ShloMosaic.sem_eq_zero_of_no_sems (by decide) r.2⟩)
    (Cert.OutQFwdRefIdeal.Value.run (F := Ideal) m ρ)

attribute [local instance] Cert.OutQFwdIdeal.Gen.facts Cert.OutQFwdRefIdeal.Gen.facts in
/-- Both programs leave the same rows after the residual, the same norm and the same queries. -/
theorem outQFwd : Cert.algebraic_OutQFwdIdeal_OutQFwdRefIdeal := by
  intro m ρ m' ρ' _ hagree
  refine ⟨fun c => (Cert.OutQFwdIdeal.Gen.dats m 0 c).arrAt 5 (Cert.OutQFwdIdeal.cfgs 0).N, fun c => (Cert.OutQFwdIdeal.Gen.dats m 0 c).arrAt 6 (Cert.OutQFwdIdeal.cfgs 0).N, fun c => (Cert.OutQFwdIdeal.Gen.dats m 0 c).arrAt 7 (Cert.OutQFwdIdeal.cfgs 0).N,
    Cert.OutQFwdIdeal.Value.run_blocks m ρ,
    (θ_run Cert.OutQFwdRefIdeal.defs _ _).mono (fun r h c => ?_) (Cert.OutQFwdRefIdeal.Value.run (F := Ideal) m' ρ')⟩
  obtain ⟨a0, a1, a2, a3, a4⟩ := hagree c
  refine ⟨(h c).1.trans ?_, (h c).2.1.trans ?_, (h c).2.2.1.trans ?_, (h c).2.2.2⟩
  · refine (Cert.OutQFwdRefIdeal.Read.val_main_v4_eq _ _ _).trans ?_
    rw [a0, a1, a2]
    exact (funext fun j => by idx_vars j; exact Cert.OutQFwdIdeal.Hand.reference_res _ _ _ _ _).trans (Cert.OutQFwdIdeal.Hand.result m c).symm
  · refine (Cert.OutQFwdRefIdeal.Read.val_main_v19_eq _ _ _ _).trans ?_
    rw [a0, a1, a2, a3]
    exact (funext fun j => by idx_vars j; exact Cert.OutQFwdIdeal.Hand.reference_norm _ _ _ _ _ _).trans (Cert.OutQFwdIdeal.Hand.norm_result m c).symm
  · refine (Cert.OutQFwdRefIdeal.Read.val_main_v22_eq _ _ _ _ _).trans ?_
    rw [a0, a1, a2, a3, a4]
    exact (funext fun j => by idx_vars j; exact Cert.OutQFwdIdeal.Hand.reference_query _ _ _ _ _ _ _).trans (Cert.OutQFwdIdeal.Hand.query_result m c).symm
/-! ### The attention's output projection -/

/-- The reference's run leaves its arguments alone and ends with every counter at zero. -/
theorem attnOutFwdRef : Cert.quiescent_AttnOutFwdRefIdeal (hAttnOutFwdRefIdeal := Cert.AttnOutFwdRefIdeal.Gen.facts) := fun m ρ _ =>
  (θ_run Cert.AttnOutFwdRefIdeal.defs _ _).mono (fun r h => ⟨fun c => (h c).2.2, Idealize.ShloMosaic.sem_eq_zero_of_no_sems (by decide) r.2⟩)
    (Cert.AttnOutFwdRefIdeal.Value.run (F := Ideal) m ρ)

attribute [local instance] Cert.AttnOutFwdIdeal.Gen.facts Cert.AttnOutFwdRefIdeal.Gen.facts in
/-- Both programs leave the same rows after the residual and the same norm. -/
theorem attnOutFwd : Cert.algebraic_AttnOutFwdIdeal_AttnOutFwdRefIdeal := by
  intro m ρ m' ρ' _ hagree
  refine ⟨fun c => (Cert.AttnOutFwdIdeal.Gen.dats m 0 c).arrAt 4 (Cert.AttnOutFwdIdeal.cfgs 0).N, fun c => (Cert.AttnOutFwdIdeal.Gen.dats m 0 c).arrAt 5 (Cert.AttnOutFwdIdeal.cfgs 0).N,
    Cert.AttnOutFwdIdeal.Value.run_blocks m ρ,
    (θ_run Cert.AttnOutFwdRefIdeal.defs _ _).mono (fun r h c => ?_) (Cert.AttnOutFwdRefIdeal.Value.run (F := Ideal) m' ρ')⟩
  obtain ⟨a0, a1, a2, a3⟩ := hagree c
  refine ⟨(h c).1.trans ?_, (h c).2.1.trans ?_, (h c).2.2⟩
  · refine (Cert.AttnOutFwdRefIdeal.Read.val_main_v3_eq _ _ _).trans ?_
    rw [a0, a1, a2]
    exact (funext fun j => by idx_vars j; exact Cert.AttnOutFwdIdeal.Hand.reference_res _ _ _ _ _).trans (Cert.AttnOutFwdIdeal.Hand.result m c).symm
  · refine (Cert.AttnOutFwdRefIdeal.Read.val_main_v18_eq _ _ _ _).trans ?_
    rw [a0, a1, a2, a3]
    exact (funext fun j => by idx_vars j; exact Cert.AttnOutFwdIdeal.Hand.reference_rows _ _ _ _ _ _).trans (Cert.AttnOutFwdIdeal.Hand.norm_result m c).symm
/-! ### The mixer backward, as a program that returns the pooling's two gradients -/

/-- The reference's run leaves its arguments alone and ends with every counter at zero. -/
theorem mixPoolRef : Cert.quiescent_MixPoolRefIdeal (hMixPoolRefIdeal := Cert.MixPoolRefIdeal.Gen.facts) := fun m ρ _ =>
  (θ_run Cert.MixPoolRefIdeal.defs _ _).mono (fun r h => ⟨fun c => (h c).2.2, Idealize.ShloMosaic.sem_eq_zero_of_no_sems (by decide) r.2⟩)
    (Cert.MixPoolRefIdeal.Value.run (F := Ideal) m ρ)

theorem claim : Cert.Claim := ⟨Cert.KvBwd.Gen.facts, Cert.KvBwdIdeal.Gen.facts, Cert.KvBwdRefIdeal.Gen.facts, Cert.QBwd.Gen.facts, Cert.QBwdIdeal.Gen.facts, Cert.QBwdRefIdeal.Gen.facts, Cert.UpBwd.Gen.facts, Cert.UpBwdIdeal.Gen.facts, Cert.UpBwdRefIdeal.Gen.facts, Cert.InBwd.Gen.facts, Cert.InBwdIdeal.Gen.facts, Cert.InBwdRefIdeal.Gen.facts, Cert.LossBwd.Gen.facts, Cert.LossBwdIdeal.Gen.facts, Cert.LossBwdRefIdeal.Gen.facts, Cert.AttnBwd.Gen.facts, Cert.AttnBwdIdeal.Gen.facts, Cert.AttnBwdRefIdeal.Gen.facts, Cert.ReluBwd.Gen.facts, Cert.ReluBwdIdeal.Gen.facts, Cert.ReluBwdRefIdeal.Gen.facts, Cert.ReluFwd.Gen.facts, Cert.ReluFwdIdeal.Gen.facts, Cert.ReluFwdRefIdeal.Gen.facts, Cert.AttnFwd.Gen.facts, Cert.AttnFwdIdeal.Gen.facts, Cert.AttnFwdRefIdeal.Gen.facts, Cert.PreFwd.Gen.facts, Cert.PreFwdIdeal.Gen.facts, Cert.PreFwdRefIdeal.Gen.facts, Cert.KvFwd.Gen.facts, Cert.KvFwdIdeal.Gen.facts, Cert.KvFwdRefIdeal.Gen.facts, Cert.OutQFwd.Gen.facts, Cert.OutQFwdIdeal.Gen.facts, Cert.OutQFwdRefIdeal.Gen.facts, Cert.AttnOutFwd.Gen.facts, Cert.AttnOutFwdIdeal.Gen.facts, Cert.AttnOutFwdRefIdeal.Gen.facts, Cert.MixPool.Gen.facts, Cert.MixPoolIdeal.Gen.facts, Cert.MixPoolRefIdeal.Gen.facts, Cert.Pre_finite_q.Gen.facts, Cert.Pre_finite_up.Gen.facts, Cert.Pre_finite_in.Gen.facts, Cert.Pre_finite_loss.Gen.facts, Cert.Pre_finite_attn.Gen.facts, Cert.Pre_finite_fwd.Gen.facts,
  fun m ρ _ => Cert.KvBwd.Gen.frame m ρ,
  fun m ρ _ => Cert.KvBwdIdeal.Gen.frame m ρ,
  kvBwdRef,
  fun m ρ _ => Cert.QBwd.Gen.frame m ρ,
  fun m ρ _ => Cert.QBwdIdeal.Gen.frame m ρ,
  fun m ρ _ => Cert.QBwdIdeal.Gen.frame m ρ,
  qBwdRef,
  fun m ρ _ => qBwdRef m ρ trivial,
  fun m ρ _ => Cert.UpBwd.Gen.frame m ρ,
  fun m ρ _ => Cert.UpBwdIdeal.Gen.frame m ρ,
  fun m ρ _ => Cert.UpBwdIdeal.Gen.frame m ρ,
  upBwdRef,
  fun m ρ _ => upBwdRef m ρ trivial,
  fun m ρ _ => Cert.InBwd.Gen.frame m ρ,
  fun m ρ _ => Cert.InBwdIdeal.Gen.frame m ρ,
  fun m ρ _ => Cert.InBwdIdeal.Gen.frame m ρ,
  inBwdRef,
  fun m ρ _ => inBwdRef m ρ trivial,
  fun m ρ _ => Cert.LossBwd.Gen.frame m ρ,
  fun m ρ _ => Cert.LossBwdIdeal.Gen.frame m ρ,
  fun m ρ _ => Cert.LossBwdIdeal.Gen.frame m ρ,
  lossBwdRef,
  fun m ρ _ => lossBwdRef m ρ trivial,
  fun m ρ _ => Cert.AttnBwd.Gen.frame m ρ,
  fun m ρ _ => Cert.AttnBwdIdeal.Gen.frame m ρ,
  fun m ρ _ => Cert.AttnBwdIdeal.Gen.frame m ρ,
  attnBwdRef,
  fun m ρ _ => attnBwdRef m ρ trivial,
  fun m ρ _ => Cert.ReluBwd.Gen.frame m ρ,
  fun m ρ _ => Cert.ReluBwdIdeal.Gen.frame m ρ,
  reluBwdRef,
  fun m ρ _ => Cert.ReluFwd.Gen.frame m ρ,
  fun m ρ _ => Cert.ReluFwdIdeal.Gen.frame m ρ,
  reluFwdRef,
  fun m ρ _ => Cert.AttnFwd.Gen.frame m ρ,
  fun m ρ _ => Cert.AttnFwdIdeal.Gen.frame m ρ,
  fun m ρ _ => Cert.AttnFwdIdeal.Gen.frame m ρ,
  attnFwdRef,
  fun m ρ _ => attnFwdRef m ρ trivial,
  fun m ρ _ => Cert.PreFwd.Gen.frame m ρ,
  fun m ρ _ => Cert.PreFwdIdeal.Gen.frame m ρ,
  preFwdRef,
  fun m ρ _ => Cert.KvFwd.Gen.frame m ρ,
  fun m ρ _ => Cert.KvFwdIdeal.Gen.frame m ρ,
  kvFwdRef,
  fun m ρ _ => Cert.OutQFwd.Gen.frame m ρ,
  fun m ρ _ => Cert.OutQFwdIdeal.Gen.frame m ρ,
  outQFwdRef,
  fun m ρ _ => Cert.AttnOutFwd.Gen.frame m ρ,
  fun m ρ _ => Cert.AttnOutFwdIdeal.Gen.frame m ρ,
  attnOutFwdRef,
  fun m ρ _ => Cert.MixPool.Gen.frame m ρ,
  fun m ρ _ => Cert.MixPoolIdeal.Gen.frame m ρ,
  mixPoolRef,
  trivial,
  kvBwd,
  trivial,
  qBwd,
  trivial,
  upBwd,
  trivial,
  inBwd,
  trivial,
  lossBwd,
  trivial,
  attnBwd,
  trivial,
  reluBwd,
  trivial,
  reluFwd,
  trivial,
  attnFwd,
  trivial,
  preFwd,
  trivial,
  kvFwd,
  trivial,
  outQFwd,
  trivial,
  attnOutFwd,
  trivial⟩

end Cert.Proof

end
